-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)) (v5 : (c : Dev Cert.Kernel4Ideal.nD) → Buf (Elt Ideal) ((c.tc : Thread Cert.Kernel4Ideal.nD Cert.Kernel4Ideal.τ).loc Cert.Kernel4Ideal.main_v10_5)) (v6 : (c : Dev Cert.Kernel4Ideal.nD) → Buf (Elt Ideal) ((c.tc : Thread Cert.Kernel4Ideal.nD Cert.Kernel4Ideal.τ).loc Cert.Kernel4Ideal.main_v10_6)) (v7 : (c : Dev Cert.Kernel4Ideal.nD) → Buf (Elt Ideal) ((c.tc : Thread Cert.Kernel4Ideal.nD Cert.Kernel4Ideal.τ).loc Cert.Kernel4Ideal.main_v10_7)) (v8 : (c : Dev Cert.Kernel4Ideal.nD) → Buf (Elt Ideal) ((c.tc : Thread Cert.Kernel4Ideal.nD Cert.Kernel4Ideal.τ).loc Cert.Kernel4Ideal.main_v10_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_v10_5) = v5 c
          ∧ r.2.mem ((c.tc : Thread Cert.Kernel4Ideal.nD Cert.Kernel4Ideal.τ).loc Cert.Kernel4Ideal.main_v10_6) = v6 c
          ∧ r.2.mem ((c.tc : Thread Cert.Kernel4Ideal.nD Cert.Kernel4Ideal.τ).loc Cert.Kernel4Ideal.main_v10_7) = v7 c
          ∧ r.2.mem ((c.tc : Thread Cert.Kernel4Ideal.nD Cert.Kernel4Ideal.τ).loc Cert.Kernel4Ideal.main_v10_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v59) = v3 c
          ∧ r.2.mem ((c.tc : Thread Cert.Reference4Ideal.nD Cert.Reference4Ideal.τ).loc Cert.Reference4Ideal.main_v55) = v4 c
          ∧ r.2.mem ((c.tc : Thread Cert.Reference4Ideal.nD Cert.Reference4Ideal.τ).loc Cert.Reference4Ideal.main_v54) = v5 c
          ∧ r.2.mem ((c.tc : Thread Cert.Reference4Ideal.nD Cert.Reference4Ideal.τ).loc Cert.Reference4Ideal.main_v53) = v6 c
          ∧ r.2.mem ((c.tc : Thread Cert.Reference4Ideal.nD Cert.Reference4Ideal.τ).loc Cert.Reference4Ideal.main_v60) = v7 c
          ∧ r.2.mem ((c.tc : Thread Cert.Reference4Ideal.nD Cert.Reference4Ideal.τ).loc Cert.Reference4Ideal.main_v61) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v18)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)) (v4 : (c : Dev Cert.Kernel12Ideal.nD) → Buf (Elt Ideal) ((c.tc : Thread Cert.Kernel12Ideal.nD Cert.Kernel12Ideal.τ).loc Cert.Kernel12Ideal.main_v3_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_v3_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_v21) = v1 c
          ∧ r.2.mem ((c.tc : Thread Cert.Reference12Ideal.nD Cert.Reference12Ideal.τ).loc Cert.Reference12Ideal.main_v22) = v2 c
          ∧ r.2.mem ((c.tc : Thread Cert.Reference12Ideal.nD Cert.Reference12Ideal.τ).loc Cert.Reference12Ideal.main_v23) = v3 c
          ∧ r.2.mem ((c.tc : Thread Cert.Reference12Ideal.nD Cert.Reference12Ideal.τ).loc Cert.Reference12Ideal.main_v24) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v10)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v30) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  IdealRules.named_const.Statement Cert.Kernel15Ideal.κ "cube" .f32 0x3D372713#32 ((8943 / 200000 : ℝ) : EReal)
  ∧ IdealRules.named_const.Statement Cert.Kernel15Ideal.κ "slope" .f32 0x3E095D4F#32 ((26829 / 200000 : ℝ) : EReal)

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v52) = v0 c
          ∧ r.2.mem ((c.tc : Thread Cert.Reference15Ideal.nD Cert.Reference15Ideal.τ).loc Cert.Reference15Ideal.main_v59) = v1 c
          ∧ r.2.mem ((c.tc : Thread Cert.Reference15Ideal.nD Cert.Reference15Ideal.τ).loc Cert.Reference15Ideal.main_v60) = v2 c
          ∧ r.2.mem ((c.tc : Thread Cert.Reference15Ideal.nD Cert.Reference15Ideal.τ).loc Cert.Reference15Ideal.main_v58) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v21_0)) (v1 : (c : Dev Cert.Kernel16Ideal.nD) → Buf (Elt Ideal) ((c.tc : Thread Cert.Kernel16Ideal.nD Cert.Kernel16Ideal.τ).loc Cert.Kernel16Ideal.main_v21_1)) (v2 : (c : Dev Cert.Kernel16Ideal.nD) → Buf (Elt Ideal) ((c.tc : Thread Cert.Kernel16Ideal.nD Cert.Kernel16Ideal.τ).loc Cert.Kernel16Ideal.main_v21_2)) (v3 : (c : Dev Cert.Kernel16Ideal.nD) → Buf (Elt Ideal) ((c.tc : Thread Cert.Kernel16Ideal.nD Cert.Kernel16Ideal.τ).loc Cert.Kernel16Ideal.main_v21_3)) (v4 : (c : Dev Cert.Kernel16Ideal.nD) → Buf (Elt Ideal) ((c.tc : Thread Cert.Kernel16Ideal.nD Cert.Kernel16Ideal.τ).loc Cert.Kernel16Ideal.main_v21_4)) (v5 : (c : Dev Cert.Kernel16Ideal.nD) → Buf (Elt Ideal) ((c.tc : Thread Cert.Kernel16Ideal.nD Cert.Kernel16Ideal.τ).loc Cert.Kernel16Ideal.main_v21_5)) (v6 : (c : Dev Cert.Kernel16Ideal.nD) → Buf (Elt Ideal) ((c.tc : Thread Cert.Kernel16Ideal.nD Cert.Kernel16Ideal.τ).loc Cert.Kernel16Ideal.main_v21_6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v21_0) = v0 c
          ∧ r.2.mem ((c.tc : Thread Cert.Kernel16Ideal.nD Cert.Kernel16Ideal.τ).loc Cert.Kernel16Ideal.main_v21_1) = v1 c
          ∧ r.2.mem ((c.tc : Thread Cert.Kernel16Ideal.nD Cert.Kernel16Ideal.τ).loc Cert.Kernel16Ideal.main_v21_2) = v2 c
          ∧ r.2.mem ((c.tc : Thread Cert.Kernel16Ideal.nD Cert.Kernel16Ideal.τ).loc Cert.Kernel16Ideal.main_v21_3) = v3 c
          ∧ r.2.mem ((c.tc : Thread Cert.Kernel16Ideal.nD Cert.Kernel16Ideal.τ).loc Cert.Kernel16Ideal.main_v21_4) = v4 c
          ∧ r.2.mem ((c.tc : Thread Cert.Kernel16Ideal.nD Cert.Kernel16Ideal.τ).loc Cert.Kernel16Ideal.main_v21_5) = v5 c
          ∧ r.2.mem ((c.tc : Thread Cert.Kernel16Ideal.nD Cert.Kernel16Ideal.τ).loc Cert.Kernel16Ideal.main_v21_6) = v6 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v41) = v0 c
          ∧ r.2.mem ((c.tc : Thread Cert.Reference16Ideal.nD Cert.Reference16Ideal.τ).loc Cert.Reference16Ideal.main_v86) = v1 c
          ∧ r.2.mem ((c.tc : Thread Cert.Reference16Ideal.nD Cert.Reference16Ideal.τ).loc Cert.Reference16Ideal.main_v87) = v2 c
          ∧ r.2.mem ((c.tc : Thread Cert.Reference16Ideal.nD Cert.Reference16Ideal.τ).loc Cert.Reference16Ideal.main_v20) = v3 c
          ∧ r.2.mem ((c.tc : Thread Cert.Reference16Ideal.nD Cert.Reference16Ideal.τ).loc Cert.Reference16Ideal.main_v21) = v4 c
          ∧ r.2.mem ((c.tc : Thread Cert.Reference16Ideal.nD Cert.Reference16Ideal.τ).loc Cert.Reference16Ideal.main_v88) = v5 c
          ∧ r.2.mem ((c.tc : Thread Cert.Reference16Ideal.nD Cert.Reference16Ideal.τ).loc Cert.Reference16Ideal.main_v89) = v6 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v21) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v51) = v0 c
          ∧ r.2.mem ((c.tc : Thread Cert.Reference18Ideal.nD Cert.Reference18Ideal.τ).loc Cert.Reference18Ideal.main_v50) = v1 c
          ∧ r.2.mem ((c.tc : Thread Cert.Reference18Ideal.nD Cert.Reference18Ideal.τ).loc Cert.Reference18Ideal.main_v52) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite11 : Cert.Pre_finite11.Facts) (hPre_finite15 : Cert.Pre_finite15.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite11.lean ====
abbrev S2048x1024 : Shape := ⟨2, ![2048, 1024]⟩
abbrev S2048x5632 : Shape := ⟨2, ![2048, 5632]⟩
abbrev S2816x1024 : Shape := ⟨2, ![2816, 1024]⟩
abbrev S_ : Shape := ⟨0, ![]⟩
abbrev S2048x2816 : Shape := ⟨2, ![2048, 2816]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x5632_S2048x2816_0_2816 : S2048x5632.Slices ![0, 2816] S2048x2816
  bcast_S_S2048x2816 : S_.BroadcastsInDim S2048x2816 (![] : Fin 0 → Fin S2048x2816.rank)
  reducesTo_S2048x2816_S_d0_1 : S2048x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S2048x1024 .f32) (main_arg1 : FVec F S2048x5632 .f32) (main_arg2 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2816 .f32 := (extractStridedSlice S2048x2816 ![0, 2816] · slices_S2048x5632_S2048x2816_0_2816) main_arg1
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  let main_c_1 : IVec S_ 1 := constantI S_ 1 1#1
  let main_v8 : IVec S_ 1 := (fun x v => Host.reduce IntOp.andi x v reducesTo_S2048x2816_S_d0_1 h_S_) main_v7 main_c_1
  let main_v9 : IVec S_ 1 := andi main_v3 main_v8
  let main_v10 : FVec F S2816x1024 .f32 := Host.absf main_arg2
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  main_v14
-- ==== Pre_finite15.lean ====
abbrev S2048x512 : Shape := ⟨2, ![2048, 512]⟩
abbrev S512x512 : Shape := ⟨2, ![512, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2048x512 .f32) (main_arg1 : FVec F S512x512 .f32) (main_arg2 : FVec F S2048x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S2048x1536 : Shape := ⟨2, ![2048, 1536]⟩
abbrev S4x3x512 : Shape := ⟨3, ![4, 3, 512]⟩
abbrev S2048x512 : Shape := ⟨2, ![2048, 512]⟩
abbrev S_ : Shape := ⟨0, ![]⟩
abbrev S4x8x512 : Shape := ⟨3, ![4, 8, 512]⟩
abbrev S8x128 : Shape := ⟨2, ![8, 128]⟩
abbrev S8x512 : Shape := ⟨2, ![8, 512]⟩
abbrev S2048x128 : Shape := ⟨2, ![2048, 128]⟩
abbrev S1x8x128 : Shape := ⟨3, ![1, 8, 128]⟩
abbrev S1x1x128 : Shape := ⟨3, ![1, 1, 128]⟩
abbrev S1x128 : Shape := ⟨2, ![1, 128]⟩
abbrev S128 : Shape := ⟨1, ![128]⟩
abbrev S5x128 : Shape := ⟨2, ![5, 128]⟩

abbrev nBuf : Space → Nat
  | .hbm => 12
  | .vmem => 18
  | .smem => 0
  | _ => 0

abbrev bufTy : (tb : Table) → Fin (tcTables nBuf tb) → BufTy
  | .hbm, ⟨0, _⟩ => ⟨S2048x1536, .f32⟩
  | .hbm, ⟨1, _⟩ => ⟨S4x3x512, .f32⟩
  | .hbm, ⟨2, _⟩ => ⟨S2048x512, .f32⟩
  | .hbm, ⟨3, _⟩ => ⟨S_, .i32⟩
  | .hbm, ⟨4, _⟩ => ⟨S_, .f32⟩
  | .hbm, ⟨5, _⟩ => ⟨S4x8x512, .f32⟩
  | .hbm, ⟨6, _⟩ => ⟨S_, .f32⟩
  | .hbm, ⟨7, _⟩ => ⟨S8x128, .f32⟩
  | .hbm, ⟨8, _⟩ => ⟨S2048x512, .bf16⟩
  | .hbm, ⟨9, _⟩ => ⟨S2048x512, .bf16⟩
  | .hbm, ⟨10, _⟩ => ⟨S2048x512, .bf16⟩
  | .hbm, ⟨11, _⟩ => ⟨S8x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x8x128, .f32⟩
  | .local _ .vmem, ⟨7, _⟩ => ⟨S1x8x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S8x128, .f32⟩
  | .local _ .vmem, ⟨17, _⟩ => ⟨S8x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x1536 : Shape := ⟨2, ![2048, 1536]⟩
abbrev S4x3x512 : Shape := ⟨3, ![4, 3, 512]⟩
abbrev S2048x512 : Shape := ⟨2, ![2048, 512]⟩
abbrev S1x3x512 : Shape := ⟨3, ![1, 3, 512]⟩
abbrev S3x512 : Shape := ⟨2, ![3, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S8x512 : Shape := ⟨2, ![8, 512]⟩

abbrev nBuf : Space → Nat
  | .hbm => 90
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x3x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S1x3x512, .f32⟩
  | .hbm, ⟨7, _⟩ => ⟨S3x512, .f32⟩
  | .hbm, ⟨8, _⟩ => ⟨S2048x512, .f32⟩
  | .hbm, ⟨9, _⟩ => ⟨S_, .f32⟩
  | .hbm, ⟨10, _⟩ => ⟨S2x512, .f32⟩
  | .hbm, ⟨11, _⟩ => ⟨S2050x512, .f32⟩
  | .hbm, ⟨12, _⟩ => ⟨S_, .f32⟩
  | .hbm, ⟨13, _⟩ => ⟨S2x512, .f32⟩
  | .hbm, ⟨14, _⟩ => ⟨S1x512, .f32⟩
  | .hbm, ⟨15, _⟩ => ⟨S512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | .hbm, ⟨20, _⟩ => ⟨S1x512, .f32⟩
  | .hbm, ⟨21, _⟩ => ⟨S512, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S512, .f32⟩
  | .hbm, ⟨29, _⟩ => ⟨S2048x512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S512, .f32⟩
  | .hbm, ⟨45, _⟩ => ⟨S_, .f32⟩
  | .hbm, ⟨46, _⟩ => ⟨S2050x512, .f32⟩
  | .hbm, ⟨47, _⟩ => ⟨S1x512, .f32⟩
  | .hbm, ⟨48, _⟩ => ⟨S_, .f32⟩
  | .hbm, ⟨49, _⟩ => ⟨S3x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S2050x512, .f32⟩
  | .hbm, ⟨60, _⟩ => ⟨S2050x512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S2048x512, .f32⟩
  | .hbm, ⟨66, _⟩ => ⟨S2048x512, .f32⟩
  | .hbm, ⟨67, _⟩ => ⟨S2048x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S_, .f32⟩
  | .hbm, ⟨72, _⟩ => ⟨S512, .f32⟩
  | .hbm, ⟨73, _⟩ => ⟨S_, .f32⟩
  | .hbm, ⟨74, _⟩ => ⟨S2050x512, .f32⟩
  | .hbm, ⟨75, _⟩ => ⟨S2050x512, .f32⟩
  | .hbm, ⟨76, _⟩ => ⟨S1x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S2x512, .f32⟩
  | .hbm, ⟨81, _⟩ => ⟨S2048x512, .f32⟩
  | .hbm, ⟨82, _⟩ => ⟨S2048x512, .f32⟩
  | .hbm, ⟨83, _⟩ => ⟨S2048x512, .f32⟩
  | .hbm, ⟨84, _⟩ => ⟨S2048x512, .bf16⟩
  | .hbm, ⟨85, _⟩ => ⟨S2048x512, .bf16⟩
  | .hbm, ⟨86, _⟩ => ⟨S2048x512, .bf16⟩
  | .hbm, ⟨87, _⟩ => ⟨S_, .i32⟩
  | .hbm, ⟨88, _⟩ => ⟨S_, .f32⟩
  | .hbm, ⟨89, _⟩ => ⟨S8x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c : Ref sig .tc := ⟨.hbm, 87, rfl⟩
abbrev main_call0_v0 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel2.lean ====
abbrev S2048x512 : Shape := ⟨2, ![2048, 512]⟩
abbrev S2048x256 : Shape := ⟨2, ![2048, 256]⟩
abbrev S2048x3072 : Shape := ⟨2, ![2048, 3072]⟩
abbrev S1024x5888 : Shape := ⟨2, ![1024, 5888]⟩
abbrev S2048x1024 : Shape := ⟨2, ![2048, 1024]⟩
abbrev S1024 : Shape := ⟨1, ![1024]⟩
abbrev S5888x1024 : Shape := ⟨2, ![5888, 1024]⟩
abbrev S1x1024 : Shape := ⟨2, ![1, 1024]⟩
abbrev S512x512 : Shape := ⟨2, ![512, 512]⟩
abbrev S512x256 : Shape := ⟨2, ![512, 256]⟩
abbrev S512x3072 : Shape := ⟨2, ![512, 3072]⟩
abbrev S512x1024 : Shape := ⟨2, ![512, 1024]⟩
abbrev S256x1024 : Shape := ⟨2, ![256, 1024]⟩
abbrev S3072x1024 : Shape := ⟨2, ![3072, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x3072, .bf16⟩
  | .hbm, ⟨7, _⟩ => ⟨S1024x5888, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S1024x5888, .bf16⟩
  | .hbm, ⟨12, _⟩ => ⟨S5888x1024, .bf16⟩
  | .hbm, ⟨13, _⟩ => ⟨S1x1024, .f32⟩
  | .hbm, ⟨14, _⟩ => ⟨S2048x1024, .f32⟩
  | .hbm, ⟨15, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x3072, .bf16⟩
  | .local _ .vmem, ⟨13, _⟩ => ⟨S512x3072, .bf16⟩
  | .local _ .vmem, ⟨14, _⟩ => ⟨S5888x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5888x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S2048x512 : Shape := ⟨2, ![2048, 512]⟩
abbrev S2048x256 : Shape := ⟨2, ![2048, 256]⟩
abbrev S2048x3072 : Shape := ⟨2, ![2048, 3072]⟩
abbrev S1024x5888 : Shape := ⟨2, ![1024, 5888]⟩
abbrev S2048x1024 : Shape := ⟨2, ![2048, 1024]⟩
abbrev S1024 : Shape := ⟨1, ![1024]⟩
abbrev S2048x5888 : Shape := ⟨2, ![2048, 5888]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x3072, .bf16⟩
  | .hbm, ⟨7, _⟩ => ⟨S1024x5888, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S2048x512, .f32⟩
  | .hbm, ⟨12, _⟩ => ⟨S2048x256, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x3072, .f32⟩
  | .hbm, ⟨18, _⟩ => ⟨S2048x5888, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x5888, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S1x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel3.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x5632, .bf16⟩
  | .hbm, ⟨6, _⟩ => ⟨S5632x1024, .bf16⟩
  | .hbm, ⟨7, _⟩ => ⟨S1x1024, .f32⟩
  | .hbm, ⟨8, _⟩ => ⟨S2048x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x5632, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S2048x1024 : Shape := ⟨2, ![2048, 1024]⟩
abbrev S2048x512 : Shape := ⟨2, ![2048, 512]⟩
abbrev S2048x3072 : Shape := ⟨2, ![2048, 3072]⟩
abbrev S4x3072 : Shape := ⟨2, ![4, 3072]⟩
abbrev S512x1024 : Shape := ⟨2, ![512, 1024]⟩
abbrev S1024x1024 : Shape := ⟨2, ![1024, 1024]⟩
abbrev S1024x512 : Shape := ⟨2, ![1024, 512]⟩
abbrev S1024x1536 : Shape := ⟨2, ![1024, 1536]⟩
abbrev S4x1x3072 : Shape := ⟨3, ![4, 1, 3072]⟩
abbrev S_ : Shape := ⟨0, ![]⟩
abbrev S8x128 : Shape := ⟨2, ![8, 128]⟩
abbrev S1x3072 : Shape := ⟨2, ![1, 3072]⟩
abbrev S256x1024 : Shape := ⟨2, ![256, 1024]⟩
abbrev S256x512 : Shape := ⟨2, ![256, 512]⟩
abbrev S1x1x3072 : Shape := ⟨3, ![1, 1, 3072]⟩
abbrev S256x3072 : Shape := ⟨2, ![256, 3072]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 30
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x3072, .f32⟩
  | .hbm, ⟨5, _⟩ => ⟨S4x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S512x1024, .bf16⟩
  | .hbm, ⟨11, _⟩ => ⟨S1024x512, .bf16⟩
  | .hbm, ⟨12, _⟩ => ⟨S512x1024, .bf16⟩
  | .hbm, ⟨13, _⟩ => ⟨S1024x512, .bf16⟩
  | .hbm, ⟨14, _⟩ => ⟨S512x1024, .bf16⟩
  | .hbm, ⟨15, _⟩ => ⟨S1024x512, .bf16⟩
  | .hbm, ⟨16, _⟩ => ⟨S1024x1536, .bf16⟩
  | .hbm, ⟨17, _⟩ => ⟨S4x1x3072, .f32⟩
  | .hbm, ⟨18, _⟩ => ⟨S1024x1024, .bf16⟩
  | .hbm, ⟨19, _⟩ => ⟨S_, .f32⟩
  | .hbm, ⟨20, _⟩ => ⟨S8x128, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x3072, .bf16⟩
  | .hbm, ⟨29, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x3072, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x3072, .bf16⟩
  | .local _ .vmem, ⟨34, _⟩ => ⟨S256x3072, .bf16⟩
  | .local _ .vmem, ⟨35, _⟩ => ⟨S1x3072, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S2048x1024 : Shape := ⟨2, ![2048, 1024]⟩
abbrev S2048x512 : Shape := ⟨2, ![2048, 512]⟩
abbrev S2048x3072 : Shape := ⟨2, ![2048, 3072]⟩
abbrev S4x3072 : Shape := ⟨2, ![4, 3072]⟩
abbrev S512x1024 : Shape := ⟨2, ![512, 1024]⟩
abbrev S1024x1024 : Shape := ⟨2, ![1024, 1024]⟩
abbrev S1x3072 : Shape := ⟨2, ![1, 3072]⟩
abbrev S3072 : Shape := ⟨1, ![3072]⟩
abbrev S_ : Shape := ⟨0, ![]⟩
abbrev S2048x3x1024 : Shape := ⟨3, ![2048, 3, 1024]⟩
abbrev S2048x1x1024 : Shape := ⟨3, ![2048, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x3072, .f32⟩
  | .hbm, ⟨5, _⟩ => ⟨S4x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S_, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S2048x3x1024, .f32⟩
  | .hbm, ⟨34, _⟩ => ⟨S2048x1x1024, .f32⟩
  | .hbm, ⟨35, _⟩ => ⟨S2048x1024, .f32⟩
  | .hbm, ⟨36, _⟩ => ⟨S2048x1024, .f32⟩
  | .hbm, ⟨37, _⟩ => ⟨S2048x1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1x1024, .f32⟩
  | .hbm, ⟨50, _⟩ => ⟨S_, .f32⟩
  | .hbm, ⟨51, _⟩ => ⟨S2048x3x1024, .f32⟩
  | .hbm, ⟨52, _⟩ => ⟨S2048x1024, .f32⟩
  | .hbm, ⟨53, _⟩ => ⟨S2048x1024, .f32⟩
  | .hbm, ⟨54, _⟩ => ⟨S2048x1x1024, .f32⟩
  | .hbm, ⟨55, _⟩ => ⟨S_, .f32⟩
  | .hbm, ⟨56, _⟩ => ⟨S2048x3x1024, .f32⟩
  | .hbm, ⟨57, _⟩ => ⟨S2048x3x1024, .f32⟩
  | .hbm, ⟨58, _⟩ => ⟨S2048x1024, .f32⟩
  | .hbm, ⟨59, _⟩ => ⟨S2048x1024, .f32⟩
  | .hbm, ⟨60, _⟩ => ⟨S2048x1x1024, .f32⟩
  | .hbm, ⟨61, _⟩ => ⟨S_, .f32⟩
  | .hbm, ⟨62, _⟩ => ⟨S2048x3x1024, .f32⟩
  | .hbm, ⟨63, _⟩ => ⟨S2048x3x1024, .f32⟩
  | .hbm, ⟨64, _⟩ => ⟨S2048x3072, .f32⟩
  | .hbm, ⟨65, _⟩ => ⟨S2048x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S_, .f32⟩
  | .hbm, ⟨70, _⟩ => ⟨S3072, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x1024, .bf16⟩
  | .hbm, ⟨75, _⟩ => ⟨S2048x1024, .bf16⟩
  | .hbm, ⟨76, _⟩ => ⟨S2048x1024, .bf16⟩
  | .hbm, ⟨77, _⟩ => ⟨S2048x1024, .bf16⟩
  | .hbm, ⟨78, _⟩ => ⟨S2048x3072, .bf16⟩
  | .hbm, ⟨79, _⟩ => ⟨S1x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel5.lean ====
abbrev S2048x512 : Shape := ⟨2, ![2048, 512]⟩
abbrev S2048x256 : Shape := ⟨2, ![2048, 256]⟩
abbrev S2048x3072 : Shape := ⟨2, ![2048, 3072]⟩
abbrev S2048x1024 : Shape := ⟨2, ![2048, 1024]⟩
abbrev S5888x1024 : Shape := ⟨2, ![5888, 1024]⟩
abbrev S512x512 : Shape := ⟨2, ![512, 512]⟩
abbrev S512x256 : Shape := ⟨2, ![512, 256]⟩
abbrev S512x3072 : Shape := ⟨2, ![512, 3072]⟩
abbrev S5888x512 : Shape := ⟨2, ![5888, 512]⟩
abbrev S256x512 : Shape := ⟨2, ![256, 512]⟩
abbrev S3072x512 : Shape := ⟨2, ![3072, 512]⟩

abbrev nBuf : Space → Nat
  | .hbm => 9
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x3072, .bf16⟩
  | .hbm, ⟨7, _⟩ => ⟨S2048x1024, .bf16⟩
  | .hbm, ⟨8, _⟩ => ⟨S5888x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x3072, .bf16⟩
  | .local _ .vmem, ⟨13, _⟩ => ⟨S512x3072, .bf16⟩
  | .local _ .vmem, ⟨14, _⟩ => ⟨S512x512, .bf16⟩
  | .local _ .vmem, ⟨15, _⟩ => ⟨S512x512, .bf16⟩
  | .local _ .vmem, ⟨16, _⟩ => ⟨S5888x512, .bf16⟩
  | .local _ .vmem, ⟨17, _⟩ => ⟨S5888x512, .bf16⟩
  | .local _ .vmem, ⟨18, _⟩ => ⟨S5888x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_44 : BitVec 32 := 0#32
  let v55 : BitVec 1 := Scalar.cmpi .ne v54 c0_i32_44
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S5888x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S2048x512 : Shape := ⟨2, ![2048, 512]⟩
abbrev S2048x256 : Shape := ⟨2, ![2048, 256]⟩
abbrev S2048x3072 : Shape := ⟨2, ![2048, 3072]⟩
abbrev S2048x1024 : Shape := ⟨2, ![2048, 1024]⟩
abbrev S2048x5888 : Shape := ⟨2, ![2048, 5888]⟩
abbrev S_ : Shape := ⟨0, ![]⟩
abbrev S1024x5888 : Shape := ⟨2, ![1024, 5888]⟩
abbrev S5888x1024 : Shape := ⟨2, ![5888, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x3072, .bf16⟩
  | .hbm, ⟨7, _⟩ => ⟨S2048x1024, .bf16⟩
  | .hbm, ⟨8, _⟩ => ⟨S2048x512, .f32⟩
  | .hbm, ⟨9, _⟩ => ⟨S2048x256, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x3072, .f32⟩
  | .hbm, ⟨15, _⟩ => ⟨S2048x5888, .f32⟩
  | .hbm, ⟨16, _⟩ => ⟨S_, .f32⟩
  | .hbm, ⟨17, _⟩ => ⟨S1024x5888, .f32⟩
  | .hbm, ⟨18, _⟩ => ⟨S2048x1024, .f32⟩
  | .hbm, ⟨19, _⟩ => ⟨S2048x5888, .f32⟩
  | .hbm, ⟨20, _⟩ => ⟨S5888x1024, .f32⟩
  | .hbm, ⟨21, _⟩ => ⟨S1024x5888, .f32⟩
  | .hbm, ⟨22, _⟩ => ⟨S5888x1024, .f32⟩
  | .hbm, ⟨23, _⟩ => ⟨S5888x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel6.lean ====
abbrev S2048x1024 : Shape := ⟨2, ![2048, 1024]⟩
abbrev S2048x512 : Shape := ⟨2, ![2048, 512]⟩
abbrev S1024x1536 : Shape := ⟨2, ![1024, 1536]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S1024x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x1536, .bf16⟩
  | .local _ .vmem, ⟨13, _⟩ => ⟨S1024x1536, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v27 : BitVec 1 := Scalar.cmpi .eq arg0 c3_i32
  let v28 : BitVec 32 := Scalar.extui v27
  let c0_i32_24 : BitVec 32 := 0#32
  let v29 : BitVec 1 := Scalar.cmpi .ne v28 c0_i32_24
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩
abbrev S1024x1536 : Shape := ⟨2, ![1024, 1536]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S_, .f32⟩
  | .hbm, ⟨7, _⟩ => ⟨S512x1024, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S1024x512, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S2048x512, .f32⟩
  | .hbm, ⟨16, _⟩ => ⟨S2048x1024, .f32⟩
  | .hbm, ⟨17, _⟩ => ⟨S2048x1024, .f32⟩
  | .hbm, ⟨18, _⟩ => ⟨S1024x512, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S2048x512, .f32⟩
  | .hbm, ⟨23, _⟩ => ⟨S2048x1024, .f32⟩
  | .hbm, ⟨24, _⟩ => ⟨S2048x1024, .f32⟩
  | .hbm, ⟨25, _⟩ => ⟨S1024x512, .f32⟩
  | .hbm, ⟨26, _⟩ => ⟨S512x1024, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x1536, .f32⟩
  | .hbm, ⟨31, _⟩ => ⟨S1024x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel7.lean ====
abbrev S2048x5632 : Shape := ⟨2, ![2048, 5632]⟩
abbrev S2048x1024 : Shape := ⟨2, ![2048, 1024]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x5632 : Shape := ⟨2, ![2048, 5632]⟩
abbrev S2048x1024 : Shape := ⟨2, ![2048, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x512 : Shape := ⟨2, ![2048, 512]⟩
abbrev S512x512 : Shape := ⟨2, ![512, 512]⟩
abbrev S2048x256 : Shape := ⟨2, ![2048, 256]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S256x512, .bf16⟩
  | .local _ .vmem, ⟨4, _⟩ => ⟨S256x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x512 : Shape := ⟨2, ![2048, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S_, .f32⟩
  | .hbm, ⟨3, _⟩ => ⟨S512x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x1024 : Shape := ⟨2, ![2048, 1024]⟩
abbrev S2048x5632 : Shape := ⟨2, ![2048, 5632]⟩
abbrev S2816x1024 : Shape := ⟨2, ![2816, 1024]⟩
abbrev S2048x2816 : Shape := ⟨2, ![2048, 2816]⟩
abbrev S_ : Shape := ⟨0, ![]⟩
abbrev S8x128 : Shape := ⟨2, ![8, 128]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 26
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2816x1024, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .bf16⟩
  | .hbm, ⟨20, _⟩ => ⟨S2048x2816, .bf16⟩
  | .hbm, ⟨21, _⟩ => ⟨S2048x2816, .bf16⟩
  | .hbm, ⟨22, _⟩ => ⟨S2816x1024, .bf16⟩
  | .hbm, ⟨23, _⟩ => ⟨S_, .f32⟩
  | .hbm, ⟨24, _⟩ => ⟨S8x128, .f32⟩
  | .hbm, ⟨25, _⟩ => ⟨S2048x5632, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S512x5632, .bf16⟩
  | .local _ .vmem, ⟨10, _⟩ => ⟨S512x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x1024 : Shape := ⟨2, ![2048, 1024]⟩
abbrev S2048x5632 : Shape := ⟨2, ![2048, 5632]⟩
abbrev S2816x1024 : Shape := ⟨2, ![2816, 1024]⟩
abbrev S2048x2816 : Shape := ⟨2, ![2048, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2816x1024, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x5632, .f32⟩
  | .hbm, ⟨28, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Kernel12.lean ====
abbrev S2048x1024 : Shape := ⟨2, ![2048, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S2048x2816 : Shape := ⟨2, ![2048, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x5632 : Shape := ⟨2, ![256, 5632]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S5632x1024, .bf16⟩
  | .hbm, ⟨6, _⟩ => ⟨S2048x2816, .bf16⟩
  | .hbm, ⟨7, _⟩ => ⟨S2048x2816, .bf16⟩
  | .hbm, ⟨8, _⟩ => ⟨S2048x2816, .bf16⟩
  | .hbm, ⟨9, _⟩ => ⟨S2048x2816, .bf16⟩
  | .hbm, ⟨10, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S2048x1024 : Shape := ⟨2, ![2048, 1024]⟩
abbrev S1024 : Shape := ⟨1, ![1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x5632, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .bf16⟩
  | .hbm, ⟨43, _⟩ => ⟨S2048x2816, .bf16⟩
  | .hbm, ⟨44, _⟩ => ⟨S2048x2816, .bf16⟩
  | .hbm, ⟨45, _⟩ => ⟨S2048x2816, .bf16⟩
  | .hbm, ⟨46, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v16_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v16_1 : Ref sig .tc := ⟨.hbm, 33, rfl⟩
abbrev main_v16_0 : Ref sig .tc := ⟨.hbm, 34, rfl⟩
abbrev main_cst_2 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Kernel13.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩
abbrev S8x128 : Shape := ⟨2, ![8, 128]⟩
abbrev S512x1024 : Shape := ⟨2, ![512, 1024]⟩
abbrev S512x2816 : Shape := ⟨2, ![512, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S2816x1024, .bf16⟩
  | .hbm, ⟨4, _⟩ => ⟨S_, .f32⟩
  | .hbm, ⟨5, _⟩ => ⟨S8x128, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S2048x1024 : Shape := ⟨2, ![2048, 1024]⟩
abbrev S2048x2816 : Shape := ⟨2, ![2048, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S2048x2816, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S2048x1024 : Shape := ⟨2, ![2048, 1024]⟩
abbrev S2048x512 : Shape := ⟨2, ![2048, 512]⟩
abbrev S2048x3072 : Shape := ⟨2, ![2048, 3072]⟩
abbrev S4x3072 : Shape := ⟨2, ![4, 3072]⟩
abbrev S512x1024 : Shape := ⟨2, ![512, 1024]⟩
abbrev S1024x1024 : Shape := ⟨2, ![1024, 1024]⟩
abbrev S1024x512 : Shape := ⟨2, ![1024, 512]⟩
abbrev S1024x1536 : Shape := ⟨2, ![1024, 1536]⟩
abbrev S4x1x3072 : Shape := ⟨3, ![4, 1, 3072]⟩
abbrev S_ : Shape := ⟨0, ![]⟩
abbrev S8x128 : Shape := ⟨2, ![8, 128]⟩
abbrev S256x1024 : Shape := ⟨2, ![256, 1024]⟩
abbrev S256x512 : Shape := ⟨2, ![256, 512]⟩
abbrev S1x1x3072 : Shape := ⟨3, ![1, 1, 3072]⟩
abbrev S1x1x1024 : Shape := ⟨3, ![1, 1, 1024]⟩
abbrev S1x1024 : Shape := ⟨2, ![1, 1024]⟩

abbrev nBuf : Space → Nat
  | .hbm => 22
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x3072, .f32⟩
  | .hbm, ⟨5, _⟩ => ⟨S4x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S512x1024, .bf16⟩
  | .hbm, ⟨11, _⟩ => ⟨S1024x512, .bf16⟩
  | .hbm, ⟨12, _⟩ => ⟨S512x1024, .bf16⟩
  | .hbm, ⟨13, _⟩ => ⟨S1024x512, .bf16⟩
  | .hbm, ⟨14, _⟩ => ⟨S512x1024, .bf16⟩
  | .hbm, ⟨15, _⟩ => ⟨S1024x512, .bf16⟩
  | .hbm, ⟨16, _⟩ => ⟨S1024x1536, .bf16⟩
  | .hbm, ⟨17, _⟩ => ⟨S4x1x3072, .f32⟩
  | .hbm, ⟨18, _⟩ => ⟨S1024x1024, .bf16⟩
  | .hbm, ⟨19, _⟩ => ⟨S_, .f32⟩
  | .hbm, ⟨20, _⟩ => ⟨S8x128, .f32⟩
  | .hbm, ⟨21, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x3072, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference14Ideal.lean ====
abbrev S2048x1024 : Shape := ⟨2, ![2048, 1024]⟩
abbrev S2048x512 : Shape := ⟨2, ![2048, 512]⟩
abbrev S2048x3072 : Shape := ⟨2, ![2048, 3072]⟩
abbrev S4x3072 : Shape := ⟨2, ![4, 3072]⟩
abbrev S512x1024 : Shape := ⟨2, ![512, 1024]⟩
abbrev S1024x1024 : Shape := ⟨2, ![1024, 1024]⟩
abbrev S1x3072 : Shape := ⟨2, ![1, 3072]⟩
abbrev S3072 : Shape := ⟨1, ![3072]⟩
abbrev S_ : Shape := ⟨0, ![]⟩
abbrev S2048x3x1024 : Shape := ⟨3, ![2048, 3, 1024]⟩
abbrev S2048x1x1024 : Shape := ⟨3, ![2048, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x3072, .f32⟩
  | .hbm, ⟨5, _⟩ => ⟨S4x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S2048x512, .f32⟩
  | .hbm, ⟨11, _⟩ => ⟨S2048x1024, .f32⟩
  | .hbm, ⟨12, _⟩ => ⟨S2048x512, .f32⟩
  | .hbm, ⟨13, _⟩ => ⟨S2048x1024, .f32⟩
  | .hbm, ⟨14, _⟩ => ⟨S2048x512, .f32⟩
  | .hbm, ⟨15, _⟩ => ⟨S2048x1024, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3x1024, .f32⟩
  | .hbm, ⟨30, _⟩ => ⟨S2048x1x1024, .f32⟩
  | .hbm, ⟨31, _⟩ => ⟨S2048x1024, .f32⟩
  | .hbm, ⟨32, _⟩ => ⟨S2048x1024, .f32⟩
  | .hbm, ⟨33, _⟩ => ⟨S2048x1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel15.lean ====
abbrev S2048x512 : Shape := ⟨2, ![2048, 512]⟩
abbrev S512x512 : Shape := ⟨2, ![512, 512]⟩
abbrev S1x512 : Shape := ⟨2, ![1, 512]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | .hbm, ⟨3, _⟩ => ⟨S2048x512, .f32⟩
  | .hbm, ⟨4, _⟩ => ⟨S512x512, .bf16⟩
  | .hbm, ⟨5, _⟩ => ⟨S2048x512, .f32⟩
  | .hbm, ⟨6, _⟩ => ⟨S2048x512, .bf16⟩
  | .hbm, ⟨7, _⟩ => ⟨S2048x512, .bf16⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel15Ideal.lean ====
variable {F : FTy → Type} [FloatOps F] [Named F]
def κ : String → Option EReal := fun
  | "cube" => some ((8943 / 200000 : ℝ) : EReal)
  | "slope" => some ((26829 / 200000 : ℝ) : EReal)
  | _ => none
-- ==== Reference15Ideal.lean ====
abbrev S2048x512 : Shape := ⟨2, ![2048, 512]⟩
abbrev S512x512 : Shape := ⟨2, ![512, 512]⟩
abbrev S_ : Shape := ⟨0, ![]⟩
abbrev S1x512 : Shape := ⟨2, ![1, 512]⟩
abbrev S512 : Shape := ⟨1, ![512]⟩

abbrev nBuf : Space → Nat
  | .hbm => 79
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S1x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S2048x512, .bf16⟩
  | .hbm, ⟨78, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel16.lean ====
abbrev S2048x1024 : Shape := ⟨2, ![2048, 1024]⟩
abbrev S1024 : Shape := ⟨1, ![1024]⟩
abbrev S1024x5888 : Shape := ⟨2, ![1024, 5888]⟩
abbrev S2048x8 : Shape := ⟨2, ![2048, 8]⟩
abbrev S4x3x512 : Shape := ⟨3, ![4, 3, 512]⟩
abbrev S_ : Shape := ⟨0, ![]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S5888x1024 : Shape := ⟨2, ![5888, 1024]⟩
abbrev S1x1024 : Shape := ⟨2, ![1, 1024]⟩
abbrev S4x8x512 : Shape := ⟨3, ![4, 8, 512]⟩
abbrev S8x128 : Shape := ⟨2, ![8, 128]⟩
abbrev S2048x512 : Shape := ⟨2, ![2048, 512]⟩
abbrev S2048x256 : Shape := ⟨2, ![2048, 256]⟩
abbrev S2048x1536 : Shape := ⟨2, ![2048, 1536]⟩
abbrev S2048x3072 : Shape := ⟨2, ![2048, 3072]⟩
abbrev S512x1024 : Shape := ⟨2, ![512, 1024]⟩
abbrev S512x128 : Shape := ⟨2, ![512, 128]⟩
abbrev S1x8x512 : Shape := ⟨3, ![1, 8, 512]⟩
abbrev S512x512 : Shape := ⟨2, ![512, 512]⟩
abbrev S512x256 : Shape := ⟨2, ![512, 256]⟩
abbrev S512x1536 : Shape := ⟨2, ![512, 1536]⟩
abbrev S512x3072 : Shape := ⟨2, ![512, 3072]⟩
abbrev S8x512 : Shape := ⟨2, ![8, 512]⟩
abbrev S512 : Shape := ⟨1, ![512]⟩
abbrev S512x1 : Shape := ⟨2, ![512, 1]⟩
abbrev S512x5888 : Shape := ⟨2, ![512, 5888]⟩
abbrev S1x128 : Shape := ⟨2, ![1, 128]⟩
abbrev S1x1x128 : Shape := ⟨3, ![1, 1, 128]⟩

abbrev nBuf : Space → Nat
  | .hbm => 40
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5888, .f32⟩
  | .hbm, ⟨3, _⟩ => ⟨S2048x8, .f32⟩
  | .hbm, ⟨4, _⟩ => ⟨S2048x8, .f32⟩
  | .hbm, ⟨5, _⟩ => ⟨S4x3x512, .f32⟩
  | .hbm, ⟨6, _⟩ => ⟨S_, .f32⟩
  | .hbm, ⟨7, _⟩ => ⟨S2048x48, .f32⟩
  | .hbm, ⟨8, _⟩ => ⟨S_, .f32⟩
  | .hbm, ⟨9, _⟩ => ⟨S2048x48, .f32⟩
  | .hbm, ⟨10, _⟩ => ⟨S_, .f32⟩
  | .hbm, ⟨11, _⟩ => ⟨S2048x8, .f32⟩
  | .hbm, ⟨12, _⟩ => ⟨S2048x64, .f32⟩
  | .hbm, ⟨13, _⟩ => ⟨S1x2048x1x64, .f32⟩
  | .hbm, ⟨14, _⟩ => ⟨S1x2048x2x64, .f32⟩
  | .hbm, ⟨15, _⟩ => ⟨S2048x128, .f32⟩
  | .hbm, ⟨16, _⟩ => ⟨S2048x8, .f32⟩
  | .hbm, ⟨17, _⟩ => ⟨S2048x64, .f32⟩
  | .hbm, ⟨18, _⟩ => ⟨S1x2048x1x64, .f32⟩
  | .hbm, ⟨19, _⟩ => ⟨S1x2048x2x64, .f32⟩
  | .hbm, ⟨20, _⟩ => ⟨S2048x128, .f32⟩
  | .hbm, ⟨21, _⟩ => ⟨S2048x64, .f32⟩
  | .hbm, ⟨22, _⟩ => ⟨S1x2048x1x64, .f32⟩
  | .hbm, ⟨23, _⟩ => ⟨S1x2048x2x64, .f32⟩
  | .hbm, ⟨24, _⟩ => ⟨S2048x128, .f32⟩
  | .hbm, ⟨25, _⟩ => ⟨S1024x5888, .bf16⟩
  | .hbm, ⟨26, _⟩ => ⟨S5888x1024, .bf16⟩
  | .hbm, ⟨27, _⟩ => ⟨S1x1024, .f32⟩
  | .hbm, ⟨28, _⟩ => ⟨S_, .i32⟩
  | .hbm, ⟨29, _⟩ => ⟨S_, .f32⟩
  | .hbm, ⟨30, _⟩ => ⟨S4x8x512, .f32⟩
  | .hbm, ⟨31, _⟩ => ⟨S_, .f32⟩
  | .hbm, ⟨32, _⟩ => ⟨S8x128, .f32⟩
  | .hbm, ⟨33, _⟩ => ⟨S2048x512, .f32⟩
  | .hbm, ⟨34, _⟩ => ⟨S2048x256, .f32⟩
  | .hbm, ⟨35, _⟩ => ⟨S2048x1536, .f32⟩
  | .hbm, ⟨36, _⟩ => ⟨S2048x512, .f32⟩
  | .hbm, ⟨37, _⟩ => ⟨S2048x3072, .f32⟩
  | .hbm, ⟨38, _⟩ => ⟨S2048x512, .bf16⟩
  | .hbm, ⟨39, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5888x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x8x512, .f32⟩
  | .local _ .vmem, ⟨11, _⟩ => ⟨S512x512, .f32⟩
  | .local _ .vmem, ⟨12, _⟩ => ⟨S512x512, .f32⟩
  | .local _ .vmem, ⟨13, _⟩ => ⟨S512x256, .f32⟩
  | .local _ .vmem, ⟨14, _⟩ => ⟨S512x256, .f32⟩
  | .local _ .vmem, ⟨15, _⟩ => ⟨S512x1536, .f32⟩
  | .local _ .vmem, ⟨16, _⟩ => ⟨S512x1536, .f32⟩
  | .local _ .vmem, ⟨17, _⟩ => ⟨S512x512, .f32⟩
  | .local _ .vmem, ⟨18, _⟩ => ⟨S512x512, .f32⟩
  | .local _ .vmem, ⟨19, _⟩ => ⟨S512x3072, .f32⟩
  | .local _ .vmem, ⟨20, _⟩ => ⟨S512x3072, .f32⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S8x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5888x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference16Ideal.lean ====
abbrev S2048x1024 : Shape := ⟨2, ![2048, 1024]⟩
abbrev S1024 : Shape := ⟨1, ![1024]⟩
abbrev S1024x5888 : Shape := ⟨2, ![1024, 5888]⟩
abbrev S2048x8 : Shape := ⟨2, ![2048, 8]⟩
abbrev S4x3x512 : Shape := ⟨3, ![4, 3, 512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5888 : Shape := ⟨2, ![2048, 5888]⟩
abbrev S2048x512 : Shape := ⟨2, ![2048, 512]⟩
abbrev S2048x128 : Shape := ⟨2, ![2048, 128]⟩
abbrev S2048x3072 : Shape := ⟨2, ![2048, 3072]⟩
abbrev S2048x8x64 : Shape := ⟨3, ![2048, 8, 64]⟩
abbrev S2048x8x8 : Shape := ⟨3, ![2048, 8, 8]⟩
abbrev S2048x8x48 : Shape := ⟨3, ![2048, 8, 48]⟩
abbrev S2048x1x8 : Shape := ⟨3, ![2048, 1, 8]⟩
abbrev S2048x2x64 : Shape := ⟨3, ![2048, 2, 64]⟩
abbrev S2048x2x8 : Shape := ⟨3, ![2048, 2, 8]⟩
abbrev S2048x2x48 : Shape := ⟨3, ![2048, 2, 48]⟩
abbrev S1x3x512 : Shape := ⟨3, ![1, 3, 512]⟩
abbrev S3x512 : Shape := ⟨2, ![3, 512]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S2048x256 : Shape := ⟨2, ![2048, 256]⟩
abbrev S2048x1536 : Shape := ⟨2, ![2048, 1536]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5888, .f32⟩
  | .hbm, ⟨3, _⟩ => ⟨S2048x8, .f32⟩
  | .hbm, ⟨4, _⟩ => ⟨S2048x8, .f32⟩
  | .hbm, ⟨5, _⟩ => ⟨S4x3x512, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x5888, .f32⟩
  | .hbm, ⟨23, _⟩ => ⟨S2048x512, .f32⟩
  | .hbm, ⟨24, _⟩ => ⟨S2048x128, .f32⟩
  | .hbm, ⟨25, _⟩ => ⟨S2048x128, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x3072, .f32⟩
  | .hbm, ⟨31, _⟩ => ⟨S2048x8x64, .f32⟩
  | .hbm, ⟨32, _⟩ => ⟨S2048x8x8, .f32⟩
  | .hbm, ⟨33, _⟩ => ⟨S2048x8x8, .f32⟩
  | .hbm, ⟨34, _⟩ => ⟨S2048x8x48, .f32⟩
  | .hbm, ⟨35, _⟩ => ⟨S2048x1x8, .f32⟩
  | .hbm, ⟨36, _⟩ => ⟨S2048x1x8, .f32⟩
  | .hbm, ⟨37, _⟩ => ⟨S2048x8x8, .f32⟩
  | .hbm, ⟨38, _⟩ => ⟨S2048x8x8, .f32⟩
  | .hbm, ⟨39, _⟩ => ⟨S2048x8x8, .f32⟩
  | .hbm, ⟨40, _⟩ => ⟨S2048x8x8, .f32⟩
  | .hbm, ⟨41, _⟩ => ⟨S2048x8x8, .f32⟩
  | .hbm, ⟨42, _⟩ => ⟨S2048x8x8, .f32⟩
  | .hbm, ⟨43, _⟩ => ⟨S2048x8x8, .f32⟩
  | .hbm, ⟨44, _⟩ => ⟨S2048x8x8, .f32⟩
  | .hbm, ⟨45, _⟩ => ⟨S2048x8x8, .f32⟩
  | .hbm, ⟨46, _⟩ => ⟨S2048x8x8, .f32⟩
  | .hbm, ⟨47, _⟩ => ⟨S2048x8x64, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S2048x2x64, .f32⟩
  | .hbm, ⟨53, _⟩ => ⟨S2048x2x8, .f32⟩
  | .hbm, ⟨54, _⟩ => ⟨S2048x2x8, .f32⟩
  | .hbm, ⟨55, _⟩ => ⟨S2048x2x48, .f32⟩
  | .hbm, ⟨56, _⟩ => ⟨S2048x1x8, .f32⟩
  | .hbm, ⟨57, _⟩ => ⟨S2048x1x8, .f32⟩
  | .hbm, ⟨58, _⟩ => ⟨S2048x2x8, .f32⟩
  | .hbm, ⟨59, _⟩ => ⟨S2048x2x8, .f32⟩
  | .hbm, ⟨60, _⟩ => ⟨S2048x2x8, .f32⟩
  | .hbm, ⟨61, _⟩ => ⟨S2048x2x8, .f32⟩
  | .hbm, ⟨62, _⟩ => ⟨S2048x2x8, .f32⟩
  | .hbm, ⟨63, _⟩ => ⟨S2048x2x8, .f32⟩
  | .hbm, ⟨64, _⟩ => ⟨S2048x2x8, .f32⟩
  | .hbm, ⟨65, _⟩ => ⟨S2048x2x8, .f32⟩
  | .hbm, ⟨66, _⟩ => ⟨S2048x2x8, .f32⟩
  | .hbm, ⟨67, _⟩ => ⟨S2048x2x8, .f32⟩
  | .hbm, ⟨68, _⟩ => ⟨S2048x2x64, .f32⟩
  | .hbm, ⟨69, _⟩ => ⟨S2048x128, .f32⟩
  | .hbm, ⟨70, _⟩ => ⟨S1x3x512, .f32⟩
  | .hbm, ⟨71, _⟩ => ⟨S3x512, .f32⟩
  | .hbm, ⟨72, _⟩ => ⟨S2048x512, .f32⟩
  | .hbm, ⟨73, _⟩ => ⟨S_, .f32⟩
  | .hbm, ⟨74, _⟩ => ⟨S2x512, .f32⟩
  | .hbm, ⟨75, _⟩ => ⟨S2050x512, .f32⟩
  | .hbm, ⟨76, _⟩ => ⟨S1x512, .f32⟩
  | .hbm, ⟨77, _⟩ => ⟨S512, .f32⟩
  | .hbm, ⟨78, _⟩ => ⟨S2048x512, .f32⟩
  | .hbm, ⟨79, _⟩ => ⟨S1x512, .f32⟩
  | .hbm, ⟨80, _⟩ => ⟨S2048x512, .f32⟩
  | .hbm, ⟨81, _⟩ => ⟨S2048x512, .f32⟩
  | .hbm, ⟨82, _⟩ => ⟨S1x512, .f32⟩
  | .hbm, ⟨83, _⟩ => ⟨S512, .f32⟩
  | .hbm, ⟨84, _⟩ => ⟨S2048x512, .f32⟩
  | .hbm, ⟨85, _⟩ => ⟨S1x512, .f32⟩
  | .hbm, ⟨86, _⟩ => ⟨S2048x512, .f32⟩
  | .hbm, ⟨87, _⟩ => ⟨S2048x512, .f32⟩
  | .hbm, ⟨88, _⟩ => ⟨S2048x512, .f32⟩
  | .hbm, ⟨89, _⟩ => ⟨S1x512, .f32⟩
  | .hbm, ⟨90, _⟩ => ⟨S512, .f32⟩
  | .hbm, ⟨91, _⟩ => ⟨S2048x512, .f32⟩
  | .hbm, ⟨92, _⟩ => ⟨S1x512, .f32⟩
  | .hbm, ⟨93, _⟩ => ⟨S2048x512, .f32⟩
  | .hbm, ⟨94, _⟩ => ⟨S2048x512, .f32⟩
  | .hbm, ⟨95, _⟩ => ⟨S2048x512, .f32⟩
  | .hbm, ⟨96, _⟩ => ⟨S2048x512, .f32⟩
  | .hbm, ⟨97, _⟩ => ⟨S2048x256, .f32⟩
  | .hbm, ⟨98, _⟩ => ⟨S2048x1536, .f32⟩
  | .hbm, ⟨99, _⟩ => ⟨S2048x512, .bf16⟩
  | .hbm, ⟨100, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]
-- ==== Kernel17.lean ====
abbrev S2048x512 : Shape := ⟨2, ![2048, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S512x512, .bf16⟩
  | .hbm, ⟨3, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x512 : Shape := ⟨2, ![2048, 512]⟩
abbrev S512x512 : Shape := ⟨2, ![512, 512]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel18.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x128, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel19.lean ====
abbrev S8x4x1024 : Shape := ⟨3, ![8, 4, 1024]⟩
abbrev S4x1024 : Shape := ⟨2, ![4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1024, .bf16⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S8x4x1024, .bf16⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S8x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x4x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference19Ideal.lean ====
abbrev S8x4x1024 : Shape := ⟨3, ![8, 4, 1024]⟩
abbrev S4x1024 : Shape := ⟨2, ![4, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x1024, .bf16⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S8x4x1024, .f32⟩
  | .hbm, ⟨5, _⟩ => ⟨S_, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S_, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S_, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S_, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S_, .f32⟩
  | .hbm, ⟨34, _⟩ => ⟨S4x1024, .f32⟩
  | .hbm, ⟨35, _⟩ => ⟨S4x1024, .f32⟩
  | .hbm, ⟨36, _⟩ => ⟨S4x1024, .f32⟩
  | .hbm, ⟨37, _⟩ => ⟨S_, .f32⟩
  | .hbm, ⟨38, _⟩ => ⟨S4x1024, .f32⟩
  | .hbm, ⟨39, _⟩ => ⟨S4x1024, .f32⟩
  | _, _ => ⟨S8x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x4x32x1024 : Shape := ⟨4, ![8, 4, 32, 1024]⟩
abbrev S4x32x1024 : Shape := ⟨3, ![4, 32, 1024]⟩
abbrev S8x1x32x1024 : Shape := ⟨4, ![8, 1, 32, 1024]⟩
abbrev S1x32x1024 : Shape := ⟨3, ![1, 32, 1024]⟩
abbrev S1x1x32x1024 : Shape := ⟨4, ![1, 1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x32x1024, .bf16⟩
  | .hbm, ⟨1, _⟩ => ⟨S4x32x1024, .f32⟩
  | .hbm, ⟨2, _⟩ => ⟨S4x32x1024, .f32⟩
  | .hbm, ⟨3, _⟩ => ⟨S4x32x1024, .f32⟩
  | .hbm, ⟨4, _⟩ => ⟨S4x32x1024, .f32⟩
  | .hbm, ⟨5, _⟩ => ⟨S4x32x1024, .f32⟩
  | .hbm, ⟨6, _⟩ => ⟨S4x32x1024, .f32⟩
  | .hbm, ⟨7, _⟩ => ⟨S4x32x1024, .f32⟩
  | .local _ .vmem, ⟨0, _⟩ => ⟨S8x1x32x1024, .bf16⟩
  | .local _ .vmem, ⟨1, _⟩ => ⟨S8x1x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x4x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x4x32x1024 : Shape := ⟨4, ![8, 4, 32, 1024]⟩
abbrev S4x32x1024 : Shape := ⟨3, ![4, 32, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x32x1024, .bf16⟩
  | .hbm, ⟨1, _⟩ => ⟨S4x32x1024, .f32⟩
  | .hbm, ⟨2, _⟩ => ⟨S4x32x1024, .f32⟩
  | .hbm, ⟨3, _⟩ => ⟨S4x32x1024, .f32⟩
  | .hbm, ⟨4, _⟩ => ⟨S8x4x32x1024, .f32⟩
  | .hbm, ⟨5, _⟩ => ⟨S_, .f32⟩
  | .hbm, ⟨6, _⟩ => ⟨S4x32x1024, .f32⟩
  | .hbm, ⟨7, _⟩ => ⟨S_, .f32⟩
  | .hbm, ⟨8, _⟩ => ⟨S4x32x1024, .f32⟩
  | .hbm, ⟨9, _⟩ => ⟨S4x32x1024, .f32⟩
  | .hbm, ⟨10, _⟩ => ⟨S_, .f32⟩
  | .hbm, ⟨11, _⟩ => ⟨S4x32x1024, .f32⟩
  | .hbm, ⟨12, _⟩ => ⟨S4x32x1024, .f32⟩
  | .hbm, ⟨13, _⟩ => ⟨S4x32x1024, .f32⟩
  | .hbm, ⟨14, _⟩ => ⟨S_, .f32⟩
  | .hbm, ⟨15, _⟩ => ⟨S4x32x1024, .f32⟩
  | .hbm, ⟨16, _⟩ => ⟨S4x32x1024, .f32⟩
  | .hbm, ⟨17, _⟩ => ⟨S4x32x1024, .f32⟩
  | .hbm, ⟨18, _⟩ => ⟨S_, .f32⟩
  | .hbm, ⟨19, _⟩ => ⟨S4x32x1024, .f32⟩
  | .hbm, ⟨20, _⟩ => ⟨S4x32x1024, .f32⟩
  | .hbm, ⟨21, _⟩ => ⟨S4x32x1024, .f32⟩
  | .hbm, ⟨22, _⟩ => ⟨S_, .f32⟩
  | .hbm, ⟨23, _⟩ => ⟨S4x32x1024, .f32⟩
  | .hbm, ⟨24, _⟩ => ⟨S4x32x1024, .f32⟩
  | .hbm, ⟨25, _⟩ => ⟨S_, .f32⟩
  | .hbm, ⟨26, _⟩ => ⟨S4x32x1024, .f32⟩
  | .hbm, ⟨27, _⟩ => ⟨S4x32x1024, .f32⟩
  | .hbm, ⟨28, _⟩ => ⟨S4x32x1024, .f32⟩
  | .hbm, ⟨29, _⟩ => ⟨S_, .f32⟩
  | .hbm, ⟨30, _⟩ => ⟨S4x32x1024, .f32⟩
  | .hbm, ⟨31, _⟩ => ⟨S4x32x1024, .f32⟩
  | .hbm, ⟨32, _⟩ => ⟨S4x32x1024, .f32⟩
  | .hbm, ⟨33, _⟩ => ⟨S_, .f32⟩
  | .hbm, ⟨34, _⟩ => ⟨S4x32x1024, .f32⟩
  | .hbm, ⟨35, _⟩ => ⟨S4x32x1024, .f32⟩
  | .hbm, ⟨36, _⟩ => ⟨S4x32x1024, .f32⟩
  | .hbm, ⟨37, _⟩ => ⟨S_, .f32⟩
  | .hbm, ⟨38, _⟩ => ⟨S4x32x1024, .f32⟩
  | .hbm, ⟨39, _⟩ => ⟨S4x32x1024, .f32⟩
  | _, _ => ⟨S8x4x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.ConvRef.lean ====
/-
  The gradient of the gated short convolution, as formulas over the extended reals, and the reference read at an
  index: each of its four results is the formula.
-/
module

public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.Conv

open Cert.ReferenceIdeal Cert.ReferenceIdeal.Gen Cert.ReferenceIdeal.Read

/-- The convolution's input `cc · cx` at row `r`, `k` rows back; zero before the first row. -/
def back (x : FVec Ideal S2048x1536 .f32) (k : ℕ) (r : Fin 2048) (q : Fin 512) : EReal :=
  if h : r.val < k then 0
  else x (ix2 ⟨r.val - k, by omega⟩ ⟨512 + q.val, by omega⟩) * x (ix2 ⟨r.val - k, by omega⟩ ⟨1024 + q.val, by omega⟩)

/-- The cotangent of the convolution's output, `dout · cb`, `k` rows ahead; zero after the last row. -/
def ahead (x : FVec Ideal S2048x1536 .f32) (d : FVec Ideal S2048x512 .f32) (k : ℕ) (r : Fin 2048) (q : Fin 512) : EReal :=
  if h : r.val + k < 2048 then d (ix2 ⟨r.val + k, h⟩ q) * x (ix2 ⟨r.val + k, h⟩ ⟨q.val, by omega⟩)
  else 0

/-- Tap `j` of the first layer's filter at channel `q`. -/
def tap (w : FVec Ideal S4x3x512 .f32) (j : Fin 3) (q : Fin 512) : EReal := w (ix3 0 j q)

/-- The three shifted rows of the padded input. -/
theorem back2_at (x : FVec Ideal S2048x1536 .f32) (r : Fin 2048) (q : Fin 512) : val_main_v11 (F := Ideal) x (ix2 r q) = back x 2 r q := by
  pointwise [val_main_v11, val_main_v0, val_main_v1, val_main_v2, val_main_v5, val_main_v6, val_main_v7, val_main_cst]
  rfl

theorem back1_at (x : FVec Ideal S2048x1536 .f32) (r : Fin 2048) (q : Fin 512) : val_main_v17 (F := Ideal) x (ix2 r q) = back x 1 r q := by
  pointwise [val_main_v17, val_main_v0, val_main_v1, val_main_v2, val_main_v5, val_main_v6, val_main_v7, val_main_cst]
  simp only [back, show 1 + r.val - 2 = r.val - 1 from by omega, show (1 + r.val < 2) = (r.val < 1) from propext (by omega)]

theorem back0_at (x : FVec Ideal S2048x1536 .f32) (r : Fin 2048) (q : Fin 512) : val_main_v24 (F := Ideal) x (ix2 r q) = back x 0 r q := by
  pointwise [val_main_v24, val_main_v0, val_main_v1, val_main_v2, val_main_v5, val_main_v6, val_main_v7, val_main_cst]
  rfl

/-- The cotangent of the convolution's output. -/
theorem ahead0_at (x : FVec Ideal S2048x1536 .f32) (d : FVec Ideal S2048x512 .f32) (r : Fin 2048) (q : Fin 512) : val_main_v30 (F := Ideal) x d (ix2 r q) = ahead x d 0 r q := by
  pointwise [val_main_v30, val_main_v0]
  simp only [ahead, Nat.add_zero, r.isLt, dif_pos, Fin.eta, mul_comm]

/-- The filter's gradient row by row: tap `j` pairs the cotangent with the input `2 - j` rows back. -/
theorem ref70 (x : FVec Ideal S2048x1536 .f32) (d : FVec Ideal S2048x512 .f32) (r : Fin 8) (q : Fin 512) :
    val_main_v70 (F := Ideal) x d (ix2 r q)
      = if r.val < 3 then ∑ k : Fin 2048, ahead x d 0 k q * back x (2 - r.val) k q else 0 := by
  pointwise [val_main_v70, val_main_v62, val_main_v61, val_main_v60, val_main_v57, val_main_v56, val_main_v55, val_main_v54, val_main_v51, val_main_v50, val_main_v49, val_main_v46, val_main_v45, val_main_v44, val_main_v43, val_main_v40, val_main_v39, val_main_v37, val_main_v36, val_main_v35, val_main_v34, val_main_cst_1, val_main_cst_2, val_main_cst_3, val_main_cst_4, val_main_cst_5, val_main_cst_6, val_main_cst_7, val_main_cst_8, val_main_cst_9, val_main_cst_10, val_main_cst_11, val_main_cst_12, val_main_c, val_main_call0_v0, back2_at, back1_at, back0_at, ahead0_at]
  fin_vals r with hr <;>
    simp [hr, FloatOps.sitofp]

/-- The gradient of the output gate. -/
theorem ref67 (x : FVec Ideal S2048x1536 .f32) (w : FVec Ideal S4x3x512 .f32) (d : FVec Ideal S2048x512 .f32) (r : Fin 2048) (q : Fin 512) :
    val_main_v67 (F := Ideal) x w d (ix2 r q)
      = d (ix2 r q) * (tap w 0 q * back x 2 r q + tap w 1 q * back x 1 r q + tap w 2 q * back x 0 r q) := by
  pointwise [val_main_v67, val_main_v31, val_main_v28, val_main_v27, val_main_v21, val_main_v20, val_main_v14, val_main_v9, val_main_v10, val_main_v12, val_main_v13, val_main_v15, val_main_v16, val_main_v18, val_main_v19, val_main_v22, val_main_v23, val_main_v25, val_main_v26, val_main_v3, val_main_v4, back2_at, back1_at, back0_at]
  rfl

/-- The gradient of the convolution's input, before the product rule. -/
theorem dz_at (x : FVec Ideal S2048x1536 .f32) (w : FVec Ideal S4x3x512 .f32) (d : FVec Ideal S2048x512 .f32) (r : Fin 2048) (q : Fin 512) :
    val_main_v64 (F := Ideal) x w d (ix2 r q)
      = tap w 2 q * ahead x d 0 r q + tap w 1 q * ahead x d 1 r q + tap w 0 q * ahead x d 2 r q := by
  pointwise [val_main_v64, val_main_v59, val_main_v58, val_main_v53, val_main_v52, val_main_v48, val_main_v47, val_main_v42, val_main_v41, val_main_v38, val_main_v33, val_main_v32, val_main_cst_3, val_main_cst_7, val_main_cst_11, val_main_v9, val_main_v10, val_main_v12, val_main_v13, val_main_v15, val_main_v16, val_main_v18, val_main_v19, val_main_v22, val_main_v23, val_main_v25, val_main_v26, val_main_v3, val_main_v4, ahead0_at]
  simp only [tap, ahead, show 2 + r.val = r.val + 2 from by omega, show r.val + 2 - 1 = r.val + 1 from by omega,
    show (1 ≤ r.val + 2 ∧ r.val + 1 < 2048) = (r.val + 1 < 2048) from propext (by omega), Nat.add_zero, r.isLt, dif_pos, mul_dite, mul_zero]
  refine congrArg₂ (· + ·) (congrArg₂ (· + ·) rfl ?_) ?_ <;>
    (split <;> first | rfl | simp only [*, dif_pos])

/-- The gradients of the two factors of the convolution's input. -/
theorem ref68 (x : FVec Ideal S2048x1536 .f32) (w : FVec Ideal S4x3x512 .f32) (d : FVec Ideal S2048x512 .f32) (r : Fin 2048) (q : Fin 512) :
    val_main_v68 (F := Ideal) x w d (ix2 r q)
      = (tap w 2 q * ahead x d 0 r q + tap w 1 q * ahead x d 1 r q + tap w 0 q * ahead x d 2 r q) * x (ix2 r ⟨1024 + q.val, by omega⟩) := by
  pointwise [val_main_v68, val_main_v66, val_main_v2, dz_at]

theorem ref69 (x : FVec Ideal S2048x1536 .f32) (w : FVec Ideal S4x3x512 .f32) (d : FVec Ideal S2048x512 .f32) (r : Fin 2048) (q : Fin 512) :
    val_main_v69 (F := Ideal) x w d (ix2 r q)
      = (tap w 2 q * ahead x d 0 r q + tap w 1 q * ahead x d 1 r q + tap w 0 q * ahead x d 2 r q) * x (ix2 r ⟨512 + q.val, by omega⟩) := by
  pointwise [val_main_v69, val_main_v65, val_main_v1, dz_at]
  exact mul_comm _ _

end Cert.Conv

end
-- ==== Proof.ConvValue.lean ====
/-
  What the gradient of the gated short convolution leaves in its four result arrays, element by element.
-/
module

public import proofs.«01_k».proof.Proof.ConvRef
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

/-- Each window's block index at a grid point: channel tile `t` of the array, the three parts of the first argument
    four tiles apart. -/
theorem place : ∀ t : Fin cfg0.N, win0_0.index t = ![0, t.val] ∧ win0_1.index t = ![0, 4 + t.val]
    ∧ win0_2.index t = ![0, 8 + t.val] ∧ win0_3.index t = ![0, 0, t.val] ∧ win0_4.index t = ![0, t.val]
    ∧ win0_5.index t = ![0, t.val] ∧ win0_6.index t = ![0, t.val] ∧ win0_7.index t = ![0, t.val]
    ∧ win0_8.index t = ![0, t.val] :=
  (by decide +kernel : ∀ t : Fin grid0.N, _)

/-- The first result over the arguments. -/
def G5 (x : FVec Ideal S2048x1536 .f32) (w : FVec Ideal S4x3x512 .f32) (d : FVec Ideal S2048x512 .f32) : FVec Ideal S2048x512 .bf16 :=
  fun j => d (ix2 (j 0) (j 1)) * (tap w 0 (j 1) * back x 2 (j 0) (j 1) + tap w 1 (j 1) * back x 1 (j 0) (j 1) + tap w 2 (j 1) * back x 0 (j 0) (j 1))

/-- The gradients of the convolution's two factors over the arguments, and of the filter. -/
def dz (x : FVec Ideal S2048x1536 .f32) (w : FVec Ideal S4x3x512 .f32) (d : FVec Ideal S2048x512 .f32) (r : Fin 2048) (q : Fin 512) : EReal :=
  tap w 2 q * ahead x d 0 r q + tap w 1 q * ahead x d 1 r q + tap w 0 q * ahead x d 2 r q

def G6 (x : FVec Ideal S2048x1536 .f32) (w : FVec Ideal S4x3x512 .f32) (d : FVec Ideal S2048x512 .f32) : FVec Ideal S2048x512 .bf16 :=
  fun j => dz x w d (j 0) (j 1) * x (ix2 (j 0) ⟨1024 + (j 1).val, by have : (j 1).val < 512 := (j 1).isLt; omega⟩)

def G7 (x : FVec Ideal S2048x1536 .f32) (w : FVec Ideal S4x3x512 .f32) (d : FVec Ideal S2048x512 .f32) : FVec Ideal S2048x512 .bf16 :=
  fun j => dz x w d (j 0) (j 1) * x (ix2 (j 0) ⟨512 + (j 1).val, by have : (j 1).val < 512 := (j 1).isLt; omega⟩)

def G8 (x : FVec Ideal S2048x1536 .f32) (d : FVec Ideal S2048x512 .f32) : FVec Ideal S8x512 .f32 :=
  fun j => if (j 0).val < 3 then ∑ k : Fin 2048, ahead x d 0 k (j 1) * back x (2 - (j 0).val) k (j 1) else 0

/-- The grid has four points. -/
theorem point_lt (t : Fin cfg0.N) : t.val < 4 := lt_of_lt_of_eq t.isLt N_0

/-- The blocks of the five inputs, read in the arrays. -/
theorem cb_at (c : Dev nD) (t : Fin cfg0.N) (r : Fin 2048) (l : Fin 128) :
    (show EReal from iblk m c 0 t (ix2 r l : S2048x128.Idx))
      = m ((c : Thread nD τ).loc main_arg0) (ix2 r ⟨t.val * 128 + l.val, by have := point_lt t; omega⟩ : S2048x1536.Idx) := by
  blk_ext [iblk, V, place t]

theorem cc_at (c : Dev nD) (t : Fin cfg0.N) (r : Fin 2048) (l : Fin 128) :
    (show EReal from iblk m c 1 t (ix2 r l : S2048x128.Idx))
      = m ((c : Thread nD τ).loc main_arg0) (ix2 r ⟨512 + (t.val * 128 + l.val), by have := point_lt t; omega⟩ : S2048x1536.Idx) := by
  blk_ext [iblk, V, place t]

theorem cx_at (c : Dev nD) (t : Fin cfg0.N) (r : Fin 2048) (l : Fin 128) :
    (show EReal from iblk m c 2 t (ix2 r l : S2048x128.Idx))
      = m ((c : Thread nD τ).loc main_arg0) (ix2 r ⟨1024 + (t.val * 128 + l.val), by have := point_lt t; omega⟩ : S2048x1536.Idx) := by
  blk_ext [iblk, V, place t]

theorem do_at (c : Dev nD) (t : Fin cfg0.N) (r : Fin 2048) (l : Fin 128) :
    (show EReal from iblk m c 4 t (ix2 r l : S2048x128.Idx))
      = m ((c : Thread nD τ).loc main_arg2) (ix2 r ⟨t.val * 128 + l.val, by have := point_lt t; omega⟩ : S2048x512.Idx) := by
  blk_ext [iblk, V, place t]

/-- The filter the region reads: the argument with five zero rows under each layer's three taps. -/
def padded (w : FVec Ideal S4x3x512 .f32) : FVec Ideal S4x8x512 .f32 :=
  pad S4x8x512 ![0, 0, 0] ![0, 5, 0] ![0, 0, 0] w (sitofp (F := Ideal) .f32 (constantI S_ 32 0#32))
    pads_S4x3x512_S4x8x512_000_050_000 h_S_

theorem V_padded (c : Dev nD) : V m c main_v0 = padded (m ((c : Thread nD τ).loc main_arg1)) := by
  unfold V
  simp only [hostOps0, hostOps0_1, hostOps0_2, List.flatten, List.append, List.cons_append, List.nil_append, List.append_nil,
    StableHlo.TRef.binary, StableHlo.TRef.unary, StableHlo.TRef.toBuf, StableHlo.TRef.ofBuf, cast_eq]
  after_results_simp <;> rfl

theorem w_at (c : Dev nD) (t : Fin cfg0.N) (k : Fin 8) (hk : k.val < 3) (l : Fin 128) :
    (show EReal from iblk m c 3 t (ix3 0 k l : S1x8x128.Idx))
      = m ((c : Thread nD τ).loc main_arg1) (ix3 0 ⟨k.val, hk⟩ ⟨t.val * 128 + l.val, by have := point_lt t; omega⟩ : S4x3x512.Idx) := by
  have e : (show EReal from iblk m c 3 t (ix3 0 k l : S1x8x128.Idx))
      = V m c main_v0 (ix3 0 k ⟨t.val * 128 + l.val, by have := point_lt t; omega⟩ : S4x8x512.Idx) := by
    blk_ext [iblk, place t]
  rw [e, V_padded]
  pointwise [padded]
  have := point_lt t
  exact dif_pos ⟨hk, by omega⟩

/-! The body's vectors over blocks that are channel tile `t` of the arrays. -/

section Body

variable {x : FVec Ideal S2048x1536 .f32} {w : FVec Ideal S4x3x512 .f32} {d : FVec Ideal S2048x512 .f32} {t : ℕ} (ht : t < 4)
  {cb cc cx dd : Vec Ideal S2048x128 .f32} {w0 w1 w2 : Vec Ideal S1x1x128 .f32}
  (hcb : ∀ r (l : Fin 128), cb (ix2 r l) = x (ix2 r ⟨t * 128 + l.val, by omega⟩))
  (hcc : ∀ r (l : Fin 128), cc (ix2 r l) = x (ix2 r ⟨512 + (t * 128 + l.val), by omega⟩))
  (hcx : ∀ r (l : Fin 128), cx (ix2 r l) = x (ix2 r ⟨1024 + (t * 128 + l.val), by omega⟩))
  (hdd : ∀ r (l : Fin 128), dd (ix2 r l) = d (ix2 r ⟨t * 128 + l.val, by omega⟩))
  (h0 : ∀ l : Fin 128, w0 (ix3 0 0 l) = tap w 0 ⟨t * 128 + l.val, by omega⟩)
  (h1 : ∀ l : Fin 128, w1 (ix3 0 0 l) = tap w 1 ⟨t * 128 + l.val, by omega⟩)
  (h2 : ∀ l : Fin 128, w2 (ix3 0 0 l) = tap w 2 ⟨t * 128 + l.val, by omega⟩)

include hcc hcx in
theorem pay1_at (r : Fin 2048) (l : Fin 128) : k0_pay1 (F := Ideal) cc cx (ix2 r l) = back x 0 r ⟨t * 128 + l.val, by omega⟩ := by
  pointwise [k0_pay1, hcc, hcx]
  rfl

include hcc hcx in
theorem pay2_at (r : Fin 2048) (l : Fin 128) : k0_pay2 (F := Ideal) cc cx (ix2 r l) = back x 1 r ⟨t * 128 + l.val, by omega⟩ := by
  pointwise [k0_pay2, k0_pay1, hcc, hcx]
  word_cmp
  unfold back
  split
  · rfl
  · simp only [show (r.val + 2048 - 1) % 2048 = r.val - 1 from by omega]

include hcc hcx in
theorem pay3_at (r : Fin 2048) (l : Fin 128) : k0_pay3 (F := Ideal) cc cx (ix2 r l) = back x 2 r ⟨t * 128 + l.val, by omega⟩ := by
  pointwise [k0_pay3, k0_pay1, hcc, hcx]
  word_cmp
  unfold back
  split
  · rfl
  · simp only [show (r.val + 2048 - 2) % 2048 = r.val - 2 from by omega]

include hcb hdd in
theorem pay7_at (r : Fin 2048) (l : Fin 128) : k0_pay7 (F := Ideal) dd cb (ix2 r l) = ahead x d 0 r ⟨t * 128 + l.val, by omega⟩ := by
  pointwise [k0_pay7, hcb, hdd]
  simp only [ahead, Nat.add_zero, r.isLt, dif_pos, Fin.eta]

include hcc hcx hdd h0 h1 h2 in
theorem pay8_at (r : Fin 2048) (l : Fin 128) : k0_pay8 (F := Ideal) cc cx w0 w1 w2 dd (ix2 r l)
    = G5 x w d (ix2 r ⟨t * 128 + l.val, by omega⟩) := by
  pointwise [k0_pay8, k0_pay4, k0_pay5, k0_pay6, h0, h1, h2, hdd, pay1_at ht hcc hcx, pay2_at ht hcc hcx, pay3_at ht hcc hcx, G5]

include hcb hdd h0 h1 h2 in
theorem pay9_at (r : Fin 2048) (l : Fin 128) :
    k0_pay9 (F := Ideal) (k0_pay4 w0) (k0_pay5 w1) (k0_pay6 w2) (k0_pay7 dd cb) (ix2 r l) = dz x w d r ⟨t * 128 + l.val, by omega⟩ := by
  pointwise [k0_pay9, k0_pay4, k0_pay5, k0_pay6, h0, h1, h2, pay7_at ht hcb hdd]
  word_cmp
  unfold dz
  refine congrArg₂ (· + ·) (congrArg₂ (· + ·) rfl ?_) ?_
  · split
    · rw [show ahead x d 1 r _ = 0 from dif_neg (by omega), mul_zero]
    · exact congrArg _ (by simp only [ahead, show (r.val + 2048 - 2047) % 2048 = r.val + 1 from by omega, Nat.add_zero])
  · split
    · rw [show ahead x d 2 r _ = 0 from dif_neg (by omega), mul_zero]
    · exact congrArg _ (by simp only [ahead, show (r.val + 2048 - 2046) % 2048 = r.val + 2 from by omega, Nat.add_zero])

include hcb hdd h0 h1 h2 hcx in
theorem pay10_at (r : Fin 2048) (l : Fin 128) :
    k0_pay10 (F := Ideal) cx (k0_pay4 w0) (k0_pay5 w1) (k0_pay6 w2) (k0_pay7 dd cb) (ix2 r l) = G6 x w d (ix2 r ⟨t * 128 + l.val, by omega⟩) := by
  pointwise [k0_pay10, G6, hcx, pay9_at ht hcb hdd h0 h1 h2]

include hcb hdd h0 h1 h2 hcc in
theorem pay11_at (r : Fin 2048) (l : Fin 128) :
    k0_pay11 (F := Ideal) cc (k0_pay4 w0) (k0_pay5 w1) (k0_pay6 w2) (k0_pay7 dd cb) (ix2 r l) = G7 x w d (ix2 r ⟨t * 128 + l.val, by omega⟩) := by
  pointwise [k0_pay11, G7, hcc, pay9_at ht hcb hdd h0 h1 h2]

include hcb hdd hcc hcx in
theorem pay12_at (r : Fin 8) (l : Fin 128) :
    k0_pay12 (F := Ideal) (k0_pay1 cc cx) (k0_pay2 cc cx) (k0_pay3 cc cx) (k0_pay7 dd cb) (ix2 r l) = G8 x d (ix2 r ⟨t * 128 + l.val, by omega⟩) := by
  pointwise [k0_pay12, G8, pay1_at ht hcc hcx, pay2_at ht hcc hcx, pay3_at ht hcc hcx, pay7_at ht hcb hdd]
  fin_vals r with hr <;> simp [hr]

end Body

variable (c : Dev nD)

theorem final5 : (dats m 0 c).arrAt 5 (cfgs 0).N
    = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_out
  obtain ⟨r, l, rfl⟩ : ∃ (r : Fin 2048) (l : Fin 128), y = (ix2 r l : S2048x128.Idx) := ⟨y 0, y 1, eq_ix2 y⟩
  refine (pay8_at (w := (m ((c : Thread nD τ).loc main_arg1))) (point_lt t) (cc_at m c t) (cx_at m c t) (do_at m c t) ?_ ?_ ?_ r l).trans ?_
  · intro l; pointwise; exact w_at m c t 0 (by decide) l
  · intro l; pointwise; exact w_at m c t 1 (by decide) l
  · intro l; pointwise; exact w_at m c t 2 (by decide) l
  blk_ext [place t]

theorem final6 : (dats m 0 c).arrAt 6 (cfgs 0).N
    = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold outsAt0
  frame_out
  obtain ⟨r, l, rfl⟩ : ∃ (r : Fin 2048) (l : Fin 128), y = (ix2 r l : S2048x128.Idx) := ⟨y 0, y 1, eq_ix2 y⟩
  refine (pay10_at (w := (m ((c : Thread nD τ).loc main_arg1))) (point_lt t) (cb_at m c t) (cx_at m c t) (do_at m c t) ?_ ?_ ?_ r l).trans ?_
  · intro l; pointwise; exact w_at m c t 0 (by decide) l
  · intro l; pointwise; exact w_at m c t 1 (by decide) l
  · intro l; pointwise; exact w_at m c t 2 (by decide) l
  blk_ext [place t]

theorem final7 : (dats m 0 c).arrAt 7 (cfgs 0).N
    = G7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  frame_out
  obtain ⟨r, l, rfl⟩ : ∃ (r : Fin 2048) (l : Fin 128), y = (ix2 r l : S2048x128.Idx) := ⟨y 0, y 1, eq_ix2 y⟩
  refine (pay11_at (w := (m ((c : Thread nD τ).loc main_arg1))) (point_lt t) (cb_at m c t) (cc_at m c t) (do_at m c t) ?_ ?_ ?_ r l).trans ?_
  · intro l; pointwise; exact w_at m c t 0 (by decide) l
  · intro l; pointwise; exact w_at m c t 1 (by decide) l
  · intro l; pointwise; exact w_at m c t 2 (by decide) l
  blk_ext [place t]

theorem final8 : (dats m 0 c).arrAt 8 (cfgs 0).N
    = G8 (m ((c : Thread nD τ).loc main_arg0)) (m ((c : Thread nD τ).loc main_arg2)) := by
  refine (dats m 0 c).arrAt_eq_of_covers 8 _ (by decide +kernel) fun t _ y => ?_
  blk_simp
  rw [after0_8]
  unfold outsAt0
  frame_out
  obtain ⟨r, l, rfl⟩ : ∃ (r : Fin 8) (l : Fin 128), y = (ix2 r l : S8x128.Idx) := ⟨y 0, y 1, eq_ix2 y⟩
  refine (pay12_at (point_lt t) (cb_at m c t) (cc_at m c t) (cx_at m c t) (do_at m c t) r l).trans ?_
  blk_ext [place t]

end Cert.Conv

end
-- ==== Proof.ConvClaim.lean ====
/-
  The gradient of the gated short convolution: kernel and reference end with equal results.
-/
module

public import proofs.«01_k».proof.Defs
public import proofs.«01_k».proof.Proof.ConvValue

@[expose] public section

set_option maxRecDepth 16384

noncomputable section

open Idealize.ShloMosaic Idealize.ShloMosaic.TcCoe Idealize.SL.Sem

namespace Cert.Conv

/-- The reference's four results are the formulas of the kernel's arrays. -/
theorem res5 (x : FVec Ideal ReferenceIdeal.S2048x1536 .f32) (w : FVec Ideal ReferenceIdeal.S4x3x512 .f32) (d : FVec Ideal ReferenceIdeal.S2048x512 .f32) :
    ReferenceIdeal.Read.val_main_v67 (F := Ideal) x w d = G5 x w d := by
  funext j
  exact (congrArg _ (eq_ix2 j)).trans (ref67 x w d (j 0) (j 1))

theorem res6 (x : FVec Ideal ReferenceIdeal.S2048x1536 .f32) (w : FVec Ideal ReferenceIdeal.S4x3x512 .f32) (d : FVec Ideal ReferenceIdeal.S2048x512 .f32) :
    ReferenceIdeal.Read.val_main_v68 (F := Ideal) x w d = G6 x w d := by
  funext j
  exact (congrArg _ (eq_ix2 j)).trans (ref68 x w d (j 0) (j 1))

theorem res7 (x : FVec Ideal ReferenceIdeal.S2048x1536 .f32) (w : FVec Ideal ReferenceIdeal.S4x3x512 .f32) (d : FVec Ideal ReferenceIdeal.S2048x512 .f32) :
    ReferenceIdeal.Read.val_main_v69 (F := Ideal) x w d = G7 x w d := by
  funext j
  exact (congrArg _ (eq_ix2 j)).trans (ref69 x w d (j 0) (j 1))

theorem res8 (x : FVec Ideal ReferenceIdeal.S2048x1536 .f32) (d : FVec Ideal ReferenceIdeal.S2048x512 .f32) :
    ReferenceIdeal.Read.val_main_v70 (F := Ideal) x d = G8 x d := by
  funext j
  exact (congrArg _ (eq_ix2 j)).trans (ref70 x d (j 0) (j 1))

/-- The reference keeps its arguments; it has no semaphore. -/
theorem frame_reference : Cert.quiescent_ReferenceIdeal := by
  intro m g _
  exact (θ_run ReferenceIdeal.defs _ _).mono
    (fun r h => ⟨fun c => (h c).2.2.2.2, sem_eq_zero_of_no_sems (by decide) r.2⟩) (ReferenceIdeal.Value.run (F := Ideal) m g)

theorem algebraic : Cert.algebraic_KernelIdeal_ReferenceIdeal := by
  pair_intro
  · run_from Cert.KernelIdeal.Value.run_blocks m g
  · run_from Cert.ReferenceIdeal.Value.run m' g'
    · exact (ReferenceIdeal.Read.val_main_v67_eq _ _ _).trans ((res5 _ _ _).trans (final5 m c).symm)
    · exact (ReferenceIdeal.Read.val_main_v68_eq _ _ _).trans ((res6 _ _ _).trans (final6 m c).symm)
    · exact (ReferenceIdeal.Read.val_main_v69_eq _ _ _).trans ((res7 _ _ _).trans (final7 m c).symm)
    · exact (ReferenceIdeal.Read.val_main_v70_eq _ _).trans ((res8 _ _).trans (final8 m c).symm)

end Cert.Conv

end
-- ==== Proof.RmsMath.lean ====
/-
  The derivative of the root-mean-square norm over the extended reals: the two ways of writing the gradient of a row
  are equal, with no assumption on the row, because everything that is moved through a sum is a real number that is
  not negative.
-/
module

public import Idealize.ShloMosaic.Lib.Pointwise

@[expose] public section

noncomputable section

open Idealize.ShloMosaic

namespace Cert.Rms

theorem n_eq : Ideal.ofBits .f32 0x44800000#32 = ((1024 : ℝ) : EReal) := by
  simp [Ideal.ofBits, Ideal.ieee]
  rw [← EReal.coe_mul]
  norm_num

theorem half_eq : Ideal.ofBits .f32 0xBF000000#32 = ((-(1 / 2) : ℝ) : EReal) := by
  simp [Ideal.ofBits, Ideal.ieee]
  rw [← EReal.coe_mul]
  norm_num

theorem eps_eq : ∃ e : ℝ, 0 < e ∧ Ideal.ofBits .f32 0x358637BD#32 = (e : EReal) := by
  refine ⟨8796093 / 8796093022208, by norm_num, ?_⟩
  simp [Ideal.ofBits, Ideal.ieee]
  rw [← EReal.coe_mul]
  norm_num

/-- The mean of a row of 1024 numbers. -/
def mean (f : Fin 1024 → EReal) : EReal := Ideal.div (∑ k, f k) (Ideal.ofBits .f32 0x44800000#32)

/-- The mean square of a row, with the norm's small constant added. -/
def ms (x : Fin 1024 → EReal) : EReal := mean (fun k => x k * x k) + Ideal.ofBits .f32 0x358637BD#32

/-- The factor the norm multiplies a row by. -/
def rs (x : Fin 1024 → EReal) : EReal := Ideal.rsqrt (ms x)

theorem mean_eq (f : Fin 1024 → EReal) : mean f = (∑ k, f k) * (((1024 : ℝ)⁻¹ : ℝ) : EReal) := by
  unfold mean Ideal.div
  rw [n_eq, if_neg (by norm_num), EReal.coe_inv]

theorem sq_nonneg' (a : EReal) : 0 ≤ a * a := by
  rcases le_total 0 a with h | h
  · exact EReal.mul_nonneg h h
  · have := EReal.mul_nonneg (EReal.neg_nonneg.mpr h) (EReal.neg_nonneg.mpr h)
    simpa using this

theorem ms_pos (x : Fin 1024 → EReal) : 0 < ms x := by
  obtain ⟨e, he, h⟩ := eps_eq
  unfold ms
  rw [h, mean_eq]
  have h1 : (0 : EReal) ≤ (∑ k, x k * x k) * (((1024 : ℝ)⁻¹ : ℝ) : EReal) :=
    EReal.mul_nonneg (Finset.sum_nonneg fun k _ => sq_nonneg' (x k)) (EReal.coe_nonneg.mpr (by norm_num))
  calc (0 : EReal) < (e : EReal) := EReal.coe_pos.mpr he
    _ = 0 + (e : EReal) := (zero_add _).symm
    _ ≤ _ := by gcongr

/-- A real number that is not negative moves into a sum. -/
theorem mul_sum' {n : ℕ} (c : ℝ) (hc : 0 ≤ c) (f : Fin n → EReal) : (c : EReal) * ∑ k, f k = ∑ k, (c : EReal) * f k := by
  have : ∀ s : Finset (Fin n), (c : EReal) * ∑ k ∈ s, f k = ∑ k ∈ s, (c : EReal) * f k := by
    intro s
    induction s using Finset.induction with
    | empty => simp
    | insert a s ha ih =>
      rw [Finset.sum_insert ha, Finset.sum_insert ha,
        EReal.left_distrib_of_nonneg_of_ne_top (EReal.coe_nonneg.mpr hc) (EReal.coe_ne_top c), ih]
  exact this _

theorem twice (y : EReal) : y + y = ((2 : ℝ) : EReal) * y := by
  induction y with
  | bot => rw [EReal.coe_mul_bot_of_pos (by norm_num)]; rfl
  | top => rw [EReal.coe_mul_top_of_pos (by norm_num)]; rfl
  | coe a => rw [← EReal.coe_add, ← EReal.coe_mul]; congr 1; ring

/-- The gradient of a row, written with the mean of the normalised row or with the derivative of each step. -/
theorem grad_eq (x gy : Fin 1024 → EReal) (d : EReal) (q : Fin 1024) :
    d + gy q * rs x + x q * Ideal.div ((∑ k, x k * gy k) * (Ideal.ofBits .f32 0xBF000000#32 * Ideal.div (rs x) (ms x))) (Ideal.ofBits .f32 0x44800000#32)
        + Ideal.div ((∑ k, x k * gy k) * (Ideal.ofBits .f32 0xBF000000#32 * Ideal.div (rs x) (ms x))) (Ideal.ofBits .f32 0x44800000#32) * x q
      = d + rs x * (gy q - x q * rs x * mean (fun k => gy k * (x k * rs x))) := by
  have hpos := ms_pos x
  unfold rs
  generalize ms x = v at hpos
  generalize hS : ∑ k, x k * gy k = S
  have hd : ∀ y : EReal, Ideal.div y (Ideal.ofBits .f32 0x44800000#32) = y * (((1024 : ℝ)⁻¹ : ℝ) : EReal) := by
    intro y
    unfold Ideal.div
    rw [n_eq, if_neg (by norm_num), EReal.coe_inv]
  rw [hd, half_eq]
  induction v with
  | bot => exact absurd hpos (by simp)
  | top =>
    rw [show Ideal.rsqrt ⊤ = 0 from rfl]
    simp [Ideal.div]
  | coe v =>
    have hv : 0 < v := EReal.coe_pos.mp hpos
    have hr : Ideal.rsqrt (v : EReal) = (((Real.sqrt v)⁻¹ : ℝ) : EReal) := by
      show (if v < 0 then (⊥ : EReal) else if v = 0 then ⊤ else (((Real.sqrt v)⁻¹ : ℝ) : EReal)) = _
      rw [if_neg (not_lt.mpr hv.le), if_neg hv.ne']
    have hq : Ideal.div (((Real.sqrt v)⁻¹ : ℝ) : EReal) (v : EReal) = (((Real.sqrt v)⁻¹ * v⁻¹ : ℝ) : EReal) := by
      unfold Ideal.div
      rw [if_neg (by exact_mod_cast hv.ne'), EReal.coe_mul, EReal.coe_inv v]
    rw [hr, hq]
    have hs : v⁻¹ = (Real.sqrt v)⁻¹ * (Real.sqrt v)⁻¹ := by
      rw [← mul_inv, Real.mul_self_sqrt hv.le]
    rw [hs]
    have hρ : 0 ≤ (Real.sqrt v)⁻¹ := inv_nonneg.mpr (Real.sqrt_nonneg v)
    generalize (Real.sqrt v)⁻¹ = ρ at hρ
    have hm : mean (fun k => gy k * (x k * (ρ : EReal))) = (ρ : EReal) * S * (((1024 : ℝ)⁻¹ : ℝ) : EReal) := by
      rw [mean_eq, ← hS, mul_sum' ρ hρ]
      refine congrArg (· * _) (Finset.sum_congr rfl fun k _ => ?_)
      rw [mul_left_comm, mul_comm (gy k), mul_comm (x k), mul_assoc, mul_comm (x k)]
    rw [hm, sub_eq_add_neg, EReal.left_distrib_of_nonneg_of_ne_top (EReal.coe_nonneg.mpr hρ) (EReal.coe_ne_top ρ), mul_comm _ (x q), add_assoc,
      twice, mul_comm (gy q), add_assoc]
    refine congrArg (fun y => d + ((ρ : EReal) * gy q + y)) ?_
    have e1 : ((2 : ℝ) : EReal) * (x q * (S * (((-(1 / 2) : ℝ) : EReal) * ((ρ * (ρ * ρ) : ℝ) : EReal)) * (((1024 : ℝ)⁻¹ : ℝ) : EReal)))
        = x q * S * ((2 * (-(1 / 2)) * (ρ * (ρ * ρ)) * (1024)⁻¹ : ℝ) : EReal) := by
      push_cast
      simp only [mul_assoc, mul_left_comm, mul_comm]
    have e2 : (ρ : EReal) * -(x q * (ρ : EReal) * ((ρ : EReal) * S * (((1024 : ℝ)⁻¹ : ℝ) : EReal)))
        = -(x q * S * ((ρ * (ρ * ρ) * (1024)⁻¹ : ℝ) : EReal)) := by
      push_cast
      rw [mul_neg]
      simp only [mul_assoc, mul_left_comm, mul_comm]
    rw [e1, e2, ← mul_neg, ← EReal.coe_neg]
    congr 2
    ring

end Cert.Rms

end
-- ==== Proof.RmsInRef.lean ====
/-
  The gradient of the norm before the branches, as formulas over the extended reals, and the reference read at an
  index: each of its two results is the formula.
-/
module

public import proofs.«01_k».proof.Proof.RmsMath
public import proofs.«01_k».proof.Proof.Gen.Reference2Ideal.Read

@[expose] public section

set_option maxRecDepth 16384

noncomputable section

open Idealize.ShloMosaic Idealize.ShloMosaic.TcCoe Idealize.SL.Sem

namespace Cert.RmsIn

open Cert.Reference2Ideal Cert.Reference2Ideal.Gen Cert.Reference2Ideal.Read Cert.Rms

/-- A row of length `n` made of one of length `a` and the rest. -/
def glue {a n : ℕ} (A : Fin a → EReal) (B : Fin (n - a) → EReal) (x : Fin n) : EReal :=
  if h : x.val < a then A ⟨x.val, h⟩ else B ⟨x.val - a, by omega⟩

theorem sum_glue {a n : ℕ} (h : a ≤ n) (A : Fin a → EReal) (B : Fin (n - a) → EReal) (W : Fin n → EReal) :
    ∑ x : Fin n, glue A B x * W x
      = (∑ k : Fin a, A k * W ⟨k.val, by omega⟩) + ∑ k : Fin (n - a), B k * W ⟨a + k.val, by omega⟩ := by
  obtain ⟨b, rfl⟩ := Nat.exists_eq_add_of_le h
  rw [Fin.sum_univ_add]
  refine congrArg₂ (· + ·) (Finset.sum_congr rfl fun k _ => ?_) ?_
  · rw [glue, dif_pos (show (Fin.castAdd b k).val < a from k.isLt)]; rfl
  · refine Finset.sum_equiv (finCongr (by omega)) (fun _ => by simp) fun k _ => ?_
    rw [glue, dif_neg (show ¬(Fin.natAdd a k).val < a from by simp)]
    exact congrArg₂ (· * ·) (congrArg B (Fin.ext (by simp))) rfl

/-- Row `r` of the norm's input. -/
def row (x : FVec Ideal S2048x1024 .f32) (r : Fin 2048) (k : Fin 1024) : EReal := x (ix2 r k)

/-- The cotangent of the norm's output. -/
def dh (p0 : FVec Ideal S2048x512 .bf16) (p1 : FVec Ideal S2048x256 .bf16) (p2 p3 p4 p5 : FVec Ideal S2048x512 .bf16) (p6 : FVec Ideal S2048x3072 .bf16) (w : FVec Ideal S1024x5888 .f32) (r : Fin 2048) (q : Fin 1024) : EReal :=
  (∑ k : Fin 512, p0 (ix2 r k) * w (ix2 q ⟨0 + k.val, by omega⟩)) + (∑ k : Fin 256, p1 (ix2 r k) * w (ix2 q ⟨512 + k.val, by omega⟩))
    + (∑ k : Fin 512, p2 (ix2 r k) * w (ix2 q ⟨768 + k.val, by omega⟩)) + (∑ k : Fin 512, p3 (ix2 r k) * w (ix2 q ⟨1280 + k.val, by omega⟩))
    + (∑ k : Fin 512, p4 (ix2 r k) * w (ix2 q ⟨1792 + k.val, by omega⟩)) + (∑ k : Fin 512, p5 (ix2 r k) * w (ix2 q ⟨2304 + k.val, by omega⟩))
    + (∑ k : Fin 3072, p6 (ix2 r k) * w (ix2 q ⟨2816 + k.val, by omega⟩))

/-- The cotangent of the normalised row. -/
def gy (p0 : FVec Ideal S2048x512 .bf16) (p1 : FVec Ideal S2048x256 .bf16) (p2 p3 p4 p5 : FVec Ideal S2048x512 .bf16) (p6 : FVec Ideal S2048x3072 .bf16) (w : FVec Ideal S1024x5888 .f32) (g : FVec Ideal S1024 .f32) (r : Fin 2048) (q : Fin 1024) : EReal :=
  dh p0 p1 p2 p3 p4 p5 p6 w r q * g (ix1 q)

/-- The two results over the arguments. -/
def Gx (p0 : FVec Ideal S2048x512 .bf16) (p1 : FVec Ideal S2048x256 .bf16) (p2 p3 p4 p5 : FVec Ideal S2048x512 .bf16) (p6 : FVec Ideal S2048x3072 .bf16) (w : FVec Ideal S1024x5888 .f32) (x : FVec Ideal S2048x1024 .f32) (g : FVec Ideal S1024 .f32)
    (d : FVec Ideal S2048x1024 .f32) : FVec Ideal S2048x1024 .f32 :=
  fun j => d (ix2 (j 0) (j 1)) + rs (row x (j 0)) * (gy p0 p1 p2 p3 p4 p5 p6 w g (j 0) (j 1)
    - row x (j 0) (j 1) * rs (row x (j 0)) * mean (fun k => gy p0 p1 p2 p3 p4 p5 p6 w g (j 0) k * (row x (j 0) k * rs (row x (j 0)))))

def Gg (p0 : FVec Ideal S2048x512 .bf16) (p1 : FVec Ideal S2048x256 .bf16) (p2 p3 p4 p5 : FVec Ideal S2048x512 .bf16) (p6 : FVec Ideal S2048x3072 .bf16) (w : FVec Ideal S1024x5888 .f32) (x : FVec Ideal S2048x1024 .f32) : FVec Ideal S1x1024 .f32 :=
  fun j => ∑ r : Fin 2048, dh p0 p1 p2 p3 p4 p5 p6 w r (j 1) * (row x r (j 1) * rs (row x r))

theorem ms_at (x : FVec Ideal S2048x1024 .f32) (r : Fin 2048) : val_main_v14 (F := Ideal) x (ix2 r 0) = ms (row x r) := by
  pointwise [val_main_v8, val_main_v9, val_main_v10, val_main_v11, val_main_v12, val_main_v13, val_main_v14, val_main_cst, val_main_cst_0, val_main_cst_1]
  rfl

theorem rs_at (x : FVec Ideal S2048x1024 .f32) (r : Fin 2048) : val_main_v15 (F := Ideal) x (ix2 r 0) = rs (row x r) := by
  pointwise [val_main_v15, ms_at]
  rfl

theorem dh_at (p0 : FVec Ideal S2048x512 .bf16) (p1 : FVec Ideal S2048x256 .bf16) (p2 p3 p4 p5 : FVec Ideal S2048x512 .bf16) (p6 : FVec Ideal S2048x3072 .bf16) (w : FVec Ideal S1024x5888 .f32) (r : Fin 2048) (q : Fin 1024) :
    val_main_v25 (F := Ideal) p0 p1 p2 p3 p4 p5 p6 w (ix2 r q) = dh p0 p1 p2 p3 p4 p5 p6 w r q := by
  pointwise [val_main_v25, val_main_v7, val_main_v0, val_main_v1, val_main_v2, val_main_v3, val_main_v4, val_main_v5, val_main_v6]
  show ∑ x : Fin 5888, glue (fun k : Fin 512 => p0 (ix2 r k)) (glue (fun k : Fin 256 => p1 (ix2 r k)) (glue (fun k : Fin 512 => p2 (ix2 r k))
    (glue (fun k : Fin 512 => p3 (ix2 r k)) (glue (fun k : Fin 512 => p4 (ix2 r k)) (glue (fun k : Fin 512 => p5 (ix2 r k))
      (fun k : Fin 3072 => p6 (ix2 r k))))))) x * w (ix2 q x) = _
  rw [sum_glue (by omega), sum_glue (by omega), sum_glue (by omega), sum_glue (by omega), sum_glue (by omega), sum_glue (by omega)]
  simp only [dh, add_assoc]
  iterate 6 refine congrArg₂ (· + ·) (Finset.sum_congr rfl fun k _ => congrArg (fun l => _ * w (ix2 q l)) (Fin.ext (by simp; try omega))) ?_
  exact Finset.sum_congr rfl fun k _ => congrArg (fun l => _ * w (ix2 q l)) (Fin.ext (by simp; omega))

theorem gy_at (p0 : FVec Ideal S2048x512 .bf16) (p1 : FVec Ideal S2048x256 .bf16) (p2 p3 p4 p5 : FVec Ideal S2048x512 .bf16) (p6 : FVec Ideal S2048x3072 .bf16) (w : FVec Ideal S1024x5888 .f32) (g : FVec Ideal S1024 .f32) (r : Fin 2048) (q : Fin 1024) :
    val_main_v30 (F := Ideal) p0 p1 p2 p3 p4 p5 p6 w g (ix2 r q) = gy p0 p1 p2 p3 p4 p5 p6 w g r q := by
  pointwise [val_main_v30, val_main_v29, val_main_v21, dh_at]
  rfl

theorem ref46 (p0 : FVec Ideal S2048x512 .bf16) (p1 : FVec Ideal S2048x256 .bf16) (p2 p3 p4 p5 : FVec Ideal S2048x512 .bf16) (p6 : FVec Ideal S2048x3072 .bf16) (w : FVec Ideal S1024x5888 .f32) (x : FVec Ideal S2048x1024 .f32) (g : FVec Ideal S1024 .f32)
    (d : FVec Ideal S2048x1024 .f32) (r : Fin 2048) (q : Fin 1024) :
    val_main_v46 (F := Ideal) p0 p1 p2 p3 p4 p5 p6 w x g d (ix2 r q) = Gx p0 p1 p2 p3 p4 p5 p6 w x g d (ix2 r q) := by
  pointwise [val_main_v46, val_main_v45, val_main_v44, val_main_v43, val_main_v42, val_main_v41, val_main_v40, val_main_v39, val_main_v38, val_main_v37,
    val_main_v36, val_main_v35, val_main_v34, val_main_v33, val_main_v32, val_main_v18, val_main_v17, val_main_v16, val_main_cst_2, val_main_cst_5,
    val_main_cst_6, val_main_cst_7, gy_at]
  simp only [Fin.sum_univ_one, ms_at, rs_at]
  exact grad_eq (row x r) (gy p0 p1 p2 p3 p4 p5 p6 w g r) (d (ix2 r q)) q

theorem ref47 (p0 : FVec Ideal S2048x512 .bf16) (p1 : FVec Ideal S2048x256 .bf16) (p2 p3 p4 p5 : FVec Ideal S2048x512 .bf16) (p6 : FVec Ideal S2048x3072 .bf16) (w : FVec Ideal S1024x5888 .f32) (x : FVec Ideal S2048x1024 .f32) (r : Fin 1) (q : Fin 1024) :
    val_main_v47 (F := Ideal) p0 p1 p2 p3 p4 p5 p6 w x (ix2 r q) = Gg p0 p1 p2 p3 p4 p5 p6 w x (ix2 r q) := by
  pointwise [val_main_v47, val_main_v31, val_main_cst_4, val_main_v28, val_main_v27, val_main_cst_3, val_main_v26, val_main_v20, val_main_v19, rs_at, dh_at]
  simp only [Fin.sum_univ_one]
  exact Finset.sum_congr rfl fun k _ => by rw [mul_comm]; rfl

end Cert.RmsIn

end
-- ==== Proof.RmsInValue.lean ====
/-
  What the gradient of the norm before the branches leaves in its two result arrays, element by element.
-/
module

public import proofs.«01_k».proof.Proof.RmsInRef
public import proofs.«01_k».proof.Proof.Gen.Kernel2Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsIn

open Cert.Kernel2Ideal Cert.Kernel2Ideal.Gen Cert.Rms

variable (m : (ℓ : Loc nD τ sig) → Buf (Elt Ideal) ℓ)

/-- Each window's block index at a grid point: row tile `t`, or the whole array. -/
theorem place : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![0, 0] ∧ win0_10.index t = ![t.val, 0]
    ∧ win0_11.index t = ![t.val, 0] ∧ win0_12.index t = ![0, 0] :=
  (by decide +kernel : ∀ t : Fin grid0.N, _)

/-- The grid has four points. -/
theorem point_lt (t : Fin cfg0.N) : t.val < 4 := lt_of_lt_of_eq t.isLt N_0

/-! The body's vectors over blocks that are row tile `t` of the arrays. -/

section Body

variable {p0 : FVec Ideal S2048x512 .bf16} {p1 : FVec Ideal S2048x256 .bf16} {p2 p3 p4 p5 : FVec Ideal S2048x512 .bf16} {p6 : FVec Ideal S2048x3072 .bf16}
  {w : FVec Ideal S1024x5888 .f32} {x : FVec Ideal S2048x1024 .f32} {g : FVec Ideal S1024 .f32} {d : FVec Ideal S2048x1024 .f32} {t : ℕ} (ht : t < 4)
  {b0 : Vec Ideal S512x512 .bf16} {c0 : Vec Ideal S512x1024 .bf16}
  {b1 : Vec Ideal S512x256 .bf16} {c1 : Vec Ideal S256x1024 .bf16}
  {b2 : Vec Ideal S512x512 .bf16} {c2 : Vec Ideal S512x1024 .bf16}
  {b3 : Vec Ideal S512x512 .bf16} {c3 : Vec Ideal S512x1024 .bf16}
  {b4 : Vec Ideal S512x512 .bf16} {c4 : Vec Ideal S512x1024 .bf16}
  {b5 : Vec Ideal S512x512 .bf16} {c5 : Vec Ideal S512x1024 .bf16}
  {b6 : Vec Ideal S512x3072 .bf16} {c6 : Vec Ideal S3072x1024 .bf16}
  {bx bd : Vec Ideal S512x1024 .f32} {bg : Vec Ideal S1x1024 .f32}
  (hp0 : ∀ (r : Fin 512) k, b0 (ix2 r k) = p0 (ix2 ⟨t * 512 + r.val, by omega⟩ k))
  (hp1 : ∀ (r : Fin 512) k, b1 (ix2 r k) = p1 (ix2 ⟨t * 512 + r.val, by omega⟩ k))
  (hp2 : ∀ (r : Fin 512) k, b2 (ix2 r k) = p2 (ix2 ⟨t * 512 + r.val, by omega⟩ k))
  (hp3 : ∀ (r : Fin 512) k, b3 (ix2 r k) = p3 (ix2 ⟨t * 512 + r.val, by omega⟩ k))
  (hp4 : ∀ (r : Fin 512) k, b4 (ix2 r k) = p4 (ix2 ⟨t * 512 + r.val, by omega⟩ k))
  (hp5 : ∀ (r : Fin 512) k, b5 (ix2 r k) = p5 (ix2 ⟨t * 512 + r.val, by omega⟩ k))
  (hp6 : ∀ (r : Fin 512) k, b6 (ix2 r k) = p6 (ix2 ⟨t * 512 + r.val, by omega⟩ k))
  (hc0 : ∀ (k : Fin 512) q, c0 (ix2 k q) = w (ix2 q ⟨0 + k.val, by omega⟩))
  (hc1 : ∀ (k : Fin 256) q, c1 (ix2 k q) = w (ix2 q ⟨512 + k.val, by omega⟩))
  (hc2 : ∀ (k : Fin 512) q, c2 (ix2 k q) = w (ix2 q ⟨768 + k.val, by omega⟩))
  (hc3 : ∀ (k : Fin 512) q, c3 (ix2 k q) = w (ix2 q ⟨1280 + k.val, by omega⟩))
  (hc4 : ∀ (k : Fin 512) q, c4 (ix2 k q) = w (ix2 q ⟨1792 + k.val, by omega⟩))
  (hc5 : ∀ (k : Fin 512) q, c5 (ix2 k q) = w (ix2 q ⟨2304 + k.val, by omega⟩))
  (hc6 : ∀ (k : Fin 3072) q, c6 (ix2 k q) = w (ix2 q ⟨2816 + k.val, by omega⟩))
  (hx : ∀ (r : Fin 512) k, bx (ix2 r k) = x (ix2 ⟨t * 512 + r.val, by omega⟩ k))
  (hg : ∀ q, bg (ix2 0 q) = g (ix1 q))
  (hd : ∀ (r : Fin 512) k, bd (ix2 r k) = d (ix2 ⟨t * 512 + r.val, by omega⟩ k))

include hp0 hp1 hp2 hp3 hp4 hp5 hp6 hc0 hc1 hc2 hc3 hc4 hc5 hc6 in
theorem pay4_at (r : Fin 512) (q : Fin 1024) :
    k0_pay4 (F := Ideal) (k0_pay3 (F := Ideal) b0 c0 b1 c1 b2 c2 b3 c3 b4 c4) b5 c5 b6 c6 (ix2 r q) = dh p0 p1 p2 p3 p4 p5 p6 w ⟨t * 512 + r.val, by omega⟩ q := by
  pointwise [k0_pay4, k0_pay3, hp0, hp1, hp2, hp3, hp4, hp5, hp6, hc0, hc1, hc2, hc3, hc4, hc5, hc6]
  rfl

include hx in
theorem pay5_at (r : Fin 512) : k0_pay5 (F := Ideal) bx (ix2 r 0) = rs (row x ⟨t * 512 + r.val, by omega⟩) := by
  pointwise [k0_pay5, hx]
  rfl

include hx in
theorem pay6_at (r : Fin 512) (q : Fin 1024) : k0_pay6 (F := Ideal) bx (ix2 r q)
    = row x ⟨t * 512 + r.val, by omega⟩ q * rs (row x ⟨t * 512 + r.val, by omega⟩) := by
  pointwise [k0_pay6, hx, pay5_at ht hx]
  rfl

include hp0 hp1 hp2 hp3 hp4 hp5 hp6 hc0 hc1 hc2 hc3 hc4 hc5 hc6 hx hg hd in
theorem pay7_at (r : Fin 512) (q : Fin 1024) : k0_pay7 (F := Ideal) (k0_pay3 (F := Ideal) b0 c0 b1 c1 b2 c2 b3 c3 b4 c4) b5 c5 b6 c6 bx bg bd (ix2 r q)
    = Gx p0 p1 p2 p3 p4 p5 p6 w x g d (ix2 ⟨t * 512 + r.val, by omega⟩ q) := by
  pointwise [k0_pay7, hg, hd, pay4_at ht hp0 hp1 hp2 hp3 hp4 hp5 hp6 hc0 hc1 hc2 hc3 hc4 hc5 hc6, pay5_at ht hx, pay6_at ht hx]
  rfl

include hp0 hp1 hp2 hp3 hp4 hp5 hp6 hc0 hc1 hc2 hc3 hc4 hc5 hc6 hx in
theorem pay1_at (acc : Vec Ideal S1x1024 .f32) (r : Fin 1) (q : Fin 1024) :
    k0_pay1 (F := Ideal) (k0_pay4 (k0_pay3 (F := Ideal) b0 c0 b1 c1 b2 c2 b3 c3 b4 c4) b5 c5 b6 c6) (k0_pay6 bx) acc (ix2 r q)
    = acc (ix2 r q) + ∑ k : Fin 512, dh p0 p1 p2 p3 p4 p5 p6 w ⟨t * 512 + k.val, by omega⟩ q
        * (row x ⟨t * 512 + k.val, by omega⟩ q * rs (row x ⟨t * 512 + k.val, by omega⟩)) := by
  pointwise [k0_pay1, pay4_at ht hp0 hp1 hp2 hp3 hp4 hp5 hp6 hc0 hc1 hc2 hc3 hc4 hc5 hc6, pay6_at ht hx]

end Body

theorem pay2_at (j : S1x1024.Idx) : k0_pay2 (F := Ideal) j = 0 := by pointwise [k0_pay2]

variable (c : Dev nD)

/-- The blocks of the five inputs, read in the arrays. -/
theorem p0_at (t : Fin cfg0.N) (r : Fin 512) (k : Fin 512) :
    (show EReal from iblk m c 0 t (ix2 r k : S512x512.Idx))
      = m ((c : Thread nD τ).loc main_arg0) (ix2 ⟨t.val * 512 + r.val, by have := point_lt t; omega⟩ k : S2048x512.Idx) := by
  blk_ext [iblk, V, place t]

theorem p1_at (t : Fin cfg0.N) (r : Fin 512) (k : Fin 256) :
    (show EReal from iblk m c 1 t (ix2 r k : S512x256.Idx))
      = m ((c : Thread nD τ).loc main_arg1) (ix2 ⟨t.val * 512 + r.val, by have := point_lt t; omega⟩ k : S2048x256.Idx) := by
  blk_ext [iblk, V, place t]

theorem p2_at (t : Fin cfg0.N) (r : Fin 512) (k : Fin 512) :
    (show EReal from iblk m c 2 t (ix2 r k : S512x512.Idx))
      = m ((c : Thread nD τ).loc main_arg2) (ix2 ⟨t.val * 512 + r.val, by have := point_lt t; omega⟩ k : S2048x512.Idx) := by
  blk_ext [iblk, V, place t]

theorem p3_at (t : Fin cfg0.N) (r : Fin 512) (k : Fin 512) :
    (show EReal from iblk m c 3 t (ix2 r k : S512x512.Idx))
      = m ((c : Thread nD τ).loc main_arg3) (ix2 ⟨t.val * 512 + r.val, by have := point_lt t; omega⟩ k : S2048x512.Idx) := by
  blk_ext [iblk, V, place t]

theorem p4_at (t : Fin cfg0.N) (r : Fin 512) (k : Fin 512) :
    (show EReal from iblk m c 4 t (ix2 r k : S512x512.Idx))
      = m ((c : Thread nD τ).loc main_arg4) (ix2 ⟨t.val * 512 + r.val, by have := point_lt t; omega⟩ k : S2048x512.Idx) := by
  blk_ext [iblk, V, place t]

theorem p5_at (t : Fin cfg0.N) (r : Fin 512) (k : Fin 512) :
    (show EReal from iblk m c 5 t (ix2 r k : S512x512.Idx))
      = m ((c : Thread nD τ).loc main_arg5) (ix2 ⟨t.val * 512 + r.val, by have := point_lt t; omega⟩ k : S2048x512.Idx) := by
  blk_ext [iblk, V, place t]

theorem p6_at (t : Fin cfg0.N) (r : Fin 512) (k : Fin 3072) :
    (show EReal from iblk m c 6 t (ix2 r k : S512x3072.Idx))
      = m ((c : Thread nD τ).loc main_arg6) (ix2 ⟨t.val * 512 + r.val, by have := point_lt t; omega⟩ k : S2048x3072.Idx) := by
  blk_ext [iblk, V, place t]

theorem x_at (t : Fin cfg0.N) (r : Fin 512) (k : Fin 1024) :
    (show EReal from iblk m c 8 t (ix2 r k : S512x1024.Idx))
      = m ((c : Thread nD τ).loc main_arg8) (ix2 ⟨t.val * 512 + r.val, by have := point_lt t; omega⟩ k : S2048x1024.Idx) := by
  blk_ext [iblk, V, place t]

theorem d_at (t : Fin cfg0.N) (r : Fin 512) (k : Fin 1024) :
    (show EReal from iblk m c 10 t (ix2 r k : S512x1024.Idx))
      = m ((c : Thread nD τ).loc main_arg10) (ix2 ⟨t.val * 512 + r.val, by have := point_lt t; omega⟩ k : S2048x1024.Idx) := by
  blk_ext [iblk, V, place t]

/-- The weight as the region reads it: transposed. -/
def turned (w : FVec Ideal S1024x5888 .f32) : FVec Ideal S5888x1024 .bf16 :=
  transpose S5888x1024 [1, 0] (truncf .bf16 w bitsLt_bf16_f32) transposes_S1024x5888_S5888x1024_1_0

def lifted (g : FVec Ideal S1024 .f32) : FVec Ideal S1x1024 .f32 := broadcastInDim S1x1024 ![1] bcast_S1024_S1x1024_1 g

theorem V_turned : V m c main_v1 = turned (m ((c : Thread nD τ).loc main_arg7)) := by
  unfold V
  simp only [hostOps0, StableHlo.TRef.binary, StableHlo.TRef.unary, StableHlo.TRef.toBuf, StableHlo.TRef.ofBuf, cast_eq]
  after_results_simp <;> rfl

theorem V_lifted : V m c main_v2 = lifted (m ((c : Thread nD τ).loc main_arg9)) := by
  unfold V
  simp only [hostOps0, StableHlo.TRef.binary, StableHlo.TRef.unary, StableHlo.TRef.toBuf, StableHlo.TRef.ofBuf, cast_eq]
  after_results_simp <;> rfl

theorem w_at (t : Fin cfg0.N) (k : Fin 5888) (q : Fin 1024) :
    (show EReal from iblk m c 7 t (ix2 k q : S5888x1024.Idx))
      = m ((c : Thread nD τ).loc main_arg7) (ix2 q k : S1024x5888.Idx) := by
  have e : (show EReal from iblk m c 7 t (ix2 k q : S5888x1024.Idx)) = V m c main_v1 (ix2 k q : S5888x1024.Idx) := by
    blk_ext [iblk, place t]
  rw [e, V_turned]
  pointwise [turned]

theorem g_at (t : Fin cfg0.N) (q : Fin 1024) :
    (show EReal from iblk m c 9 t (ix2 0 q : S1x1024.Idx))
      = m ((c : Thread nD τ).loc main_arg9) (ix1 q : S1024.Idx) := by
  have e : (show EReal from iblk m c 9 t (ix2 0 q : S1x1024.Idx)) = V m c main_v2 (ix2 0 q : S1x1024.Idx) := by
    blk_ext [iblk, place t]
  rw [e, V_lifted]
  pointwise [lifted]

theorem final11 : (dats m 0 c).arrAt 11 (cfgs 0).N
    = Gx
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  obtain ⟨r, l, rfl⟩ : ∃ (r : Fin 512) (l : Fin 1024), y = (ix2 r l : S512x1024.Idx) := ⟨y 0, y 1, eq_ix2 y⟩
  rw [after0_11]
  by_cases h : t.val % 4 = 0
  · rw [outsAt0_A m c t h]
    frame_out
    refine (pay7_at (point_lt t) (p0_at m c t) (p1_at m c t) (p2_at m c t) (p3_at m c t) (p4_at m c t) (p5_at m c t) (p6_at m c t)
      (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (x_at m c t) (g_at m c t) (d_at m c t) r l).trans ?_
    blk_ext [place t]
  · rw [outsAt0_B m c t h]
    frame_out
    refine (pay7_at (point_lt t) (p0_at m c t) (p1_at m c t) (p2_at m c t) (p3_at m c t) (p4_at m c t) (p5_at m c t) (p6_at m c t)
      (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (x_at m c t) (g_at m c t) (d_at m c t) r l).trans ?_
    blk_ext [place t]

/-- What the body adds to the gain's gradient at a grid point. -/
def part (t : Fin cfg0.N) (j : S1x1024.Idx) : EReal :=
  ∑ k : Fin 512, dh
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
      ⟨t.val * 512 + k.val, by have := point_lt t; omega⟩ (j 1)
    * (row (m ((c : Thread nD τ).loc main_arg8)) ⟨t.val * 512 + k.val, by have := point_lt t; omega⟩ (j 1) * rs (row (m ((c : Thread nD τ).loc main_arg8)) ⟨t.val * 512 + k.val, by have := point_lt t; omega⟩))

theorem final12 : (dats m 0 c).arrAt 12 (cfgs 0).N
    = Gg
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 12 t0_3 (by decide +kernel) _ fun j => ?_
  obtain ⟨r, q, rfl⟩ : ∃ (r : Fin 1) (q : Fin 1024), j = (ix2 r q : S1x1024.Idx) := ⟨j 0, j 1, eq_ix2 j⟩
  blk_simp
  rw [after0_12, Pipeline.eq_sum_fin_of_reset_step_apply_last (fun n h => (outsAt0 m c n h).2) 4 (fun _ => 0) (part m c)
    (fun t h j => by
      obtain ⟨r, q, rfl⟩ : ∃ (r : Fin 1) (q : Fin 1024), j = (ix2 r q : S1x1024.Idx) := ⟨j 0, j 1, eq_ix2 j⟩
      rw [outsAt0_A m c t h]; frame_out
      exact (pay1_at (point_lt t) (p0_at m c t) (p1_at m c t) (p2_at m c t) (p3_at m c t) (p4_at m c t) (p5_at m c t) (p6_at m c t)
        (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (x_at m c t) _ r q).trans (by rw [pay2_at]; rfl))
    (fun t h j => by
      obtain ⟨r, q, rfl⟩ : ∃ (r : Fin 1) (q : Fin 1024), j = (ix2 r q : S1x1024.Idx) := ⟨j 0, j 1, eq_ix2 j⟩
      rw [outsAt0_B m c t h]; frame_out
      exact (pay1_at (point_lt t) (p0_at m c t) (p1_at m c t) (p2_at m c t) (p3_at m c t) (p4_at m c t) (p5_at m c t) (p6_at m c t)
        (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (fun k q => by pointwise; exact w_at m c t _ q) (x_at m c t) _ r q).trans rfl)
    (le_of_eq N_0) t0_3 rfl _, zero_add]
  refine Eq.trans ?_ (Fin.sum_univ_one (fun _ : Fin 1 => Gg
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (ix2 r q)))
  refine Fin.sum_points_lanes_congr 4 fun t k ha hl => ?_
  have : t.val % 4 = t.val := Nat.mod_eq_of_lt (point_lt t)
  simp only [this]

end Cert.RmsIn

end
-- ==== Proof.RmsInClaim.lean ====
/-
  The gradient of the norm before the branches: kernel and reference end with equal results.
-/
module

public import proofs.«01_k».proof.Defs
public import proofs.«01_k».proof.Proof.RmsInValue

@[expose] public section

set_option maxRecDepth 16384

noncomputable section

open Idealize.ShloMosaic Idealize.ShloMosaic.TcCoe Idealize.SL.Sem

namespace Cert.RmsIn

/-- The reference's two results are the formulas of the kernel's arrays. -/
theorem res46 (p0 : FVec Ideal Reference2Ideal.S2048x512 .bf16) (p1 : FVec Ideal Reference2Ideal.S2048x256 .bf16)
    (p2 p3 p4 p5 : FVec Ideal Reference2Ideal.S2048x512 .bf16) (p6 : FVec Ideal Reference2Ideal.S2048x3072 .bf16)
    (w : FVec Ideal Reference2Ideal.S1024x5888 .f32)
    (x : FVec Ideal Reference2Ideal.S2048x1024 .f32) (g : FVec Ideal Reference2Ideal.S1024 .f32) (d : FVec Ideal Reference2Ideal.S2048x1024 .f32) :
    Reference2Ideal.Read.val_main_v46 (F := Ideal) p0 p1 p2 p3 p4 p5 p6 w x g d = Gx p0 p1 p2 p3 p4 p5 p6 w x g d := by
  funext j
  exact (congrArg _ (eq_ix2 j)).trans (ref46 p0 p1 p2 p3 p4 p5 p6 w x g d (j 0) (j 1))

theorem res47 (p0 : FVec Ideal Reference2Ideal.S2048x512 .bf16) (p1 : FVec Ideal Reference2Ideal.S2048x256 .bf16)
    (p2 p3 p4 p5 : FVec Ideal Reference2Ideal.S2048x512 .bf16) (p6 : FVec Ideal Reference2Ideal.S2048x3072 .bf16)
    (w : FVec Ideal Reference2Ideal.S1024x5888 .f32)
    (x : FVec Ideal Reference2Ideal.S2048x1024 .f32) :
    Reference2Ideal.Read.val_main_v47 (F := Ideal) p0 p1 p2 p3 p4 p5 p6 w x = Gg p0 p1 p2 p3 p4 p5 p6 w x := by
  funext j
  exact (congrArg _ (eq_ix2 j)).trans (ref47 p0 p1 p2 p3 p4 p5 p6 w x (j 0) (j 1))

/-- The reference keeps its arguments; it has no semaphore. -/
theorem frame_reference : Cert.quiescent_Reference2Ideal := by
  intro m g _
  exact (θ_run Reference2Ideal.defs _ _).mono
    (fun r h => ⟨fun c => (h c).2.2, sem_eq_zero_of_no_sems (by decide) r.2⟩) (Reference2Ideal.Value.run (F := Ideal) m g)

theorem algebraic : Cert.algebraic_Kernel2Ideal_Reference2Ideal := by
  pair_intro
  · run_from Cert.Kernel2Ideal.Value.run_blocks m g
  · run_from Cert.Reference2Ideal.Value.run m' g'
    · obtain ⟨h0, h1, h2, h3, h4, h5, h6, h7, h8, h9, h10⟩ := hagree c
      rw [Reference2Ideal.Read.val_main_v46_eq m' c, h0, h1, h2, h3, h4, h5, h6, h7, h8, h9, h10]
      exact (res46 _ _ _ _ _ _ _ _ _ _ _).trans (final11 m c).symm
    · obtain ⟨h0, h1, h2, h3, h4, h5, h6, h7, h8, h9, h10⟩ := hagree c
      refine (Reference2Ideal.Read.val_main_v47_eq _ _ _ _ _ _ _ _ _).trans ?_
      rw [h4, h5, h6]
      exact (res47 _ _ _ _ _ _ _ _ _).trans (final12 m c).symm

end Cert.RmsIn

end
-- ==== Proof.RmsFfnRef.lean ====
/-
  The gradient of the norm before the channel mixer, as formulas over the extended reals, and the reference read at an
  index: each of its two results is the formula.
-/
module

public import proofs.«01_k».proof.Proof.RmsMath
public import proofs.«01_k».proof.Proof.Gen.Reference3Ideal.Read

@[expose] public section

set_option maxRecDepth 16384

noncomputable section

open Idealize.ShloMosaic Idealize.ShloMosaic.TcCoe Idealize.SL.Sem

namespace Cert.RmsFfn

open Cert.Reference3Ideal Cert.Reference3Ideal.Gen Cert.Reference3Ideal.Read Cert.Rms

/-- Row `r` of the norm's input. -/
def row (x : FVec Ideal S2048x1024 .f32) (r : Fin 2048) (k : Fin 1024) : EReal := x (ix2 r k)

/-- The cotangent of the norm's output. -/
def dh (p : FVec Ideal S2048x5632 .bf16) (w : FVec Ideal S1024x5632 .f32) (r : Fin 2048) (q : Fin 1024) : EReal :=
  ∑ k : Fin 5632, p (ix2 r k) * w (ix2 q k)

/-- The cotangent of the normalised row. -/
def gy (p : FVec Ideal S2048x5632 .bf16) (w : FVec Ideal S1024x5632 .f32) (g : FVec Ideal S1024 .f32) (r : Fin 2048) (q : Fin 1024) : EReal :=
  dh p w r q * g (ix1 q)

/-- The two results over the arguments. -/
def Gx (p : FVec Ideal S2048x5632 .bf16) (w : FVec Ideal S1024x5632 .f32) (x : FVec Ideal S2048x1024 .f32) (g : FVec Ideal S1024 .f32)
    (d : FVec Ideal S2048x1024 .f32) : FVec Ideal S2048x1024 .f32 :=
  fun j => d (ix2 (j 0) (j 1)) + rs (row x (j 0)) * (gy p w g (j 0) (j 1)
    - row x (j 0) (j 1) * rs (row x (j 0)) * mean (fun k => gy p w g (j 0) k * (row x (j 0) k * rs (row x (j 0)))))

def Gg (p : FVec Ideal S2048x5632 .bf16) (w : FVec Ideal S1024x5632 .f32) (x : FVec Ideal S2048x1024 .f32) : FVec Ideal S1x1024 .f32 :=
  fun j => ∑ r : Fin 2048, dh p w r (j 1) * (row x r (j 1) * rs (row x r))

theorem v6_at (x : FVec Ideal S2048x1024 .f32) (r : Fin 2048) : val_main_v6 (F := Ideal) x (ix2 r 0) = ms (row x r) := by
  pointwise [val_main_v0, val_main_v1, val_main_v2, val_main_v3, val_main_v4, val_main_v5, val_main_v6, val_main_cst, val_main_cst_0, val_main_cst_1]
  rfl

theorem v7_at (x : FVec Ideal S2048x1024 .f32) (r : Fin 2048) : val_main_v7 (F := Ideal) x (ix2 r 0) = rs (row x r) := by
  pointwise [val_main_v7, v6_at]
  rfl

theorem v18_at (p : FVec Ideal S2048x5632 .bf16) (w : FVec Ideal S1024x5632 .f32) (r : Fin 2048) (q : Fin 1024) :
    val_main_v18 (F := Ideal) p w (ix2 r q) = dh p w r q := by
  pointwise [val_main_v18, val_main_v17]
  rfl

theorem v23_at (p : FVec Ideal S2048x5632 .bf16) (w : FVec Ideal S1024x5632 .f32) (g : FVec Ideal S1024 .f32) (r : Fin 2048) (q : Fin 1024) :
    val_main_v23 (F := Ideal) p w g (ix2 r q) = gy p w g r q := by
  pointwise [val_main_v23, val_main_v22, val_main_v13, v18_at]
  rfl

theorem ref39 (p : FVec Ideal S2048x5632 .bf16) (w : FVec Ideal S1024x5632 .f32) (x : FVec Ideal S2048x1024 .f32) (g : FVec Ideal S1024 .f32)
    (d : FVec Ideal S2048x1024 .f32) (r : Fin 2048) (q : Fin 1024) :
    val_main_v39 (F := Ideal) p w x g d (ix2 r q) = Gx p w x g d (ix2 r q) := by
  pointwise [val_main_v39, val_main_v38, val_main_v37, val_main_v36, val_main_v35, val_main_v34, val_main_v33, val_main_v32, val_main_v31, val_main_v30,
    val_main_v29, val_main_v28, val_main_v27, val_main_v26, val_main_v25, val_main_v10, val_main_v9, val_main_v8, val_main_cst_2, val_main_cst_5,
    val_main_cst_6, val_main_cst_7, v23_at]
  simp only [Fin.sum_univ_one, v6_at, v7_at]
  exact grad_eq (row x r) (gy p w g r) (d (ix2 r q)) q

theorem ref40 (p : FVec Ideal S2048x5632 .bf16) (w : FVec Ideal S1024x5632 .f32) (x : FVec Ideal S2048x1024 .f32) (r : Fin 1) (q : Fin 1024) :
    val_main_v40 (F := Ideal) p w x (ix2 r q) = Gg p w x (ix2 r q) := by
  pointwise [val_main_v40, val_main_v24, val_main_cst_4, val_main_v21, val_main_v20, val_main_cst_3, val_main_v19, val_main_v12, val_main_v11, v7_at, v18_at]
  simp only [Fin.sum_univ_one]
  exact Finset.sum_congr rfl fun k _ => by rw [mul_comm]; rfl

end Cert.RmsFfn

end
-- ==== Proof.RmsFfnValue.lean ====
/-
  What the gradient of the norm before the channel mixer leaves in its two result arrays, element by element.
-/
module

public import proofs.«01_k».proof.Proof.RmsFfnRef
public import proofs.«01_k».proof.Proof.Gen.Kernel3Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsFfn

open Cert.Kernel3Ideal Cert.Kernel3Ideal.Gen Cert.Rms

variable (m : (ℓ : Loc nD τ sig) → Buf (Elt Ideal) ℓ)

/-- Each window's block index at a grid point: row tile `t`, or the whole array. -/
theorem place : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The grid has four points. -/
theorem point_lt (t : Fin cfg0.N) : t.val < 4 := lt_of_lt_of_eq t.isLt N_0

/-! The body's vectors over blocks that are row tile `t` of the arrays. -/

section Body

variable {p : FVec Ideal S2048x5632 .bf16} {w : FVec Ideal S1024x5632 .f32} {x : FVec Ideal S2048x1024 .f32} {g : FVec Ideal S1024 .f32}
  {d : FVec Ideal S2048x1024 .f32} {t : ℕ} (ht : t < 4)
  {bp : Vec Ideal S512x5632 .bf16} {bw : Vec Ideal S5632x1024 .bf16} {bx bd : Vec Ideal S512x1024 .f32} {bg : Vec Ideal S1x1024 .f32}
  (hp : ∀ (r : Fin 512) k, bp (ix2 r k) = p (ix2 ⟨t * 512 + r.val, by omega⟩ k))
  (hw : ∀ k q, bw (ix2 k q) = w (ix2 q k))
  (hx : ∀ (r : Fin 512) k, bx (ix2 r k) = x (ix2 ⟨t * 512 + r.val, by omega⟩ k))
  (hg : ∀ q, bg (ix2 0 q) = g (ix1 q))
  (hd : ∀ (r : Fin 512) k, bd (ix2 r k) = d (ix2 ⟨t * 512 + r.val, by omega⟩ k))

include hp hw in
theorem pay3_at (r : Fin 512) (q : Fin 1024) : k0_pay3 (F := Ideal) bp bw (ix2 r q) = dh p w ⟨t * 512 + r.val, by omega⟩ q := by
  pointwise [k0_pay3, hp, hw]
  rfl

include hx in
theorem pay4_at (r : Fin 512) : k0_pay4 (F := Ideal) bx (ix2 r 0) = rs (row x ⟨t * 512 + r.val, by omega⟩) := by
  pointwise [k0_pay4, hx]
  rfl

include hx in
theorem pay5_at (r : Fin 512) (q : Fin 1024) : k0_pay5 (F := Ideal) bx (ix2 r q)
    = row x ⟨t * 512 + r.val, by omega⟩ q * rs (row x ⟨t * 512 + r.val, by omega⟩) := by
  pointwise [k0_pay5, hx, pay4_at ht hx]
  rfl

include hp hw hx hg hd in
theorem pay6_at (r : Fin 512) (q : Fin 1024) : k0_pay6 (F := Ideal) bp bw bx bg bd (ix2 r q)
    = Gx p w x g d (ix2 ⟨t * 512 + r.val, by omega⟩ q) := by
  pointwise [k0_pay6, hg, hd, pay3_at ht hp hw, pay4_at ht hx, pay5_at ht hx]
  rfl

include hp hw hx in
theorem pay1_at (acc : Vec Ideal S1x1024 .f32) (r : Fin 1) (q : Fin 1024) : k0_pay1 (F := Ideal) (k0_pay3 bp bw) (k0_pay5 bx) acc (ix2 r q)
    = acc (ix2 r q) + ∑ k : Fin 512, dh p w ⟨t * 512 + k.val, by omega⟩ q
        * (row x ⟨t * 512 + k.val, by omega⟩ q * rs (row x ⟨t * 512 + k.val, by omega⟩)) := by
  pointwise [k0_pay1, pay3_at ht hp hw, pay5_at ht hx]

end Body

theorem pay2_at (j : S1x1024.Idx) : k0_pay2 (F := Ideal) j = 0 := by pointwise [k0_pay2]

variable (c : Dev nD)

/-- The blocks of the five inputs, read in the arrays. -/
theorem p_at (t : Fin cfg0.N) (r : Fin 512) (k : Fin 5632) :
    (show EReal from iblk m c 0 t (ix2 r k : S512x5632.Idx))
      = m ((c : Thread nD τ).loc main_arg0) (ix2 ⟨t.val * 512 + r.val, by have := point_lt t; omega⟩ k : S2048x5632.Idx) := by
  blk_ext [iblk, V, place t]

theorem x_at (t : Fin cfg0.N) (r : Fin 512) (k : Fin 1024) :
    (show EReal from iblk m c 2 t (ix2 r k : S512x1024.Idx))
      = m ((c : Thread nD τ).loc main_arg2) (ix2 ⟨t.val * 512 + r.val, by have := point_lt t; omega⟩ k : S2048x1024.Idx) := by
  blk_ext [iblk, V, place t]

theorem d_at (t : Fin cfg0.N) (r : Fin 512) (k : Fin 1024) :
    (show EReal from iblk m c 4 t (ix2 r k : S512x1024.Idx))
      = m ((c : Thread nD τ).loc main_arg4) (ix2 ⟨t.val * 512 + r.val, by have := point_lt t; omega⟩ k : S2048x1024.Idx) := by
  blk_ext [iblk, V, place t]

/-- The weight as the region reads it: transposed. -/
def turned (w : FVec Ideal S1024x5632 .f32) : FVec Ideal S5632x1024 .bf16 :=
  transpose S5632x1024 [1, 0] (truncf .bf16 w bitsLt_bf16_f32) transposes_S1024x5632_S5632x1024_1_0

def lifted (g : FVec Ideal S1024 .f32) : FVec Ideal S1x1024 .f32 := broadcastInDim S1x1024 ![1] bcast_S1024_S1x1024_1 g

theorem V_turned : V m c main_v1 = turned (m ((c : Thread nD τ).loc main_arg1)) := by
  unfold V
  simp only [hostOps0, StableHlo.TRef.binary, StableHlo.TRef.unary, StableHlo.TRef.toBuf, StableHlo.TRef.ofBuf, cast_eq]
  after_results_simp <;> rfl

theorem V_lifted : V m c main_v2 = lifted (m ((c : Thread nD τ).loc main_arg3)) := by
  unfold V
  simp only [hostOps0, StableHlo.TRef.binary, StableHlo.TRef.unary, StableHlo.TRef.toBuf, StableHlo.TRef.ofBuf, cast_eq]
  after_results_simp <;> rfl

theorem w_at (t : Fin cfg0.N) (k : Fin 5632) (q : Fin 1024) :
    (show EReal from iblk m c 1 t (ix2 k q : S5632x1024.Idx))
      = m ((c : Thread nD τ).loc main_arg1) (ix2 q k : S1024x5632.Idx) := by
  have e : (show EReal from iblk m c 1 t (ix2 k q : S5632x1024.Idx)) = V m c main_v1 (ix2 k q : S5632x1024.Idx) := by
    blk_ext [iblk, place t]
  rw [e, V_turned]
  pointwise [turned]

theorem g_at (t : Fin cfg0.N) (q : Fin 1024) :
    (show EReal from iblk m c 3 t (ix2 0 q : S1x1024.Idx))
      = m ((c : Thread nD τ).loc main_arg3) (ix1 q : S1024.Idx) := by
  have e : (show EReal from iblk m c 3 t (ix2 0 q : S1x1024.Idx)) = V m c main_v2 (ix2 0 q : S1x1024.Idx) := by
    blk_ext [iblk, place t]
  rw [e, V_lifted]
  pointwise [lifted]

theorem final5 : (dats m 0 c).arrAt 5 (cfgs 0).N
    = Gx (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  obtain ⟨r, l, rfl⟩ : ∃ (r : Fin 512) (l : Fin 1024), y = (ix2 r l : S512x1024.Idx) := ⟨y 0, y 1, eq_ix2 y⟩
  rw [after0_5]
  by_cases h : t.val % 4 = 0
  · rw [outsAt0_A m c t h]
    frame_out
    refine (pay6_at (point_lt t) (p_at m c t) (w_at m c t) (x_at m c t) (g_at m c t) (d_at m c t) r l).trans ?_
    blk_ext [place t]
  · rw [outsAt0_B m c t h]
    frame_out
    refine (pay6_at (point_lt t) (p_at m c t) (w_at m c t) (x_at m c t) (g_at m c t) (d_at m c t) r l).trans ?_
    blk_ext [place t]

theorem final6 : (dats m 0 c).arrAt 6 (cfgs 0).N
    = Gg (m ((c : Thread nD τ).loc main_arg0)) (m ((c : Thread nD τ).loc main_arg1)) (m ((c : Thread nD τ).loc main_arg2)) := by
  refine (dats m 0 c).arrAt_eq_of_after_last 6 t0_3 (by decide +kernel) _ fun j => ?_
  obtain ⟨r, q, rfl⟩ : ∃ (r : Fin 1) (q : Fin 1024), j = (ix2 r q : S1x1024.Idx) := ⟨j 0, j 1, eq_ix2 j⟩
  blk_simp
  rw [after0_6, Pipeline.eq_sum_fin_of_reset_step_apply_last (fun n h => (outsAt0 m c n h).2) 4 (fun _ => 0)
    (fun t j => ∑ k : Fin 512, dh (m ((c : Thread nD τ).loc main_arg0)) (m ((c : Thread nD τ).loc main_arg1)) ⟨t.val * 512 + k.val, by have := point_lt t; omega⟩ (j 1)
        * (row (m ((c : Thread nD τ).loc main_arg2)) ⟨t.val * 512 + k.val, by have := point_lt t; omega⟩ (j 1) * rs (row (m ((c : Thread nD τ).loc main_arg2)) ⟨t.val * 512 + k.val, by have := point_lt t; omega⟩)))
    (fun t h j => by
      obtain ⟨r, q, rfl⟩ : ∃ (r : Fin 1) (q : Fin 1024), j = (ix2 r q : S1x1024.Idx) := ⟨j 0, j 1, eq_ix2 j⟩
      rw [outsAt0_A m c t h]; frame_out
      exact (pay1_at (point_lt t) (p_at m c t) (w_at m c t) (x_at m c t) _ r q).trans (by rw [pay2_at]; rfl))
    (fun t h j => by
      obtain ⟨r, q, rfl⟩ : ∃ (r : Fin 1) (q : Fin 1024), j = (ix2 r q : S1x1024.Idx) := ⟨j 0, j 1, eq_ix2 j⟩
      rw [outsAt0_B m c t h]; frame_out
      exact (pay1_at (point_lt t) (p_at m c t) (w_at m c t) (x_at m c t) _ r q).trans rfl)
    (le_of_eq N_0) t0_3 rfl _, zero_add]
  refine Eq.trans ?_ (Fin.sum_univ_one (fun _ : Fin 1 => Gg (m ((c : Thread nD τ).loc main_arg0)) (m ((c : Thread nD τ).loc main_arg1)) (m ((c : Thread nD τ).loc main_arg2)) (ix2 r q)))
  refine Fin.sum_points_lanes_congr 4 fun t k ha hl => ?_
  have : t.val % 4 = t.val := Nat.mod_eq_of_lt (point_lt t)
  simp only [this]

end Cert.RmsFfn

end
-- ==== Proof.RmsFfnClaim.lean ====
/-
  The gradient of the norm before the channel mixer: kernel and reference end with equal results.
-/
module

public import proofs.«01_k».proof.Defs
public import proofs.«01_k».proof.Proof.RmsFfnValue

@[expose] public section

set_option maxRecDepth 16384

noncomputable section

open Idealize.ShloMosaic Idealize.ShloMosaic.TcCoe Idealize.SL.Sem

namespace Cert.RmsFfn

/-- The reference's two results are the formulas of the kernel's arrays. -/
theorem res39 (p : FVec Ideal Reference3Ideal.S2048x5632 .bf16) (w : FVec Ideal Reference3Ideal.S1024x5632 .f32)
    (x : FVec Ideal Reference3Ideal.S2048x1024 .f32) (g : FVec Ideal Reference3Ideal.S1024 .f32) (d : FVec Ideal Reference3Ideal.S2048x1024 .f32) :
    Reference3Ideal.Read.val_main_v39 (F := Ideal) p w x g d = Gx p w x g d := by
  funext j
  exact (congrArg _ (eq_ix2 j)).trans (ref39 p w x g d (j 0) (j 1))

theorem res40 (p : FVec Ideal Reference3Ideal.S2048x5632 .bf16) (w : FVec Ideal Reference3Ideal.S1024x5632 .f32)
    (x : FVec Ideal Reference3Ideal.S2048x1024 .f32) :
    Reference3Ideal.Read.val_main_v40 (F := Ideal) p w x = Gg p w x := by
  funext j
  exact (congrArg _ (eq_ix2 j)).trans (ref40 p w x (j 0) (j 1))

/-- The reference keeps its arguments; it has no semaphore. -/
theorem frame_reference : Cert.quiescent_Reference3Ideal := by
  intro m g _
  exact (θ_run Reference3Ideal.defs _ _).mono
    (fun r h => ⟨fun c => (h c).2.2, sem_eq_zero_of_no_sems (by decide) r.2⟩) (Reference3Ideal.Value.run (F := Ideal) m g)

theorem algebraic : Cert.algebraic_Kernel3Ideal_Reference3Ideal := by
  pair_intro
  · run_from Cert.Kernel3Ideal.Value.run_blocks m g
  · run_from Cert.Reference3Ideal.Value.run m' g'
    · rw [Reference3Ideal.Read.val_main_v39_eq m' c, (hagree c).1, (hagree c).2.1, (hagree c).2.2.1, (hagree c).2.2.2.1, (hagree c).2.2.2.2]
      exact (res39 _ _ _ _ _).trans (final5 m c).symm
    · exact (Reference3Ideal.Read.val_main_v40_eq _ _ _).trans ((res40 _ _ _).trans (final6 m c).symm)

end Cert.RmsFfn

end
-- ==== Proof.MixRef.lean ====
/-
  The gradient of the gated merge of the three branches, as formulas over the extended reals, and the reference read at an
  index: each of its nine results is the formula.
-/
module

public import proofs.«01_k».proof.Proof.RmsMath
public import proofs.«01_k».proof.Proof.Gen.Reference4Ideal.Read

@[expose] public section

set_option maxRecDepth 16384

noncomputable section

open Idealize.ShloMosaic Idealize.ShloMosaic.TcCoe Idealize.SL.Sem

namespace Cert.Mix

open Cert.Reference4Ideal Cert.Reference4Ideal.Gen Cert.Reference4Ideal.Read

/-- A branch's output: the saved value times the branch's weight. -/
def br (a : FVec Ideal S2048x512 .bf16) (w : FVec Ideal S512x1024 .f32) (r : Fin 2048) (q : Fin 1024) : EReal :=
  ∑ k : Fin 512, a (ix2 r k) * w (ix2 k q)

/-- The gate at column `l` of the three gates side by side. -/
def gate (g : FVec Ideal S2048x3072 .f32) (b : FVec Ideal S4x3072 .f32) (r : Fin 2048) (l : Fin 3072) : EReal :=
  Ideal.logistic (g (ix2 r l) + b (ix2 0 l))

/-- The cotangent of the merged value. -/
def dm (x : FVec Ideal S2048x1024 .f32) (w : FVec Ideal S1024x1024 .f32) (r : Fin 2048) (q : Fin 1024) : EReal :=
  ∑ k : Fin 1024, x (ix2 r k) * w (ix2 q k)

variable (x : FVec Ideal S2048x1024 .f32) (o c z a : FVec Ideal S2048x512 .bf16) (g : FVec Ideal S2048x3072 .f32) (b : FVec Ideal S4x3072 .f32)
  (wa wc ws w : FVec Ideal S512x1024 .f32) (wm : FVec Ideal S1024x1024 .f32)

/-- The merged value. -/
def Gm : FVec Ideal S2048x1024 .bf16 := fun j =>
  gate g b (j 0) ⟨(j 1).val, by have := (j 1).isLt; simp at this; omega⟩ * br o wa (j 0) (j 1)
    + gate g b (j 0) ⟨1024 + (j 1).val, by have := (j 1).isLt; simp at this; omega⟩ * br c wc (j 0) (j 1)
    + gate g b (j 0) ⟨2048 + (j 1).val, by have := (j 1).isLt; simp at this; omega⟩ * br z ws (j 0) (j 1)

/-- The cotangent of the branch whose gate begins at column `n`. -/
def dy (n : ℕ) (hn : n ≤ 2048) (r : Fin 2048) (q : Fin 1024) : EReal := dm x wm r q * gate g b r ⟨n + q.val, by omega⟩

def Gy (n : ℕ) (hn : n ≤ 2048) : FVec Ideal S2048x1024 .bf16 := fun j => dy x g b wm n hn (j 0) (j 1)

/-- The cotangent of the branch's saved value. -/
def Ga (n : ℕ) (hn : n ≤ 2048) : FVec Ideal S2048x512 .f32 := fun j => ∑ k : Fin 1024, dy x g b wm n hn (j 0) k * w (ix2 (j 1) k)

/-- The cotangent of the gate's argument at a column of one branch. -/
def dl (n : ℕ) (hn : n ≤ 2048) (r : Fin 2048) (q : Fin 1024) : EReal :=
  dm x wm r q * br a w r q * gate g b r ⟨n + q.val, by omega⟩ * (1 - gate g b r ⟨n + q.val, by omega⟩)

def Dl (r : Fin 2048) (l : Fin 3072) : EReal :=
  if h : l.val < 1024 then dl x o g b wa wm 0 (by omega) r ⟨l.val, h⟩
  else if h' : l.val < 2048 then dl x c g b wc wm 1024 (by omega) r ⟨l.val - 1024, by omega⟩
  else dl x z g b ws wm 2048 (by omega) r ⟨l.val - 2048, by omega⟩

def Gl : FVec Ideal S2048x3072 .bf16 := fun j => Dl x o c z g b wa wc ws wm (j 0) (j 1)

def Gb : FVec Ideal S1x3072 .f32 := fun j => ∑ r : Fin 2048, Dl x o c z g b wa wc ws wm r (j 1)

theorem v16_at (r : Fin 2048) (l : Fin 3072) : val_main_v16 (F := Ideal) g b (ix2 r l) = gate g b r l := by
  pointwise [val_main_v16, val_main_v15, val_main_v14, val_main_v13, val_main_v12, val_main_v11, val_main_v10, val_main_v9, val_main_v8, val_main_v7,
    val_main_v6, val_main_cst, val_main_cst_0]
  rfl

theorem v22_at (r : Fin 2048) (q : Fin 1024) : val_main_v22 (F := Ideal) g b (ix2 r q) = gate g b r ⟨0 + q.val, by omega⟩ := by
  pointwise [val_main_v22, val_main_v21, val_main_v20, v16_at]

theorem v25_at (r : Fin 2048) (q : Fin 1024) : val_main_v25 (F := Ideal) g b (ix2 r q) = gate g b r ⟨1024 + q.val, by omega⟩ := by
  pointwise [val_main_v25, val_main_v24, val_main_v20, v16_at]

theorem v29_at (r : Fin 2048) (q : Fin 1024) : val_main_v29 (F := Ideal) g b (ix2 r q) = gate g b r ⟨2048 + q.val, by omega⟩ := by
  pointwise [val_main_v29, val_main_v28, val_main_v20, v16_at]

theorem v3_at (r : Fin 2048) (q : Fin 1024) : val_main_v3 (F := Ideal) o wa (ix2 r q) = br o wa r q := by
  pointwise [val_main_v3, val_main_v0]; rfl

theorem v4_at (r : Fin 2048) (q : Fin 1024) : val_main_v4 (F := Ideal) c wc (ix2 r q) = br c wc r q := by
  pointwise [val_main_v4, val_main_v1]; rfl

theorem v5_at (r : Fin 2048) (q : Fin 1024) : val_main_v5 (F := Ideal) z ws (ix2 r q) = br z ws r q := by
  pointwise [val_main_v5, val_main_v2]; rfl

theorem v33_at (r : Fin 2048) (q : Fin 1024) : val_main_v33 (F := Ideal) x wm (ix2 r q) = dm x wm r q := by
  pointwise [val_main_v33]; rfl

theorem ref56 (r : Fin 2048) (q : Fin 1024) : val_main_v56 (F := Ideal) o c z g b wa wc ws (ix2 r q) = Gm o c z g b wa wc ws (ix2 r q) := by
  pointwise [val_main_v56, val_main_v31, val_main_v30, val_main_v27, val_main_v26, val_main_v23, v22_at, v25_at, v29_at, v3_at, v4_at, v5_at]
  rfl

theorem v43_at (r : Fin 2048) (q : Fin 1024) : val_main_v43 (F := Ideal) x g b wm (ix2 r q) = dy x g b wm 0 (by omega) r q := by
  pointwise [val_main_v43, v22_at, v33_at]
  rw [mul_comm, dy]
  simp only [Nat.zero_add]

theorem v38_at (r : Fin 2048) (q : Fin 1024) : val_main_v38 (F := Ideal) x g b wm (ix2 r q) = dy x g b wm 1024 (by omega) r q := by
  pointwise [val_main_v38, v25_at, v33_at]
  rw [mul_comm]; rfl

theorem v34_at (r : Fin 2048) (q : Fin 1024) : val_main_v34 (F := Ideal) x g b wm (ix2 r q) = dy x g b wm 2048 (by omega) r q := by
  pointwise [val_main_v34, v29_at, v33_at]
  rw [mul_comm]; rfl

theorem ref57 (r : Fin 2048) (q : Fin 1024) : val_main_v57 (F := Ideal) x g b wm (ix2 r q) = Gy x g b wm 0 (by omega) (ix2 r q) := by
  pointwise [val_main_v57, v43_at]; rfl

theorem ref58 (r : Fin 2048) (q : Fin 1024) : val_main_v58 (F := Ideal) x g b wm (ix2 r q) = Gy x g b wm 1024 (by omega) (ix2 r q) := by
  pointwise [val_main_v58, v38_at]; rfl

theorem ref59 (r : Fin 2048) (q : Fin 1024) : val_main_v59 (F := Ideal) x g b wm (ix2 r q) = Gy x g b wm 2048 (by omega) (ix2 r q) := by
  pointwise [val_main_v59, v34_at]; rfl

theorem ref55 (r : Fin 2048) (q : Fin 512) : val_main_v55 (F := Ideal) x g b wa wm (ix2 r q) = Ga x g b wa wm 0 (by omega) (ix2 r q) := by
  pointwise [val_main_v55, v43_at]; rfl

theorem ref54 (r : Fin 2048) (q : Fin 512) : val_main_v54 (F := Ideal) x g b wc wm (ix2 r q) = Ga x g b wc wm 1024 (by omega) (ix2 r q) := by
  pointwise [val_main_v54, v38_at]; rfl

theorem ref53 (r : Fin 2048) (q : Fin 512) : val_main_v53 (F := Ideal) x g b ws wm (ix2 r q) = Ga x g b ws wm 2048 (by omega) (ix2 r q) := by
  pointwise [val_main_v53, v34_at]; rfl

/-- The gate cotangent before its own derivative: the three branches' columns side by side. -/
theorem v48_at (r : Fin 2048) (l : Fin 3072) : val_main_v48 (F := Ideal) x o c z wa wc ws wm (ix2 r l)
    = if h : l.val < 1024 then dm x wm r ⟨l.val, h⟩ * br o wa r ⟨l.val, h⟩
      else if h' : l.val < 2048 then dm x wm r ⟨l.val - 1024, by omega⟩ * br c wc r ⟨l.val - 1024, by omega⟩
      else dm x wm r ⟨l.val - 2048, by omega⟩ * br z ws r ⟨l.val - 2048, by omega⟩ := by
  pointwise [val_main_v48, val_main_v47, val_main_v46, val_main_v45, val_main_v44, val_main_v42, val_main_v41, val_main_v40, val_main_v39, val_main_v37,
    val_main_v36, val_main_v35, val_main_cst_2, val_main_cst_3, val_main_cst_4, v3_at, v4_at, v5_at, v33_at]
  by_cases h : l.val < 1024
  · have a1 : ¬((2 ≤ l.val / 1024 ∧ l.val / 1024 - 2 < 1) ∧ l.val % 1024 < 1024) := by omega
    have a2 : ¬((1 ≤ l.val / 1024 ∧ l.val / 1024 - 1 < 1) ∧ l.val % 1024 < 1024) := by omega
    have a3 : l.val / 1024 < 1 ∧ l.val % 1024 < 1024 := by omega
    simp only [dif_neg a1, dif_neg a2, dif_pos a3, dif_pos h, add_zero, zero_add]
    simp only [Nat.mod_eq_of_lt h]
  · by_cases h' : l.val < 2048
    · have a1 : ¬((2 ≤ l.val / 1024 ∧ l.val / 1024 - 2 < 1) ∧ l.val % 1024 < 1024) := by omega
      have a2 : (1 ≤ l.val / 1024 ∧ l.val / 1024 - 1 < 1) ∧ l.val % 1024 < 1024 := by omega
      have a3 : ¬(l.val / 1024 < 1 ∧ l.val % 1024 < 1024) := by omega
      have e : l.val % 1024 = l.val - 1024 := by omega
      simp only [dif_neg a1, dif_pos a2, dif_neg a3, dif_neg h, dif_pos h', add_zero, zero_add]
      simp only [e]
    · have a1 : (2 ≤ l.val / 1024 ∧ l.val / 1024 - 2 < 1) ∧ l.val % 1024 < 1024 := by omega
      have a2 : ¬((1 ≤ l.val / 1024 ∧ l.val / 1024 - 1 < 1) ∧ l.val % 1024 < 1024) := by omega
      have a3 : ¬(l.val / 1024 < 1 ∧ l.val % 1024 < 1024) := by omega
      have e : l.val % 1024 = l.val - 2048 := by omega
      simp only [dif_pos a1, dif_neg a2, dif_neg a3, dif_neg h, dif_neg h', add_zero, add_zero]
      simp only [e]

theorem v49_at (r : Fin 2048) (l : Fin 3072) : val_main_v49 (F := Ideal) x o c z g b wa wc ws wm (ix2 r l) = Dl x o c z g b wa wc ws wm r l := by
  pointwise [val_main_v49, v48_at, val_main_v19, val_main_v18, val_main_v17, val_main_cst_1, v16_at]
  have e : ∀ n : ℕ, ∀ h : n + (l.val - n) < 3072, n ≤ l.val → (⟨n + (l.val - n), h⟩ : Fin 3072) = l := fun n _ h => Fin.ext (by simp; omega)
  unfold Dl dl
  by_cases h : l.val < 1024
  · rw [dif_pos h, dif_pos h, ← mul_assoc]
    simp only [Nat.zero_add]
  · by_cases h' : l.val < 2048
    · rw [dif_neg h, dif_neg h, dif_pos h', dif_pos h', ← mul_assoc]
      simp only [e 1024 _ (by omega)]
    · rw [dif_neg h, dif_neg h, dif_neg h', dif_neg h', ← mul_assoc]
      simp only [e 2048 _ (by omega)]

theorem ref60 (r : Fin 2048) (l : Fin 3072) :
    val_main_v60 (F := Ideal) x o c z g b wa wc ws wm (ix2 r l) = Gl x o c z g b wa wc ws wm (ix2 r l) := by
  pointwise [val_main_v60, v49_at]; rfl

theorem ref61 (r : Fin 1) (l : Fin 3072) :
    val_main_v61 (F := Ideal) x o c z g b wa wc ws wm (ix2 r l) = Gb x o c z g b wa wc ws wm (ix2 r l) := by
  pointwise [val_main_v61, val_main_v52, val_main_v51, val_main_v50, val_main_cst_5, val_main_cst_6, v49_at]
  simp only [Fin.sum_univ_one]
  rfl

end Cert.Mix

end
-- ==== Proof.MixValue.lean ====
/-
  What the gradient of the gated merge leaves in its nine result arrays, element by element.
-/
module

public import proofs.«01_k».proof.Proof.MixRef
public import proofs.«01_k».proof.Proof.Gen.Kernel4Ideal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix

open Cert.Kernel4Ideal Cert.Kernel4Ideal.Gen

variable (m : (ℓ : Loc nD τ sig) → Buf (Elt Ideal) ℓ)

/-- Each window's block index at a grid point: row tile `t`, one of three columns of blocks, or the whole array. -/
theorem place : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1] ∧ win0_6.index t = ![t.val, 2]
    ∧ win0_7.index t = ![0, 0, 0] ∧ win0_8.index t = ![0, 0] ∧ win0_9.index t = ![0, 1] ∧ win0_10.index t = ![0, 2] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![0, 0] :=
  (by decide +kernel : ∀ t : Fin grid0.N, _)

/-- The grid has eight points. -/
theorem point_lt (t : Fin cfg0.N) : t.val < 8 := lt_of_lt_of_eq t.isLt N_0

/-- Three column blocks stored side by side, over whatever was there: together they are the array `G` when each is its columns of `G`. -/
theorem three {e : EltTy} [∀ e, Nonempty (Elt Ideal e)] (G : S256x3072.Idx → Elt Ideal e) (u v w : S256x1024.Idx → Elt Ideal e)
    (i2 : ∀ a, (![0, 2048] : Fin 2 → ℕ) a + (![256, 1024] : Fin 2 → ℕ) a ≤ S256x3072.size a)
    (i1 : ∀ a, (![0, 1024] : Fin 2 → ℕ) a + (![256, 1024] : Fin 2 → ℕ) a ≤ S256x3072.size a)
    (i0 : ∀ a, (![0, 0] : Fin 2 → ℕ) a + (![256, 1024] : Fin 2 → ℕ) a ≤ S256x3072.size a)
    (L : List (View.Piece (Elt Ideal) S256x3072 e)) (y : S256x3072.Idx)
    (hu : ∀ x : S256x1024.Idx, u x = G (ix2 (x 0) ⟨2048 + (x 1).val, by have := (x 1).isLt; simp at this; omega⟩))
    (hv : ∀ x : S256x1024.Idx, v x = G (ix2 (x 0) ⟨1024 + (x 1).val, by have := (x 1).isLt; simp at this; omega⟩))
    (hw : ∀ x : S256x1024.Idx, w x = G (ix2 (x 0) ⟨(x 1).val, by have := (x 1).isLt; simp at this; omega⟩)) :
    View.canon (⟨Rect.unit ![0, 2048] ![256, 1024] i2, u⟩ :: ⟨Rect.unit ![0, 1024] ![256, 1024] i1, v⟩ :: ⟨Rect.unit ![0, 0] ![256, 1024] i0, w⟩ :: L) y = G y := by
  refine View.canon_append_of_piecesOf G L [⟨Rect.unit ![0, 2048] ![256, 1024] i2, u⟩, ⟨Rect.unit ![0, 1024] ![256, 1024] i1, v⟩, ⟨Rect.unit ![0, 0] ![256, 1024] i0, w⟩]
    ⟨fun x => ?_, fun x => ?_, fun x => ?_, trivial⟩ y ?_
  · exact (hu x).trans (congrArg G (by funext k; fin_cases k <;> exact Fin.ext (by simp)))
  · exact (hv x).trans (congrArg G (by funext k; fin_cases k <;> exact Fin.ext (by simp)))
  · exact (hw x).trans (congrArg G (by funext k; fin_cases k <;> exact Fin.ext (by simp)))
  · have h0 : (y 0).val < 256 := (y 0).isLt
    have h1 : (y 1).val < 3072 := (y 1).isLt
    by_cases a : (y 1).val < 1024
    · have hy : y ∈ (Rect.unit (s := S256x3072) ![0, 0] ![256, 1024] i0).set :=
        Rect.mem_set_unit.mpr (by intro k; fin_cases k <;> simp <;> omega)
      exact ⟨⟨Rect.unit ![0, 0] ![256, 1024] i0, w⟩, by simp, hy⟩
    · by_cases b : (y 1).val < 2048
      · have hy : y ∈ (Rect.unit (s := S256x3072) ![0, 1024] ![256, 1024] i1).set :=
          Rect.mem_set_unit.mpr (by intro k; fin_cases k <;> simp <;> omega)
        exact ⟨⟨Rect.unit ![0, 1024] ![256, 1024] i1, v⟩, by simp, hy⟩
      · have hy : y ∈ (Rect.unit (s := S256x3072) ![0, 2048] ![256, 1024] i2).set :=
          Rect.mem_set_unit.mpr (by intro k; fin_cases k <;> simp <;> omega)
        exact ⟨⟨Rect.unit ![0, 2048] ![256, 1024] i2, u⟩, by simp, hy⟩

/-- Three column blocks stored side by side, over whatever was there: together they are the array `G` when each is its columns of `G`. -/
theorem three1 {e : EltTy} [∀ e, Nonempty (Elt Ideal e)] (G : S1x3072.Idx → Elt Ideal e) (u v w : S1x1024.Idx → Elt Ideal e)
    (i2 : ∀ a, (![0, 2048] : Fin 2 → ℕ) a + (![1, 1024] : Fin 2 → ℕ) a ≤ S1x3072.size a)
    (i1 : ∀ a, (![0, 1024] : Fin 2 → ℕ) a + (![1, 1024] : Fin 2 → ℕ) a ≤ S1x3072.size a)
    (i0 : ∀ a, (![0, 0] : Fin 2 → ℕ) a + (![1, 1024] : Fin 2 → ℕ) a ≤ S1x3072.size a)
    (L : List (View.Piece (Elt Ideal) S1x3072 e)) (y : S1x3072.Idx)
    (hu : ∀ x : S1x1024.Idx, u x = G (ix2 (x 0) ⟨2048 + (x 1).val, by have := (x 1).isLt; simp at this; omega⟩))
    (hv : ∀ x : S1x1024.Idx, v x = G (ix2 (x 0) ⟨1024 + (x 1).val, by have := (x 1).isLt; simp at this; omega⟩))
    (hw : ∀ x : S1x1024.Idx, w x = G (ix2 (x 0) ⟨(x 1).val, by have := (x 1).isLt; simp at this; omega⟩)) :
    View.canon (⟨Rect.unit ![0, 2048] ![1, 1024] i2, u⟩ :: ⟨Rect.unit ![0, 1024] ![1, 1024] i1, v⟩ :: ⟨Rect.unit ![0, 0] ![1, 1024] i0, w⟩ :: L) y = G y := by
  refine View.canon_append_of_piecesOf G L [⟨Rect.unit ![0, 2048] ![1, 1024] i2, u⟩, ⟨Rect.unit ![0, 1024] ![1, 1024] i1, v⟩, ⟨Rect.unit ![0, 0] ![1, 1024] i0, w⟩]
    ⟨fun x => ?_, fun x => ?_, fun x => ?_, trivial⟩ y ?_
  · exact (hu x).trans (congrArg G (by funext k; fin_cases k <;> exact Fin.ext (by simp)))
  · exact (hv x).trans (congrArg G (by funext k; fin_cases k <;> exact Fin.ext (by simp)))
  · exact (hw x).trans (congrArg G (by funext k; fin_cases k <;> exact Fin.ext (by simp)))
  · have h0 : (y 0).val < 1 := (y 0).isLt
    have h1 : (y 1).val < 3072 := (y 1).isLt
    by_cases a : (y 1).val < 1024
    · have hy : y ∈ (Rect.unit (s := S1x3072) ![0, 0] ![1, 1024] i0).set :=
        Rect.mem_set_unit.mpr (by intro k; fin_cases k <;> simp <;> omega)
      exact ⟨⟨Rect.unit ![0, 0] ![1, 1024] i0, w⟩, by simp, hy⟩
    · by_cases b : (y 1).val < 2048
      · have hy : y ∈ (Rect.unit (s := S1x3072) ![0, 1024] ![1, 1024] i1).set :=
          Rect.mem_set_unit.mpr (by intro k; fin_cases k <;> simp <;> omega)
        exact ⟨⟨Rect.unit ![0, 1024] ![1, 1024] i1, v⟩, by simp, hy⟩
      · have hy : y ∈ (Rect.unit (s := S1x3072) ![0, 2048] ![1, 1024] i2).set :=
          Rect.mem_set_unit.mpr (by intro k; fin_cases k <;> simp <;> omega)
        exact ⟨⟨Rect.unit ![0, 2048] ![1, 1024] i2, u⟩, by simp, hy⟩

/-! The body's vectors over blocks that are row tile `t` of the arrays. -/

section Body

variable {x : FVec Ideal S2048x1024 .f32} {a o c z : FVec Ideal S2048x512 .bf16} {g : FVec Ideal S2048x3072 .f32} {b : FVec Ideal S4x3072 .f32}
  {w wa wc ws : FVec Ideal S512x1024 .f32} {wm : FVec Ideal S1024x1024 .f32} {t : ℕ} {n : ℕ} (ht : t < 8) (hn : n ≤ 2048)
  {bx : Vec Ideal S256x1024 .f32} {bm : Vec Ideal S1024x1024 .bf16} {ba : Vec Ideal S256x512 .bf16} {bw : Vec Ideal S1024x512 .bf16}
  {bg : Vec Ideal S256x1024 .f32} {bb : Vec Ideal S1x1x1024 .f32}
  (hx : ∀ (r : Fin 256) k, bx (ix2 r k) = x (ix2 ⟨t * 256 + r.val, by omega⟩ k))
  (hm : ∀ k q, bm (ix2 k q) = wm (ix2 k q))
  (ha : ∀ (r : Fin 256) k, ba (ix2 r k) = a (ix2 ⟨t * 256 + r.val, by omega⟩ k))
  (hw : ∀ q k, bw (ix2 q k) = w (ix2 k q))
  (hg : ∀ (r : Fin 256) (q : Fin 1024), bg (ix2 r q) = g (ix2 ⟨t * 256 + r.val, by omega⟩ ⟨n + q.val, by omega⟩))
  (hb : ∀ q : Fin 1024, bb (ix3 0 0 q) = b (ix2 0 ⟨n + q.val, by omega⟩))

include hx hm in
theorem pay12_at (r : Fin 256) (q : Fin 1024) : k0_pay12 (F := Ideal) bx bm (ix2 r q) = dm x wm ⟨t * 256 + r.val, by omega⟩ q := by
  pointwise [k0_pay12, hx, hm]
  rfl

include ha hw in
theorem pay5_at (r : Fin 256) (q : Fin 1024) : k0_pay5 (F := Ideal) ba bw (ix2 r q) = br a w ⟨t * 256 + r.val, by omega⟩ q := by
  pointwise [k0_pay5, ha, hw]
  rfl

include ha hw in
theorem pay6_at (r : Fin 256) (q : Fin 1024) : k0_pay6 (F := Ideal) ba bw (ix2 r q) = br a w ⟨t * 256 + r.val, by omega⟩ q := by
  pointwise [k0_pay6, ha, hw]
  rfl

include ha hw in
theorem pay7_at (r : Fin 256) (q : Fin 1024) : k0_pay7 (F := Ideal) ba bw (ix2 r q) = br a w ⟨t * 256 + r.val, by omega⟩ q := by
  pointwise [k0_pay7, ha, hw]
  rfl

include hg hb in
theorem pay8_at (r : Fin 256) (q : Fin 1024) :
    k0_pay8 (F := Ideal) bg bb (ix2 r q) = gate g b ⟨t * 256 + r.val, by omega⟩ ⟨n + q.val, by omega⟩ := by
  pointwise [k0_pay8, hg, hb]
  rfl

include hg hb in
theorem pay9_at (r : Fin 256) (q : Fin 1024) :
    k0_pay9 (F := Ideal) bg bb (ix2 r q) = gate g b ⟨t * 256 + r.val, by omega⟩ ⟨n + q.val, by omega⟩ := by
  pointwise [k0_pay9, hg, hb]
  rfl

include hg hb in
theorem pay10_at (r : Fin 256) (q : Fin 1024) :
    k0_pay10 (F := Ideal) bg bb (ix2 r q) = gate g b ⟨t * 256 + r.val, by omega⟩ ⟨n + q.val, by omega⟩ := by
  pointwise [k0_pay10, hg, hb]
  rfl

/-! The same for the vectors made of these: `y` a branch's output, `s` a gate, `d` the cotangent of the merged value. -/

variable {y s y1 y2 s1 d : FVec Ideal S256x1024 .f32}
  (hy : ∀ (r : Fin 256) q, y (ix2 r q) = br a w ⟨t * 256 + r.val, by omega⟩ q)
  (hs : ∀ (r : Fin 256) (q : Fin 1024), s (ix2 r q) = gate g b ⟨t * 256 + r.val, by omega⟩ ⟨n + q.val, by omega⟩)
  (hd : ∀ (r : Fin 256) q, d (ix2 r q) = dm x wm ⟨t * 256 + r.val, by omega⟩ q)

include hs hd in
theorem pay20_at (r : Fin 256) (q : Fin 1024) : k0_pay20 (F := Ideal) s d (ix2 r q) = dy x g b wm n hn ⟨t * 256 + r.val, by omega⟩ q := by
  pointwise [k0_pay20, hs, hd]
  rfl

include hs hd in
theorem pay25_at (r : Fin 256) (q : Fin 1024) : k0_pay25 (F := Ideal) s d (ix2 r q) = dy x g b wm n hn ⟨t * 256 + r.val, by omega⟩ q := by
  pointwise [k0_pay25, hs, hd]
  rfl

include hx hm hs in
theorem pay13_at (r : Fin 256) (q : Fin 1024) : k0_pay13 (F := Ideal) s bx bm (ix2 r q) = dy x g b wm n hn ⟨t * 256 + r.val, by omega⟩ q := by
  pointwise [k0_pay13, hs]
  rw [pay12_at (n := n) ht hx hm]
  rfl

include hx hm hs hw in
theorem pay14_at (r : Fin 256) (q : Fin 512) :
    k0_pay14 (F := Ideal) s bx bm bw (ix2 r q) = Ga x g b w wm n hn (ix2 ⟨t * 256 + r.val, by omega⟩ q) := by
  pointwise [k0_pay14, hw, pay13_at ht hn hx hm hs]
  rfl

include hd hs hw in
theorem pay21_at (r : Fin 256) (q : Fin 512) :
    k0_pay21 (F := Ideal) s d bw (ix2 r q) = Ga x g b w wm n hn (ix2 ⟨t * 256 + r.val, by omega⟩ q) := by
  pointwise [k0_pay21, hw, pay20_at ht hn hs hd]
  rfl

include hd hs hw in
theorem pay26_at (r : Fin 256) (q : Fin 512) :
    k0_pay26 (F := Ideal) s d bw (ix2 r q) = Ga x g b w wm n hn (ix2 ⟨t * 256 + r.val, by omega⟩ q) := by
  pointwise [k0_pay26, hw, pay25_at ht hn hs hd]
  rfl

include hx hm hy hs in
theorem pay15_at (r : Fin 256) (q : Fin 1024) :
    k0_pay15 (F := Ideal) y s bx bm (ix2 r q) = dl x a g b w wm n hn ⟨t * 256 + r.val, by omega⟩ q := by
  pointwise [k0_pay15, hy, hs]
  rw [pay12_at (n := n) ht hx hm]
  rfl

include hd hy hs in
theorem pay22_at (r : Fin 256) (q : Fin 1024) :
    k0_pay22 (F := Ideal) y s d (ix2 r q) = dl x a g b w wm n hn ⟨t * 256 + r.val, by omega⟩ q := by
  pointwise [k0_pay22, hy, hs, hd]
  rfl

include hd hy hs in
theorem pay1_at (r : Fin 256) (q : Fin 1024) :
    k0_pay1 (F := Ideal) y s d (ix2 r q) = dl x a g b w wm n hn ⟨t * 256 + r.val, by omega⟩ q := by
  pointwise [k0_pay1, hy, hs, hd]
  rfl

variable {acc : Vec Ideal S1x1024 .f32}

include hx hm hy hs in
theorem pay19_at (r : Fin 1) (q : Fin 1024) : k0_pay19 (F := Ideal) (k0_pay17 acc) (k0_pay18 y s bx bm) (ix2 r q)
    = acc (ix2 r q) + ∑ k : Fin 256, dl x a g b w wm n hn ⟨t * 256 + k.val, by omega⟩ q := by
  pointwise [k0_pay19, k0_pay17, k0_pay18, pay15_at ht hn hx hm hy hs]

include hd hy hs in
theorem pay24_at (r : Fin 1) (q : Fin 1024) : k0_pay24 (F := Ideal) y s d acc (ix2 r q)
    = acc (ix2 r q) + ∑ k : Fin 256, dl x a g b w wm n hn ⟨t * 256 + k.val, by omega⟩ q := by
  pointwise [k0_pay24, pay22_at ht hn hy hs hd]

include hd hy hs in
theorem pay3_at (r : Fin 1) (q : Fin 1024) : k0_pay3 (F := Ideal) y s d acc (ix2 r q)
    = acc (ix2 r q) + ∑ k : Fin 256, dl x a g b w wm n hn ⟨t * 256 + k.val, by omega⟩ q := by
  pointwise [k0_pay3, pay1_at ht hn hy hs hd]

include hx hm hy hs in
theorem pay16_at (r : Fin 256) (q : Fin 1024) :
    k0_pay16 (F := Ideal) y s bx bm (ix2 r q) = dl x a g b w wm n hn ⟨t * 256 + r.val, by omega⟩ q := by
  pointwise [k0_pay16, pay15_at ht hn hx hm hy hs]

include hd hy hs in
theorem pay23_at (r : Fin 256) (q : Fin 1024) :
    k0_pay23 (F := Ideal) y s d (ix2 r q) = dl x a g b w wm n hn ⟨t * 256 + r.val, by omega⟩ q := by
  pointwise [k0_pay23, pay22_at ht hn hy hs hd]

include hd hy hs in
theorem pay2_at (r : Fin 256) (q : Fin 1024) :
    k0_pay2 (F := Ideal) y s d (ix2 r q) = dl x a g b w wm n hn ⟨t * 256 + r.val, by omega⟩ q := by
  pointwise [k0_pay2, pay1_at ht hn hy hs hd]

end Body

theorem pay4_at (j : S1x3072.Idx) : k0_pay4 (F := Ideal) j = 0 := by pointwise [k0_pay4]

variable (c : Dev nD)

/-! The blocks of the inputs, read in the arrays. -/

theorem x_at (t : Fin cfg0.N) (r : Fin 256) (k : Fin 1024) :
    (show EReal from iblk m c 0 t (ix2 r k : S256x1024.Idx))
      = m ((c : Thread nD τ).loc main_arg0) (ix2 ⟨t.val * 256 + r.val, by have := point_lt t; omega⟩ k : S2048x1024.Idx) := by
  blk_ext [iblk, V, place t]

theorem o_at (t : Fin cfg0.N) (r : Fin 256) (k : Fin 512) :
    (show EReal from iblk m c 1 t (ix2 r k : S256x512.Idx))
      = m ((c : Thread nD τ).loc main_arg1) (ix2 ⟨t.val * 256 + r.val, by have := point_lt t; omega⟩ k : S2048x512.Idx) := by
  blk_ext [iblk, V, place t]

theorem c_at (t : Fin cfg0.N) (r : Fin 256) (k : Fin 512) :
    (show EReal from iblk m c 2 t (ix2 r k : S256x512.Idx))
      = m ((c : Thread nD τ).loc main_arg2) (ix2 ⟨t.val * 256 + r.val, by have := point_lt t; omega⟩ k : S2048x512.Idx) := by
  blk_ext [iblk, V, place t]

theorem z_at (t : Fin cfg0.N) (r : Fin 256) (k : Fin 512) :
    (show EReal from iblk m c 3 t (ix2 r k : S256x512.Idx))
      = m ((c : Thread nD τ).loc main_arg3) (ix2 ⟨t.val * 256 + r.val, by have := point_lt t; omega⟩ k : S2048x512.Idx) := by
  blk_ext [iblk, V, place t]

theorem g0_at (t : Fin cfg0.N) (r : Fin 256) (q : Fin 1024) :
    (show EReal from iblk m c 4 t (ix2 r q : S256x1024.Idx))
      = m ((c : Thread nD τ).loc main_arg4) (ix2 ⟨t.val * 256 + r.val, by have := point_lt t; omega⟩ ⟨0 + q.val, by omega⟩ : S2048x3072.Idx) := by
  blk_ext [iblk, V, place t]

theorem g1_at (t : Fin cfg0.N) (r : Fin 256) (q : Fin 1024) :
    (show EReal from iblk m c 5 t (ix2 r q : S256x1024.Idx))
      = m ((c : Thread nD τ).loc main_arg4) (ix2 ⟨t.val * 256 + r.val, by have := point_lt t; omega⟩ ⟨1024 + q.val, by omega⟩ : S2048x3072.Idx) := by
  blk_ext [iblk, V, place t]

theorem g2_at (t : Fin cfg0.N) (r : Fin 256) (q : Fin 1024) :
    (show EReal from iblk m c 6 t (ix2 r q : S256x1024.Idx))
      = m ((c : Thread nD τ).loc main_arg4) (ix2 ⟨t.val * 256 + r.val, by have := point_lt t; omega⟩ ⟨2048 + q.val, by omega⟩ : S2048x3072.Idx) := by
  blk_ext [iblk, V, place t]

/-- The three branch weights as the region reads them: transposed and side by side. -/
def packed (wa wc ws : FVec Ideal S512x1024 .f32) : FVec Ideal S1024x1536 .bf16 :=
  concatenate S1024x1536 1
    [⟨S1024x512, transpose S1024x512 [1, 0] (truncf (F := Ideal) .bf16 wa bitsLt_bf16_f32) transposes_S512x1024_S1024x512_1_0⟩,
     ⟨S1024x512, transpose S1024x512 [1, 0] (truncf (F := Ideal) .bf16 wc bitsLt_bf16_f32) transposes_S512x1024_S1024x512_1_0⟩,
     ⟨S1024x512, transpose S1024x512 [1, 0] (truncf (F := Ideal) .bf16 ws bitsLt_bf16_f32) transposes_S512x1024_S1024x512_1_0⟩]
    concatenates_S1024x512_S1024x512_S1024x512_S1024x1536_d1

def biased (b : FVec Ideal S4x3072 .f32) : FVec Ideal S4x1x3072 .f32 := broadcastInDim S4x1x3072 ![0, 2] bcast_S4x3072_S4x1x3072_0_2 b

def cast16 (w : FVec Ideal S1024x1024 .f32) : FVec Ideal S1024x1024 .bf16 := truncf .bf16 w bitsLt_bf16_f32

theorem V_packed : V m c main_v6 = packed (m ((c : Thread nD τ).loc main_arg6)) (m ((c : Thread nD τ).loc main_arg7)) (m ((c : Thread nD τ).loc main_arg8)) := by
  unfold V
  simp only [hostOps0, StableHlo.TRef.nary, StableHlo.TRef.binary, StableHlo.TRef.unary, StableHlo.TRef.toBuf, StableHlo.TRef.ofBuf, cast_eq]
  after_results_simp <;> rfl

theorem V_biased : V m c main_v7 = biased (m ((c : Thread nD τ).loc main_arg5)) := by
  unfold V
  simp only [hostOps0, StableHlo.TRef.nary, StableHlo.TRef.binary, StableHlo.TRef.unary, StableHlo.TRef.toBuf, StableHlo.TRef.ofBuf, cast_eq]
  after_results_simp <;> rfl

theorem V_cast : V m c main_v8 = cast16 (m ((c : Thread nD τ).loc main_arg9)) := by
  unfold V
  simp only [hostOps0, StableHlo.TRef.nary, StableHlo.TRef.binary, StableHlo.TRef.unary, StableHlo.TRef.toBuf, StableHlo.TRef.ofBuf, cast_eq]
  after_results_simp <;> rfl

theorem m_at (t : Fin cfg0.N) (k q : Fin 1024) :
    (show EReal from iblk m c 11 t (ix2 k q : S1024x1024.Idx)) = m ((c : Thread nD τ).loc main_arg9) (ix2 k q : S1024x1024.Idx) := by
  have e : (show EReal from iblk m c 11 t (ix2 k q : S1024x1024.Idx)) = V m c main_v8 (ix2 k q : S1024x1024.Idx) := by
    blk_ext [iblk, place t]
  rw [e, V_cast]
  pointwise [cast16]

theorem b_at (t : Fin cfg0.N) (l : Fin 3072) :
    (show EReal from iblk m c 7 t (ix3 0 0 l : S1x1x3072.Idx)) = m ((c : Thread nD τ).loc main_arg5) (ix2 0 l : S4x3072.Idx) := by
  have e : (show EReal from iblk m c 7 t (ix3 0 0 l : S1x1x3072.Idx)) = V m c main_v7 (ix3 0 0 l : S4x1x3072.Idx) := by
    blk_ext [iblk, place t]
  rw [e, V_biased]
  pointwise [biased]

theorem wa_at (t : Fin cfg0.N) (q : Fin 1024) (k : Fin 512) :
    (show EReal from iblk m c 8 t (ix2 q k : S1024x512.Idx)) = m ((c : Thread nD τ).loc main_arg6) (ix2 k q : S512x1024.Idx) := by
  have e : (show EReal from iblk m c 8 t (ix2 q k : S1024x512.Idx)) = V m c main_v6 (ix2 q ⟨0 + k.val, by omega⟩ : S1024x1536.Idx) := by
    blk_ext [iblk, place t]
  rw [e, V_packed]
  pointwise [packed]

theorem wc_at (t : Fin cfg0.N) (q : Fin 1024) (k : Fin 512) :
    (show EReal from iblk m c 9 t (ix2 q k : S1024x512.Idx)) = m ((c : Thread nD τ).loc main_arg7) (ix2 k q : S512x1024.Idx) := by
  have e : (show EReal from iblk m c 9 t (ix2 q k : S1024x512.Idx)) = V m c main_v6 (ix2 q ⟨512 + k.val, by omega⟩ : S1024x1536.Idx) := by
    blk_ext [iblk, place t]
  rw [e, V_packed]
  pointwise [packed]

theorem ws_at (t : Fin cfg0.N) (q : Fin 1024) (k : Fin 512) :
    (show EReal from iblk m c 10 t (ix2 q k : S1024x512.Idx)) = m ((c : Thread nD τ).loc main_arg8) (ix2 k q : S512x1024.Idx) := by
  have e : (show EReal from iblk m c 10 t (ix2 q k : S1024x512.Idx)) = V m c main_v6 (ix2 q ⟨1024 + k.val, by omega⟩ : S1024x1536.Idx) := by
    blk_ext [iblk, place t]
  rw [e, V_packed]
  pointwise [packed]
  have a1 : ¬(1024 + k.val < 512) := by omega
  have a2 : ¬(1024 + k.val - 512 < 512) := by omega
  simp only [dif_neg a1, dif_neg a2]
  exact congrArg _ (congrArg₂ ix2 (Fin.ext (by simp; omega)) rfl)

/-! The vectors of one grid point, read in the arrays. -/

theorem y0_at (t : Fin cfg0.N) (r : Fin 256) (q : Fin 1024) :
    k0_pay5 (F := Ideal) (iblk m c 1 t) (iblk m c 8 t) (ix2 r q) = br (m ((c : Thread nD τ).loc main_arg1)) (m ((c : Thread nD τ).loc main_arg6)) ⟨t.val * 256 + r.val, by have := point_lt t; omega⟩ q :=
  pay5_at (n := 0) (point_lt t) (o_at m c t) (wa_at m c t) r q

theorem b0_at (t : Fin cfg0.N) (i : ∀ a, (![0, 0, 0] : Fin 3 → ℕ) a + (![1, 1, 1024] : Fin 3 → ℕ) a ≤ S1x1x3072.size a) (q : Fin 1024) :
    View.ld (iblk m c 7 t) (Rect.unit ![0, 0, 0] ![1, 1, 1024] i) (ix3 0 0 q : S1x1x1024.Idx) = (m ((c : Thread nD τ).loc main_arg5)) (ix2 0 ⟨0 + q.val, by omega⟩ : S4x3072.Idx) := by
  refine Eq.trans ?_ (b_at m c t ⟨0 + q.val, by omega⟩)
  exact congrArg (iblk m c 7 t) (by funext k; fin_cases k <;> exact Fin.ext (by simp))

theorem s0_at (t : Fin cfg0.N) (i : ∀ a, (![0, 0, 0] : Fin 3 → ℕ) a + (![1, 1, 1024] : Fin 3 → ℕ) a ≤ S1x1x3072.size a) (r : Fin 256) (q : Fin 1024) :
    k0_pay8 (F := Ideal) (iblk m c 4 t) (View.ld (iblk m c 7 t) (Rect.unit ![0, 0, 0] ![1, 1, 1024] i)) (ix2 r q)
      = gate (m ((c : Thread nD τ).loc main_arg4)) (m ((c : Thread nD τ).loc main_arg5)) ⟨t.val * 256 + r.val, by have := point_lt t; omega⟩ ⟨0 + q.val, by omega⟩ :=
  pay8_at (n := 0) (point_lt t) (by omega) (g0_at m c t) (b0_at m c t i) r q

theorem y1_at (t : Fin cfg0.N) (r : Fin 256) (q : Fin 1024) :
    k0_pay6 (F := Ideal) (iblk m c 2 t) (iblk m c 9 t) (ix2 r q) = br (m ((c : Thread nD τ).loc main_arg2)) (m ((c : Thread nD τ).loc main_arg7)) ⟨t.val * 256 + r.val, by have := point_lt t; omega⟩ q :=
  pay6_at (n := 0) (point_lt t) (c_at m c t) (wc_at m c t) r q

theorem b1_at (t : Fin cfg0.N) (i : ∀ a, (![0, 0, 1024] : Fin 3 → ℕ) a + (![1, 1, 1024] : Fin 3 → ℕ) a ≤ S1x1x3072.size a) (q : Fin 1024) :
    View.ld (iblk m c 7 t) (Rect.unit ![0, 0, 1024] ![1, 1, 1024] i) (ix3 0 0 q : S1x1x1024.Idx) = (m ((c : Thread nD τ).loc main_arg5)) (ix2 0 ⟨1024 + q.val, by omega⟩ : S4x3072.Idx) := by
  refine Eq.trans ?_ (b_at m c t ⟨1024 + q.val, by omega⟩)
  exact congrArg (iblk m c 7 t) (by funext k; fin_cases k <;> exact Fin.ext (by simp))

theorem s1_at (t : Fin cfg0.N) (i : ∀ a, (![0, 0, 1024] : Fin 3 → ℕ) a + (![1, 1, 1024] : Fin 3 → ℕ) a ≤ S1x1x3072.size a) (r : Fin 256) (q : Fin 1024) :
    k0_pay9 (F := Ideal) (iblk m c 5 t) (View.ld (iblk m c 7 t) (Rect.unit ![0, 0, 1024] ![1, 1, 1024] i)) (ix2 r q)
      = gate (m ((c : Thread nD τ).loc main_arg4)) (m ((c : Thread nD τ).loc main_arg5)) ⟨t.val * 256 + r.val, by have := point_lt t; omega⟩ ⟨1024 + q.val, by omega⟩ :=
  pay9_at (n := 1024) (point_lt t) (by omega) (g1_at m c t) (b1_at m c t i) r q

theorem y2_at (t : Fin cfg0.N) (r : Fin 256) (q : Fin 1024) :
    k0_pay7 (F := Ideal) (iblk m c 3 t) (iblk m c 10 t) (ix2 r q) = br (m ((c : Thread nD τ).loc main_arg3)) (m ((c : Thread nD τ).loc main_arg8)) ⟨t.val * 256 + r.val, by have := point_lt t; omega⟩ q :=
  pay7_at (n := 0) (point_lt t) (z_at m c t) (ws_at m c t) r q

theorem b2_at (t : Fin cfg0.N) (i : ∀ a, (![0, 0, 2048] : Fin 3 → ℕ) a + (![1, 1, 1024] : Fin 3 → ℕ) a ≤ S1x1x3072.size a) (q : Fin 1024) :
    View.ld (iblk m c 7 t) (Rect.unit ![0, 0, 2048] ![1, 1, 1024] i) (ix3 0 0 q : S1x1x1024.Idx) = (m ((c : Thread nD τ).loc main_arg5)) (ix2 0 ⟨2048 + q.val, by omega⟩ : S4x3072.Idx) := by
  refine Eq.trans ?_ (b_at m c t ⟨2048 + q.val, by omega⟩)
  exact congrArg (iblk m c 7 t) (by funext k; fin_cases k <;> exact Fin.ext (by simp))

theorem s2_at (t : Fin cfg0.N) (i : ∀ a, (![0, 0, 2048] : Fin 3 → ℕ) a + (![1, 1, 1024] : Fin 3 → ℕ) a ≤ S1x1x3072.size a) (r : Fin 256) (q : Fin 1024) :
    k0_pay10 (F := Ideal) (iblk m c 6 t) (View.ld (iblk m c 7 t) (Rect.unit ![0, 0, 2048] ![1, 1, 1024] i)) (ix2 r q)
      = gate (m ((c : Thread nD τ).loc main_arg4)) (m ((c : Thread nD τ).loc main_arg5)) ⟨t.val * 256 + r.val, by have := point_lt t; omega⟩ ⟨2048 + q.val, by omega⟩ :=
  pay10_at (n := 2048) (point_lt t) (by omega) (g2_at m c t) (b2_at m c t i) r q

theorem d_at (t : Fin cfg0.N) (r : Fin 256) (q : Fin 1024) :
    k0_pay12 (F := Ideal) (iblk m c 0 t) (iblk m c 11 t) (ix2 r q) = dm (m ((c : Thread nD τ).loc main_arg0)) (m ((c : Thread nD τ).loc main_arg9)) ⟨t.val * 256 + r.val, by have := point_lt t; omega⟩ q :=
  pay12_at (n := 0) (point_lt t) (x_at m c t) (m_at m c t) r q

section Cols

variable (x : FVec Ideal S2048x1024 .f32) (o c z : FVec Ideal S2048x512 .bf16) (g : FVec Ideal S2048x3072 .f32) (b : FVec Ideal S4x3072 .f32)
  (wa wc ws : FVec Ideal S512x1024 .f32) (wm : FVec Ideal S1024x1024 .f32)

theorem Dl_0 (r : Fin 2048) (q : Fin 1024) : Dl x o c z g b wa wc ws wm r ⟨q.val, by omega⟩ = dl x o g b wa wm 0 (by omega) r q := by
  have a1 : q.val < 1024 := q.isLt
  simp only [Dl, dif_pos a1, Fin.eta]

theorem Dl_1 (r : Fin 2048) (q : Fin 1024) : Dl x o c z g b wa wc ws wm r ⟨1024 + q.val, by omega⟩ = dl x c g b wc wm 1024 (by omega) r q := by
  have a1 : ¬(1024 + q.val < 1024) := by omega
  have a2 : 1024 + q.val < 2048 := by omega
  have e : (⟨1024 + q.val - 1024, by omega⟩ : Fin 1024) = q := Fin.ext (by simp)
  simp only [Dl, dif_neg a1, dif_pos a2, e]

theorem Dl_2 (r : Fin 2048) (q : Fin 1024) : Dl x o c z g b wa wc ws wm r ⟨2048 + q.val, by omega⟩ = dl x z g b ws wm 2048 (by omega) r q := by
  have a1 : ¬(2048 + q.val < 1024) := by omega
  have a2 : ¬(2048 + q.val < 2048) := by omega
  have e : (⟨2048 + q.val - 2048, by omega⟩ : Fin 1024) = q := Fin.ext (by simp)
  simp only [Dl, dif_neg a1, dif_neg a2, e]

end Cols

/-! The results: each array is its formula. -/

theorem pay11_at (t : Fin cfg0.N) (i0 : ∀ a, (![0, 0, 0] : Fin 3 → ℕ) a + (![1, 1, 1024] : Fin 3 → ℕ) a ≤ S1x1x3072.size a)
    (i1 : ∀ a, (![0, 0, 1024] : Fin 3 → ℕ) a + (![1, 1, 1024] : Fin 3 → ℕ) a ≤ S1x1x3072.size a)
    (i2 : ∀ a, (![0, 0, 2048] : Fin 3 → ℕ) a + (![1, 1, 1024] : Fin 3 → ℕ) a ≤ S1x1x3072.size a) (r : Fin 256) (q : Fin 1024) :
    k0_pay11 (F := Ideal) (k0_pay5 (iblk m c 1 t) (iblk m c 8 t)) (k0_pay6 (iblk m c 2 t) (iblk m c 9 t)) (k0_pay7 (iblk m c 3 t) (iblk m c 10 t))
        (k0_pay8 (iblk m c 4 t) (View.ld (iblk m c 7 t) (Rect.unit ![0, 0, 0] ![1, 1, 1024] i0)))
        (k0_pay9 (iblk m c 5 t) (View.ld (iblk m c 7 t) (Rect.unit ![0, 0, 1024] ![1, 1, 1024] i1))) (iblk m c 6 t)
        (View.ld (iblk m c 7 t) (Rect.unit ![0, 0, 2048] ![1, 1, 1024] i2)) (ix2 r q)
      = Gm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 256 + r.val, by have := point_lt t; omega⟩ q) := by
  have key : ∀ (y0 y1 y2 s0 s1 : FVec Ideal S256x1024 .f32) (g2 : Vec Ideal S256x1024 .f32) (l2 : Vec Ideal S1x1x1024 .f32),
      k0_pay11 (F := Ideal) y0 y1 y2 s0 s1 g2 l2 (ix2 r q) = s0 (ix2 r q) * y0 (ix2 r q) + s1 (ix2 r q) * y1 (ix2 r q) + k0_pay10 g2 l2 (ix2 r q) * y2 (ix2 r q) := by
    intro y0 y1 y2 s0 s1 g2 l2
    pointwise [k0_pay11]
  rw [key, y0_at m c t r q, y1_at m c t r q, y2_at m c t r q, s0_at m c t i0 r q, s1_at m c t i1 r q, s2_at m c t i2 r q]
  simp only [Gm, Nat.zero_add]
  rfl

theorem final12 : (dats m 0 c).arrAt 12 (cfgs 0).N
    = Gm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  obtain ⟨r, l, rfl⟩ : ∃ (r : Fin 256) (l : Fin 1024), y = (ix2 r l : S256x1024.Idx) := ⟨y 0, y 1, eq_ix2 y⟩
  rw [after0_12]
  by_cases h : t.val % 8 = 0
  · rw [outsAt0_A m c t h]
    frame_out
    refine (pay11_at m c t _ _ _ r l).trans ?_
    blk_ext [place t]
  · rw [outsAt0_B m c t h]
    frame_out
    refine (pay11_at m c t _ _ _ r l).trans ?_
    blk_ext [place t]

theorem final13 : (dats m 0 c).arrAt 13 (cfgs 0).N
    = Gy (m ((c : Thread nD τ).loc main_arg0)) (m ((c : Thread nD τ).loc main_arg4)) (m ((c : Thread nD τ).loc main_arg5)) (m ((c : Thread nD τ).loc main_arg9)) 0 (by omega) := by
  refine (dats m 0 c).arrAt_eq_of_covers 13 _ (by decide +kernel) fun t _ y => ?_
  blk_simp
  obtain ⟨r, l, rfl⟩ : ∃ (r : Fin 256) (l : Fin 1024), y = (ix2 r l : S256x1024.Idx) := ⟨y 0, y 1, eq_ix2 y⟩
  rw [after0_13]
  by_cases h : t.val % 8 = 0
  · rw [outsAt0_A m c t h]
    frame_out
    refine (show _ = Gy (m ((c : Thread nD τ).loc main_arg0)) (m ((c : Thread nD τ).loc main_arg4)) (m ((c : Thread nD τ).loc main_arg5)) (m ((c : Thread nD τ).loc main_arg9)) 0 (by omega) (ix2 ⟨t.val * 256 + r.val, by have := point_lt t; omega⟩ l) from pay13_at (n := 0) (point_lt t) (by omega) (x_at m c t) (m_at m c t) (s0_at m c t _) r l).trans ?_
    blk_ext [place t]
  · rw [outsAt0_B m c t h]
    frame_out
    refine (show _ = Gy (m ((c : Thread nD τ).loc main_arg0)) (m ((c : Thread nD τ).loc main_arg4)) (m ((c : Thread nD τ).loc main_arg5)) (m ((c : Thread nD τ).loc main_arg9)) 0 (by omega) (ix2 ⟨t.val * 256 + r.val, by have := point_lt t; omega⟩ l) from pay13_at (n := 0) (point_lt t) (by omega) (x_at m c t) (m_at m c t) (s0_at m c t _) r l).trans ?_
    blk_ext [place t]

theorem final14 : (dats m 0 c).arrAt 14 (cfgs 0).N
    = Gy (m ((c : Thread nD τ).loc main_arg0)) (m ((c : Thread nD τ).loc main_arg4)) (m ((c : Thread nD τ).loc main_arg5)) (m ((c : Thread nD τ).loc main_arg9)) 1024 (by omega) := by
  refine (dats m 0 c).arrAt_eq_of_covers 14 _ (by decide +kernel) fun t _ y => ?_
  blk_simp
  obtain ⟨r, l, rfl⟩ : ∃ (r : Fin 256) (l : Fin 1024), y = (ix2 r l : S256x1024.Idx) := ⟨y 0, y 1, eq_ix2 y⟩
  rw [after0_14]
  by_cases h : t.val % 8 = 0
  · rw [outsAt0_A m c t h]
    frame_out
    refine (show _ = Gy (m ((c : Thread nD τ).loc main_arg0)) (m ((c : Thread nD τ).loc main_arg4)) (m ((c : Thread nD τ).loc main_arg5)) (m ((c : Thread nD τ).loc main_arg9)) 1024 (by omega) (ix2 ⟨t.val * 256 + r.val, by have := point_lt t; omega⟩ l) from pay20_at (n := 1024) (point_lt t) (by omega) (s1_at m c t _) (d_at m c t) r l).trans ?_
    blk_ext [place t]
  · rw [outsAt0_B m c t h]
    frame_out
    refine (show _ = Gy (m ((c : Thread nD τ).loc main_arg0)) (m ((c : Thread nD τ).loc main_arg4)) (m ((c : Thread nD τ).loc main_arg5)) (m ((c : Thread nD τ).loc main_arg9)) 1024 (by omega) (ix2 ⟨t.val * 256 + r.val, by have := point_lt t; omega⟩ l) from pay20_at (n := 1024) (point_lt t) (by omega) (s1_at m c t _) (d_at m c t) r l).trans ?_
    blk_ext [place t]

theorem final15 : (dats m 0 c).arrAt 15 (cfgs 0).N
    = Gy (m ((c : Thread nD τ).loc main_arg0)) (m ((c : Thread nD τ).loc main_arg4)) (m ((c : Thread nD τ).loc main_arg5)) (m ((c : Thread nD τ).loc main_arg9)) 2048 (by omega) := by
  refine (dats m 0 c).arrAt_eq_of_covers 15 _ (by decide +kernel) fun t _ y => ?_
  blk_simp
  obtain ⟨r, l, rfl⟩ : ∃ (r : Fin 256) (l : Fin 1024), y = (ix2 r l : S256x1024.Idx) := ⟨y 0, y 1, eq_ix2 y⟩
  rw [after0_15]
  by_cases h : t.val % 8 = 0
  · rw [outsAt0_A m c t h]
    frame_out
    refine (show _ = Gy (m ((c : Thread nD τ).loc main_arg0)) (m ((c : Thread nD τ).loc main_arg4)) (m ((c : Thread nD τ).loc main_arg5)) (m ((c : Thread nD τ).loc main_arg9)) 2048 (by omega) (ix2 ⟨t.val * 256 + r.val, by have := point_lt t; omega⟩ l) from pay25_at (n := 2048) (point_lt t) (by omega) (s2_at m c t _) (d_at m c t) r l).trans ?_
    blk_ext [place t]
  · rw [outsAt0_B m c t h]
    frame_out
    refine (show _ = Gy (m ((c : Thread nD τ).loc main_arg0)) (m ((c : Thread nD τ).loc main_arg4)) (m ((c : Thread nD τ).loc main_arg5)) (m ((c : Thread nD τ).loc main_arg9)) 2048 (by omega) (ix2 ⟨t.val * 256 + r.val, by have := point_lt t; omega⟩ l) from pay25_at (n := 2048) (point_lt t) (by omega) (s2_at m c t _) (d_at m c t) r l).trans ?_
    blk_ext [place t]

theorem final16 : (dats m 0 c).arrAt 16 (cfgs 0).N
    = Ga (m ((c : Thread nD τ).loc main_arg0)) (m ((c : Thread nD τ).loc main_arg4)) (m ((c : Thread nD τ).loc main_arg5)) (m ((c : Thread nD τ).loc main_arg6)) (m ((c : Thread nD τ).loc main_arg9)) 0 (by omega) := by
  refine (dats m 0 c).arrAt_eq_of_covers 16 _ (by decide +kernel) fun t _ y => ?_
  blk_simp
  obtain ⟨r, l, rfl⟩ : ∃ (r : Fin 256) (l : Fin 512), y = (ix2 r l : S256x512.Idx) := ⟨y 0, y 1, eq_ix2 y⟩
  rw [after0_16]
  by_cases h : t.val % 8 = 0
  · rw [outsAt0_A m c t h]
    frame_out
    refine (pay14_at (n := 0) (point_lt t) (by omega) (x_at m c t) (m_at m c t) (wa_at m c t) (s0_at m c t _) r l).trans ?_
    blk_ext [place t]
  · rw [outsAt0_B m c t h]
    frame_out
    refine (pay14_at (n := 0) (point_lt t) (by omega) (x_at m c t) (m_at m c t) (wa_at m c t) (s0_at m c t _) r l).trans ?_
    blk_ext [place t]

theorem final17 : (dats m 0 c).arrAt 17 (cfgs 0).N
    = Ga (m ((c : Thread nD τ).loc main_arg0)) (m ((c : Thread nD τ).loc main_arg4)) (m ((c : Thread nD τ).loc main_arg5)) (m ((c : Thread nD τ).loc main_arg7)) (m ((c : Thread nD τ).loc main_arg9)) 1024 (by omega) := by
  refine (dats m 0 c).arrAt_eq_of_covers 17 _ (by decide +kernel) fun t _ y => ?_
  blk_simp
  obtain ⟨r, l, rfl⟩ : ∃ (r : Fin 256) (l : Fin 512), y = (ix2 r l : S256x512.Idx) := ⟨y 0, y 1, eq_ix2 y⟩
  rw [after0_17]
  by_cases h : t.val % 8 = 0
  · rw [outsAt0_A m c t h]
    frame_out
    refine (pay21_at (n := 1024) (point_lt t) (by omega) (wc_at m c t) (s1_at m c t _) (d_at m c t) r l).trans ?_
    blk_ext [place t]
  · rw [outsAt0_B m c t h]
    frame_out
    refine (pay21_at (n := 1024) (point_lt t) (by omega) (wc_at m c t) (s1_at m c t _) (d_at m c t) r l).trans ?_
    blk_ext [place t]

theorem final18 : (dats m 0 c).arrAt 18 (cfgs 0).N
    = Ga (m ((c : Thread nD τ).loc main_arg0)) (m ((c : Thread nD τ).loc main_arg4)) (m ((c : Thread nD τ).loc main_arg5)) (m ((c : Thread nD τ).loc main_arg8)) (m ((c : Thread nD τ).loc main_arg9)) 2048 (by omega) := by
  refine (dats m 0 c).arrAt_eq_of_covers 18 _ (by decide +kernel) fun t _ y => ?_
  blk_simp
  obtain ⟨r, l, rfl⟩ : ∃ (r : Fin 256) (l : Fin 512), y = (ix2 r l : S256x512.Idx) := ⟨y 0, y 1, eq_ix2 y⟩
  rw [after0_18]
  by_cases h : t.val % 8 = 0
  · rw [outsAt0_A m c t h]
    frame_out
    refine (pay26_at (n := 2048) (point_lt t) (by omega) (ws_at m c t) (s2_at m c t _) (d_at m c t) r l).trans ?_
    blk_ext [place t]
  · rw [outsAt0_B m c t h]
    frame_out
    refine (pay26_at (n := 2048) (point_lt t) (by omega) (ws_at m c t) (s2_at m c t _) (d_at m c t) r l).trans ?_
    blk_ext [place t]

theorem final19 : (dats m 0 c).arrAt 19 (cfgs 0).N
    = Gl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 19 _ (by decide +kernel) fun t _ y => ?_
  blk_simp
  rw [after0_19]
  by_cases h : t.val % 8 = 0
  · rw [outsAt0_A m c t h]
    frame_out
    refine (three (fun y : S256x3072.Idx => Gl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 ⟨t.val * 256 + (y 0).val, by have := point_lt t; have := (y 0).isLt; simp at this; omega⟩ (y 1)))
      _ _ _ _ _ _ _ y (fun x => ?_) (fun x => ?_) (fun x => ?_)).trans ?_
    · obtain ⟨r, q, rfl⟩ : ∃ (r : Fin 256) (q : Fin 1024), x = (ix2 r q : S256x1024.Idx) := ⟨x 0, x 1, eq_ix2 x⟩
      exact (pay2_at (n := 2048) (point_lt t) (by omega) (y2_at m c t) (s2_at m c t _) (d_at m c t) r q).trans (Dl_2 _ _ _ _ _ _ _ _ _ _ _ q).symm
    · obtain ⟨r, q, rfl⟩ : ∃ (r : Fin 256) (q : Fin 1024), x = (ix2 r q : S256x1024.Idx) := ⟨x 0, x 1, eq_ix2 x⟩
      exact (pay23_at (n := 1024) (point_lt t) (by omega) (y1_at m c t) (s1_at m c t _) (d_at m c t) r q).trans (Dl_1 _ _ _ _ _ _ _ _ _ _ _ q).symm
    · obtain ⟨r, q, rfl⟩ : ∃ (r : Fin 256) (q : Fin 1024), x = (ix2 r q : S256x1024.Idx) := ⟨x 0, x 1, eq_ix2 x⟩
      exact (pay16_at (n := 0) (point_lt t) (by omega) (x_at m c t) (m_at m c t) (y0_at m c t) (s0_at m c t _) r q).trans (Dl_0 _ _ _ _ _ _ _ _ _ _ _ q).symm
    · obtain ⟨r, l, rfl⟩ : ∃ (r : Fin 256) (l : Fin 3072), y = (ix2 r l : S256x3072.Idx) := ⟨y 0, y 1, eq_ix2 y⟩
      blk_ext [place t]
  · rw [outsAt0_B m c t h]
    frame_out
    refine (three (fun y : S256x3072.Idx => Gl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 ⟨t.val * 256 + (y 0).val, by have := point_lt t; have := (y 0).isLt; simp at this; omega⟩ (y 1)))
      _ _ _ _ _ _ _ y (fun x => ?_) (fun x => ?_) (fun x => ?_)).trans ?_
    · obtain ⟨r, q, rfl⟩ : ∃ (r : Fin 256) (q : Fin 1024), x = (ix2 r q : S256x1024.Idx) := ⟨x 0, x 1, eq_ix2 x⟩
      exact (pay2_at (n := 2048) (point_lt t) (by omega) (y2_at m c t) (s2_at m c t _) (d_at m c t) r q).trans (Dl_2 _ _ _ _ _ _ _ _ _ _ _ q).symm
    · obtain ⟨r, q, rfl⟩ : ∃ (r : Fin 256) (q : Fin 1024), x = (ix2 r q : S256x1024.Idx) := ⟨x 0, x 1, eq_ix2 x⟩
      exact (pay23_at (n := 1024) (point_lt t) (by omega) (y1_at m c t) (s1_at m c t _) (d_at m c t) r q).trans (Dl_1 _ _ _ _ _ _ _ _ _ _ _ q).symm
    · obtain ⟨r, q, rfl⟩ : ∃ (r : Fin 256) (q : Fin 1024), x = (ix2 r q : S256x1024.Idx) := ⟨x 0, x 1, eq_ix2 x⟩
      exact (pay16_at (n := 0) (point_lt t) (by omega) (x_at m c t) (m_at m c t) (y0_at m c t) (s0_at m c t _) r q).trans (Dl_0 _ _ _ _ _ _ _ _ _ _ _ q).symm
    · obtain ⟨r, l, rfl⟩ : ∃ (r : Fin 256) (l : Fin 3072), y = (ix2 r l : S256x3072.Idx) := ⟨y 0, y 1, eq_ix2 y⟩
      blk_ext [place t]

/-- What grid point `t` adds to the bias's gradient. -/
def part (t : Fin cfg0.N) : S1x3072.Idx → EReal := fun j =>
  ∑ k : Fin 256, Dl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨t.val * 256 + k.val, by have := point_lt t; omega⟩ (j 1)

theorem final20 : (dats m 0 c).arrAt 20 (cfgs 0).N
    = Gb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 20 t0_7 (by decide +kernel) _ fun j => ?_
  obtain ⟨r, q, rfl⟩ : ∃ (r : Fin 1) (q : Fin 3072), j = (ix2 r q : S1x3072.Idx) := ⟨j 0, j 1, eq_ix2 j⟩
  blk_simp
  rw [after0_20, Pipeline.eq_sum_fin_of_reset_step_apply_last (fun n h => (outsAt0 m c n h).2.2.2.2.2.2.2.2) 8 (fun _ => 0) (part m c)
    (fun t h y => by
      rw [outsAt0_A m c t h]; frame_open
      simp (disch := decide) only [↓ View.readCov_skip, ↓ View.readCov_cons_toLoadRect, ↓ View.readCov_fill]
      frame_out
      refine three1 (fun y => 0 + part m c t y) _ _ _ _ _ _ _ y (fun x => ?_) (fun x => ?_) (fun x => ?_)
      · obtain ⟨r, q, rfl⟩ : ∃ (r : Fin 1) (q : Fin 1024), x = (ix2 r q : S1x1024.Idx) := ⟨x 0, x 1, eq_ix2 x⟩
        exact (pay3_at (n := 2048) (point_lt t) (by omega) (y2_at m c t) (s2_at m c t _) (d_at m c t) r q).trans (congrArg₂ (· + ·) (pay4_at _)
          (Finset.sum_congr rfl fun k _ => (Dl_2 _ _ _ _ _ _ _ _ _ _ _ q).symm))
      · obtain ⟨r, q, rfl⟩ : ∃ (r : Fin 1) (q : Fin 1024), x = (ix2 r q : S1x1024.Idx) := ⟨x 0, x 1, eq_ix2 x⟩
        exact (pay24_at (n := 1024) (point_lt t) (by omega) (y1_at m c t) (s1_at m c t _) (d_at m c t) r q).trans (congrArg₂ (· + ·) (pay4_at _)
          (Finset.sum_congr rfl fun k _ => (Dl_1 _ _ _ _ _ _ _ _ _ _ _ q).symm))
      · obtain ⟨r, q, rfl⟩ : ∃ (r : Fin 1) (q : Fin 1024), x = (ix2 r q : S1x1024.Idx) := ⟨x 0, x 1, eq_ix2 x⟩
        exact (pay19_at (n := 0) (point_lt t) (by omega) (x_at m c t) (m_at m c t) (y0_at m c t) (s0_at m c t _) r q).trans (congrArg₂ (· + ·) (pay4_at _)
          (Finset.sum_congr rfl fun k _ => (Dl_0 _ _ _ _ _ _ _ _ _ _ _ q).symm)))
    (fun t h y => by
      rw [outsAt0_B m c t h]; frame_out
      refine three1 (fun y => (outsAt0 m c (t.val - 1) (Nat.lt_of_le_of_lt (Nat.sub_le _ _) t.isLt)).2.2.2.2.2.2.2.2 y + part m c t y) _ _ _ _ _ _ _ y (fun x => ?_) (fun x => ?_) (fun x => ?_)
      · obtain ⟨r, q, rfl⟩ : ∃ (r : Fin 1) (q : Fin 1024), x = (ix2 r q : S1x1024.Idx) := ⟨x 0, x 1, eq_ix2 x⟩
        exact (pay3_at (n := 2048) (point_lt t) (by omega) (y2_at m c t) (s2_at m c t _) (d_at m c t) r q).trans (congrArg₂ (· + ·) (congrArg (outsAt0 m c (t.val - 1) (Nat.lt_of_le_of_lt (Nat.sub_le _ _) t.isLt)).2.2.2.2.2.2.2.2 (by funext k; fin_cases k <;> exact Fin.ext (by simp)))
          (Finset.sum_congr rfl fun k _ => (Dl_2 _ _ _ _ _ _ _ _ _ _ _ q).symm))
      · obtain ⟨r, q, rfl⟩ : ∃ (r : Fin 1) (q : Fin 1024), x = (ix2 r q : S1x1024.Idx) := ⟨x 0, x 1, eq_ix2 x⟩
        exact (pay24_at (n := 1024) (point_lt t) (by omega) (y1_at m c t) (s1_at m c t _) (d_at m c t) r q).trans (congrArg₂ (· + ·) (congrArg (outsAt0 m c (t.val - 1) (Nat.lt_of_le_of_lt (Nat.sub_le _ _) t.isLt)).2.2.2.2.2.2.2.2 (by funext k; fin_cases k <;> exact Fin.ext (by simp)))
          (Finset.sum_congr rfl fun k _ => (Dl_1 _ _ _ _ _ _ _ _ _ _ _ q).symm))
      · obtain ⟨r, q, rfl⟩ : ∃ (r : Fin 1) (q : Fin 1024), x = (ix2 r q : S1x1024.Idx) := ⟨x 0, x 1, eq_ix2 x⟩
        exact (pay19_at (n := 0) (point_lt t) (by omega) (x_at m c t) (m_at m c t) (y0_at m c t) (s0_at m c t _) r q).trans (congrArg₂ (· + ·) (congrArg (outsAt0 m c (t.val - 1) (Nat.lt_of_le_of_lt (Nat.sub_le _ _) t.isLt)).2.2.2.2.2.2.2.2 (by funext k; fin_cases k <;> exact Fin.ext (by simp)))
          (Finset.sum_congr rfl fun k _ => (Dl_0 _ _ _ _ _ _ _ _ _ _ _ q).symm)))
    (le_of_eq N_0) t0_7 rfl _, zero_add]
  refine Eq.trans ?_ (Fin.sum_univ_one (fun _ : Fin 1 => Gb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r q)))
  refine Fin.sum_points_lanes_congr 8 fun t k ha hl => ?_
  have : t.val % 8 = t.val := Nat.mod_eq_of_lt (point_lt t)
  simp only [this]

end Cert.Mix

end
-- ==== Proof.MixClaim.lean ====
/-
  The gradient of the gated merge: kernel and reference end with equal results.
-/
module

public import proofs.«01_k».proof.Defs
public import proofs.«01_k».proof.Proof.MixValue

@[expose] public section

set_option maxRecDepth 16384

noncomputable section

open Idealize.ShloMosaic Idealize.ShloMosaic.TcCoe Idealize.SL.Sem

namespace Cert.Mix

/-! The reference's nine results are the formulas of the kernel's arrays. -/

variable (x : FVec Ideal Reference4Ideal.S2048x1024 .f32) (o : FVec Ideal Reference4Ideal.S2048x512 .bf16) (c : FVec Ideal Reference4Ideal.S2048x512 .bf16) (z : FVec Ideal Reference4Ideal.S2048x512 .bf16) (g : FVec Ideal Reference4Ideal.S2048x3072 .f32) (b : FVec Ideal Reference4Ideal.S4x3072 .f32) (wa : FVec Ideal Reference4Ideal.S512x1024 .f32) (wc : FVec Ideal Reference4Ideal.S512x1024 .f32) (ws : FVec Ideal Reference4Ideal.S512x1024 .f32) (wm : FVec Ideal Reference4Ideal.S1024x1024 .f32)

theorem res56 : Reference4Ideal.Read.val_main_v56 (F := Ideal) o c z g b wa wc ws = Gm o c z g b wa wc ws := by
  funext j
  exact (congrArg _ (eq_ix2 j)).trans (ref56 o c z g b wa wc ws (j 0) (j 1))

theorem res57 : Reference4Ideal.Read.val_main_v57 (F := Ideal) x g b wm = Gy x g b wm 0 (by omega) := by
  funext j
  exact (congrArg _ (eq_ix2 j)).trans (ref57 x g b wm (j 0) (j 1))

theorem res58 : Reference4Ideal.Read.val_main_v58 (F := Ideal) x g b wm = Gy x g b wm 1024 (by omega) := by
  funext j
  exact (congrArg _ (eq_ix2 j)).trans (ref58 x g b wm (j 0) (j 1))

theorem res59 : Reference4Ideal.Read.val_main_v59 (F := Ideal) x g b wm = Gy x g b wm 2048 (by omega) := by
  funext j
  exact (congrArg _ (eq_ix2 j)).trans (ref59 x g b wm (j 0) (j 1))

theorem res55 : Reference4Ideal.Read.val_main_v55 (F := Ideal) x g b wa wm = Ga x g b wa wm 0 (by omega) := by
  funext j
  exact (congrArg _ (eq_ix2 j)).trans (ref55 x g b wa wm (j 0) (j 1))

theorem res54 : Reference4Ideal.Read.val_main_v54 (F := Ideal) x g b wc wm = Ga x g b wc wm 1024 (by omega) := by
  funext j
  exact (congrArg _ (eq_ix2 j)).trans (ref54 x g b wc wm (j 0) (j 1))

theorem res53 : Reference4Ideal.Read.val_main_v53 (F := Ideal) x g b ws wm = Ga x g b ws wm 2048 (by omega) := by
  funext j
  exact (congrArg _ (eq_ix2 j)).trans (ref53 x g b ws wm (j 0) (j 1))

theorem res60 : Reference4Ideal.Read.val_main_v60 (F := Ideal) x o c z g b wa wc ws wm = Gl x o c z g b wa wc ws wm := by
  funext j
  exact (congrArg _ (eq_ix2 j)).trans (ref60 x o c z g b wa wc ws wm (j 0) (j 1))

theorem res61 : Reference4Ideal.Read.val_main_v61 (F := Ideal) x o c z g b wa wc ws wm = Gb x o c z g b wa wc ws wm := by
  funext j
  exact (congrArg _ (eq_ix2 j)).trans (ref61 x o c z g b wa wc ws wm (j 0) (j 1))

/-- The reference keeps its arguments; it has no semaphore. -/
theorem frame_reference : Cert.quiescent_Reference4Ideal := by
  intro m g _
  exact (θ_run Reference4Ideal.defs _ _).mono
    (fun r h => ⟨fun c => (h c).2.2.2.2.2.2.2.2.2, sem_eq_zero_of_no_sems (by decide) r.2⟩) (Reference4Ideal.Value.run (F := Ideal) m g)

section

open Cert.Reference4Ideal

/-- The reference ends with the formulas in its results, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v56) = Gm (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v57) = Gy (m ((c.tc : Thread nD τ).loc main_arg0)) (m ((c.tc : Thread nD τ).loc main_arg4)) (m ((c.tc : Thread nD τ).loc main_arg5)) (m ((c.tc : Thread nD τ).loc main_arg9)) 0 (by omega)
      ∧ r.2.mem ((c.tc : Thread nD τ).loc main_v58) = Gy (m ((c.tc : Thread nD τ).loc main_arg0)) (m ((c.tc : Thread nD τ).loc main_arg4)) (m ((c.tc : Thread nD τ).loc main_arg5)) (m ((c.tc : Thread nD τ).loc main_arg9)) 1024 (by omega)
      ∧ r.2.mem ((c.tc : Thread nD τ).loc main_v59) = Gy (m ((c.tc : Thread nD τ).loc main_arg0)) (m ((c.tc : Thread nD τ).loc main_arg4)) (m ((c.tc : Thread nD τ).loc main_arg5)) (m ((c.tc : Thread nD τ).loc main_arg9)) 2048 (by omega)
      ∧ r.2.mem ((c.tc : Thread nD τ).loc main_v55) = Ga (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg9)) 0 (by omega)
      ∧ r.2.mem ((c.tc : Thread nD τ).loc main_v54) = Ga (m ((c.tc : Thread nD τ).loc main_arg0)) (m ((c.tc : Thread nD τ).loc main_arg4)) (m ((c.tc : Thread nD τ).loc main_arg5)) (m ((c.tc : Thread nD τ).loc main_arg7)) (m ((c.tc : Thread nD τ).loc main_arg9)) 1024 (by omega)
      ∧ r.2.mem ((c.tc : Thread nD τ).loc main_v53) = Ga (m ((c.tc : Thread nD τ).loc main_arg0)) (m ((c.tc : Thread nD τ).loc main_arg4)) (m ((c.tc : Thread nD τ).loc main_arg5)) (m ((c.tc : Thread nD τ).loc main_arg8)) (m ((c.tc : Thread nD τ).loc main_arg9)) 2048 (by omega)
      ∧ r.2.mem ((c.tc : Thread nD τ).loc main_v60) = Gl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v61) = Gb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Read.val_main_v56_eq _ _ _ _ _ _ _ _).trans (res56 _ _ _ _ _ _ _ _)),
      (h c).2.1.trans ((Read.val_main_v57_eq _ _ _ _).trans (res57 _ _ _ _)),
      (h c).2.2.1.trans ((Read.val_main_v58_eq _ _ _ _).trans (res58 _ _ _ _)),
      (h c).2.2.2.1.trans ((Read.val_main_v59_eq _ _ _ _).trans (res59 _ _ _ _)),
      (h c).2.2.2.2.1.trans ((Read.val_main_v55_eq _ _ _ _ _).trans (res55 _ _ _ _ _)),
      (h c).2.2.2.2.2.1.trans ((Read.val_main_v54_eq _ _ _ _ _).trans (res54 _ _ _ _ _)),
      (h c).2.2.2.2.2.2.1.trans ((Read.val_main_v53_eq _ _ _ _ _).trans (res53 _ _ _ _ _)),
      (h c).2.2.2.2.2.2.2.1.trans ((Read.val_main_v60_eq _ _ _ _ _ _ _ _ _ _).trans (res60 _ _ _ _ _ _ _ _ _ _)),
      (h c).2.2.2.2.2.2.2.2.1.trans ((Read.val_main_v61_eq _ _ _ _ _ _ _ _ _ _).trans (res61 _ _ _ _ _ _ _ _ _ _)),
      (h c).2.2.2.2.2.2.2.2.2⟩) (Value.run (F := Ideal) m g)

end

theorem algebraic : Cert.algebraic_Kernel4Ideal_Reference4Ideal := by
  pair_intro
  · run_from Cert.Kernel4Ideal.Value.run_blocks m g
  · run_from run_reference m' g'
    · exact (final12 m c).symm
    · exact (final13 m c).symm
    · exact (final14 m c).symm
    · exact (final15 m c).symm
    · exact (final16 m c).symm
    · exact (final17 m c).symm
    · exact (final18 m c).symm
    · exact (final19 m c).symm
    · exact (final20 m c).symm

end Cert.Mix

end
-- ==== Proof.TnPiecesClaim.lean ====
/-
  The weight gradients of all projections of the normed input, one above the other: the formula, the reference read at an index,
  the array the kernel leaves, and the claims.
-/
module

public import proofs.«01_k».proof.Defs
public import proofs.«01_k».proof.Proof.RmsInRef
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnPieces

open Cert.RmsIn (glue)

section

open Cert.Kernel5Ideal Cert.Kernel5Ideal.Gen

/-- The seven cotangents side by side, at token `k` and column `p`. -/
def left (a : FVec Ideal S2048x512 .bf16) (b : FVec Ideal S2048x256 .bf16) (c d e f : FVec Ideal S2048x512 .bf16) (g : FVec Ideal S2048x3072 .bf16) (k : Fin 2048) (p : Fin 5888) : EReal :=
  glue (fun i : Fin 512 => a (ix2 k i)) (glue (fun i : Fin 256 => b (ix2 k i)) (glue (fun i : Fin 512 => c (ix2 k i)) (glue (fun i : Fin 512 => d (ix2 k i)) (glue (fun i : Fin 512 => e (ix2 k i)) (glue (fun i : Fin 512 => f (ix2 k i)) (fun i : Fin 3072 => g (ix2 k i))))))) p

/-- The seven gradients, one above the other. -/
def G (a : FVec Ideal S2048x512 .bf16) (b : FVec Ideal S2048x256 .bf16) (c d e f : FVec Ideal S2048x512 .bf16) (g : FVec Ideal S2048x3072 .bf16) (h : FVec Ideal S2048x1024 .bf16) : FVec Ideal S5888x1024 .bf16 :=
  fun j => ∑ k : Fin 2048, left a b c d e f g k (j 0) * h (ix2 k (j 1))

section

variable (a : FVec Ideal S2048x512 .bf16) (b : FVec Ideal S2048x256 .bf16) (c d e f : FVec Ideal S2048x512 .bf16) (g : FVec Ideal S2048x3072 .bf16) (k : Fin 2048)

theorem left_0 (q : Fin 512) {h : q.val < 5888} : left a b c d e f g k ⟨q.val, h⟩ = a (ix2 k q) := by
  have p0 : q.val < 512 := by omega
  simp only [left, glue, dif_pos p0]

theorem left_1 (q : Fin 256) {h : 512 + q.val < 5888} : left a b c d e f g k ⟨512 + q.val, h⟩ = b (ix2 k q) := by
  have n0 : ¬(512 + q.val < 512) := by omega
  have p1 : 512 + q.val - 512 < 256 := by omega
  simp only [left, glue, dif_neg n0, dif_pos p1]
  exact congrArg (fun i => b (ix2 k i)) (Fin.ext (by dsimp only; omega))

theorem left_2 (q : Fin 512) {h : 768 + q.val < 5888} : left a b c d e f g k ⟨768 + q.val, h⟩ = c (ix2 k q) := by
  have n0 : ¬(768 + q.val < 512) := by omega
  have n1 : ¬(768 + q.val - 512 < 256) := by omega
  have p2 : 768 + q.val - 512 - 256 < 512 := by omega
  simp only [left, glue, dif_neg n0, dif_neg n1, dif_pos p2]
  exact congrArg (fun i => c (ix2 k i)) (Fin.ext (by dsimp only; omega))

theorem left_3 (q : Fin 512) {h : 1280 + q.val < 5888} : left a b c d e f g k ⟨1280 + q.val, h⟩ = d (ix2 k q) := by
  have n0 : ¬(1280 + q.val < 512) := by omega
  have n1 : ¬(1280 + q.val - 512 < 256) := by omega
  have n2 : ¬(1280 + q.val - 512 - 256 < 512) := by omega
  have p3 : 1280 + q.val - 512 - 256 - 512 < 512 := by omega
  simp only [left, glue, dif_neg n0, dif_neg n1, dif_neg n2, dif_pos p3]
  exact congrArg (fun i => d (ix2 k i)) (Fin.ext (by dsimp only; omega))

theorem left_4 (q : Fin 512) {h : 1792 + q.val < 5888} : left a b c d e f g k ⟨1792 + q.val, h⟩ = e (ix2 k q) := by
  have n0 : ¬(1792 + q.val < 512) := by omega
  have n1 : ¬(1792 + q.val - 512 < 256) := by omega
  have n2 : ¬(1792 + q.val - 512 - 256 < 512) := by omega
  have n3 : ¬(1792 + q.val - 512 - 256 - 512 < 512) := by omega
  have p4 : 1792 + q.val - 512 - 256 - 512 - 512 < 512 := by omega
  simp only [left, glue, dif_neg n0, dif_neg n1, dif_neg n2, dif_neg n3, dif_pos p4]
  exact congrArg (fun i => e (ix2 k i)) (Fin.ext (by dsimp only; omega))

theorem left_5 (q : Fin 512) {h : 2304 + q.val < 5888} : left a b c d e f g k ⟨2304 + q.val, h⟩ = f (ix2 k q) := by
  have n0 : ¬(2304 + q.val < 512) := by omega
  have n1 : ¬(2304 + q.val - 512 < 256) := by omega
  have n2 : ¬(2304 + q.val - 512 - 256 < 512) := by omega
  have n3 : ¬(2304 + q.val - 512 - 256 - 512 < 512) := by omega
  have n4 : ¬(2304 + q.val - 512 - 256 - 512 - 512 < 512) := by omega
  have p5 : 2304 + q.val - 512 - 256 - 512 - 512 - 512 < 512 := by omega
  simp only [left, glue, dif_neg n0, dif_neg n1, dif_neg n2, dif_neg n3, dif_neg n4, dif_pos p5]
  exact congrArg (fun i => f (ix2 k i)) (Fin.ext (by dsimp only; omega))

theorem left_6 (q : Fin 3072) {h : 2816 + q.val < 5888} : left a b c d e f g k ⟨2816 + q.val, h⟩ = g (ix2 k q) := by
  have n0 : ¬(2816 + q.val < 512) := by omega
  have n1 : ¬(2816 + q.val - 512 < 256) := by omega
  have n2 : ¬(2816 + q.val - 512 - 256 < 512) := by omega
  have n3 : ¬(2816 + q.val - 512 - 256 - 512 < 512) := by omega
  have n4 : ¬(2816 + q.val - 512 - 256 - 512 - 512 < 512) := by omega
  have n5 : ¬(2816 + q.val - 512 - 256 - 512 - 512 - 512 < 512) := by omega
  simp only [left, glue, dif_neg n0, dif_neg n1, dif_neg n2, dif_neg n3, dif_neg n4, dif_neg n5]
  exact congrArg (fun i => g (ix2 k i)) (Fin.ext (by dsimp only; omega))

end

theorem place : ∀ t : Fin cfg0.N, win0_0.index t = ![t.val % 4, 0] ∧ win0_1.index t = ![t.val % 4, 0] ∧ win0_2.index t = ![t.val % 4, 0] ∧ win0_3.index t = ![t.val % 4, 0] ∧ win0_4.index t = ![t.val % 4, 0] ∧ win0_5.index t = ![t.val % 4, 0] ∧ win0_6.index t = ![t.val % 4, 0]
    ∧ win0_7.index t = ![t.val % 4, t.val / 4] ∧ win0_8.index t = ![0, t.val / 4] :=
  (by decide +kernel : ∀ t : Fin grid0.N, _)

theorem point_lt (t : Fin cfg0.N) : t.val < 8 := lt_of_lt_of_eq t.isLt N_0

/-- Seven row blocks stored one above the other, over whatever was there: together they are the array `f` when each is its rows of `f`. -/
theorem seven {e : EltTy} [∀ e, Nonempty (Elt Ideal e)] (f : S5888x512.Idx → Elt Ideal e) (u0 : S512x512.Idx → Elt Ideal e) (u1 : S256x512.Idx → Elt Ideal e) (u2 : S512x512.Idx → Elt Ideal e) (u3 : S512x512.Idx → Elt Ideal e) (u4 : S512x512.Idx → Elt Ideal e) (u5 : S512x512.Idx → Elt Ideal e) (u6 : S3072x512.Idx → Elt Ideal e)
    (i0 : ∀ a, (![0, 0] : Fin 2 → ℕ) a + (![512, 512] : Fin 2 → ℕ) a ≤ S5888x512.size a)
    (i1 : ∀ a, (![512, 0] : Fin 2 → ℕ) a + (![256, 512] : Fin 2 → ℕ) a ≤ S5888x512.size a)
    (i2 : ∀ a, (![768, 0] : Fin 2 → ℕ) a + (![512, 512] : Fin 2 → ℕ) a ≤ S5888x512.size a)
    (i3 : ∀ a, (![1280, 0] : Fin 2 → ℕ) a + (![512, 512] : Fin 2 → ℕ) a ≤ S5888x512.size a)
    (i4 : ∀ a, (![1792, 0] : Fin 2 → ℕ) a + (![512, 512] : Fin 2 → ℕ) a ≤ S5888x512.size a)
    (i5 : ∀ a, (![2304, 0] : Fin 2 → ℕ) a + (![512, 512] : Fin 2 → ℕ) a ≤ S5888x512.size a)
    (i6 : ∀ a, (![2816, 0] : Fin 2 → ℕ) a + (![3072, 512] : Fin 2 → ℕ) a ≤ S5888x512.size a)
    (L : List (View.Piece (Elt Ideal) S5888x512 e)) (y : S5888x512.Idx)
    (h0 : ∀ (r : Fin 512) (q : Fin 512), u0 (ix2 r q) = f (ix2 ⟨r.val, by omega⟩ q))
    (h1 : ∀ (r : Fin 256) (q : Fin 512), u1 (ix2 r q) = f (ix2 ⟨512 + r.val, by omega⟩ q))
    (h2 : ∀ (r : Fin 512) (q : Fin 512), u2 (ix2 r q) = f (ix2 ⟨768 + r.val, by omega⟩ q))
    (h3 : ∀ (r : Fin 512) (q : Fin 512), u3 (ix2 r q) = f (ix2 ⟨1280 + r.val, by omega⟩ q))
    (h4 : ∀ (r : Fin 512) (q : Fin 512), u4 (ix2 r q) = f (ix2 ⟨1792 + r.val, by omega⟩ q))
    (h5 : ∀ (r : Fin 512) (q : Fin 512), u5 (ix2 r q) = f (ix2 ⟨2304 + r.val, by omega⟩ q))
    (h6 : ∀ (r : Fin 3072) (q : Fin 512), u6 (ix2 r q) = f (ix2 ⟨2816 + r.val, by omega⟩ q)) :
    View.canon (⟨Rect.unit ![2816, 0] ![3072, 512] i6, u6⟩ :: ⟨Rect.unit ![2304, 0] ![512, 512] i5, u5⟩ :: ⟨Rect.unit ![1792, 0] ![512, 512] i4, u4⟩ :: ⟨Rect.unit ![1280, 0] ![512, 512] i3, u3⟩ :: ⟨Rect.unit ![768, 0] ![512, 512] i2, u2⟩ :: ⟨Rect.unit ![512, 0] ![256, 512] i1, u1⟩ :: ⟨Rect.unit ![0, 0] ![512, 512] i0, u0⟩ :: L) y = f y := by
  refine View.canon_append_of_piecesOf f L [⟨Rect.unit ![2816, 0] ![3072, 512] i6, u6⟩, ⟨Rect.unit ![2304, 0] ![512, 512] i5, u5⟩, ⟨Rect.unit ![1792, 0] ![512, 512] i4, u4⟩, ⟨Rect.unit ![1280, 0] ![512, 512] i3, u3⟩, ⟨Rect.unit ![768, 0] ![512, 512] i2, u2⟩, ⟨Rect.unit ![512, 0] ![256, 512] i1, u1⟩, ⟨Rect.unit ![0, 0] ![512, 512] i0, u0⟩]
    ⟨fun x => ?_, fun x => ?_, fun x => ?_, fun x => ?_, fun x => ?_, fun x => ?_, fun x => ?_, trivial⟩ y ?_
  · exact ((congrArg u6 (eq_ix2 x)).trans (h6 (x 0) (x 1))).trans (congrArg f (by funext k; fin_cases k <;> exact Fin.ext (by simp)))
  · exact ((congrArg u5 (eq_ix2 x)).trans (h5 (x 0) (x 1))).trans (congrArg f (by funext k; fin_cases k <;> exact Fin.ext (by simp)))
  · exact ((congrArg u4 (eq_ix2 x)).trans (h4 (x 0) (x 1))).trans (congrArg f (by funext k; fin_cases k <;> exact Fin.ext (by simp)))
  · exact ((congrArg u3 (eq_ix2 x)).trans (h3 (x 0) (x 1))).trans (congrArg f (by funext k; fin_cases k <;> exact Fin.ext (by simp)))
  · exact ((congrArg u2 (eq_ix2 x)).trans (h2 (x 0) (x 1))).trans (congrArg f (by funext k; fin_cases k <;> exact Fin.ext (by simp)))
  · exact ((congrArg u1 (eq_ix2 x)).trans (h1 (x 0) (x 1))).trans (congrArg f (by funext k; fin_cases k <;> exact Fin.ext (by simp)))
  · exact ((congrArg u0 (eq_ix2 x)).trans (h0 (x 0) (x 1))).trans (congrArg f (by funext k; fin_cases k <;> exact Fin.ext (by simp)))
  · have y0 : (y 0).val < 5888 := (y 0).isLt
    have y1 : (y 1).val < 512 := (y 1).isLt
    by_cases a0 : (y 0).val < 512
    · have hy : y ∈ (Rect.unit (s := S5888x512) ![0, 0] ![512, 512] i0).set :=
        Rect.mem_set_unit.mpr (by intro k; fin_cases k <;> simp <;> omega)
      exact ⟨⟨Rect.unit ![0, 0] ![512, 512] i0, u0⟩, by simp, hy⟩
    · skip
      by_cases a1 : (y 0).val < 768
      · have hy : y ∈ (Rect.unit (s := S5888x512) ![512, 0] ![256, 512] i1).set :=
          Rect.mem_set_unit.mpr (by intro k; fin_cases k <;> simp <;> omega)
        exact ⟨⟨Rect.unit ![512, 0] ![256, 512] i1, u1⟩, by simp, hy⟩
      · skip
        by_cases a2 : (y 0).val < 1280
        · have hy : y ∈ (Rect.unit (s := S5888x512) ![768, 0] ![512, 512] i2).set :=
            Rect.mem_set_unit.mpr (by intro k; fin_cases k <;> simp <;> omega)
          exact ⟨⟨Rect.unit ![768, 0] ![512, 512] i2, u2⟩, by simp, hy⟩
        · skip
          by_cases a3 : (y 0).val < 1792
          · have hy : y ∈ (Rect.unit (s := S5888x512) ![1280, 0] ![512, 512] i3).set :=
              Rect.mem_set_unit.mpr (by intro k; fin_cases k <;> simp <;> omega)
            exact ⟨⟨Rect.unit ![1280, 0] ![512, 512] i3, u3⟩, by simp, hy⟩
          · skip
            by_cases a4 : (y 0).val < 2304
            · have hy : y ∈ (Rect.unit (s := S5888x512) ![1792, 0] ![512, 512] i4).set :=
                Rect.mem_set_unit.mpr (by intro k; fin_cases k <;> simp <;> omega)
              exact ⟨⟨Rect.unit ![1792, 0] ![512, 512] i4, u4⟩, by simp, hy⟩
            · skip
              by_cases a5 : (y 0).val < 2816
              · have hy : y ∈ (Rect.unit (s := S5888x512) ![2304, 0] ![512, 512] i5).set :=
                  Rect.mem_set_unit.mpr (by intro k; fin_cases k <;> simp <;> omega)
                exact ⟨⟨Rect.unit ![2304, 0] ![512, 512] i5, u5⟩, by simp, hy⟩
              · skip
                have hy : y ∈ (Rect.unit (s := S5888x512) ![2816, 0] ![3072, 512] i6).set :=
                  Rect.mem_set_unit.mpr (by intro k; fin_cases k <;> simp <;> omega)
                exact ⟨⟨Rect.unit ![2816, 0] ![3072, 512] i6, u6⟩, by simp, hy⟩

/-! Each piece's product over one row tile, added to what its rows of the accumulator held. -/

section

variable {h : FVec Ideal S2048x1024 .bf16} {t n : ℕ} (ht : t < 4) (hn : n < 2) {bh : Vec Ideal S512x512 .bf16}
  (hh : ∀ (k : Fin 512) (q : Fin 512), bh (ix2 k q) = h (ix2 ⟨t * 512 + k.val, by omega⟩ ⟨n * 512 + q.val, by omega⟩)) (q : Fin 512)

include ht hn hh in
theorem pay3_at {a : FVec Ideal S2048x512 .bf16} {ba : Vec Ideal S512x512 .bf16}
    (ha : ∀ (k : Fin 512) r, ba (ix2 k r) = a (ix2 ⟨t * 512 + k.val, by omega⟩ r)) (acc : Vec Ideal S512x512 .f32) (r : Fin 512) :
    k0_pay3 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay3, ha, hh]

include ht hn hh in
theorem pay4_at {a : FVec Ideal S2048x256 .bf16} {ba : Vec Ideal S512x256 .bf16}
    (ha : ∀ (k : Fin 512) r, ba (ix2 k r) = a (ix2 ⟨t * 512 + k.val, by omega⟩ r)) (acc : Vec Ideal S256x512 .f32) (r : Fin 256) :
    k0_pay4 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay4, ha, hh]

include ht hn hh in
theorem pay5_at {a : FVec Ideal S2048x512 .bf16} {ba : Vec Ideal S512x512 .bf16}
    (ha : ∀ (k : Fin 512) r, ba (ix2 k r) = a (ix2 ⟨t * 512 + k.val, by omega⟩ r)) (acc : Vec Ideal S512x512 .f32) (r : Fin 512) :
    k0_pay5 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay5, ha, hh]

include ht hn hh in
theorem pay6_at {a : FVec Ideal S2048x512 .bf16} {ba : Vec Ideal S512x512 .bf16}
    (ha : ∀ (k : Fin 512) r, ba (ix2 k r) = a (ix2 ⟨t * 512 + k.val, by omega⟩ r)) (acc : Vec Ideal S512x512 .f32) (r : Fin 512) :
    k0_pay6 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay6, ha, hh]

include ht hn hh in
theorem pay7_at {a : FVec Ideal S2048x512 .bf16} {ba : Vec Ideal S512x512 .bf16}
    (ha : ∀ (k : Fin 512) r, ba (ix2 k r) = a (ix2 ⟨t * 512 + k.val, by omega⟩ r)) (acc : Vec Ideal S512x512 .f32) (r : Fin 512) :
    k0_pay7 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay7, ha, hh]

include ht hn hh in
theorem pay8_at {a : FVec Ideal S2048x512 .bf16} {ba : Vec Ideal S512x512 .bf16}
    (ha : ∀ (k : Fin 512) r, ba (ix2 k r) = a (ix2 ⟨t * 512 + k.val, by omega⟩ r)) (acc : Vec Ideal S512x512 .f32) (r : Fin 512) :
    k0_pay8 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay8, ha, hh]

include ht hn hh in
theorem pay9_at {a : FVec Ideal S2048x3072 .bf16} {ba : Vec Ideal S512x3072 .bf16}
    (ha : ∀ (k : Fin 512) r, ba (ix2 k r) = a (ix2 ⟨t * 512 + k.val, by omega⟩ r)) (acc : Vec Ideal S3072x512 .f32) (r : Fin 3072) :
    k0_pay9 (F := Ideal) bh acc ba (ix2 r q)
      = acc (ix2 r q) + ∑ k : Fin 512, a (ix2 ⟨t * 512 + k.val, by omega⟩ r) * h (ix2 ⟨t * 512 + k.val, by omega⟩ ⟨n * 512 + q.val, by omega⟩) := by
  pointwise [k0_pay9, ha, hh]

end

theorem pay1_at (x : Vec Ideal S5888x512 .f32) (j : S5888x512.Idx) : (show EReal from k0_pay1 (F := Ideal) x j) = x j := rfl

theorem pay2_at (j : S5888x512.Idx) : k0_pay2 (F := Ideal) j = 0 := by
  obtain ⟨r, q, rfl⟩ : ∃ (r : Fin 5888) (q : Fin 512), j = (ix2 r q : S5888x512.Idx) := ⟨j 0, j 1, eq_ix2 j⟩
  pointwise [k0_pay2]

variable (m : (ℓ : Loc nD τ sig) → Buf (Elt Ideal) ℓ) (c : Dev nD)

theorem tile_lt (t : Fin cfg0.N) : t.val % 4 < 4 := by omega

theorem half_lt (t : Fin cfg0.N) : t.val / 4 < 2 := by have := point_lt t; omega

theorem in0_at (t : Fin cfg0.N) (k : Fin 512) (r : Fin 512) : (show EReal from iblk m c 0 t (ix2 k r))
    = (m ((c : Thread nD τ).loc main_arg0)) (ix2 ⟨t.val % 4 * 512 + k.val, by omega⟩ r) := by
  blk_ext [iblk, V_main_arg0, place t]

theorem in1_at (t : Fin cfg0.N) (k : Fin 512) (r : Fin 256) : (show EReal from iblk m c 1 t (ix2 k r))
    = (m ((c : Thread nD τ).loc main_arg1)) (ix2 ⟨t.val % 4 * 512 + k.val, by omega⟩ r) := by
  blk_ext [iblk, V_main_arg1, place t]

theorem in2_at (t : Fin cfg0.N) (k : Fin 512) (r : Fin 512) : (show EReal from iblk m c 2 t (ix2 k r))
    = (m ((c : Thread nD τ).loc main_arg2)) (ix2 ⟨t.val % 4 * 512 + k.val, by omega⟩ r) := by
  blk_ext [iblk, V_main_arg2, place t]

theorem in3_at (t : Fin cfg0.N) (k : Fin 512) (r : Fin 512) : (show EReal from iblk m c 3 t (ix2 k r))
    = (m ((c : Thread nD τ).loc main_arg3)) (ix2 ⟨t.val % 4 * 512 + k.val, by omega⟩ r) := by
  blk_ext [iblk, V_main_arg3, place t]

theorem in4_at (t : Fin cfg0.N) (k : Fin 512) (r : Fin 512) : (show EReal from iblk m c 4 t (ix2 k r))
    = (m ((c : Thread nD τ).loc main_arg4)) (ix2 ⟨t.val % 4 * 512 + k.val, by omega⟩ r) := by
  blk_ext [iblk, V_main_arg4, place t]

theorem in5_at (t : Fin cfg0.N) (k : Fin 512) (r : Fin 512) : (show EReal from iblk m c 5 t (ix2 k r))
    = (m ((c : Thread nD τ).loc main_arg5)) (ix2 ⟨t.val % 4 * 512 + k.val, by omega⟩ r) := by
  blk_ext [iblk, V_main_arg5, place t]

theorem in6_at (t : Fin cfg0.N) (k : Fin 512) (r : Fin 3072) : (show EReal from iblk m c 6 t (ix2 k r))
    = (m ((c : Thread nD τ).loc main_arg6)) (ix2 ⟨t.val % 4 * 512 + k.val, by omega⟩ r) := by
  blk_ext [iblk, V_main_arg6, place t]

theorem in7_at (t : Fin cfg0.N) (k : Fin 512) (q : Fin 512) : (show EReal from iblk m c 7 t (ix2 k q))
    = (m ((c : Thread nD τ).loc main_arg7)) (ix2 ⟨t.val % 4 * 512 + k.val, by omega⟩ ⟨t.val / 4 * 512 + q.val, by have := point_lt t; omega⟩) := by
  blk_ext [iblk, V_main_arg7, place t]

/-- What grid point `t` adds to the accumulator. -/
def part (t : Fin cfg0.N) : S5888x512.Idx → EReal := fun j =>
  ∑ k : Fin 512, left (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val % 4 * 512 + k.val, by omega⟩ (j 0)
    * (m ((c : Thread nD τ).loc main_arg7)) (ix2 ⟨t.val % 4 * 512 + k.val, by omega⟩ ⟨t.val / 4 * 512 + (j 1).val, by have := point_lt t; have := (j 1).isLt; simp at this; omega⟩)

theorem acc_A (t : Fin cfg0.N) (h : t.val % 4 = 0) (y : S5888x512.Idx) : (outsAt0 m c t.val t.isLt).2 y = 0 + part m c t y := by
  rw [outsAt0_A m c t h (by omega)]
  frame_open
  simp (disch := decide) only [↓ View.readCov_skip, ↓ View.readCov_cons_toLoadRect, ↓ View.readCov_fill]
  frame_out
  refine seven (fun y => 0 + part m c t y) _ _ _ _ _ _ _ _ _ _ _ _ _ _ _ y (fun r q => ?_) (fun r q => ?_) (fun r q => ?_) (fun r q => ?_) (fun r q => ?_) (fun r q => ?_) (fun r q => ?_)
  · exact (pay3_at (tile_lt t) (half_lt t) (in7_at m c t) q (in0_at m c t) _ r).trans (congrArg₂ (· + ·) (pay2_at _)
      (Finset.sum_congr rfl fun k _ => congrArg (· * _) (left_0 _ _ _ _ _ _ _ _ r).symm))
  · exact (pay4_at (tile_lt t) (half_lt t) (in7_at m c t) q (in1_at m c t) _ r).trans (congrArg₂ (· + ·) (pay2_at _)
      (Finset.sum_congr rfl fun k _ => congrArg (· * _) (left_1 _ _ _ _ _ _ _ _ r).symm))
  · exact (pay5_at (tile_lt t) (half_lt t) (in7_at m c t) q (in2_at m c t) _ r).trans (congrArg₂ (· + ·) (pay2_at _)
      (Finset.sum_congr rfl fun k _ => congrArg (· * _) (left_2 _ _ _ _ _ _ _ _ r).symm))
  · exact (pay6_at (tile_lt t) (half_lt t) (in7_at m c t) q (in3_at m c t) _ r).trans (congrArg₂ (· + ·) (pay2_at _)
      (Finset.sum_congr rfl fun k _ => congrArg (· * _) (left_3 _ _ _ _ _ _ _ _ r).symm))
  · exact (pay7_at (tile_lt t) (half_lt t) (in7_at m c t) q (in4_at m c t) _ r).trans (congrArg₂ (· + ·) (pay2_at _)
      (Finset.sum_congr rfl fun k _ => congrArg (· * _) (left_4 _ _ _ _ _ _ _ _ r).symm))
  · exact (pay8_at (tile_lt t) (half_lt t) (in7_at m c t) q (in5_at m c t) _ r).trans (congrArg₂ (· + ·) (pay2_at _)
      (Finset.sum_congr rfl fun k _ => congrArg (· * _) (left_5 _ _ _ _ _ _ _ _ r).symm))
  · exact (pay9_at (tile_lt t) (half_lt t) (in7_at m c t) q (in6_at m c t) _ r).trans (congrArg₂ (· + ·) (pay2_at _)
      (Finset.sum_congr rfl fun k _ => congrArg (· * _) (left_6 _ _ _ _ _ _ _ _ r).symm))

theorem acc_B (t : Fin cfg0.N) (h : ¬t.val % 4 = 0) (y : S5888x512.Idx) : (outsAt0 m c t.val t.isLt).2 y
    = (outsAt0 m c (t.val - 1) (Nat.lt_of_le_of_lt (Nat.sub_le _ _) t.isLt)).2 y + part m c t y := by
  by_cases h' : t.val % 4 = 3
  · rw [outsAt0_C m c t h h']
    frame_out
    refine seven (fun y => (outsAt0 m c (t.val - 1) (Nat.lt_of_le_of_lt (Nat.sub_le _ _) t.isLt)).2 y + part m c t y) _ _ _ _ _ _ _ _ _ _ _ _ _ _ _ y (fun r q => ?_) (fun r q => ?_) (fun r q => ?_) (fun r q => ?_) (fun r q => ?_) (fun r q => ?_) (fun r q => ?_)
    · exact (pay3_at (tile_lt t) (half_lt t) (in7_at m c t) q (in0_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_0 _ _ _ _ _ _ _ _ r).symm))
    · exact (pay4_at (tile_lt t) (half_lt t) (in7_at m c t) q (in1_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_1 _ _ _ _ _ _ _ _ r).symm))
    · exact (pay5_at (tile_lt t) (half_lt t) (in7_at m c t) q (in2_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_2 _ _ _ _ _ _ _ _ r).symm))
    · exact (pay6_at (tile_lt t) (half_lt t) (in7_at m c t) q (in3_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_3 _ _ _ _ _ _ _ _ r).symm))
    · exact (pay7_at (tile_lt t) (half_lt t) (in7_at m c t) q (in4_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_4 _ _ _ _ _ _ _ _ r).symm))
    · exact (pay8_at (tile_lt t) (half_lt t) (in7_at m c t) q (in5_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_5 _ _ _ _ _ _ _ _ r).symm))
    · exact (pay9_at (tile_lt t) (half_lt t) (in7_at m c t) q (in6_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_6 _ _ _ _ _ _ _ _ r).symm))

  · rw [outsAt0_B m c t h h']
    frame_out
    refine seven (fun y => (outsAt0 m c (t.val - 1) (Nat.lt_of_le_of_lt (Nat.sub_le _ _) t.isLt)).2 y + part m c t y) _ _ _ _ _ _ _ _ _ _ _ _ _ _ _ y (fun r q => ?_) (fun r q => ?_) (fun r q => ?_) (fun r q => ?_) (fun r q => ?_) (fun r q => ?_) (fun r q => ?_)
    · exact (pay3_at (tile_lt t) (half_lt t) (in7_at m c t) q (in0_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_0 _ _ _ _ _ _ _ _ r).symm))
    · exact (pay4_at (tile_lt t) (half_lt t) (in7_at m c t) q (in1_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_1 _ _ _ _ _ _ _ _ r).symm))
    · exact (pay5_at (tile_lt t) (half_lt t) (in7_at m c t) q (in2_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_2 _ _ _ _ _ _ _ _ r).symm))
    · exact (pay6_at (tile_lt t) (half_lt t) (in7_at m c t) q (in3_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_3 _ _ _ _ _ _ _ _ r).symm))
    · exact (pay7_at (tile_lt t) (half_lt t) (in7_at m c t) q (in4_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_4 _ _ _ _ _ _ _ _ r).symm))
    · exact (pay8_at (tile_lt t) (half_lt t) (in7_at m c t) q (in5_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_5 _ _ _ _ _ _ _ _ r).symm))
    · exact (pay9_at (tile_lt t) (half_lt t) (in7_at m c t) q (in6_at m c t) _ r).trans (congrArg₂ (· + ·) (by rw [read_unread_whole]; exact congrArg (outsAt0 m c (t.val - 1) (Nat.lt_of_le_of_lt (Nat.sub_le _ _) t.isLt)).2 (by funext k; fin_cases k <;> exact Fin.ext (by simp)))
        (Finset.sum_congr rfl fun k _ => congrArg (· * _) (left_6 _ _ _ _ _ _ _ _ r).symm))

/-- The last point of a column half writes out the accumulator. -/
theorem out_C (t : Fin cfg0.N) (h' : t.val % 4 = 3) (y : S5888x512.Idx) : (show EReal from (outsAt0 m c t.val t.isLt).1 y) = (outsAt0 m c t.val t.isLt).2 y := by
  rw [outsAt0_C m c t (by omega) h']
  frame_open
  frame_out
  rw [View.readCov_eq_canon']
  refine (pay1_at _ y).trans (congrArg _ ?_)
  funext k
  fin_cases k <;> exact Fin.ext (by simp)

theorem out_at (t : Fin cfg0.N) (h' : t.val % 4 = 3) (r : Fin 5888) (q : Fin 512) : (show EReal from (outsAt0 m c t.val t.isLt).1 (ix2 r q))
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r ⟨t.val / 4 * 512 + q.val, by have := point_lt t; omega⟩) := by
  refine (out_C m c t h' _).trans ?_
  rw [Pipeline.eq_sum_fin_of_reset_step_apply_of_flush (fun n h => (outsAt0 m c n h).2) 4 (fun _ => 0) (part m c) (acc_A m c) (acc_B m c) t h' _, zero_add]
  refine Fin.sum_mul_add_congr fun s k hk => ?_
  have a1 : (4 * (t.val / 4) + s.val) % 4 = s.val := by omega
  have a2 : (4 * (t.val / 4) + s.val) / 4 = t.val / 4 := by omega
  simp only [a1, a2]
  rfl

theorem final8 : (dats m 0 c).arrAt 8 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  obtain ⟨r, l, rfl⟩ : ∃ (r : Fin 5888) (l : Fin 512), y = (ix2 r l : S5888x512.Idx) := ⟨y 0, y 1, eq_ix2 y⟩
  rw [after0_8]
  refine (out_at m c t ((flush0_8 t).mp hf) r l).trans ?_
  blk_ext [place t]

end

section

open Cert.Reference5Ideal.Read

theorem res (a : FVec Ideal Reference5Ideal.S2048x512 .bf16) (b : FVec Ideal Reference5Ideal.S2048x256 .bf16) (c d e f : FVec Ideal Reference5Ideal.S2048x512 .bf16) (g : FVec Ideal Reference5Ideal.S2048x3072 .bf16) (h : FVec Ideal Reference5Ideal.S2048x1024 .bf16) :
    Reference5Ideal.Read.val_main_v14 (F := Ideal) a b c d e f g h = G a b c d e f g h := by
  funext j
  obtain ⟨r, q, rfl⟩ : ∃ (r : Fin 5888) (q : Fin 1024), j = (ix2 r q : Reference5Ideal.S5888x1024.Idx) := ⟨j 0, j 1, eq_ix2 j⟩
  pointwise [val_main_v14, val_main_v13, val_main_v12, val_main_v11, val_main_v9, val_main_v7, val_main_v6, val_main_v5, val_main_v4,
    val_main_v3, val_main_v2, val_main_v1, val_main_v0]
  rfl

end

/-- The reference keeps its arguments; it has no semaphore. -/
theorem frame_reference : Cert.quiescent_Reference5Ideal := by
  intro m g _
  exact (θ_run Reference5Ideal.defs _ _).mono
    (fun r h => ⟨fun c => (h c).2, sem_eq_zero_of_no_sems (by decide) r.2⟩) (Reference5Ideal.Value.run (F := Ideal) m g)

section

open Cert.Reference5Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v14) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((Read.val_main_v14_eq _ _ _ _ _ _ _ _).trans (res _ _ _ _ _ _ _ _)), (h c).2⟩) (Value.run (F := Ideal) m g)

end

theorem algebraic : Cert.algebraic_Kernel5Ideal_Reference5Ideal := by
  pair_intro
  · run_from Cert.Kernel5Ideal.Value.run_blocks m g
  · run_from run_reference m' g'
    exact (final8 m c).symm

end Cert.TnPieces

end
-- ==== Proof.TnBranchesClaim.lean ====
/-
  The weight gradients of the three branch projections, side by side: the formula, the reference read at an index, the array the
  kernel leaves, and the claims.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnBranches

section

open Cert.Kernel6Ideal Cert.Kernel6Ideal.Gen

/-- One token's term of the gradient: the branch is read off the column. -/
def term (a b c : FVec Ideal S2048x1024 .bf16) (x y z : FVec Ideal S2048x512 .bf16) (k : Fin 2048) (p : Fin 1024) (q : Fin 1536) : EReal :=
  if h : q.val < 512 then a (ix2 k p) * x (ix2 k ⟨q.val, h⟩)
  else if h' : q.val < 1024 then b (ix2 k p) * y (ix2 k ⟨q.val - 512, by omega⟩)
  else c (ix2 k p) * z (ix2 k ⟨q.val - 1024, by omega⟩)

/-- The three gradients side by side. -/
def G (a b c : FVec Ideal S2048x1024 .bf16) (x y z : FVec Ideal S2048x512 .bf16) : FVec Ideal S1024x1536 .bf16 := fun j => ∑ k : Fin 2048, term a b c x y z k (j 0) (j 1)

section

variable (a b c : FVec Ideal S2048x1024 .bf16) (x y z : FVec Ideal S2048x512 .bf16) (k : Fin 2048) (p : Fin 1024) (q : Fin 512)

theorem term_0 {h : q.val < 1536} : term a b c x y z k p ⟨q.val, h⟩ = a (ix2 k p) * x (ix2 k q) := by
  simp only [term]
  rw [dif_pos q.isLt]

theorem term_1 {h : 512 + q.val < 1536} : term a b c x y z k p ⟨512 + q.val, h⟩ = b (ix2 k p) * y (ix2 k q) := by
  have a1 : ¬(512 + q.val < 512) := by omega
  have a2 : 512 + q.val < 1024 := by omega
  have e : (⟨512 + q.val - 512, by omega⟩ : Fin 512) = q := Fin.ext (by simp)
  simp only [term, dif_neg a1, dif_pos a2, e]

theorem term_2 {h : 1024 + q.val < 1536} : term a b c x y z k p ⟨1024 + q.val, h⟩ = c (ix2 k p) * z (ix2 k q) := by
  have a1 : ¬(1024 + q.val < 512) := by omega
  have a2 : ¬(1024 + q.val < 1024) := by omega
  have e : (⟨1024 + q.val - 1024, by omega⟩ : Fin 512) = q := Fin.ext (by simp)
  simp only [term, dif_neg a1, dif_neg a2, e]

end

theorem place : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem point_lt (t : Fin cfg0.N) : t.val < 4 := lt_of_lt_of_eq t.isLt N_0

/-- Three column blocks stored side by side, over whatever was there: together they are the array `f` when each is its columns of `f`. -/
theorem three {e : EltTy} [∀ e, Nonempty (Elt Ideal e)] (f : S1024x1536.Idx → Elt Ideal e) (u v w : S1024x512.Idx → Elt Ideal e)
    (i2 : ∀ a, (![0, 1024] : Fin 2 → ℕ) a + (![1024, 512] : Fin 2 → ℕ) a ≤ S1024x1536.size a)
    (i1 : ∀ a, (![0, 512] : Fin 2 → ℕ) a + (![1024, 512] : Fin 2 → ℕ) a ≤ S1024x1536.size a)
    (i0 : ∀ a, (![0, 0] : Fin 2 → ℕ) a + (![1024, 512] : Fin 2 → ℕ) a ≤ S1024x1536.size a)
    (L : List (View.Piece (Elt Ideal) S1024x1536 e)) (y : S1024x1536.Idx)
    (hu : ∀ (r : Fin 1024) (q : Fin 512), u (ix2 r q) = f (ix2 r ⟨1024 + q.val, by omega⟩))
    (hv : ∀ (r : Fin 1024) (q : Fin 512), v (ix2 r q) = f (ix2 r ⟨512 + q.val, by omega⟩))
    (hw : ∀ (r : Fin 1024) (q : Fin 512), w (ix2 r q) = f (ix2 r ⟨q.val, by omega⟩)) :
    View.canon (⟨Rect.unit ![0, 1024] ![1024, 512] i2, u⟩ :: ⟨Rect.unit ![0, 512] ![1024, 512] i1, v⟩ :: ⟨Rect.unit ![0, 0] ![1024, 512] i0, w⟩ :: L) y = f y := by
  refine View.canon_append_of_piecesOf f L [⟨Rect.unit ![0, 1024] ![1024, 512] i2, u⟩, ⟨Rect.unit ![0, 512] ![1024, 512] i1, v⟩, ⟨Rect.unit ![0, 0] ![1024, 512] i0, w⟩]
    ⟨fun x => ?_, fun x => ?_, fun x => ?_, trivial⟩ y ?_
  · exact ((congrArg u (eq_ix2 x)).trans (hu (x 0) (x 1))).trans (congrArg f (by funext k; fin_cases k <;> exact Fin.ext (by simp)))
  · exact ((congrArg v (eq_ix2 x)).trans (hv (x 0) (x 1))).trans (congrArg f (by funext k; fin_cases k <;> exact Fin.ext (by simp)))
  · exact ((congrArg w (eq_ix2 x)).trans (hw (x 0) (x 1))).trans (congrArg f (by funext k; fin_cases k <;> exact Fin.ext (by simp)))
  · have h0 : (y 0).val < 1024 := (y 0).isLt
    have h1 : (y 1).val < 1536 := (y 1).isLt
    by_cases a : (y 1).val < 512
    · have hy : y ∈ (Rect.unit (s := S1024x1536) ![0, 0] ![1024, 512] i0).set :=
        Rect.mem_set_unit.mpr (by intro k; fin_cases k <;> simp <;> omega)
      exact ⟨⟨Rect.unit ![0, 0] ![1024, 512] i0, w⟩, by simp, hy⟩
    · by_cases b : (y 1).val < 1024
      · have hy : y ∈ (Rect.unit (s := S1024x1536) ![0, 512] ![1024, 512] i1).set :=
          Rect.mem_set_unit.mpr (by intro k; fin_cases k <;> simp <;> omega)
        exact ⟨⟨Rect.unit ![0, 512] ![1024, 512] i1, v⟩, by simp, hy⟩
      · have hy : y ∈ (Rect.unit (s := S1024x1536) ![0, 1024] ![1024, 512] i2).set :=
          Rect.mem_set_unit.mpr (by intro k; fin_cases k <;> simp <;> omega)
        exact ⟨⟨Rect.unit ![0, 1024] ![1024, 512] i2, u⟩, by simp, hy⟩

/-! Each branch's product over one row tile, added to what its columns of the accumulator held. -/

section

variable {a : FVec Ideal S2048x1024 .bf16} {x : FVec Ideal S2048x512 .bf16} {t : ℕ} (ht : t < 4) {ba : Vec Ideal S512x1024 .bf16} {bx : Vec Ideal S512x512 .bf16}
  (ha : ∀ (k : Fin 512) r, ba (ix2 k r) = a (ix2 ⟨t * 512 + k.val, by omega⟩ r))
  (hx : ∀ (k : Fin 512) q, bx (ix2 k q) = x (ix2 ⟨t * 512 + k.val, by omega⟩ q))
  (acc : Vec Ideal S1024x512 .f32) (r : Fin 1024) (q : Fin 512)

include ha hx in
theorem pay3_at : k0_pay3 (F := Ideal) acc ba bx (ix2 r q)
    = acc (ix2 r q) + ∑ k : Fin 512, a (ix2 ⟨t * 512 + k.val, by omega⟩ r) * x (ix2 ⟨t * 512 + k.val, by omega⟩ q) := by
  pointwise [k0_pay3, ha, hx]

include ha hx in
theorem pay4_at : k0_pay4 (F := Ideal) acc ba bx (ix2 r q)
    = acc (ix2 r q) + ∑ k : Fin 512, a (ix2 ⟨t * 512 + k.val, by omega⟩ r) * x (ix2 ⟨t * 512 + k.val, by omega⟩ q) := by
  pointwise [k0_pay4, ha, hx]

include ha hx in
theorem pay5_at : k0_pay5 (F := Ideal) acc ba bx (ix2 r q)
    = acc (ix2 r q) + ∑ k : Fin 512, a (ix2 ⟨t * 512 + k.val, by omega⟩ r) * x (ix2 ⟨t * 512 + k.val, by omega⟩ q) := by
  pointwise [k0_pay5, ha, hx]

end

theorem pay1_at (x : Vec Ideal S1024x1536 .f32) (j : S1024x1536.Idx) : (show EReal from k0_pay1 (F := Ideal) x j) = x j := rfl

theorem pay2_at (j : S1024x1536.Idx) : k0_pay2 (F := Ideal) j = 0 := by
  obtain ⟨r, q, rfl⟩ : ∃ (r : Fin 1024) (q : Fin 1536), j = (ix2 r q : S1024x1536.Idx) := ⟨j 0, j 1, eq_ix2 j⟩
  pointwise [k0_pay2]

variable (m : (ℓ : Loc nD τ sig) → Buf (Elt Ideal) ℓ) (c : Dev nD)

theorem in0_at (t : Fin cfg0.N) (k : Fin 512) (r : Fin 1024) : (show EReal from iblk m c 0 t (ix2 k r))
    = (m ((c : Thread nD τ).loc main_arg0)) (ix2 ⟨t.val * 512 + k.val, by have := point_lt t; omega⟩ r) := by
  blk_ext [iblk, V_main_arg0, place t]

theorem in1_at (t : Fin cfg0.N) (k : Fin 512) (r : Fin 1024) : (show EReal from iblk m c 1 t (ix2 k r))
    = (m ((c : Thread nD τ).loc main_arg1)) (ix2 ⟨t.val * 512 + k.val, by have := point_lt t; omega⟩ r) := by
  blk_ext [iblk, V_main_arg1, place t]

theorem in2_at (t : Fin cfg0.N) (k : Fin 512) (r : Fin 1024) : (show EReal from iblk m c 2 t (ix2 k r))
    = (m ((c : Thread nD τ).loc main_arg2)) (ix2 ⟨t.val * 512 + k.val, by have := point_lt t; omega⟩ r) := by
  blk_ext [iblk, V_main_arg2, place t]

theorem in3_at (t : Fin cfg0.N) (k : Fin 512) (r : Fin 512) : (show EReal from iblk m c 3 t (ix2 k r))
    = (m ((c : Thread nD τ).loc main_arg3)) (ix2 ⟨t.val * 512 + k.val, by have := point_lt t; omega⟩ r) := by
  blk_ext [iblk, V_main_arg3, place t]

theorem in4_at (t : Fin cfg0.N) (k : Fin 512) (r : Fin 512) : (show EReal from iblk m c 4 t (ix2 k r))
    = (m ((c : Thread nD τ).loc main_arg4)) (ix2 ⟨t.val * 512 + k.val, by have := point_lt t; omega⟩ r) := by
  blk_ext [iblk, V_main_arg4, place t]

theorem in5_at (t : Fin cfg0.N) (k : Fin 512) (r : Fin 512) : (show EReal from iblk m c 5 t (ix2 k r))
    = (m ((c : Thread nD τ).loc main_arg5)) (ix2 ⟨t.val * 512 + k.val, by have := point_lt t; omega⟩ r) := by
  blk_ext [iblk, V_main_arg5, place t]

/-- What grid point `t` adds to the accumulator. -/
def part (t : Fin cfg0.N) : S1024x1536.Idx → EReal := fun j =>
  ∑ k : Fin 512, term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + k.val, by have := point_lt t; omega⟩ (j 0) (j 1)

theorem acc_A (t : Fin cfg0.N) (h : t.val % 4 = 0) (y : S1024x1536.Idx) : (outsAt0 m c t.val t.isLt).2 y = 0 + part m c t y := by
  rw [outsAt0_A m c t h (by omega)]
  frame_open
  simp (disch := decide) only [↓ View.readCov_skip, ↓ View.readCov_cons_toLoadRect, ↓ View.readCov_fill]
  frame_out
  refine three (fun y => 0 + part m c t y) _ _ _ _ _ _ _ y (fun r q => ?_) (fun r q => ?_) (fun r q => ?_)
  · exact (pay5_at (point_lt t) (in2_at m c t) (in5_at m c t) _ r q).trans (congrArg₂ (· + ·) (pay2_at _)
      (Finset.sum_congr rfl fun k _ => (term_2 _ _ _ _ _ _ _ r q).symm))
  · exact (pay4_at (point_lt t) (in1_at m c t) (in4_at m c t) _ r q).trans (congrArg₂ (· + ·) (pay2_at _)
      (Finset.sum_congr rfl fun k _ => (term_1 _ _ _ _ _ _ _ r q).symm))
  · exact (pay3_at (point_lt t) (in0_at m c t) (in3_at m c t) _ r q).trans (congrArg₂ (· + ·) (pay2_at _)
      (Finset.sum_congr rfl fun k _ => (term_0 _ _ _ _ _ _ _ r q).symm))

theorem acc_B (t : Fin cfg0.N) (h : ¬t.val % 4 = 0) (y : S1024x1536.Idx) : (outsAt0 m c t.val t.isLt).2 y
    = (outsAt0 m c (t.val - 1) (Nat.lt_of_le_of_lt (Nat.sub_le _ _) t.isLt)).2 y + part m c t y := by
  by_cases h' : t.val % 4 = 3
  · rw [outsAt0_C m c t h h']
    frame_out
    refine three (fun y => (outsAt0 m c (t.val - 1) (Nat.lt_of_le_of_lt (Nat.sub_le _ _) t.isLt)).2 y + part m c t y) _ _ _ _ _ _ _ y (fun r q => ?_) (fun r q => ?_) (fun r q => ?_)
    · exact (pay5_at (point_lt t) (in2_at m c t) (in5_at m c t) _ r q).trans (congrArg₂ (· + ·) (by rw [read_unread_whole]; exact congrArg (outsAt0 m c (t.val - 1) (Nat.lt_of_le_of_lt (Nat.sub_le _ _) t.isLt)).2 (by funext k; fin_cases k <;> exact Fin.ext (by simp)))
      (Finset.sum_congr rfl fun k _ => (term_2 _ _ _ _ _ _ _ r q).symm))
    · exact (pay4_at (point_lt t) (in1_at m c t) (in4_at m c t) _ r q).trans (congrArg₂ (· + ·) (by rw [read_unread_whole]; exact congrArg (outsAt0 m c (t.val - 1) (Nat.lt_of_le_of_lt (Nat.sub_le _ _) t.isLt)).2 (by funext k; fin_cases k <;> exact Fin.ext (by simp)))
      (Finset.sum_congr rfl fun k _ => (term_1 _ _ _ _ _ _ _ r q).symm))
    · exact (pay3_at (point_lt t) (in0_at m c t) (in3_at m c t) _ r q).trans (congrArg₂ (· + ·) (by rw [read_unread_whole]; exact congrArg (outsAt0 m c (t.val - 1) (Nat.lt_of_le_of_lt (Nat.sub_le _ _) t.isLt)).2 (by funext k; fin_cases k <;> exact Fin.ext (by simp)))
      (Finset.sum_congr rfl fun k _ => (term_0 _ _ _ _ _ _ _ r q).symm))

  · rw [outsAt0_B m c t h h']
    frame_out
    refine three (fun y => (outsAt0 m c (t.val - 1) (Nat.lt_of_le_of_lt (Nat.sub_le _ _) t.isLt)).2 y + part m c t y) _ _ _ _ _ _ _ y (fun r q => ?_) (fun r q => ?_) (fun r q => ?_)
    · exact (pay5_at (point_lt t) (in2_at m c t) (in5_at m c t) _ r q).trans (congrArg₂ (· + ·) (by rw [read_unread_whole]; exact congrArg (outsAt0 m c (t.val - 1) (Nat.lt_of_le_of_lt (Nat.sub_le _ _) t.isLt)).2 (by funext k; fin_cases k <;> exact Fin.ext (by simp)))
      (Finset.sum_congr rfl fun k _ => (term_2 _ _ _ _ _ _ _ r q).symm))
    · exact (pay4_at (point_lt t) (in1_at m c t) (in4_at m c t) _ r q).trans (congrArg₂ (· + ·) (by rw [read_unread_whole]; exact congrArg (outsAt0 m c (t.val - 1) (Nat.lt_of_le_of_lt (Nat.sub_le _ _) t.isLt)).2 (by funext k; fin_cases k <;> exact Fin.ext (by simp)))
      (Finset.sum_congr rfl fun k _ => (term_1 _ _ _ _ _ _ _ r q).symm))
    · exact (pay3_at (point_lt t) (in0_at m c t) (in3_at m c t) _ r q).trans (congrArg₂ (· + ·) (by rw [read_unread_whole]; exact congrArg (outsAt0 m c (t.val - 1) (Nat.lt_of_le_of_lt (Nat.sub_le _ _) t.isLt)).2 (by funext k; fin_cases k <;> exact Fin.ext (by simp)))
      (Finset.sum_congr rfl fun k _ => (term_0 _ _ _ _ _ _ _ r q).symm))

/-- The last point writes out the accumulator. -/
theorem out_C (t : Fin cfg0.N) (h' : t.val % 4 = 3) (y : S1024x1536.Idx) : (show EReal from (outsAt0 m c t.val t.isLt).1 y) = (outsAt0 m c t.val t.isLt).2 y := by
  rw [outsAt0_C m c t (by omega) h']
  frame_open
  frame_out
  rw [View.readCov_eq_canon']
  refine (pay1_at _ y).trans (congrArg _ ?_)
  funext k
  fin_cases k <;> exact Fin.ext (by simp)

theorem final6 : (dats m 0 c).arrAt 6 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 6 t0_3 (by decide +kernel) _ fun j => ?_
  obtain ⟨r, q, rfl⟩ : ∃ (r : Fin 1024) (q : Fin 1536), j = (ix2 r q : S1024x1536.Idx) := ⟨j 0, j 1, eq_ix2 j⟩
  blk_simp
  rw [after0_6]
  refine (out_C m c t0_3 rfl _).trans ?_
  rw [Pipeline.eq_sum_fin_of_reset_step_apply_last (fun n h => (outsAt0 m c n h).2) 4 (fun _ => 0) (part m c) (acc_A m c) (acc_B m c)
    (le_of_eq N_0) t0_3 rfl _, zero_add]
  refine Eq.trans ?_ (Fin.sum_univ_one (fun _ : Fin 1 => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q)))
  refine Fin.sum_points_lanes_congr 4 fun t k ha hl => ?_
  have : t.val % 4 = t.val := Nat.mod_eq_of_lt (point_lt t)
  simp only [this]

end

section

open Cert.Reference6Ideal.Read

theorem res (a b c : FVec Ideal Reference6Ideal.S2048x1024 .bf16) (x y z : FVec Ideal Reference6Ideal.S2048x512 .bf16) :
    Reference6Ideal.Read.val_main_v22 (F := Ideal) a b c x y z = G a b c x y z := by
  funext j
  obtain ⟨r, q, rfl⟩ : ∃ (r : Fin 1024) (q : Fin 1536), j = (ix2 r q : Reference6Ideal.S1024x1536.Idx) := ⟨j 0, j 1, eq_ix2 j⟩
  pointwise [val_main_v22, val_main_v21, val_main_v20, val_main_v19, val_main_v18, val_main_v17, val_main_v16, val_main_v15, val_main_v13,
    val_main_v11, val_main_v10, val_main_v9, val_main_v7, val_main_v5, val_main_v4, val_main_v3, val_main_v1]
  refine Eq.trans ?_ (show ∑ k : Fin 2048, term a b c x y z k r q = _ from rfl)
  by_cases h : q.val < 512
  · simp only [dif_pos h, term]
  · by_cases h' : q.val < 1024
    · have a1 : q.val - 512 < 512 := by omega
      simp only [dif_neg h, dif_pos a1, dif_pos h', term]
    · have a1 : ¬(q.val - 512 < 512) := by omega
      simp only [dif_neg h, dif_neg a1, dif_neg h', term, ↓reduceDIte]
      exact Finset.sum_congr rfl fun k _ => congrArg (fun i => c (ix2 k r) * z (ix2 k i)) (Fin.ext (by simp; omega))

end

/-- The reference keeps its arguments; it has no semaphore. -/
theorem frame_reference : Cert.quiescent_Reference6Ideal := by
  intro m g _
  exact (θ_run Reference6Ideal.defs _ _).mono
    (fun r h => ⟨fun c => (h c).2, sem_eq_zero_of_no_sems (by decide) r.2⟩) (Reference6Ideal.Value.run (F := Ideal) m g)

section

open Cert.Reference6Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v22) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((Read.val_main_v22_eq _ _ _ _ _ _).trans (res _ _ _ _ _ _)), (h c).2⟩) (Value.run (F := Ideal) m g)

end

theorem algebraic : Cert.algebraic_Kernel6Ideal_Reference6Ideal := by
  pair_intro
  · run_from Cert.Kernel6Ideal.Value.run_blocks m g
  · run_from run_reference m' g'
    exact (final6 m c).symm

end Cert.TnBranches

end
-- ==== Proof.TnFfnInClaim.lean ====
/-
  The weight gradient of the input projection of the channel mixer: the formula, the reference read at an index, the array the kernel leaves,
  and the claims.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnFfnIn

section

open Cert.Kernel7Ideal Cert.Kernel7Ideal.Gen

/-- The activations' transpose times the cotangent. -/
def G (a : FVec Ideal S2048x5632 .bf16) (b : FVec Ideal S2048x1024 .bf16) : FVec Ideal S5632x1024 .bf16 := fun j => ∑ k : Fin 2048, a (ix2 k (j 0)) * b (ix2 k (j 1))

theorem place : ∀ t : Fin cfg0.N, win0_0.index t = ![0, t.val] ∧ win0_1.index t = ![0, 0] ∧ win0_2.index t = ![t.val, 0] :=
  (by decide +kernel : ∀ t : Fin grid0.N, _)

theorem point_lt (t : Fin cfg0.N) : t.val < 4 := lt_of_lt_of_eq t.isLt N_0

/-- One product over blocks that are column tile `t` of the arrays. -/
theorem pay_at {a : FVec Ideal S2048x5632 .bf16} {b : FVec Ideal S2048x1024 .bf16} {t : ℕ} (ht : t < 4) {ba : Vec Ideal S2048x1408 .bf16} {bb : Vec Ideal S2048x1024 .bf16}
    (ha : ∀ k (r : Fin 1408), ba (ix2 k r) = a (ix2 k ⟨t * 1408 + r.val, by omega⟩)) (hb : ∀ k (q : Fin 1024), bb (ix2 k q) = b (ix2 k q))
    (r : Fin 1408) (q : Fin 1024) : k0_pay1 (F := Ideal) ba bb (ix2 r q) = G a b (ix2 ⟨t * 1408 + r.val, by omega⟩ q) := by
  pointwise [k0_pay1, ha, hb]
  rfl

variable (m : (ℓ : Loc nD τ sig) → Buf (Elt Ideal) ℓ) (c : Dev nD)

theorem a_at (t : Fin cfg0.N) (k : Fin 2048) (r : Fin 1408) : (show EReal from iblk m c 0 t (ix2 k r))
    = (m ((c : Thread nD τ).loc main_arg0)) (ix2 k ⟨t.val * 1408 + r.val, by have := point_lt t; omega⟩) := by
  blk_ext [iblk, V_main_arg0, place t]

theorem b_at (t : Fin cfg0.N) (k : Fin 2048) (q : Fin 1024) : (show EReal from iblk m c 1 t (ix2 k q))
    = (m ((c : Thread nD τ).loc main_arg1)) (ix2 k q) := by
  blk_ext [iblk, V_main_arg1, place t]

theorem final2 : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ (r : Fin 1408) (l : Fin 1024), y = (ix2 r l : S1408x1024.Idx) := ⟨y 0, y 1, eq_ix2 y⟩
  rw [after0_2]
  frame_open
  frame_out
  refine (pay_at (point_lt t) (a_at m c t) (b_at m c t) r l).trans ?_
  blk_ext [place t]

end

open Cert.Reference7Ideal.Read in
theorem res (a : FVec Ideal Reference7Ideal.S2048x5632 .bf16) (b : FVec Ideal Reference7Ideal.S2048x1024 .bf16) :
    Reference7Ideal.Read.val_main_v7 (F := Ideal) a b = G a b := by
  funext j
  obtain ⟨r, q, rfl⟩ : ∃ (r : Fin 5632) (q : Fin 1024), j = (ix2 r q : Reference7Ideal.S5632x1024.Idx) := ⟨j 0, j 1, eq_ix2 j⟩
  pointwise [val_main_cst, val_main_v0, val_main_v1, val_main_v2, val_main_v3, val_main_v4, val_main_v5, val_main_v6, val_main_v7]
  rfl

/-- The reference keeps its arguments; it has no semaphore. -/
theorem frame_reference : Cert.quiescent_Reference7Ideal := by
  intro m g _
  exact (θ_run Reference7Ideal.defs _ _).mono
    (fun r h => ⟨fun c => (h c).2, sem_eq_zero_of_no_sems (by decide) r.2⟩) (Reference7Ideal.Value.run (F := Ideal) m g)

section

open Cert.Reference7Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v7) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v7_eq _ _).trans (res _ _)), (h c).2⟩) (Value.run (F := Ideal) m g)

end

theorem algebraic : Cert.algebraic_Kernel7Ideal_Reference7Ideal := by
  pair_intro
  · run_from Cert.Kernel7Ideal.Value.run_blocks m g
  · run_from run_reference m' g'
    exact (final2 m c).symm

end Cert.TnFfnIn

end
-- ==== Proof.TnFfnOutClaim.lean ====
/-
  The weight gradient of the output projection of the channel mixer: the formula, the reference read at an index, the array the kernel leaves,
  and the claims.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnFfnOut

section

open Cert.Kernel8Ideal Cert.Kernel8Ideal.Gen

/-- The activations' transpose times the cotangent. -/
def G (a : FVec Ideal S2048x2816 .bf16) (b : FVec Ideal S2048x1024 .f32) : FVec Ideal S2816x1024 .bf16 := fun j => ∑ k : Fin 2048, a (ix2 k (j 0)) * b (ix2 k (j 1))

theorem place : ∀ t : Fin cfg0.N, win0_0.index t = ![0, t.val] ∧ win0_1.index t = ![0, 0] ∧ win0_2.index t = ![t.val, 0] :=
  (by decide +kernel : ∀ t : Fin grid0.N, _)

theorem point_lt (t : Fin cfg0.N) : t.val < 2 := lt_of_lt_of_eq t.isLt N_0

/-- One product over blocks that are column tile `t` of the arrays. -/
theorem pay_at {a : FVec Ideal S2048x2816 .bf16} {b : FVec Ideal S2048x1024 .f32} {t : ℕ} (ht : t < 2) {ba : Vec Ideal S2048x1408 .bf16} {bb : Vec Ideal S2048x1024 .f32}
    (ha : ∀ k (r : Fin 1408), ba (ix2 k r) = a (ix2 k ⟨t * 1408 + r.val, by omega⟩)) (hb : ∀ k (q : Fin 1024), bb (ix2 k q) = b (ix2 k q))
    (r : Fin 1408) (q : Fin 1024) : k0_pay1 (F := Ideal) ba bb (ix2 r q) = G a b (ix2 ⟨t * 1408 + r.val, by omega⟩ q) := by
  pointwise [k0_pay1, ha, hb]
  rfl

variable (m : (ℓ : Loc nD τ sig) → Buf (Elt Ideal) ℓ) (c : Dev nD)

theorem a_at (t : Fin cfg0.N) (k : Fin 2048) (r : Fin 1408) : (show EReal from iblk m c 0 t (ix2 k r))
    = (m ((c : Thread nD τ).loc main_arg0)) (ix2 k ⟨t.val * 1408 + r.val, by have := point_lt t; omega⟩) := by
  blk_ext [iblk, V_main_arg0, place t]

theorem b_at (t : Fin cfg0.N) (k : Fin 2048) (q : Fin 1024) : (show EReal from iblk m c 1 t (ix2 k q))
    = (m ((c : Thread nD τ).loc main_arg1)) (ix2 k q) := by
  blk_ext [iblk, V_main_arg1, place t]

theorem final2 : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ (r : Fin 1408) (l : Fin 1024), y = (ix2 r l : S1408x1024.Idx) := ⟨y 0, y 1, eq_ix2 y⟩
  rw [after0_2]
  frame_open
  frame_out
  refine (pay_at (point_lt t) (a_at m c t) (b_at m c t) r l).trans ?_
  blk_ext [place t]

end

open Cert.Reference8Ideal.Read in
theorem res (a : FVec Ideal Reference8Ideal.S2048x2816 .bf16) (b : FVec Ideal Reference8Ideal.S2048x1024 .f32) :
    Reference8Ideal.Read.val_main_v5 (F := Ideal) a b = G a b := by
  funext j
  obtain ⟨r, q, rfl⟩ : ∃ (r : Fin 2816) (q : Fin 1024), j = (ix2 r q : Reference8Ideal.S2816x1024.Idx) := ⟨j 0, j 1, eq_ix2 j⟩
  pointwise [val_main_cst, val_main_v0, val_main_v1, val_main_v2, val_main_v3, val_main_v4, val_main_v5]
  exact Finset.sum_congr rfl fun k _ => mul_comm _ _

/-- The reference keeps its arguments; it has no semaphore. -/
theorem frame_reference : Cert.quiescent_Reference8Ideal := by
  intro m g _
  exact (θ_run Reference8Ideal.defs _ _).mono
    (fun r h => ⟨fun c => (h c).2, sem_eq_zero_of_no_sems (by decide) r.2⟩) (Reference8Ideal.Value.run (F := Ideal) m g)

section

open Cert.Reference8Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v5_eq _ _).trans (res _ _)), (h c).2⟩) (Value.run (F := Ideal) m g)

end

theorem algebraic : Cert.algebraic_Kernel8Ideal_Reference8Ideal := by
  pair_intro
  · run_from Cert.Kernel8Ideal.Value.run_blocks m g
  · run_from run_reference m' g'
    exact (final2 m c).symm

end Cert.TnFfnOut

end
-- ==== Proof.TnMixClaim.lean ====
/-
  The weight gradient of the projection after the branches are merged: the formula, the reference read at an index, the array the kernel leaves,
  and the claims.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnMix

section

open Cert.Kernel9Ideal Cert.Kernel9Ideal.Gen

/-- The activations' transpose times the cotangent. -/
def G (a : FVec Ideal S2048x1024 .bf16) (b : FVec Ideal S2048x1024 .f32) : FVec Ideal S1024x1024 .bf16 := fun j => ∑ k : Fin 2048, a (ix2 k (j 0)) * b (ix2 k (j 1))

theorem place : ∀ t : Fin cfg0.N, win0_0.index t = ![0, 0] ∧ win0_1.index t = ![0, t.val] ∧ win0_2.index t = ![0, t.val] :=
  (by decide +kernel : ∀ t : Fin grid0.N, _)

theorem point_lt (t : Fin cfg0.N) : t.val < 2 := lt_of_lt_of_eq t.isLt N_0

/-- One product over blocks that are column tile `t` of the arrays. -/
theorem pay_at {a : FVec Ideal S2048x1024 .bf16} {b : FVec Ideal S2048x1024 .f32} {t : ℕ} (ht : t < 2) {ba : Vec Ideal S2048x1024 .bf16} {bb : Vec Ideal S2048x512 .f32}
    (ha : ∀ k (r : Fin 1024), ba (ix2 k r) = a (ix2 k r)) (hb : ∀ k (q : Fin 512), bb (ix2 k q) = b (ix2 k ⟨t * 512 + q.val, by omega⟩))
    (r : Fin 1024) (q : Fin 512) : k0_pay1 (F := Ideal) ba bb (ix2 r q) = G a b (ix2 r ⟨t * 512 + q.val, by omega⟩) := by
  pointwise [k0_pay1, ha, hb]
  rfl

variable (m : (ℓ : Loc nD τ sig) → Buf (Elt Ideal) ℓ) (c : Dev nD)

theorem a_at (t : Fin cfg0.N) (k : Fin 2048) (r : Fin 1024) : (show EReal from iblk m c 0 t (ix2 k r))
    = (m ((c : Thread nD τ).loc main_arg0)) (ix2 k r) := by
  blk_ext [iblk, V_main_arg0, place t]

theorem b_at (t : Fin cfg0.N) (k : Fin 2048) (q : Fin 512) : (show EReal from iblk m c 1 t (ix2 k q))
    = (m ((c : Thread nD τ).loc main_arg1)) (ix2 k ⟨t.val * 512 + q.val, by have := point_lt t; omega⟩) := by
  blk_ext [iblk, V_main_arg1, place t]

theorem final2 : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ (r : Fin 1024) (l : Fin 512), y = (ix2 r l : S1024x512.Idx) := ⟨y 0, y 1, eq_ix2 y⟩
  rw [after0_2]
  frame_open
  frame_out
  refine (pay_at (point_lt t) (a_at m c t) (b_at m c t) r l).trans ?_
  blk_ext [place t]

end

open Cert.Reference9Ideal.Read in
theorem res (a : FVec Ideal Reference9Ideal.S2048x1024 .bf16) (b : FVec Ideal Reference9Ideal.S2048x1024 .f32) :
    Reference9Ideal.Read.val_main_v5 (F := Ideal) a b = G a b := by
  funext j
  obtain ⟨r, q, rfl⟩ : ∃ (r : Fin 1024) (q : Fin 1024), j = (ix2 r q : Reference9Ideal.S1024x1024.Idx) := ⟨j 0, j 1, eq_ix2 j⟩
  pointwise [val_main_cst, val_main_v0, val_main_v1, val_main_v2, val_main_v3, val_main_v4, val_main_v5]
  exact Finset.sum_congr rfl fun k _ => mul_comm _ _

/-- The reference keeps its arguments; it has no semaphore. -/
theorem frame_reference : Cert.quiescent_Reference9Ideal := by
  intro m g _
  exact (θ_run Reference9Ideal.defs _ _).mono
    (fun r h => ⟨fun c => (h c).2, sem_eq_zero_of_no_sems (by decide) r.2⟩) (Reference9Ideal.Value.run (F := Ideal) m g)

section

open Cert.Reference9Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v5_eq _ _).trans (res _ _)), (h c).2⟩) (Value.run (F := Ideal) m g)

end

theorem algebraic : Cert.algebraic_Kernel9Ideal_Reference9Ideal := by
  pair_intro
  · run_from Cert.Kernel9Ideal.Value.run_blocks m g
  · run_from run_reference m' g'
    exact (final2 m c).symm

end Cert.TnMix

end
-- ==== Proof.TnGluClaim.lean ====
/-
  The weight gradient of the gate of the state space branch: the formula, the reference read at an index, the array the kernel leaves,
  and the claims.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnGlu

section

open Cert.Kernel10Ideal Cert.Kernel10Ideal.Gen

/-- The activations' transpose times the cotangent. -/
def G (a : FVec Ideal S2048x512 .bf16) (b : FVec Ideal S2048x512 .bf16) : FVec Ideal S512x512 .bf16 := fun j => ∑ k : Fin 2048, a (ix2 k (j 0)) * b (ix2 k (j 1))

theorem place : ∀ t : Fin cfg0.N, win0_0.index t = ![0, t.val] ∧ win0_1.index t = ![0, 0] ∧ win0_2.index t = ![t.val, 0] :=
  (by decide +kernel : ∀ t : Fin grid0.N, _)

theorem point_lt (t : Fin cfg0.N) : t.val < 2 := lt_of_lt_of_eq t.isLt N_0

/-- One product over blocks that are column tile `t` of the arrays. -/
theorem pay_at {a : FVec Ideal S2048x512 .bf16} {b : FVec Ideal S2048x512 .bf16} {t : ℕ} (ht : t < 2) {ba : Vec Ideal S2048x256 .bf16} {bb : Vec Ideal S2048x512 .bf16}
    (ha : ∀ k (r : Fin 256), ba (ix2 k r) = a (ix2 k ⟨t * 256 + r.val, by omega⟩)) (hb : ∀ k (q : Fin 512), bb (ix2 k q) = b (ix2 k q))
    (r : Fin 256) (q : Fin 512) : k0_pay1 (F := Ideal) ba bb (ix2 r q) = G a b (ix2 ⟨t * 256 + r.val, by omega⟩ q) := by
  pointwise [k0_pay1, ha, hb]
  rfl

variable (m : (ℓ : Loc nD τ sig) → Buf (Elt Ideal) ℓ) (c : Dev nD)

theorem a_at (t : Fin cfg0.N) (k : Fin 2048) (r : Fin 256) : (show EReal from iblk m c 0 t (ix2 k r))
    = (m ((c : Thread nD τ).loc main_arg0)) (ix2 k ⟨t.val * 256 + r.val, by have := point_lt t; omega⟩) := by
  blk_ext [iblk, V_main_arg0, place t]

theorem b_at (t : Fin cfg0.N) (k : Fin 2048) (q : Fin 512) : (show EReal from iblk m c 1 t (ix2 k q))
    = (m ((c : Thread nD τ).loc main_arg1)) (ix2 k q) := by
  blk_ext [iblk, V_main_arg1, place t]

theorem final2 : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  obtain ⟨r, l, rfl⟩ : ∃ (r : Fin 256) (l : Fin 512), y = (ix2 r l : S256x512.Idx) := ⟨y 0, y 1, eq_ix2 y⟩
  rw [after0_2]
  frame_open
  frame_out
  refine (pay_at (point_lt t) (a_at m c t) (b_at m c t) r l).trans ?_
  blk_ext [place t]

end

open Cert.Reference10Ideal.Read in
theorem res (a : FVec Ideal Reference10Ideal.S2048x512 .bf16) (b : FVec Ideal Reference10Ideal.S2048x512 .bf16) :
    Reference10Ideal.Read.val_main_v6 (F := Ideal) a b = G a b := by
  funext j
  obtain ⟨r, q, rfl⟩ : ∃ (r : Fin 512) (q : Fin 512), j = (ix2 r q : Reference10Ideal.S512x512.Idx) := ⟨j 0, j 1, eq_ix2 j⟩
  pointwise [val_main_cst, val_main_v0, val_main_v1, val_main_v2, val_main_v3, val_main_v4, val_main_v5, val_main_v6]
  exact Finset.sum_congr rfl fun k _ => mul_comm _ _

/-- The reference keeps its arguments; it has no semaphore. -/
theorem frame_reference : Cert.quiescent_Reference10Ideal := by
  intro m g _
  exact (θ_run Reference10Ideal.defs _ _).mono
    (fun r h => ⟨fun c => (h c).2, sem_eq_zero_of_no_sems (by decide) r.2⟩) (Reference10Ideal.Value.run (F := Ideal) m g)

section

open Cert.Reference10Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v6) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v6_eq _ _).trans (res _ _)), (h c).2⟩) (Value.run (F := Ideal) m g)

end

theorem algebraic : Cert.algebraic_Kernel10Ideal_Reference10Ideal := by
  pair_intro
  · run_from Cert.Kernel10Ideal.Value.run_blocks m g
  · run_from run_reference m' g'
    exact (final2 m c).symm

end Cert.TnGlu

end
-- ==== Proof.FiniteInput.lean ====
/-
  What it means for an array that its absolute values are all less than infinity, as a host program says it.
-/
module

public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Finite

/-- The bits of infinity denote the top element. -/
theorem inf_eq : Ideal.ofBits FTy.f32 0x7F800000#32 = ⊤ := by
  simp [Ideal.ofBits, Ideal.ieee]

/-- An array all of whose absolute values a program finds below infinity has real entries. -/
theorem real_of_all {s : Shape} {axes : List (Fin s.rank)} {u t : Shape} [Subsingleton t.Idx] (x v : FVec Ideal s .f32) (hv : ∀ i, v i = (⊤ : EReal)) (init : u.Idx → BitVec 1) (h : s.ReducesTo axes t) (hu : 0 < u.numel) (j : t.Idx)
    (e : Host.reduce IntOp.andi (cmpf .olt (Host.absf x) v) init h hu j = 1#1) (i : s.Idx) : ∃ r : ℝ, (show EReal from x i) = (r : EReal) := by
  have p : BitVec.ofBool (decide (max (show EReal from x i) (-(show EReal from x i)) < (show EReal from v i))) = 1#1 := by
    exact Host.reduce_andi_all _ init h hu j e i
  rw [hv i] at p
  generalize (show EReal from x i) = z at p
  induction z with
  | bot => simp at p
  | top => simp at p
  | coe r => exact ⟨r, rfl⟩

end Cert.Finite

end
-- ==== Proof.FfnOutBwdClaim.lean ====
/-
  The gradient of the feed-forward block's second product and of the gating before it: the formula, the reference read at an index,
  the array the kernel leaves, and the claims.
-/
module

public import proofs.«01_k».proof.Defs
public import proofs.«01_k».proof.Proof.FiniteInput
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnOutBwd

section

open Cert.Kernel11Ideal Cert.Kernel11Ideal.Gen

/-- The cotangent of the activation: the output's cotangent times the weight's transpose. -/
def da (d : FVec Ideal S2048x1024 .f32) (w : FVec Ideal S2816x1024 .f32) (r : Fin 2048) (j : Fin 2816) : EReal := ∑ k : Fin 1024, d (ix2 r k) * w (ix2 j k)

/-- The gate's half and the value's half of the first product. -/
def gate (u : FVec Ideal S2048x5632 .f32) (r : Fin 2048) (j : Fin 2816) : EReal := u (ix2 r ⟨j.val, by omega⟩)

def up (u : FVec Ideal S2048x5632 .f32) (r : Fin 2048) (j : Fin 2816) : EReal := u (ix2 r ⟨2816 + j.val, by omega⟩)

/-- The derivative of `x · σ(x)`, and the function itself. -/
def slope (x : EReal) : EReal := Ideal.logistic x + x * Ideal.logistic x * (1 - Ideal.logistic x)

def silu (x : EReal) : EReal := x * Ideal.logistic x

/-- The cotangent of both halves as the kernel computes it. -/
def G (d : FVec Ideal S2048x1024 .f32) (u : FVec Ideal S2048x5632 .f32) (w : FVec Ideal S2816x1024 .f32) : FVec Ideal S2048x5632 .bf16 := fun j =>
  if h : (j 1).val < 2816 then da d w (j 0) ⟨(j 1).val, h⟩ * up u (j 0) ⟨(j 1).val, h⟩ * slope (gate u (j 0) ⟨(j 1).val, h⟩)
  else da d w (j 0) ⟨(j 1).val - 2816, by have := (j 1).isLt; simp at this; omega⟩ * silu (gate u (j 0) ⟨(j 1).val - 2816, by have := (j 1).isLt; simp at this; omega⟩)

/-- The cotangent of both halves as the chain rule writes it. -/
def R (d : FVec Ideal S2048x1024 .f32) (u : FVec Ideal S2048x5632 .f32) (w : FVec Ideal S2816x1024 .f32) : FVec Ideal S2048x5632 .bf16 := fun j =>
  if h : (j 1).val < 2816 then
    da d w (j 0) ⟨(j 1).val, h⟩ * up u (j 0) ⟨(j 1).val, h⟩ * Ideal.logistic (gate u (j 0) ⟨(j 1).val, h⟩)
      + gate u (j 0) ⟨(j 1).val, h⟩ * (da d w (j 0) ⟨(j 1).val, h⟩ * up u (j 0) ⟨(j 1).val, h⟩)
        * (Ideal.logistic (gate u (j 0) ⟨(j 1).val, h⟩) * (1 - Ideal.logistic (gate u (j 0) ⟨(j 1).val, h⟩)))
  else silu (gate u (j 0) ⟨(j 1).val - 2816, by have := (j 1).isLt; simp at this; omega⟩) * da d w (j 0) ⟨(j 1).val - 2816, by have := (j 1).isLt; simp at this; omega⟩

/-- A real factor goes into the sum, whatever the gate is. -/
theorem spread (e : ℝ) (g : EReal) :
    (e : EReal) * Ideal.logistic g + g * (e : EReal) * (Ideal.logistic g * (1 - Ideal.logistic g)) = (e : EReal) * slope g := by
  unfold slope
  induction g with
  | bot => simp
  | top =>
    have : (1 : EReal) - 1 = 0 := by rw [← EReal.coe_one, ← EReal.coe_sub]; simp
    simp [this]
  | coe r =>
    rw [Ideal.logistic_coe, ← EReal.coe_one]
    norm_cast
    ring

theorem real_mul {x y : EReal} (hx : ∃ a : ℝ, x = a) (hy : ∃ b : ℝ, y = b) : ∃ e : ℝ, x * y = e := by
  obtain ⟨a, rfl⟩ := hx
  obtain ⟨b, rfl⟩ := hy
  exact ⟨a * b, (EReal.coe_mul a b).symm⟩

theorem real_sum {n : ℕ} (f : Fin n → EReal) (h : ∀ k, ∃ a : ℝ, f k = a) : ∃ e : ℝ, ∑ k, f k = e := by
  refine Finset.sum_induction f (fun x => ∃ a : ℝ, x = a) ?_ ⟨0, rfl⟩ fun k _ => h k
  rintro _ _ ⟨a, rfl⟩ ⟨b, rfl⟩
  exact ⟨a + b, (EReal.coe_add a b).symm⟩

/-- On arrays with real entries the two formulas agree. -/
theorem R_eq (d : FVec Ideal S2048x1024 .f32) (u : FVec Ideal S2048x5632 .f32) (w : FVec Ideal S2816x1024 .f32)
    (hd : ∀ i, ∃ a : ℝ, (show EReal from d i) = a) (hu : ∀ r j, ∃ a : ℝ, up u r j = a) (hw : ∀ i, ∃ a : ℝ, (show EReal from w i) = a) : R d u w = G d u w := by
  funext j
  unfold R G
  by_cases h : (j 1).val < 2816
  · simp only [dif_pos h]
    obtain ⟨e, he⟩ := real_mul (real_sum (fun k => d (ix2 (j 0) k) * w (ix2 ⟨(j 1).val, h⟩ k)) fun k => real_mul (hd _) (hw _)) (hu (j 0) ⟨(j 1).val, h⟩)
    have he' : da d w (j 0) ⟨(j 1).val, h⟩ * up u (j 0) ⟨(j 1).val, h⟩ = e := he
    rw [he']
    exact spread e _
  · simp only [dif_neg h]
    exact mul_comm _ _

theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

theorem point_lt (t : Fin cfg0.N) : t.val < 4 := lt_of_lt_of_eq t.isLt N_0

/-- Two column blocks stored side by side are the array `G` when each is its columns of `G`. -/
theorem two {e : EltTy} [∀ e, Nonempty (Elt Ideal e)] (G : S512x5632.Idx → Elt Ideal e) (u v : S512x2816.Idx → Elt Ideal e)
    (i1 : ∀ a, (![0, 2816] : Fin 2 → ℕ) a + (![512, 2816] : Fin 2 → ℕ) a ≤ S512x5632.size a)
    (i0 : ∀ a, (![0, 0] : Fin 2 → ℕ) a + (![512, 2816] : Fin 2 → ℕ) a ≤ S512x5632.size a)
    (L : List (View.Piece (Elt Ideal) S512x5632 e)) (y : S512x5632.Idx)
    (hu : ∀ x : S512x2816.Idx, u x = G (ix2 (x 0) ⟨2816 + (x 1).val, by have := (x 1).isLt; simp at this; omega⟩))
    (hv : ∀ x : S512x2816.Idx, v x = G (ix2 (x 0) ⟨(x 1).val, by have := (x 1).isLt; simp at this; omega⟩)) :
    View.canon (⟨Rect.unit ![0, 2816] ![512, 2816] i1, u⟩ :: ⟨Rect.unit ![0, 0] ![512, 2816] i0, v⟩ :: L) y = G y := by
  refine View.canon_append_of_piecesOf G L [⟨Rect.unit ![0, 2816] ![512, 2816] i1, u⟩, ⟨Rect.unit ![0, 0] ![512, 2816] i0, v⟩]
    ⟨fun x => ?_, fun x => ?_, trivial⟩ y ?_
  · exact (hu x).trans (congrArg G (by funext k; fin_cases k <;> exact Fin.ext (by simp)))
  · exact (hv x).trans (congrArg G (by funext k; fin_cases k <;> exact Fin.ext (by simp)))
  · have h0 : (y 0).val < 512 := (y 0).isLt
    have h1 : (y 1).val < 5632 := (y 1).isLt
    by_cases a : (y 1).val < 2816
    · have hy : y ∈ (Rect.unit (s := S512x5632) ![0, 0] ![512, 2816] i0).set :=
        Rect.mem_set_unit.mpr (by intro k; fin_cases k <;> simp <;> omega)
      exact ⟨⟨Rect.unit ![0, 0] ![512, 2816] i0, v⟩, by simp, hy⟩
    · have hy : y ∈ (Rect.unit (s := S512x5632) ![0, 2816] ![512, 2816] i1).set :=
        Rect.mem_set_unit.mpr (by intro k; fin_cases k <;> simp <;> omega)
      exact ⟨⟨Rect.unit ![0, 2816] ![512, 2816] i1, u⟩, by simp, hy⟩

/-! The body's vectors over blocks that are row tile `t` of the arrays. -/

section Body

variable {d : FVec Ideal S2048x1024 .f32} {u : FVec Ideal S2048x5632 .f32} {w : FVec Ideal S2816x1024 .f32} {t : ℕ} (ht : t < 4)
  {bd : Vec Ideal S512x1024 .f32} {bw : Vec Ideal S2816x1024 .bf16} {bu bs bl : Vec Ideal S512x2816 .bf16}
  (hd : ∀ (r : Fin 512) k, bd (ix2 r k) = d (ix2 ⟨t * 512 + r.val, by omega⟩ k)) (hw : ∀ j k, bw (ix2 j k) = w (ix2 j k))
  (hu : ∀ (r : Fin 512) j, bu (ix2 r j) = up u ⟨t * 512 + r.val, by omega⟩ j)
  (hs : ∀ (r : Fin 512) j, bs (ix2 r j) = silu (gate u ⟨t * 512 + r.val, by omega⟩ j))
  (hl : ∀ (r : Fin 512) j, bl (ix2 r j) = slope (gate u ⟨t * 512 + r.val, by omega⟩ j))

include hd hw in
theorem pay1_at (r : Fin 512) (j : Fin 2816) : k0_pay1 (F := Ideal) bd bw (ix2 r j) = da d w ⟨t * 512 + r.val, by omega⟩ j := by
  pointwise [k0_pay1, hd, hw]
  rfl

include hd hw hu hl in
theorem pay2_at (r : Fin 512) (j : Fin 2816) : k0_pay2 (F := Ideal) bd bw bu bl (ix2 r j)
    = da d w ⟨t * 512 + r.val, by omega⟩ j * up u ⟨t * 512 + r.val, by omega⟩ j * slope (gate u ⟨t * 512 + r.val, by omega⟩ j) := by
  pointwise [k0_pay2, pay1_at ht hd hw, hu, hl]

include hd hw hs in
theorem pay3_at (r : Fin 512) (j : Fin 2816) : k0_pay3 (F := Ideal) bd bw bs (ix2 r j)
    = da d w ⟨t * 512 + r.val, by omega⟩ j * silu (gate u ⟨t * 512 + r.val, by omega⟩ j) := by
  pointwise [k0_pay3, pay1_at ht hd hw, hs]

end Body

variable (m : (ℓ : Loc nD τ sig) → Buf (Elt Ideal) ℓ) (c : Dev nD)

/-! The operands as the region reads them: the host prepares them out of the arguments. -/

def sg (u : FVec Ideal S2048x5632 .f32) : FVec Ideal S2048x2816 .f32 :=
  Host.divf (broadcastInDim S2048x2816 ![] bcast_S_S2048x2816 (constant S_ .f32 0x3F800000#32))
    (addf (broadcastInDim S2048x2816 ![] bcast_S_S2048x2816 (constant S_ .f32 0x3F800000#32))
      (Host.exp (Host.negf (extractStridedSlice S2048x2816 ![0, 0] u slices_S2048x5632_S2048x2816_0_0))))

def act (u : FVec Ideal S2048x5632 .f32) : FVec Ideal S2048x2816 .f32 := mulf (extractStridedSlice S2048x2816 ![0, 0] u slices_S2048x5632_S2048x2816_0_0) (sg u)

def der (u : FVec Ideal S2048x5632 .f32) : FVec Ideal S2048x2816 .f32 :=
  addf (sg u) (mulf (act u) (subf (broadcastInDim S2048x2816 ![] bcast_S_S2048x2816 (constant S_ .f32 0x3F800000#32)) (sg u)))

def half (u : FVec Ideal S2048x5632 .f32) : FVec Ideal S2048x2816 .f32 := extractStridedSlice S2048x2816 ![0, 2816] u slices_S2048x5632_S2048x2816_0_2816

theorem V_up : V m c main_v13 = truncf .bf16 (half (m ((c : Thread nD τ).loc main_arg1))) bitsLt_bf16_f32 := by
  unfold V
  simp only [hostOps0, StableHlo.TRef.nary, StableHlo.TRef.binary, StableHlo.TRef.unary, StableHlo.TRef.toBuf, StableHlo.TRef.ofBuf, cast_eq]
  after_results_simp <;> rfl

theorem V_act : V m c main_v14 = truncf .bf16 (act (m ((c : Thread nD τ).loc main_arg1))) bitsLt_bf16_f32 := by
  unfold V
  simp only [hostOps0, StableHlo.TRef.nary, StableHlo.TRef.binary, StableHlo.TRef.unary, StableHlo.TRef.toBuf, StableHlo.TRef.ofBuf, cast_eq]
  after_results_simp <;> rfl

theorem V_der : V m c main_v15 = truncf .bf16 (der (m ((c : Thread nD τ).loc main_arg1))) bitsLt_bf16_f32 := by
  unfold V
  simp only [hostOps0, StableHlo.TRef.nary, StableHlo.TRef.binary, StableHlo.TRef.unary, StableHlo.TRef.toBuf, StableHlo.TRef.ofBuf, cast_eq]
  after_results_simp <;> rfl

def lowered (w : FVec Ideal S2816x1024 .f32) : FVec Ideal S2816x1024 .bf16 := truncf .bf16 w bitsLt_bf16_f32

theorem V_weight : V m c main_v16 = lowered (m ((c : Thread nD τ).loc main_arg2)) := by
  unfold V
  simp only [hostOps0, StableHlo.TRef.nary, StableHlo.TRef.binary, StableHlo.TRef.unary, StableHlo.TRef.toBuf, StableHlo.TRef.ofBuf, cast_eq]
  after_results_simp <;> rfl

theorem sg_at (u : FVec Ideal S2048x5632 .f32) (r : Fin 2048) (j : Fin 2816) : sg u (ix2 r j) = Ideal.logistic (gate u r j) := by
  pointwise [sg]
  rfl

theorem act_at (u : FVec Ideal S2048x5632 .f32) (r : Fin 2048) (j : Fin 2816) : act u (ix2 r j) = silu (gate u r j) := by
  pointwise [act, sg_at]
  rfl

theorem der_at (u : FVec Ideal S2048x5632 .f32) (r : Fin 2048) (j : Fin 2816) : der u (ix2 r j) = slope (gate u r j) := by
  pointwise [der, sg_at, act_at]
  rfl

theorem d_at (t : Fin cfg0.N) (r : Fin 512) (k : Fin 1024) : (show EReal from iblk m c 0 t (ix2 r k))
    = (m ((c : Thread nD τ).loc main_arg0)) (ix2 ⟨t.val * 512 + r.val, by have := point_lt t; omega⟩ k) := by
  blk_ext [iblk, V_main_arg0, place t]

theorem u_at (t : Fin cfg0.N) (r : Fin 512) (j : Fin 2816) : (show EReal from iblk m c 1 t (ix2 r j))
    = up (m ((c : Thread nD τ).loc main_arg1)) ⟨t.val * 512 + r.val, by have := point_lt t; omega⟩ j := by
  have e : (show EReal from iblk m c 1 t (ix2 r j)) = V m c main_v13 (ix2 ⟨t.val * 512 + r.val, by have := point_lt t; omega⟩ j : S2048x2816.Idx) := by
    blk_ext [iblk, place t]
  rw [e, V_up]
  pointwise [half]
  rfl

theorem s_at (t : Fin cfg0.N) (r : Fin 512) (j : Fin 2816) : (show EReal from iblk m c 2 t (ix2 r j))
    = silu (gate (m ((c : Thread nD τ).loc main_arg1)) ⟨t.val * 512 + r.val, by have := point_lt t; omega⟩ j) := by
  have e : (show EReal from iblk m c 2 t (ix2 r j)) = V m c main_v14 (ix2 ⟨t.val * 512 + r.val, by have := point_lt t; omega⟩ j : S2048x2816.Idx) := by
    blk_ext [iblk, place t]
  rw [e, V_act]
  pointwise [act_at]

theorem l_at (t : Fin cfg0.N) (r : Fin 512) (j : Fin 2816) : (show EReal from iblk m c 3 t (ix2 r j))
    = slope (gate (m ((c : Thread nD τ).loc main_arg1)) ⟨t.val * 512 + r.val, by have := point_lt t; omega⟩ j) := by
  have e : (show EReal from iblk m c 3 t (ix2 r j)) = V m c main_v15 (ix2 ⟨t.val * 512 + r.val, by have := point_lt t; omega⟩ j : S2048x2816.Idx) := by
    blk_ext [iblk, place t]
  rw [e, V_der]
  pointwise [der_at]

theorem w_at (t : Fin cfg0.N) (j : Fin 2816) (k : Fin 1024) : (show EReal from iblk m c 4 t (ix2 j k))
    = (m ((c : Thread nD τ).loc main_arg2)) (ix2 j k) := by
  have e : (show EReal from iblk m c 4 t (ix2 j k)) = V m c main_v16 (ix2 j k : S2816x1024.Idx) := by
    blk_ext [iblk, place t]
  rw [e, V_weight]
  pointwise [lowered]

theorem G_left (d : FVec Ideal S2048x1024 .f32) (u : FVec Ideal S2048x5632 .f32) (w : FVec Ideal S2816x1024 .f32) (r : Fin 2048) (j : Fin 2816) (h : j.val < 5632) :
    G d u w (ix2 r ⟨j.val, h⟩) = da d w r j * up u r j * slope (gate u r j) := by
  unfold G
  exact dif_pos j.isLt

theorem G_right (d : FVec Ideal S2048x1024 .f32) (u : FVec Ideal S2048x5632 .f32) (w : FVec Ideal S2816x1024 .f32) (r : Fin 2048) (j : Fin 2816) (h : 2816 + j.val < 5632) :
    G d u w (ix2 r ⟨2816 + j.val, h⟩) = da d w r j * silu (gate u r j) := by
  unfold G
  refine (dif_neg (show ¬ (2816 + j.val < 2816) by omega)).trans ?_
  have e : (⟨2816 + j.val - 2816, by omega⟩ : Fin 2816) = j := Fin.ext (by simp)
  exact congrArg (fun q => da d w r q * silu (gate u r q)) e

theorem final5 : (dats m 0 c).arrAt 5 (cfgs 0).N
    = G (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_open
  frame_out
  refine (two (fun y : S512x5632.Idx => G (m ((c : Thread nD τ).loc main_arg0)) (m ((c : Thread nD τ).loc main_arg1)) (m ((c : Thread nD τ).loc main_arg2)) (ix2 ⟨t.val * 512 + (y 0).val, by have := point_lt t; have := (y 0).isLt; simp at this; omega⟩ (y 1)))
    _ _ _ _ _ y (fun x => ?_) (fun x => ?_)).trans ?_
  · obtain ⟨r, q, rfl⟩ : ∃ (r : Fin 512) (q : Fin 2816), x = (ix2 r q : S512x2816.Idx) := ⟨x 0, x 1, eq_ix2 x⟩
    exact (pay3_at (point_lt t) (d_at m c t) (w_at m c t) (s_at m c t) r q).trans (G_right _ _ _ _ q _).symm
  · obtain ⟨r, q, rfl⟩ : ∃ (r : Fin 512) (q : Fin 2816), x = (ix2 r q : S512x2816.Idx) := ⟨x 0, x 1, eq_ix2 x⟩
    exact (pay2_at (point_lt t) (d_at m c t) (w_at m c t) (u_at m c t) (l_at m c t) r q).trans (G_left _ _ _ _ q _).symm
  · obtain ⟨r, l, rfl⟩ : ∃ (r : Fin 512) (l : Fin 5632), y = (ix2 r l : S512x5632.Idx) := ⟨y 0, y 1, eq_ix2 y⟩
    blk_ext [place t]

end

open Cert.Reference11Ideal.Read in
theorem logistic_at (u : FVec Ideal Reference11Ideal.S2048x5632 .f32) (r : Fin 2048) (j : Fin 2816) :
    Reference11Ideal.Read.val_main_v2_2 (F := Ideal) u (ix2 r j) = Ideal.logistic (gate u r j) := by
  pointwise [val_main_v2_2, val_main_call0_cst, val_main_call0_cst_0, val_main_call0_v4, val_main_call0_v3, val_main_call0_v2, val_main_call0_v1, val_main_call0_v0, val_main_v0]
  rfl

open Cert.Reference11Ideal.Read in
theorem left_at (d : FVec Ideal Reference11Ideal.S2048x1024 .f32) (u : FVec Ideal Reference11Ideal.S2048x5632 .f32) (w : FVec Ideal Reference11Ideal.S2816x1024 .f32) (r : Fin 2048) (j : Fin 2816) :
    val_main_v8 (F := Ideal) d u w (ix2 r j) = da d w r j * up u r j * Ideal.logistic (gate u r j)
      + gate u r j * (da d w r j * up u r j) * (Ideal.logistic (gate u r j) * (1 - Ideal.logistic (gate u r j))) := by
  pointwise [val_main_v8, val_main_call1_v0, val_main_call1_v1, val_main_call1_v2, val_main_v7, val_main_v5, val_main_v1, val_main_v0, val_main_v2_1, val_main_call0_v7, val_main_call0_v6, val_main_call0_cst_1, logistic_at]
  rfl

open Cert.Reference11Ideal.Read in
theorem right_at (d : FVec Ideal Reference11Ideal.S2048x1024 .f32) (u : FVec Ideal Reference11Ideal.S2048x5632 .f32) (w : FVec Ideal Reference11Ideal.S2816x1024 .f32) (r : Fin 2048) (j : Fin 2816) :
    val_main_v6 (F := Ideal) d u w (ix2 r j) = silu (gate u r j) * da d w r j := by
  pointwise [val_main_v6, val_main_v2_0, val_main_v5, val_main_v0, logistic_at]
  rfl

open Cert.Reference11Ideal.Read in
theorem res (d : FVec Ideal Reference11Ideal.S2048x1024 .f32) (u : FVec Ideal Reference11Ideal.S2048x5632 .f32) (w : FVec Ideal Reference11Ideal.S2816x1024 .f32) :
    val_main_v10 (F := Ideal) d u w = R d u w := by
  funext j
  obtain ⟨r, q, rfl⟩ : ∃ (r : Fin 2048) (q : Fin 5632), j = (ix2 r q : Reference11Ideal.S2048x5632.Idx) := ⟨j 0, j 1, eq_ix2 j⟩
  by_cases h : q.val < 2816
  · have e : R d u w (ix2 r q) = _ := dif_pos h
    refine Eq.trans ?_ ((left_at d u w r ⟨q.val, h⟩).trans e.symm)
    pointwise [val_main_v10, val_main_v9]
    exact dif_pos h
  · have e : R d u w (ix2 r q) = _ := dif_neg h
    refine Eq.trans ?_ ((right_at d u w r ⟨q.val - 2816, by omega⟩).trans e.symm)
    pointwise [val_main_v10, val_main_v9]
    exact dif_neg h

/-- The side conditions of the precondition's own operations. -/
instance facts_pre : Cert.Pre_finite11.Facts where
  bcast_S_S2048x1024 := by decide
  reducesTo_S2048x1024_S_d0_1 := by decide
  h_S_ := by decide
  slices_S2048x5632_S2048x2816_0_2816 := by decide
  bcast_S_S2048x2816 := by decide
  reducesTo_S2048x2816_S_d0_1 := by decide
  bcast_S_S2816x1024 := by decide
  reducesTo_S2816x1024_S_d0_1 := by decide

/-- The reference keeps its arguments; it has no semaphore. -/
theorem frame_reference : Cert.quiescent_Reference11Ideal := by
  intro m g _
  exact (θ_run Reference11Ideal.defs _ _).mono
    (fun r h => ⟨fun c => (h c).2, sem_eq_zero_of_no_sems (by decide) r.2⟩) (Reference11Ideal.Value.run (F := Ideal) m g)

theorem frame_reference_pre : Cert.quiescent_Reference11Ideal_pre_finite11 :=
  fun m g _ => frame_reference m g trivial

section

open Cert.Reference11Ideal

/-- The reference ends with the formula in its result, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v10) = R (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((Read.val_main_v10_eq _ _ _).trans (res _ _ _)), (h c).2⟩) (Value.run (F := Ideal) m g)

end

theorem and_one {a b : BitVec 1} (h : a &&& b = 1#1) : a = 1#1 ∧ b = 1#1 := by
  revert a b
  decide

instance : Subsingleton Cert.Pre_finite11.S_.Idx := ⟨fun a b => funext fun i => i.elim0⟩

/-- What the precondition says of the three arrays. -/
theorem real_of_pre (d : FVec Ideal Pre_finite11.S2048x1024 .f32) (u : FVec Ideal Pre_finite11.S2048x5632 .f32) (w : FVec Ideal Pre_finite11.S2816x1024 .f32)
    (h : Cert.Pre_finite11.fn (F := Ideal) d u w = fun _ => 1#1) :
    (∀ i, ∃ a : ℝ, (show EReal from d i) = a) ∧ (∀ r j, ∃ a : ℝ, up u r j = a) ∧ (∀ i, ∃ a : ℝ, (show EReal from w i) = a) := by
  have e := congrFun h (fun i => i.elim0)
  unfold Cert.Pre_finite11.fn at e
  obtain ⟨e', e3⟩ := and_one e
  obtain ⟨e1, e2⟩ := and_one e'
  refine ⟨fun i => Finite.real_of_all _ _ (fun _ => ?_) _ _ _ _ e1 i, fun r j => ?_, fun i => Finite.real_of_all _ _ (fun _ => ?_) _ _ _ _ e3 i⟩
  · exact Finite.inf_eq
  · obtain ⟨a, ha⟩ := Finite.real_of_all _ _ (fun _ => Finite.inf_eq) _ _ _ _ e2 (ix2 r j : Pre_finite11.S2048x2816.Idx)
    refine ⟨a, Eq.trans ?_ ha⟩
    pointwise [up]
  · exact Finite.inf_eq

theorem algebraic : Cert.algebraic_Kernel11Ideal_Reference11Ideal_pre_finite11 := by
  pair_intro
  · run_from Cert.Kernel11Ideal.Value.run_blocks m g
  · run_from run_reference m' g'
    obtain ⟨hd, hu, hw⟩ := real_of_pre _ _ _ (hpre c)
    exact (R_eq _ _ _ hd hu hw).trans (final5 m c).symm

end Cert.FfnOutBwd

end
-- ==== Proof.RmsMmFfnClaim.lean ====
/-
  The norm before the channel mixer, its product and the gate: formulas, reference, kernel's results, claims.
-/
module

public import proofs.«01_k».proof.Defs
public import proofs.«01_k».proof.Proof.RmsMath
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsMmFfn

open Cert.Rms

section

open Cert.Kernel12Ideal Cert.Kernel12Ideal.Gen

section Formula

variable (x : FVec Ideal S2048x1024 .f32) (g : FVec Ideal S1024 .f32) (w : FVec Ideal S1024x5632 .f32)

/-- The normalised row. -/
def hn (r : Fin 2048) (k : Fin 1024) : EReal := x (ix2 r k) * rs (fun k => x (ix2 r k)) * g (ix1 k)

/-- The product with the weight, at any column. -/
def pr (r : Fin 2048) (l : Fin 5632) : EReal := ∑ k : Fin 1024, hn x g r k * w (ix2 k l)

/-- The gate's half and the value's half. -/
def gt (r : Fin 2048) (j : Fin 2816) : EReal := pr x g w r ⟨j.val, by omega⟩

def up (r : Fin 2048) (j : Fin 2816) : EReal := pr x g w r ⟨2816 + j.val, by omega⟩

def silu (a : EReal) : EReal := a * Ideal.logistic a

def slope (a : EReal) : EReal := Ideal.logistic a + silu a * (1 - Ideal.logistic a)

def Ga : FVec Ideal S2048x2816 .bf16 := fun j => silu (gt x g w (j 0) (j 1)) * up x g w (j 0) (j 1)

def Gu : FVec Ideal S2048x2816 .bf16 := fun j => up x g w (j 0) (j 1)

def Gs : FVec Ideal S2048x2816 .bf16 := fun j => silu (gt x g w (j 0) (j 1))

def Gd : FVec Ideal S2048x2816 .bf16 := fun j => slope (gt x g w (j 0) (j 1))

def Gh : FVec Ideal S2048x1024 .bf16 := fun j => hn x g (j 0) (j 1)

end Formula

theorem place : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 8 := lt_of_lt_of_eq t.isLt N_0

/-! The body's vectors over blocks that are row tile `t` of the arrays. -/

section Body

variable {x : FVec Ideal S2048x1024 .f32} {g : FVec Ideal S1024 .f32} {w : FVec Ideal S1024x5632 .f32} {t : ℕ} (ht : t < 8)
  {bx : Vec Ideal S256x1024 .f32} {bg : Vec Ideal S1x1024 .f32} {bw : Vec Ideal S5632x1024 .bf16}
  (hx : ∀ (r : Fin 256) k, bx (ix2 r k) = x (ix2 ⟨t * 256 + r.val, by omega⟩ k)) (hg : ∀ q, bg (ix2 0 q) = g (ix1 q))
  (hw : ∀ l k, bw (ix2 l k) = w (ix2 k l))

include hx hg in
theorem pay1_at (r : Fin 256) (k : Fin 1024) : k0_pay1 (F := Ideal) bx bg (ix2 r k) = hn x g ⟨t * 256 + r.val, by omega⟩ k := by
  pointwise [k0_pay1, hx, hg]
  rfl

include hx hg hw in
theorem pay2_at (r : Fin 256) (l : Fin 5632) : k0_pay2 (F := Ideal) bx bg bw (ix2 r l) = pr x g w ⟨t * 256 + r.val, by omega⟩ l := by
  pointwise [k0_pay2, pay1_at ht hx hg, hw]
  rfl

include hx hg hw in
theorem pay3_at (r : Fin 256) (j : Fin 2816) : k0_pay3 (F := Ideal) bx bg bw (ix2 r j) = gt x g w ⟨t * 256 + r.val, by omega⟩ j := by
  pointwise [k0_pay3, pay2_at ht hx hg hw]
  rfl

include hx hg hw in
theorem pay4_at (r : Fin 256) (j : Fin 2816) : k0_pay4 (F := Ideal) bx bg bw (ix2 r j) = up x g w ⟨t * 256 + r.val, by omega⟩ j := by
  pointwise [k0_pay4, pay2_at ht hx hg hw]
  rfl

include hx hg hw in
theorem pay5_at (r : Fin 256) (j : Fin 2816) : k0_pay5 (F := Ideal) bx bg bw (ix2 r j) = Ideal.logistic (gt x g w ⟨t * 256 + r.val, by omega⟩ j) := by
  pointwise [k0_pay5, pay3_at ht hx hg hw]

include hx hg hw in
theorem pay6_at (r : Fin 256) (j : Fin 2816) : k0_pay6 (F := Ideal) bx bg bw (ix2 r j) = silu (gt x g w ⟨t * 256 + r.val, by omega⟩ j) := by
  pointwise [k0_pay6, pay3_at ht hx hg hw, pay5_at ht hx hg hw]
  rfl

include hx hg hw in
theorem pay7_at (r : Fin 256) (j : Fin 2816) : k0_pay7 (F := Ideal) bx bg bw (ix2 r j) = Ga x g w (ix2 ⟨t * 256 + r.val, by omega⟩ j) := by
  pointwise [k0_pay7, pay4_at ht hx hg hw, pay6_at ht hx hg hw]
  rfl

include hx hg hw in
theorem pay8_at (r : Fin 256) (j : Fin 2816) : k0_pay8 (F := Ideal) bx bg bw (ix2 r j) = Gu x g w (ix2 ⟨t * 256 + r.val, by omega⟩ j) := by
  pointwise [k0_pay8, pay4_at ht hx hg hw]
  rfl

include hx hg hw in
theorem pay9_at (r : Fin 256) (j : Fin 2816) : k0_pay9 (F := Ideal) bx bg bw (ix2 r j) = Gs x g w (ix2 ⟨t * 256 + r.val, by omega⟩ j) := by
  pointwise [k0_pay9, pay6_at ht hx hg hw]
  rfl

include hx hg hw in
theorem pay10_at (r : Fin 256) (j : Fin 2816) : k0_pay10 (F := Ideal) bx bg bw (ix2 r j) = Gd x g w (ix2 ⟨t * 256 + r.val, by omega⟩ j) := by
  pointwise [k0_pay10, pay5_at ht hx hg hw, pay6_at ht hx hg hw]
  rfl

end Body

variable (m : (ℓ : Loc nD τ sig) → Buf (Elt Ideal) ℓ) (c : Dev nD)

/-- The operands as the region reads them: the weight transposed, the scale as a row. -/
def turned (w : FVec Ideal S1024x5632 .f32) : FVec Ideal S5632x1024 .bf16 :=
  transpose S5632x1024 [1, 0] (truncf .bf16 w bitsLt_bf16_f32) transposes_S1024x5632_S5632x1024_1_0

def lifted (g : FVec Ideal S1024 .f32) : FVec Ideal S1x1024 .f32 := broadcastInDim S1x1024 ![1] bcast_S1024_S1x1024_1 g

theorem V_turned : V m c main_v2 = turned (m ((c : Thread nD τ).loc main_arg2)) := by
  unfold V
  simp only [hostOps0, StableHlo.TRef.nary, StableHlo.TRef.binary, StableHlo.TRef.unary, StableHlo.TRef.toBuf, StableHlo.TRef.ofBuf, cast_eq]
  after_results_simp <;> rfl

theorem V_lifted : V m c main_v0 = lifted (m ((c : Thread nD τ).loc main_arg1)) := by
  unfold V
  simp only [hostOps0, StableHlo.TRef.nary, StableHlo.TRef.binary, StableHlo.TRef.unary, StableHlo.TRef.toBuf, StableHlo.TRef.ofBuf, cast_eq]
  after_results_simp <;> rfl

theorem x_at (t : Fin cfg0.N) (r : Fin 256) (k : Fin 1024) : (show EReal from iblk m c 0 t (ix2 r k))
    = (m ((c : Thread nD τ).loc main_arg0)) (ix2 ⟨t.val * 256 + r.val, by have := point_lt t; omega⟩ k) := by
  blk_ext [iblk, V, place t]

theorem g_at (t : Fin cfg0.N) (q : Fin 1024) : (show EReal from iblk m c 1 t (ix2 0 q)) = (m ((c : Thread nD τ).loc main_arg1)) (ix1 q) := by
  have e : (show EReal from iblk m c 1 t (ix2 0 q)) = V m c main_v0 (ix2 0 q : S1x1024.Idx) := by
    blk_ext [iblk, place t]
  rw [e, V_lifted]
  pointwise [lifted]

theorem w_at (t : Fin cfg0.N) (l : Fin 5632) (k : Fin 1024) : (show EReal from iblk m c 2 t (ix2 l k)) = (m ((c : Thread nD τ).loc main_arg2)) (ix2 k l) := by
  have e : (show EReal from iblk m c 2 t (ix2 l k)) = V m c main_v2 (ix2 l k : S5632x1024.Idx) := by
    blk_ext [iblk, place t]
  rw [e, V_turned]
  pointwise [turned]

theorem final3 : (dats m 0 c).arrAt 3 (cfgs 0).N
    = Ga (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  obtain ⟨r, q, rfl⟩ : ∃ (r : Fin 256) (q : Fin 2816), y = (ix2 r q : S256x2816.Idx) := ⟨y 0, y 1, eq_ix2 y⟩
  rw [after0_3]
  frame_open
  frame_out
  refine (pay7_at (point_lt t) (x_at m c t) (g_at m c t) (w_at m c t) r q).trans ?_
  blk_ext [place t]

theorem final4 : (dats m 0 c).arrAt 4 (cfgs 0).N
    = Gu (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  obtain ⟨r, q, rfl⟩ : ∃ (r : Fin 256) (q : Fin 2816), y = (ix2 r q : S256x2816.Idx) := ⟨y 0, y 1, eq_ix2 y⟩
  rw [after0_4]
  frame_open
  frame_out
  refine (pay8_at (point_lt t) (x_at m c t) (g_at m c t) (w_at m c t) r q).trans ?_
  blk_ext [place t]

theorem final5 : (dats m 0 c).arrAt 5 (cfgs 0).N
    = Gs (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  obtain ⟨r, q, rfl⟩ : ∃ (r : Fin 256) (q : Fin 2816), y = (ix2 r q : S256x2816.Idx) := ⟨y 0, y 1, eq_ix2 y⟩
  rw [after0_5]
  frame_open
  frame_out
  refine (pay9_at (point_lt t) (x_at m c t) (g_at m c t) (w_at m c t) r q).trans ?_
  blk_ext [place t]

theorem final6 : (dats m 0 c).arrAt 6 (cfgs 0).N
    = Gd (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  obtain ⟨r, q, rfl⟩ : ∃ (r : Fin 256) (q : Fin 2816), y = (ix2 r q : S256x2816.Idx) := ⟨y 0, y 1, eq_ix2 y⟩
  rw [after0_6]
  frame_open
  frame_out
  refine (pay10_at (point_lt t) (x_at m c t) (g_at m c t) (w_at m c t) r q).trans ?_
  blk_ext [place t]

theorem final7 : (dats m 0 c).arrAt 7 (cfgs 0).N = Gh (m ((c : Thread nD τ).loc main_arg0)) (m ((c : Thread nD τ).loc main_arg1)) := by
  refine (dats m 0 c).arrAt_eq_of_covers 7 _ (by decide +kernel) fun t _ y => ?_
  blk_simp
  obtain ⟨r, q, rfl⟩ : ∃ (r : Fin 256) (q : Fin 1024), y = (ix2 r q : S256x1024.Idx) := ⟨y 0, y 1, eq_ix2 y⟩
  rw [after0_7]
  frame_open
  frame_out
  refine (pay1_at (point_lt t) (x_at m c t) (g_at m c t) r q).trans ?_
  show Gh _ _ (ix2 _ q) = _
  blk_ext [place t]

end

section

open Cert.Reference12Ideal Cert.Reference12Ideal.Read

variable (x : FVec Ideal S2048x1024 .f32) (g : FVec Ideal S1024 .f32) (w : FVec Ideal S1024x5632 .f32)

theorem v12_at (r : Fin 2048) (k : Fin 1024) : val_main_v12 (F := Ideal) x g (ix2 r k) = hn x g r k := by
  pointwise [val_main_v0, val_main_v1, val_main_v2, val_main_v3, val_main_v4, val_main_v5, val_main_v6, val_main_v7, val_main_v8, val_main_v9, val_main_v10, val_main_v11,
    val_main_v12, val_main_cst, val_main_cst_0, val_main_cst_1]
  rfl

theorem v13_at (r : Fin 2048) (l : Fin 5632) : val_main_v13 (F := Ideal) x g w (ix2 r l) = pr x g w r l := by
  pointwise [val_main_v13, v12_at]
  rfl

theorem v14_at (r : Fin 2048) (j : Fin 2816) : val_main_v14 (F := Ideal) x g w (ix2 r j) = gt x g w r j := by
  pointwise [val_main_v14, v13_at]
  rfl

theorem v15_at (r : Fin 2048) (j : Fin 2816) : val_main_v15 (F := Ideal) x g w (ix2 r j) = up x g w r j := by
  pointwise [val_main_v15, v13_at]
  rfl

theorem sig_at (r : Fin 2048) (j : Fin 2816) : val_main_v16_2 (F := Ideal) x g w (ix2 r j) = Ideal.logistic (gt x g w r j) := by
  pointwise [val_main_v16_2, val_main_call0_cst, val_main_call0_cst_0, val_main_call0_v4, val_main_call0_v3, val_main_call0_v2, val_main_call0_v1, val_main_call0_v0, v14_at]
  rfl

theorem silu_at (r : Fin 2048) (j : Fin 2816) : val_main_v16_0 (F := Ideal) x g w (ix2 r j) = silu (gt x g w r j) := by
  pointwise [val_main_v16_0, v14_at, sig_at]
  rfl

theorem slope_at (r : Fin 2048) (j : Fin 2816) : val_main_v18 (F := Ideal) x g w (ix2 r j) = slope (gt x g w r j) := by
  pointwise [val_main_v18, val_main_call1_v0, val_main_call1_v1, val_main_call1_v2, val_main_v17, val_main_cst_2, val_main_v16_1, val_main_call0_v7, val_main_call0_v6, val_main_call0_cst_1,
    v14_at, sig_at]
  simp only [one_mul, mul_one, slope, silu, mul_assoc]

theorem res20 : val_main_v20 (F := Ideal) x g w = Ga x g w := by
  funext j
  obtain ⟨r, q, rfl⟩ : ∃ (r : Fin 2048) (q : Fin 2816), j = (ix2 r q : S2048x2816.Idx) := ⟨j 0, j 1, eq_ix2 j⟩
  pointwise [val_main_v20, val_main_v19, silu_at, v15_at]
  rfl

theorem res21 : val_main_v21 (F := Ideal) x g w = Gu x g w := by
  funext j
  obtain ⟨r, q, rfl⟩ : ∃ (r : Fin 2048) (q : Fin 2816), j = (ix2 r q : S2048x2816.Idx) := ⟨j 0, j 1, eq_ix2 j⟩
  pointwise [val_main_v21, v15_at]
  rfl

theorem res22 : val_main_v22 (F := Ideal) x g w = Gs x g w := by
  funext j
  obtain ⟨r, q, rfl⟩ : ∃ (r : Fin 2048) (q : Fin 2816), j = (ix2 r q : S2048x2816.Idx) := ⟨j 0, j 1, eq_ix2 j⟩
  pointwise [val_main_v22, silu_at]
  rfl

theorem res23 : val_main_v23 (F := Ideal) x g w = Gd x g w := by
  funext j
  obtain ⟨r, q, rfl⟩ : ∃ (r : Fin 2048) (q : Fin 2816), j = (ix2 r q : S2048x2816.Idx) := ⟨j 0, j 1, eq_ix2 j⟩
  pointwise [val_main_v23, slope_at]
  rfl

theorem res24 : val_main_v24 (F := Ideal) x g = Gh x g := by
  funext j
  obtain ⟨r, q, rfl⟩ : ∃ (r : Fin 2048) (q : Fin 1024), j = (ix2 r q : S2048x1024.Idx) := ⟨j 0, j 1, eq_ix2 j⟩
  pointwise [val_main_v24, v12_at]
  rfl

end

/-- The reference keeps its arguments; it has no semaphore. -/
theorem frame_reference : Cert.quiescent_Reference12Ideal := by
  intro m g _
  exact (θ_run Reference12Ideal.defs _ _).mono
    (fun r h => ⟨fun c => (h c).2.2.2.2.2, sem_eq_zero_of_no_sems (by decide) r.2⟩) (Reference12Ideal.Value.run (F := Ideal) m g)

theorem algebraic : Cert.algebraic_Kernel12Ideal_Reference12Ideal := by
  pair_intro
  · run_from Cert.Kernel12Ideal.Value.run_blocks m g
  · run_from Cert.Reference12Ideal.Value.run m' g'
    · exact (Reference12Ideal.Read.val_main_v20_eq _ _ _).trans ((res20 _ _ _).trans (final3 m c).symm)
    · exact (Reference12Ideal.Read.val_main_v21_eq _ _ _).trans ((res21 _ _ _).trans (final4 m c).symm)
    · exact (Reference12Ideal.Read.val_main_v22_eq _ _ _).trans ((res22 _ _ _).trans (final5 m c).symm)
    · rw [Reference12Ideal.Read.val_main_v23_eq m' c, (hagree c).1, (hagree c).2.1, (hagree c).2.2]
      exact (res23 _ _ _).trans (final6 m c).symm
    · exact (Reference12Ideal.Read.val_main_v24_eq _ _).trans ((res24 _ _).trans (final7 m c).symm)

end Cert.RmsMmFfn

end
-- ==== Proof.FfnOutFwdClaim.lean ====
/-
  The feed-forward block's second product with the residual added: formula, reference, kernel's result, claims.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnOutFwd

section

open Cert.Kernel13Ideal Cert.Kernel13Ideal.Gen

/-- The residual plus the activation times the weight. -/
def G (x : FVec Ideal S2048x1024 .f32) (a : FVec Ideal S2048x2816 .bf16) (w : FVec Ideal S2816x1024 .f32) : FVec Ideal S2048x1024 .f32 :=
  fun j => x (ix2 (j 0) (j 1)) + ∑ k : Fin 2816, a (ix2 (j 0) k) * w (ix2 k (j 1))

theorem place : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem point_lt (t : Fin cfg0.N) : t.val < 4 := lt_of_lt_of_eq t.isLt N_0

/-- The body's vector over blocks that are row tile `t` of the arrays. -/
theorem pay1_at {x : FVec Ideal S2048x1024 .f32} {a : FVec Ideal S2048x2816 .bf16} {w : FVec Ideal S2816x1024 .f32} {t : ℕ} (ht : t < 4)
    {bx : Vec Ideal S512x1024 .f32} {ba : Vec Ideal S512x2816 .bf16} {bw : Vec Ideal S2816x1024 .bf16}
    (hx : ∀ (r : Fin 512) k, bx (ix2 r k) = x (ix2 ⟨t * 512 + r.val, by omega⟩ k))
    (ha : ∀ (r : Fin 512) k, ba (ix2 r k) = a (ix2 ⟨t * 512 + r.val, by omega⟩ k)) (hw : ∀ k q, bw (ix2 k q) = w (ix2 k q))
    (r : Fin 512) (q : Fin 1024) : k0_pay1 (F := Ideal) bx ba bw (ix2 r q) = G x a w (ix2 ⟨t * 512 + r.val, by omega⟩ q) := by
  pointwise [k0_pay1, hx, ha, hw]
  rfl

variable (m : (ℓ : Loc nD τ sig) → Buf (Elt Ideal) ℓ) (c : Dev nD)

def lowered (w : FVec Ideal S2816x1024 .f32) : FVec Ideal S2816x1024 .bf16 := truncf .bf16 w bitsLt_bf16_f32

theorem V_weight : V m c main_v0 = lowered (m ((c : Thread nD τ).loc main_arg2)) := by
  unfold V
  simp only [hostOps0, StableHlo.TRef.nary, StableHlo.TRef.binary, StableHlo.TRef.unary, StableHlo.TRef.toBuf, StableHlo.TRef.ofBuf, cast_eq]
  after_results_simp <;> rfl

theorem x_at (t : Fin cfg0.N) (r : Fin 512) (k : Fin 1024) : (show EReal from iblk m c 0 t (ix2 r k))
    = (m ((c : Thread nD τ).loc main_arg0)) (ix2 ⟨t.val * 512 + r.val, by have := point_lt t; omega⟩ k) := by
  blk_ext [iblk, V, place t]

theorem a_at (t : Fin cfg0.N) (r : Fin 512) (k : Fin 2816) : (show EReal from iblk m c 1 t (ix2 r k))
    = (m ((c : Thread nD τ).loc main_arg1)) (ix2 ⟨t.val * 512 + r.val, by have := point_lt t; omega⟩ k) := by
  blk_ext [iblk, V, place t]

theorem w_at (t : Fin cfg0.N) (k : Fin 2816) (q : Fin 1024) : (show EReal from iblk m c 2 t (ix2 k q))
    = (m ((c : Thread nD τ).loc main_arg2)) (ix2 k q) := by
  have e : (show EReal from iblk m c 2 t (ix2 k q)) = V m c main_v0 (ix2 k q : S2816x1024.Idx) := by
    blk_ext [iblk, place t]
  rw [e, V_weight]
  pointwise [lowered]

theorem final3 : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  obtain ⟨r, q, rfl⟩ : ∃ (r : Fin 512) (q : Fin 1024), y = (ix2 r q : S512x1024.Idx) := ⟨y 0, y 1, eq_ix2 y⟩
  rw [after0_3]
  unfold outsAt0
  frame_open
  frame_out
  refine (pay1_at (point_lt t) (x_at m c t) (a_at m c t) (w_at m c t) r q).trans ?_
  blk_ext [place t]

end

open Cert.Reference13Ideal.Read in
theorem res (x : FVec Ideal Reference13Ideal.S2048x1024 .f32) (a : FVec Ideal Reference13Ideal.S2048x2816 .bf16) (w : FVec Ideal Reference13Ideal.S2816x1024 .f32) :
    val_main_v2 (F := Ideal) x a w = G x a w := by
  funext j
  obtain ⟨r, q, rfl⟩ : ∃ (r : Fin 2048) (q : Fin 1024), j = (ix2 r q : Reference13Ideal.S2048x1024.Idx) := ⟨j 0, j 1, eq_ix2 j⟩
  pointwise [val_main_v2, val_main_v1, val_main_v0]
  rfl

/-- The reference keeps its arguments; it has no semaphore. -/
theorem frame_reference : Cert.quiescent_Reference13Ideal := by
  intro m g _
  exact (θ_run Reference13Ideal.defs _ _).mono
    (fun r h => ⟨fun c => (h c).2, sem_eq_zero_of_no_sems (by decide) r.2⟩) (Reference13Ideal.Value.run (F := Ideal) m g)

theorem algebraic : Cert.algebraic_Kernel13Ideal_Reference13Ideal := by
  pair_intro
  · run_from Cert.Kernel13Ideal.Value.run_blocks m g
  · run_from Cert.Reference13Ideal.Value.run m' g'
    exact (Reference13Ideal.Read.val_main_v2_eq _ _ _).trans ((res _ _ _).trans (final3 m c).symm)

end Cert.FfnOutFwd

end
-- ==== Proof.MixFwdClaim.lean ====
/-
  The gated merge of the three branches and its product with the residual added: formula, reference, kernel's result, claims.
-/
module

public import proofs.«01_k».proof.Defs
public import proofs.«01_k».proof.Proof.MixRef
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixFwd

open Cert.Mix (gate br Gm)

section

open Cert.Kernel14Ideal Cert.Kernel14Ideal.Gen

/-- The residual plus the merged branches times the weight. -/
def G (x : FVec Ideal S2048x1024 .f32) (o z y : FVec Ideal S2048x512 .bf16) (g : FVec Ideal S2048x3072 .f32) (b : FVec Ideal S4x3072 .f32)
    (wa wc ws : FVec Ideal S512x1024 .f32) (wm : FVec Ideal S1024x1024 .f32) : FVec Ideal S2048x1024 .f32 :=
  fun j => x (ix2 (j 0) (j 1)) + ∑ k : Fin 1024, Gm o z y g b wa wc ws (ix2 (j 0) k) * wm (ix2 k (j 1))

theorem place : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 1] ∧ win0_6.index t = ![t.val, 2] ∧ win0_7.index t = ![0, 0, 0] ∧ win0_8.index t = ![0, 0]
    ∧ win0_9.index t = ![0, 1] ∧ win0_10.index t = ![0, 2] ∧ win0_11.index t = ![0, 0] ∧ win0_12.index t = ![t.val, 0] :=
  (by decide +kernel : ∀ t : Fin grid0.N, _)

theorem point_lt (t : Fin cfg0.N) : t.val < 8 := lt_of_lt_of_eq t.isLt N_0

/-! The body's vectors over blocks that are row tile `t` of the arrays; one branch at a time. -/

section Body

variable {t : ℕ} (ht : t < 8) {a : FVec Ideal S2048x512 .bf16} {w : FVec Ideal S512x1024 .f32} {ba : Vec Ideal S256x512 .bf16} {bw : Vec Ideal S1024x512 .bf16}
  (ha : ∀ (r : Fin 256) k, ba (ix2 r k) = a (ix2 ⟨t * 256 + r.val, by omega⟩ k)) (hw : ∀ q k, bw (ix2 q k) = w (ix2 k q))

include ha hw in
theorem pay2_at (r : Fin 256) (q : Fin 1024) : k0_pay2 (F := Ideal) ba bw (ix2 r q) = br a w ⟨t * 256 + r.val, by omega⟩ q := by
  pointwise [k0_pay2, ha, hw]
  rfl

include ha hw in
theorem pay3_at (r : Fin 256) (q : Fin 1024) : k0_pay3 (F := Ideal) ba bw (ix2 r q) = br a w ⟨t * 256 + r.val, by omega⟩ q := by
  pointwise [k0_pay3, ha, hw]
  rfl

include ha hw in
theorem pay4_at (r : Fin 256) (q : Fin 1024) : k0_pay4 (F := Ideal) ba bw (ix2 r q) = br a w ⟨t * 256 + r.val, by omega⟩ q := by
  pointwise [k0_pay4, ha, hw]
  rfl

variable {g : FVec Ideal S2048x3072 .f32} {b : FVec Ideal S4x3072 .f32} {n : ℕ} (hn : n ≤ 2048) {bg : Vec Ideal S256x1024 .f32} {bb : Vec Ideal S1x1x1024 .f32}
  (hg : ∀ (r : Fin 256) (q : Fin 1024), bg (ix2 r q) = g (ix2 ⟨t * 256 + r.val, by omega⟩ ⟨n + q.val, by omega⟩))
  (hb : ∀ q : Fin 1024, bb (ix3 0 0 q) = b (ix2 0 ⟨n + q.val, by omega⟩))

include hg hb in
theorem pay5_at (r : Fin 256) (q : Fin 1024) : k0_pay5 (F := Ideal) bg bb (ix2 r q) = gate g b ⟨t * 256 + r.val, by omega⟩ ⟨n + q.val, by omega⟩ := by
  pointwise [k0_pay5, hg, hb]
  rfl

include hg hb in
theorem pay6_at (r : Fin 256) (q : Fin 1024) : k0_pay6 (F := Ideal) bg bb (ix2 r q) = gate g b ⟨t * 256 + r.val, by omega⟩ ⟨n + q.val, by omega⟩ := by
  pointwise [k0_pay6, hg, hb]
  rfl

include hg hb in
theorem pay7_at (r : Fin 256) (q : Fin 1024) : Ideal.logistic (k0_pay7 (F := Ideal) bg bb (ix2 r q)) = gate g b ⟨t * 256 + r.val, by omega⟩ ⟨n + q.val, by omega⟩ := by
  pointwise [k0_pay7, hg, hb]
  rfl

end Body

/-- The stored vector, over the three branches' values and gates. -/
theorem pay1_at {x : FVec Ideal S2048x1024 .f32} {o z y : FVec Ideal S2048x512 .bf16} {g : FVec Ideal S2048x3072 .f32} {b : FVec Ideal S4x3072 .f32}
    {wa wc ws : FVec Ideal S512x1024 .f32} {wm : FVec Ideal S1024x1024 .f32} {t : ℕ} (ht : t < 8) {v3 v7 v11 v17 v23 v28 bx : FVec Ideal S256x1024 .f32} {bm : Vec Ideal S1024x1024 .bf16}
    (hx : ∀ (r : Fin 256) k, bx (ix2 r k) = x (ix2 ⟨t * 256 + r.val, by omega⟩ k)) (hm : ∀ k q, bm (ix2 k q) = wm (ix2 k q))
    (h3 : ∀ (r : Fin 256) q, v3 (ix2 r q) = br o wa ⟨t * 256 + r.val, by omega⟩ q)
    (h7 : ∀ (r : Fin 256) q, v7 (ix2 r q) = br z wc ⟨t * 256 + r.val, by omega⟩ q)
    (h11 : ∀ (r : Fin 256) q, v11 (ix2 r q) = br y ws ⟨t * 256 + r.val, by omega⟩ q)
    (h17 : ∀ (r : Fin 256) (q : Fin 1024), v17 (ix2 r q) = gate g b ⟨t * 256 + r.val, by omega⟩ ⟨0 + q.val, by omega⟩)
    (h23 : ∀ (r : Fin 256) (q : Fin 1024), v23 (ix2 r q) = gate g b ⟨t * 256 + r.val, by omega⟩ ⟨1024 + q.val, by omega⟩)
    (h28 : ∀ (r : Fin 256) (q : Fin 1024), Ideal.logistic (v28 (ix2 r q)) = gate g b ⟨t * 256 + r.val, by omega⟩ ⟨2048 + q.val, by omega⟩)
    (r : Fin 256) (q : Fin 1024) : k0_pay1 (F := Ideal) v3 v7 v11 v17 v23 v28 bx bm (ix2 r q) = G x o z y g b wa wc ws wm (ix2 ⟨t * 256 + r.val, by omega⟩ q) := by
  pointwise [k0_pay1, hx, hm, h3, h7, h11, h17, h23, h28]
  unfold G Gm
  simp only [Nat.zero_add]
  rfl

variable (m : (ℓ : Loc nD τ sig) → Buf (Elt Ideal) ℓ) (c : Dev nD)

/-! The blocks of the inputs, read in the arrays. -/

theorem x_at (t : Fin cfg0.N) (r : Fin 256) (k : Fin 1024) :
    (show EReal from iblk m c 0 t (ix2 r k : S256x1024.Idx))
      = m ((c : Thread nD τ).loc main_arg0) (ix2 ⟨t.val * 256 + r.val, by have := point_lt t; omega⟩ k : S2048x1024.Idx) := by
  blk_ext [iblk, V, place t]

theorem o_at (t : Fin cfg0.N) (r : Fin 256) (k : Fin 512) :
    (show EReal from iblk m c 1 t (ix2 r k : S256x512.Idx))
      = m ((c : Thread nD τ).loc main_arg1) (ix2 ⟨t.val * 256 + r.val, by have := point_lt t; omega⟩ k : S2048x512.Idx) := by
  blk_ext [iblk, V, place t]

theorem z_at (t : Fin cfg0.N) (r : Fin 256) (k : Fin 512) :
    (show EReal from iblk m c 2 t (ix2 r k : S256x512.Idx))
      = m ((c : Thread nD τ).loc main_arg2) (ix2 ⟨t.val * 256 + r.val, by have := point_lt t; omega⟩ k : S2048x512.Idx) := by
  blk_ext [iblk, V, place t]

theorem y_at (t : Fin cfg0.N) (r : Fin 256) (k : Fin 512) :
    (show EReal from iblk m c 3 t (ix2 r k : S256x512.Idx))
      = m ((c : Thread nD τ).loc main_arg3) (ix2 ⟨t.val * 256 + r.val, by have := point_lt t; omega⟩ k : S2048x512.Idx) := by
  blk_ext [iblk, V, place t]

theorem g0_at (t : Fin cfg0.N) (r : Fin 256) (q : Fin 1024) :
    (show EReal from iblk m c 4 t (ix2 r q : S256x1024.Idx))
      = m ((c : Thread nD τ).loc main_arg4) (ix2 ⟨t.val * 256 + r.val, by have := point_lt t; omega⟩ ⟨0 + q.val, by omega⟩ : S2048x3072.Idx) := by
  blk_ext [iblk, V, place t]

theorem g1_at (t : Fin cfg0.N) (r : Fin 256) (q : Fin 1024) :
    (show EReal from iblk m c 5 t (ix2 r q : S256x1024.Idx))
      = m ((c : Thread nD τ).loc main_arg4) (ix2 ⟨t.val * 256 + r.val, by have := point_lt t; omega⟩ ⟨1024 + q.val, by omega⟩ : S2048x3072.Idx) := by
  blk_ext [iblk, V, place t]

theorem g2_at (t : Fin cfg0.N) (r : Fin 256) (q : Fin 1024) :
    (show EReal from iblk m c 6 t (ix2 r q : S256x1024.Idx))
      = m ((c : Thread nD τ).loc main_arg4) (ix2 ⟨t.val * 256 + r.val, by have := point_lt t; omega⟩ ⟨2048 + q.val, by omega⟩ : S2048x3072.Idx) := by
  blk_ext [iblk, V, place t]

/-- The three branch weights as the region reads them: transposed and side by side. -/
def packed (wa wc ws : FVec Ideal S512x1024 .f32) : FVec Ideal S1024x1536 .bf16 :=
  concatenate S1024x1536 1
    [⟨S1024x512, transpose S1024x512 [1, 0] (truncf (F := Ideal) .bf16 wa bitsLt_bf16_f32) transposes_S512x1024_S1024x512_1_0⟩,
     ⟨S1024x512, transpose S1024x512 [1, 0] (truncf (F := Ideal) .bf16 wc bitsLt_bf16_f32) transposes_S512x1024_S1024x512_1_0⟩,
     ⟨S1024x512, transpose S1024x512 [1, 0] (truncf (F := Ideal) .bf16 ws bitsLt_bf16_f32) transposes_S512x1024_S1024x512_1_0⟩]
    concatenates_S1024x512_S1024x512_S1024x512_S1024x1536_d1

def biased (b : FVec Ideal S4x3072 .f32) : FVec Ideal S4x1x3072 .f32 := broadcastInDim S4x1x3072 ![0, 2] bcast_S4x3072_S4x1x3072_0_2 b

def cast16 (w : FVec Ideal S1024x1024 .f32) : FVec Ideal S1024x1024 .bf16 := truncf .bf16 w bitsLt_bf16_f32

theorem V_packed : V m c main_v6 = packed (m ((c : Thread nD τ).loc main_arg6)) (m ((c : Thread nD τ).loc main_arg7)) (m ((c : Thread nD τ).loc main_arg8)) := by
  unfold V
  simp only [hostOps0, StableHlo.TRef.nary, StableHlo.TRef.binary, StableHlo.TRef.unary, StableHlo.TRef.toBuf, StableHlo.TRef.ofBuf, cast_eq]
  after_results_simp <;> rfl

theorem V_biased : V m c main_v7 = biased (m ((c : Thread nD τ).loc main_arg5)) := by
  unfold V
  simp only [hostOps0, StableHlo.TRef.nary, StableHlo.TRef.binary, StableHlo.TRef.unary, StableHlo.TRef.toBuf, StableHlo.TRef.ofBuf, cast_eq]
  after_results_simp <;> rfl

theorem V_cast : V m c main_v8 = cast16 (m ((c : Thread nD τ).loc main_arg9)) := by
  unfold V
  simp only [hostOps0, StableHlo.TRef.nary, StableHlo.TRef.binary, StableHlo.TRef.unary, StableHlo.TRef.toBuf, StableHlo.TRef.ofBuf, cast_eq]
  after_results_simp <;> rfl

theorem m_at (t : Fin cfg0.N) (k q : Fin 1024) :
    (show EReal from iblk m c 11 t (ix2 k q : S1024x1024.Idx)) = m ((c : Thread nD τ).loc main_arg9) (ix2 k q : S1024x1024.Idx) := by
  have e : (show EReal from iblk m c 11 t (ix2 k q : S1024x1024.Idx)) = V m c main_v8 (ix2 k q : S1024x1024.Idx) := by
    blk_ext [iblk, place t]
  rw [e, V_cast]
  pointwise [cast16]

theorem b_at (t : Fin cfg0.N) (l : Fin 3072) :
    (show EReal from iblk m c 7 t (ix3 0 0 l : S1x1x3072.Idx)) = m ((c : Thread nD τ).loc main_arg5) (ix2 0 l : S4x3072.Idx) := by
  have e : (show EReal from iblk m c 7 t (ix3 0 0 l : S1x1x3072.Idx)) = V m c main_v7 (ix3 0 0 l : S4x1x3072.Idx) := by
    blk_ext [iblk, place t]
  rw [e, V_biased]
  pointwise [biased]

theorem wa_at (t : Fin cfg0.N) (q : Fin 1024) (k : Fin 512) :
    (show EReal from iblk m c 8 t (ix2 q k : S1024x512.Idx)) = m ((c : Thread nD τ).loc main_arg6) (ix2 k q : S512x1024.Idx) := by
  have e : (show EReal from iblk m c 8 t (ix2 q k : S1024x512.Idx)) = V m c main_v6 (ix2 q ⟨0 + k.val, by omega⟩ : S1024x1536.Idx) := by
    blk_ext [iblk, place t]
  rw [e, V_packed]
  pointwise [packed]

theorem wc_at (t : Fin cfg0.N) (q : Fin 1024) (k : Fin 512) :
    (show EReal from iblk m c 9 t (ix2 q k : S1024x512.Idx)) = m ((c : Thread nD τ).loc main_arg7) (ix2 k q : S512x1024.Idx) := by
  have e : (show EReal from iblk m c 9 t (ix2 q k : S1024x512.Idx)) = V m c main_v6 (ix2 q ⟨512 + k.val, by omega⟩ : S1024x1536.Idx) := by
    blk_ext [iblk, place t]
  rw [e, V_packed]
  pointwise [packed]

theorem ws_at (t : Fin cfg0.N) (q : Fin 1024) (k : Fin 512) :
    (show EReal from iblk m c 10 t (ix2 q k : S1024x512.Idx)) = m ((c : Thread nD τ).loc main_arg8) (ix2 k q : S512x1024.Idx) := by
  have e : (show EReal from iblk m c 10 t (ix2 q k : S1024x512.Idx)) = V m c main_v6 (ix2 q ⟨1024 + k.val, by omega⟩ : S1024x1536.Idx) := by
    blk_ext [iblk, place t]
  rw [e, V_packed]
  pointwise [packed]
  have a1 : ¬(1024 + k.val < 512) := by omega
  have a2 : ¬(1024 + k.val - 512 < 512) := by omega
  simp only [dif_neg a1, dif_neg a2]
  exact congrArg _ (congrArg₂ ix2 (Fin.ext (by simp; omega)) rfl)

theorem b0_at (t : Fin cfg0.N) (i : ∀ a, (![0, 0, 0] : Fin 3 → ℕ) a + (![1, 1, 1024] : Fin 3 → ℕ) a ≤ S1x1x3072.size a) (q : Fin 1024) :
    View.ld (iblk m c 7 t) (Rect.unit ![0, 0, 0] ![1, 1, 1024] i) (ix3 0 0 q : S1x1x1024.Idx) = (m ((c : Thread nD τ).loc main_arg5)) (ix2 0 ⟨0 + q.val, by omega⟩ : S4x3072.Idx) := by
  refine Eq.trans ?_ (b_at m c t ⟨0 + q.val, by omega⟩)
  exact congrArg (iblk m c 7 t) (by funext k; fin_cases k <;> exact Fin.ext (by simp))

theorem b1_at (t : Fin cfg0.N) (i : ∀ a, (![0, 0, 1024] : Fin 3 → ℕ) a + (![1, 1, 1024] : Fin 3 → ℕ) a ≤ S1x1x3072.size a) (q : Fin 1024) :
    View.ld (iblk m c 7 t) (Rect.unit ![0, 0, 1024] ![1, 1, 1024] i) (ix3 0 0 q : S1x1x1024.Idx) = (m ((c : Thread nD τ).loc main_arg5)) (ix2 0 ⟨1024 + q.val, by omega⟩ : S4x3072.Idx) := by
  refine Eq.trans ?_ (b_at m c t ⟨1024 + q.val, by omega⟩)
  exact congrArg (iblk m c 7 t) (by funext k; fin_cases k <;> exact Fin.ext (by simp))

theorem b2_at (t : Fin cfg0.N) (i : ∀ a, (![0, 0, 2048] : Fin 3 → ℕ) a + (![1, 1, 1024] : Fin 3 → ℕ) a ≤ S1x1x3072.size a) (q : Fin 1024) :
    View.ld (iblk m c 7 t) (Rect.unit ![0, 0, 2048] ![1, 1, 1024] i) (ix3 0 0 q : S1x1x1024.Idx) = (m ((c : Thread nD τ).loc main_arg5)) (ix2 0 ⟨2048 + q.val, by omega⟩ : S4x3072.Idx) := by
  refine Eq.trans ?_ (b_at m c t ⟨2048 + q.val, by omega⟩)
  exact congrArg (iblk m c 7 t) (by funext k; fin_cases k <;> exact Fin.ext (by simp))

theorem final12 : (dats m 0 c).arrAt 12 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t _ y => ?_
  blk_simp
  obtain ⟨r, q, rfl⟩ : ∃ (r : Fin 256) (q : Fin 1024), y = (ix2 r q : S256x1024.Idx) := ⟨y 0, y 1, eq_ix2 y⟩
  rw [after0_12]
  unfold outsAt0
  frame_open
  frame_out
  refine (pay1_at (point_lt t) (x_at m c t) (m_at m c t) (pay2_at (point_lt t) (o_at m c t) (wa_at m c t)) (pay3_at (point_lt t) (z_at m c t) (wc_at m c t))
    (pay4_at (point_lt t) (y_at m c t) (ws_at m c t)) (pay5_at (point_lt t) (by omega) (g0_at m c t) (b0_at m c t _))
    (pay6_at (point_lt t) (by omega) (g1_at m c t) (b1_at m c t _)) (pay7_at (point_lt t) (by omega) (g2_at m c t) (b2_at m c t _)) r q).trans ?_
  blk_ext [place t]

end

section

open Cert.Reference14Ideal Cert.Reference14Ideal.Read

variable (x : FVec Ideal S2048x1024 .f32) (o z y : FVec Ideal S2048x512 .bf16) (g : FVec Ideal S2048x3072 .f32) (b : FVec Ideal S4x3072 .f32)
  (wa wc ws : FVec Ideal S512x1024 .f32) (wm : FVec Ideal S1024x1024 .f32)

theorem v16_at (r : Fin 2048) (l : Fin 3072) : val_main_v16 (F := Ideal) g b (ix2 r l) = gate g b r l := by
  pointwise [val_main_v16, val_main_v15, val_main_v14, val_main_v13, val_main_v12, val_main_v11, val_main_v10, val_main_v9, val_main_v8, val_main_v7,
    val_main_v6, val_main_cst, val_main_cst_0]
  rfl

theorem v19_at (r : Fin 2048) (q : Fin 1024) : val_main_v19 (F := Ideal) g b (ix2 r q) = gate g b r ⟨q.val, by omega⟩ := by
  pointwise [val_main_v19, val_main_v18, val_main_v17, v16_at]

theorem v22_at (r : Fin 2048) (q : Fin 1024) : val_main_v22 (F := Ideal) g b (ix2 r q) = gate g b r ⟨1024 + q.val, by omega⟩ := by
  pointwise [val_main_v22, val_main_v21, val_main_v17, v16_at]

theorem v26_at (r : Fin 2048) (q : Fin 1024) : val_main_v26 (F := Ideal) g b (ix2 r q) = gate g b r ⟨2048 + q.val, by omega⟩ := by
  pointwise [val_main_v26, val_main_v25, val_main_v17, v16_at]

theorem v1_at (r : Fin 2048) (q : Fin 1024) : val_main_v1 (F := Ideal) o wa (ix2 r q) = br o wa r q := by
  pointwise [val_main_v1, val_main_v0]
  rfl

theorem v3_at (r : Fin 2048) (q : Fin 1024) : val_main_v3 (F := Ideal) z wc (ix2 r q) = br z wc r q := by
  pointwise [val_main_v3, val_main_v2]
  rfl

theorem v5_at (r : Fin 2048) (q : Fin 1024) : val_main_v5 (F := Ideal) y ws (ix2 r q) = br y ws r q := by
  pointwise [val_main_v5, val_main_v4]
  rfl

theorem v28_at (r : Fin 2048) (q : Fin 1024) : val_main_v28 (F := Ideal) o z y g b wa wc ws (ix2 r q) = Gm o z y g b wa wc ws (ix2 r q) := by
  pointwise [val_main_v28, val_main_v27, val_main_v24, val_main_v23, val_main_v20, v19_at, v22_at, v26_at, v1_at, v3_at, v5_at]
  rfl

theorem res : val_main_v30 (F := Ideal) x o z y g b wa wc ws wm = G x o z y g b wa wc ws wm := by
  funext j
  obtain ⟨r, q, rfl⟩ : ∃ (r : Fin 2048) (q : Fin 1024), j = (ix2 r q : S2048x1024.Idx) := ⟨j 0, j 1, eq_ix2 j⟩
  pointwise [val_main_v30, val_main_v29, v28_at]
  rfl

end

/-- The reference keeps its arguments; it has no semaphore. -/
theorem frame_reference : Cert.quiescent_Reference14Ideal := by
  intro m g _
  exact (θ_run Reference14Ideal.defs _ _).mono
    (fun r h => ⟨fun c => (h c).2, sem_eq_zero_of_no_sems (by decide) r.2⟩) (Reference14Ideal.Value.run (F := Ideal) m g)

theorem algebraic : Cert.algebraic_Kernel14Ideal_Reference14Ideal := by
  pair_intro
  · run_from Cert.Kernel14Ideal.Value.run_blocks m g
  · run_from Cert.Reference14Ideal.Value.run m' g'
    exact (Reference14Ideal.Read.val_main_v30_eq _ _ _ _ _ _ _ _ _ _).trans ((res _ _ _ _ _ _ _ _ _ _).trans (final12 m c).symm)

end Cert.MixFwd

end
-- ==== Proof.GluBwdClaim.lean ====
/-
  The gradient of the state-space branch's gate and of its activation: the formula, the array the kernel leaves,
  the reference read at an index, and the claims.
-/
module

public import proofs.«01_k».proof.Defs
public import proofs.«01_k».proof.Proof.FiniteInput
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluBwd

section

open Cert.Kernel15Ideal Cert.Kernel15Ideal.Gen

/-- The activation's four constants: the cube's coefficient, three times it, the root of two over pi as rounded, and a half. -/
def cube : EReal := ((8943 / 200000 : ℝ) : EReal)

def thrice : EReal := ((26829 / 200000 : ℝ) : EReal)

def root : EReal := Ideal.ofBits .f32 0x3F4C422A#32

def half : EReal := Ideal.ofBits .f32 0x3F000000#32

theorem cube_named : (Named.named (F := Ideal) κ "cube" 0x3D372713#32 : Ideal .f32) = cube := IdealRules.named_const.ideal_named_scalar _ _ _ _ rfl

theorem thrice_named : (Named.named (F := Ideal) κ "slope" 0x3E095D4F#32 : Ideal .f32) = thrice := IdealRules.named_const.ideal_named_scalar _ _ _ _ rfl

theorem half_eq : half = ((1 / 2 : ℝ) : EReal) := by
  simp [half, Ideal.ofBits, Ideal.ieee]
  rw [← EReal.coe_mul]
  norm_num

theorem root_eq : ∃ k : ℝ, root = (k : EReal) := by
  refine ⟨13386282 / 16777216, ?_⟩
  simp [root, Ideal.ofBits, Ideal.ieee]
  rw [← EReal.coe_mul]
  norm_num

/-- The curve inside the activation, and the activation. -/
def bend (x : EReal) : EReal := Ideal.tanh (root * (x + cube * (x * x * x)))

def act (x : EReal) : EReal := x * (half * (1 + bend x))

variable (y : FVec Ideal S2048x512 .f32) (w : FVec Ideal S512x512 .f32) (dz u : FVec Ideal S2048x512 .f32)

/-- The gate. -/
def sgate (r : Fin 2048) (j : Fin 512) : EReal := Ideal.logistic (∑ k : Fin 512, act (y (ix2 r k)) * w (ix2 k j))

/-- The cotangent of the gate's argument. -/
def da (r : Fin 2048) (j : Fin 512) : EReal := act (y (ix2 r j)) * dz (ix2 r j) * (sgate y w r j * (1 - sgate y w r j))

/-- The cotangent of the activation. -/
def dact (r : Fin 2048) (j : Fin 512) : EReal := dz (ix2 r j) * sgate y w r j + ∑ k : Fin 512, da y w dz r k * w (ix2 j k)

/-- The activation's derivative as the kernel writes it. -/
def slope (x : EReal) : EReal :=
  half * (1 + bend x) + half * x * (1 - bend x * bend x) * root * (1 + thrice * (x * x))

/-- The cotangent of the argument as the kernel computes it. -/
def dyK (r : Fin 2048) (j : Fin 512) : EReal := dact y w dz r j * slope (y (ix2 r j))

/-- What flows back through the curve as the chain rule writes it. -/
def flow (x d : EReal) : EReal := root * (half * (x * d) * ((1 + bend x) * (1 - bend x)))

/-- The chain rule through the activation. -/
def chain (x d : EReal) : EReal :=
  d * (half * (1 + bend x)) + flow x d + x * x * (cube * flow x d) + x * (cube * flow x d * x) + cube * flow x d * x * x

/-- The four results. -/
def Gy : FVec Ideal S2048x512 .f32 := fun j => dyK y w dz (j 0) (j 1)

def Gs : FVec Ideal S2048x512 .bf16 := fun j => act (y (ix2 (j 0) (j 1)))

def Ga : FVec Ideal S2048x512 .bf16 := fun j => da y w dz (j 0) (j 1)

def Gd : FVec Ideal S1x512 .f32 := fun j => ∑ r : Fin 2048, dyK y w dz r (j 1) * u (ix2 r (j 1))

/-- Where the argument and the incoming cotangent are real the two derivatives agree. -/
theorem chain_eq (x d : ℝ) : chain x d = (d : EReal) * slope x := by
  obtain ⟨k, hk⟩ := root_eq
  unfold chain flow slope
  have hb : ∃ b : ℝ, bend (x : EReal) = (b : EReal) := by
    refine ⟨Real.tanh (k * (x + 8943 / 200000 * (x * x * x))), ?_⟩
    unfold bend cube
    rw [hk]
    norm_cast
  obtain ⟨b, hb⟩ := hb
  rw [hb, hk, half_eq, ← EReal.coe_one]
  unfold cube thrice
  norm_cast
  ring

theorem place : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

theorem point_lt (t : Fin cfg0.N) : t.val < 4 := lt_of_lt_of_eq t.isLt N_0

section Body

variable {y w dz u} {t : ℕ} (ht : t < 4) {by' bz bu : Vec Ideal S512x512 .f32} {bw : Vec Ideal S512x512 .bf16}
  (hy : ∀ (r k : Fin 512), (show EReal from by' (ix2 r k)) = y (ix2 ⟨t * 512 + r.val, by omega⟩ k))
  (hw : ∀ (j k : Fin 512), (show EReal from bw (ix2 j k)) = w (ix2 j k))
  (hz : ∀ (r k : Fin 512), (show EReal from bz (ix2 r k)) = dz (ix2 ⟨t * 512 + r.val, by omega⟩ k))
  (hu : ∀ (r k : Fin 512), (show EReal from bu (ix2 r k)) = u (ix2 ⟨t * 512 + r.val, by omega⟩ k))

include hy in
theorem pay4_at (r k : Fin 512) : k0_pay4 (F := Ideal) by' (ix2 r k) = bend (y (ix2 ⟨t * 512 + r.val, by omega⟩ k)) := by
  pointwise [k0_pay4, cube_named, hy]
  rfl

include hy in
theorem pay5_at (r k : Fin 512) : k0_pay5 (F := Ideal) by' (ix2 r k) = act (y (ix2 ⟨t * 512 + r.val, by omega⟩ k)) := by
  pointwise [k0_pay5, pay4_at ht hy, hy]
  exact (mul_assoc _ _ _).trans (mul_left_comm _ _ _)

include hy in
theorem pay6_at (r k : Fin 512) : k0_pay6 (F := Ideal) by' (ix2 r k) = act (y (ix2 ⟨t * 512 + r.val, by omega⟩ k)) := by
  pointwise [k0_pay6, pay5_at ht hy]

include hy hw in
theorem pay7_at (r j : Fin 512) : k0_pay7 (F := Ideal) by' bw (ix2 r j) = sgate y w ⟨t * 512 + r.val, by omega⟩ j := by
  pointwise [k0_pay7, pay6_at ht hy, hw]
  rfl

include hy hw hz in
theorem pay8_at (r j : Fin 512) : k0_pay8 (F := Ideal) by' bw bz (ix2 r j) = da y w dz ⟨t * 512 + r.val, by omega⟩ j := by
  pointwise [k0_pay8, pay5_at ht hy, pay7_at ht hy hw, hz]
  unfold da
  rw [mul_assoc, mul_comm (dz _)]

include hy hw hz in
theorem pay9_at (r j : Fin 512) : k0_pay9 (F := Ideal) by' bw bz bw (ix2 r j) = dact y w dz ⟨t * 512 + r.val, by omega⟩ j := by
  pointwise [k0_pay9, pay8_at ht hy hw hz, pay7_at ht hy hw, hz, hw]
  rfl

include hy in
theorem pay10_at (r k : Fin 512) : k0_pay10 (F := Ideal) by' (ix2 r k) = half * (1 + bend (y (ix2 ⟨t * 512 + r.val, by omega⟩ k))) := by
  pointwise [k0_pay10, pay4_at ht hy]
  rfl

include hy hw hz in
theorem pay1_at (r k : Fin 512) : k0_pay1 (F := Ideal) by' (k0_pay4 by') (k0_pay9 by' bw bz bw) (k0_pay10 by') (Scalar.ofBits .f32 0x3F000000#32) (ix2 r k)
    = dyK y w dz ⟨t * 512 + r.val, by omega⟩ k := by
  pointwise [k0_pay1, thrice_named, pay9_at ht hy hw hz, pay4_at ht hy, pay10_at ht hy, hy]
  rfl

include hy hw hz hu in
theorem pay2_at (acc : Vec Ideal S1x512 .f32) (r : Fin 1) (k : Fin 512) :
    k0_pay2 (F := Ideal) by' (k0_pay4 by') (k0_pay9 by' bw bz bw) (k0_pay10 by') (Scalar.ofBits .f32 0x3F000000#32) acc bu (ix2 r k)
    = acc (ix2 r k) + ∑ l : Fin 512, dyK y w dz ⟨t * 512 + l.val, by omega⟩ k * u (ix2 ⟨t * 512 + l.val, by omega⟩ k) := by
  pointwise [k0_pay2, hu]
  exact congrArg (acc (ix2 r k) + ·) (Finset.sum_congr rfl fun x _ => congrArg (· * _) (pay1_at ht hy hw hz x k))

include hy hw hz in
theorem out4_at (r k : Fin 512) : k0_pay1 (F := Ideal) by' (k0_pay4 by') (k0_pay9 by' bw bz bw) (k0_pay10 by') (Scalar.ofBits .f32 0x3F000000#32) (ix2 r k)
    = Gy y w dz (ix2 ⟨t * 512 + r.val, by omega⟩ k) := pay1_at ht hy hw hz r k

include hy in
theorem out5_at (r k : Fin 512) : k0_pay6 (F := Ideal) by' (ix2 r k) = Gs y (ix2 ⟨t * 512 + r.val, by omega⟩ k) := pay6_at ht hy r k

include hy hw hz in
theorem out6_at (r k : Fin 512) : k0_pay8 (F := Ideal) by' bw bz (ix2 r k) = Ga y w dz (ix2 ⟨t * 512 + r.val, by omega⟩ k) := pay8_at ht hy hw hz r k

end Body

theorem pay3_at (j : S1x512.Idx) : k0_pay3 (F := Ideal) j = 0 := by pointwise [k0_pay3]

variable (m : (ℓ : Loc nD τ sig) → Buf (Elt Ideal) ℓ) (c : Dev nD)

theorem y_at (t : Fin cfg0.N) (r k : Fin 512) : (show EReal from iblk m c 0 t (ix2 r k))
    = (m ((c : Thread nD τ).loc main_arg0)) (ix2 ⟨t.val * 512 + r.val, by have := point_lt t; omega⟩ k) := by
  blk_ext [iblk, V_main_arg0, place t]

theorem z_at (t : Fin cfg0.N) (r k : Fin 512) : (show EReal from iblk m c 2 t (ix2 r k))
    = (m ((c : Thread nD τ).loc main_arg2)) (ix2 ⟨t.val * 512 + r.val, by have := point_lt t; omega⟩ k) := by
  blk_ext [iblk, V_main_arg2, place t]

theorem u_at (t : Fin cfg0.N) (r k : Fin 512) : (show EReal from iblk m c 3 t (ix2 r k))
    = (m ((c : Thread nD τ).loc main_arg3)) (ix2 ⟨t.val * 512 + r.val, by have := point_lt t; omega⟩ k) := by
  blk_ext [iblk, V_main_arg3, place t]

/-- The weight as the region reads it. -/
def lowered (w : FVec Ideal S512x512 .f32) : FVec Ideal S512x512 .bf16 := truncf .bf16 w bitsLt_bf16_f32

theorem V_weight : V m c main_v0 = lowered (m ((c : Thread nD τ).loc main_arg1)) := by
  unfold V
  simp only [hostOps0, StableHlo.TRef.nary, StableHlo.TRef.binary, StableHlo.TRef.unary, StableHlo.TRef.toBuf, StableHlo.TRef.ofBuf, cast_eq]
  after_results_simp <;> rfl

theorem w_at (t : Fin cfg0.N) (j k : Fin 512) : (show EReal from iblk m c 1 t (ix2 j k))
    = (m ((c : Thread nD τ).loc main_arg1)) (ix2 j k) := by
  have e : (show EReal from iblk m c 1 t (ix2 j k)) = V m c main_v0 (ix2 j k : S512x512.Idx) := by
    blk_ext [iblk, place t]
  rw [e, V_weight]
  pointwise [lowered]

theorem final4 : (dats m 0 c).arrAt 4 (cfgs 0).N
    = Gy (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  obtain ⟨r, l, rfl⟩ : ∃ (r : Fin 512) (l : Fin 512), y = (ix2 r l : S512x512.Idx) := ⟨y 0, y 1, eq_ix2 y⟩
  rw [after0_4]
  by_cases h : t.val % 4 = 0
  · rw [outsAt0_A m c t h]
    frame_out
    refine (out4_at (point_lt t) (y_at m c t) (w_at m c t) (z_at m c t) r l).trans ?_
    blk_ext [place t]
  · rw [outsAt0_B m c t h]
    frame_out
    refine (out4_at (point_lt t) (y_at m c t) (w_at m c t) (z_at m c t) r l).trans ?_
    blk_ext [place t]

theorem final5 : (dats m 0 c).arrAt 5 (cfgs 0).N = Gs (m ((c : Thread nD τ).loc main_arg0)) := by
  refine (dats m 0 c).arrAt_eq_of_covers 5 _ (by decide +kernel) fun t _ y => ?_
  blk_simp
  obtain ⟨r, l, rfl⟩ : ∃ (r : Fin 512) (l : Fin 512), y = (ix2 r l : S512x512.Idx) := ⟨y 0, y 1, eq_ix2 y⟩
  rw [after0_5]
  by_cases h : t.val % 4 = 0
  · rw [outsAt0_A m c t h]
    frame_out
    refine (out5_at (point_lt t) (y_at m c t) r l).trans ?_
    blk_ext [place t]
  · rw [outsAt0_B m c t h]
    frame_out
    refine (out5_at (point_lt t) (y_at m c t) r l).trans ?_
    blk_ext [place t]

theorem final6 : (dats m 0 c).arrAt 6 (cfgs 0).N
    = Ga (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  obtain ⟨r, l, rfl⟩ : ∃ (r : Fin 512) (l : Fin 512), y = (ix2 r l : S512x512.Idx) := ⟨y 0, y 1, eq_ix2 y⟩
  rw [after0_6]
  by_cases h : t.val % 4 = 0
  · rw [outsAt0_A m c t h]
    frame_out
    refine (out6_at (point_lt t) (y_at m c t) (w_at m c t) (z_at m c t) r l).trans ?_
    blk_ext [place t]
  · rw [outsAt0_B m c t h]
    frame_out
    refine (out6_at (point_lt t) (y_at m c t) (w_at m c t) (z_at m c t) r l).trans ?_
    blk_ext [place t]

theorem final7 : (dats m 0 c).arrAt 7 (cfgs 0).N
    = Gd (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_3 (by decide +kernel) _ fun j => ?_
  obtain ⟨r, q, rfl⟩ : ∃ (r : Fin 1) (q : Fin 512), j = (ix2 r q : S1x512.Idx) := ⟨j 0, j 1, eq_ix2 j⟩
  blk_simp
  rw [after0_7, Pipeline.eq_sum_fin_of_reset_step_apply_last (fun n h => (outsAt0 m c n h).2.2.2) 4 (fun _ => 0)
    (fun t j => ∑ k : Fin 512, dyK (m ((c : Thread nD τ).loc main_arg0)) (m ((c : Thread nD τ).loc main_arg1)) (m ((c : Thread nD τ).loc main_arg2)) ⟨t.val * 512 + k.val, by have := point_lt t; omega⟩ (j 1)
        * (m ((c : Thread nD τ).loc main_arg3)) (ix2 ⟨t.val * 512 + k.val, by have := point_lt t; omega⟩ (j 1)))
    (fun t h j => by
      obtain ⟨r, q, rfl⟩ : ∃ (r : Fin 1) (q : Fin 512), j = (ix2 r q : S1x512.Idx) := ⟨j 0, j 1, eq_ix2 j⟩
      rw [outsAt0_A m c t h]; frame_out
      exact (pay2_at (point_lt t) (y_at m c t) (w_at m c t) (z_at m c t) (u_at m c t) _ r q).trans (by rw [pay3_at]; rfl))
    (fun t h j => by
      obtain ⟨r, q, rfl⟩ : ∃ (r : Fin 1) (q : Fin 512), j = (ix2 r q : S1x512.Idx) := ⟨j 0, j 1, eq_ix2 j⟩
      rw [outsAt0_B m c t h]; frame_out
      exact (pay2_at (point_lt t) (y_at m c t) (w_at m c t) (z_at m c t) (u_at m c t) _ r q).trans rfl)
    (le_of_eq N_0) t0_3 rfl _, zero_add]
  refine Eq.trans ?_ (Fin.sum_univ_one (fun _ : Fin 1 => Gd (m ((c : Thread nD τ).loc main_arg0)) (m ((c : Thread nD τ).loc main_arg1)) (m ((c : Thread nD τ).loc main_arg2)) (m ((c : Thread nD τ).loc main_arg3)) (ix2 r q)))
  refine Fin.sum_points_lanes_congr 4 fun t k ha hl => ?_
  have : t.val % 4 = t.val := Nat.mod_eq_of_lt (point_lt t)
  simp only [this]

end

section

open Cert.Reference15Ideal Cert.Reference15Ideal.Read

variable (y : FVec Ideal S2048x512 .f32) (w : FVec Ideal S512x512 .f32) (dz u : FVec Ideal S2048x512 .f32)

/-- The reference's coefficient is the quotient it is written as. -/
theorem coefficient : Ideal.div (Ideal.ofBits .f32 0x472EAB00#32) (Ideal.ofBits .f32 0x49742400#32) = cube := by
  have e : Ideal.ofBits .f32 0x49742400#32 = ((1000000 : ℝ) : EReal) := by
    simp [Ideal.ofBits, Ideal.ieee]
    rw [← EReal.coe_mul]
    norm_num
  have f : Ideal.ofBits .f32 0x472EAB00#32 = ((44715 : ℝ) : EReal) := by
    simp [Ideal.ofBits, Ideal.ieee]
    rw [← EReal.coe_mul]
    norm_num
  rw [e, f, Ideal.div_coe (by norm_num)]
  unfold cube
  norm_cast
  norm_num

theorem bend_at (r : Fin 2048) (j : Fin 512) : val_main_v9 (F := Ideal) y (ix2 r j) = bend (y (ix2 r j)) := by
  pointwise [val_main_v9, val_main_v8, val_main_v7, val_main_cst_1, val_main_v6, val_main_v5, val_main_v4, val_main_v3, val_main_v2, val_main_v1, val_main_v0, val_main_cst, val_main_cst_0]
  exact congrArg Ideal.tanh (congrArg (root * ·) (congrArg (y (ix2 r j) + ·) (congrArg (· * (y (ix2 r j) * y (ix2 r j) * y (ix2 r j))) coefficient)))

theorem rise_at (r : Fin 2048) (j : Fin 512) : val_main_v18 (F := Ideal) y (ix2 r j) = half * (1 + bend (y (ix2 r j))) := by
  pointwise [val_main_v18, val_main_v17, val_main_cst_5, val_main_v16, val_main_v15, val_main_cst_4, bend_at]
  rfl

theorem act_at (r : Fin 2048) (j : Fin 512) : val_main_v19 (F := Ideal) y (ix2 r j) = act (y (ix2 r j)) := by
  pointwise [val_main_v19, rise_at]
  rfl

theorem gate_at (r : Fin 2048) (j : Fin 512) : val_main_v26 (F := Ideal) y w (ix2 r j) = sgate y w r j := by
  pointwise [val_main_v26, val_main_v25, val_main_cst_7, val_main_v24, val_main_v23, val_main_cst_6, val_main_v22, val_main_v21, val_main_v20, act_at]
  rfl

theorem da_at (r : Fin 2048) (j : Fin 512) : val_main_v33 (F := Ideal) y w dz (ix2 r j) = da y w dz r j := by
  pointwise [val_main_v33, val_main_v31, val_main_v29, val_main_v28, val_main_v27, val_main_cst_8, gate_at, act_at]
  rfl

theorem dact_at (r : Fin 2048) (j : Fin 512) : val_main_v35 (F := Ideal) y w dz (ix2 r j) = dact y w dz r j := by
  pointwise [val_main_v35, val_main_v32, val_main_v34, gate_at, da_at]
  rfl

theorem flow_at (r : Fin 2048) (j : Fin 512) : val_main_v42 (F := Ideal) y w dz (ix2 r j) = flow (y (ix2 r j)) (dact y w dz r j) := by
  pointwise [val_main_v42, val_main_v41, val_main_cst_10, val_main_v40, val_main_v39, val_main_v38, val_main_cst_9, val_main_v36, val_main_v14, val_main_v13, val_main_v12, val_main_cst_3,
    val_main_v11, val_main_v10, val_main_cst_2, bend_at, dact_at]
  rfl

theorem back_at (r : Fin 2048) (j : Fin 512) : val_main_v45 (F := Ideal) y w dz (ix2 r j) = cube * flow (y (ix2 r j)) (dact y w dz r j) := by
  pointwise [val_main_v45, val_main_v44, val_main_v3, val_main_v0, val_main_cst, val_main_cst_0, flow_at]
  exact congrArg (· * flow (y (ix2 r j)) (dact y w dz r j)) coefficient

theorem dy_at (r : Fin 2048) (j : Fin 512) : val_main_v52 (F := Ideal) y w dz (ix2 r j) = chain (y (ix2 r j)) (dact y w dz r j) := by
  pointwise [val_main_v52, val_main_v51, val_main_v50, val_main_v49, val_main_v48, val_main_v47, val_main_v46, val_main_v43, val_main_v37, val_main_v1, rise_at, dact_at, flow_at, back_at]
  rfl

/-- The reference's four results. -/
def Ry : FVec Ideal S2048x512 .f32 := fun j => chain (y (ix2 (j 0) (j 1))) (dact y w dz (j 0) (j 1))

def Rd : FVec Ideal S1x512 .f32 := fun j => ∑ r : Fin 2048, chain (y (ix2 r (j 1))) (dact y w dz r (j 1)) * u (ix2 r (j 1))

theorem res0 : val_main_v52 (F := Ideal) y w dz = Ry y w dz := by
  funext j
  obtain ⟨r, q, rfl⟩ : ∃ (r : Fin 2048) (q : Fin 512), j = (ix2 r q : S2048x512.Idx) := ⟨j 0, j 1, eq_ix2 j⟩
  exact dy_at y w dz r q

theorem res1 : val_main_v59 (F := Ideal) y = Gs y := by
  funext j
  obtain ⟨r, q, rfl⟩ : ∃ (r : Fin 2048) (q : Fin 512), j = (ix2 r q : S2048x512.Idx) := ⟨j 0, j 1, eq_ix2 j⟩
  exact act_at y r q

theorem res2 : val_main_v60 (F := Ideal) y w dz = Ga y w dz := by
  funext j
  obtain ⟨r, q, rfl⟩ : ∃ (r : Fin 2048) (q : Fin 512), j = (ix2 r q : S2048x512.Idx) := ⟨j 0, j 1, eq_ix2 j⟩
  exact da_at y w dz r q

theorem res3 : val_main_v58 (F := Ideal) y w dz u = Rd y w dz u := by
  funext j
  obtain ⟨r, q, rfl⟩ : ∃ (r : Fin 1) (q : Fin 512), j = (ix2 r q : S1x512.Idx) := ⟨j 0, j 1, eq_ix2 j⟩
  pointwise [val_main_v58, val_main_v57, val_main_cst_12, val_main_v56, dy_at]
  rfl

end

/-- On arrays with real entries the two formulas agree. -/
theorem R_eq (y : FVec Ideal Kernel15Ideal.S2048x512 .f32) (w : FVec Ideal Kernel15Ideal.S512x512 .f32) (dz : FVec Ideal Kernel15Ideal.S2048x512 .f32)
    (hy : ∀ i, ∃ a : ℝ, (show EReal from y i) = a) (hw : ∀ i, ∃ a : ℝ, (show EReal from w i) = a) (hz : ∀ i, ∃ a : ℝ, (show EReal from dz i) = a)
    (r : Fin 2048) (j : Fin 512) : chain (y (ix2 r j)) (dact y w dz r j) = dyK y w dz r j := by
  have real_mul : ∀ {p q : EReal}, (∃ a : ℝ, p = a) → (∃ b : ℝ, q = b) → ∃ e : ℝ, p * q = e := by
    rintro _ _ ⟨a, rfl⟩ ⟨b, rfl⟩
    exact ⟨a * b, (EReal.coe_mul a b).symm⟩
  have real_add : ∀ {p q : EReal}, (∃ a : ℝ, p = a) → (∃ b : ℝ, q = b) → ∃ e : ℝ, p + q = e := by
    rintro _ _ ⟨a, rfl⟩ ⟨b, rfl⟩
    exact ⟨a + b, (EReal.coe_add a b).symm⟩
  have real_sum : ∀ f : Fin 512 → EReal, (∀ k, ∃ a : ℝ, f k = a) → ∃ e : ℝ, ∑ k, f k = e := fun f h =>
    Finset.sum_induction f (fun x => ∃ a : ℝ, x = a) (fun _ _ h₁ h₂ => real_add h₁ h₂) ⟨0, rfl⟩ fun k _ => h k
  have hact : ∀ x : EReal, (∃ a : ℝ, x = a) → ∃ e : ℝ, act x = e := by
    rintro _ ⟨a, rfl⟩
    obtain ⟨k, hk⟩ := root_eq
    refine ⟨a * (1 / 2 * (1 + Real.tanh (k * (a + 8943 / 200000 * (a * a * a))))), ?_⟩
    unfold act bend cube
    rw [hk, half_eq, ← EReal.coe_one]
    norm_cast
  have hgate : ∀ r j, ∃ e : ℝ, sgate y w r j = e := fun r j => by
    obtain ⟨e, he⟩ := real_sum (fun k => act (y (ix2 r k)) * w (ix2 k j)) fun k => real_mul (hact _ (hy _)) (hw _)
    exact ⟨_, (congrArg Ideal.logistic he).trans (Ideal.logistic_coe e)⟩
  have hone : ∀ p : EReal, (∃ a : ℝ, p = a) → ∃ e : ℝ, 1 - p = e := by
    rintro _ ⟨a, rfl⟩
    exact ⟨1 - a, by rw [← EReal.coe_one]; norm_cast⟩
  have hda : ∀ r j, ∃ e : ℝ, da y w dz r j = e := fun r j =>
    real_mul (real_mul (hact _ (hy _)) (hz _)) (real_mul (hgate r j) (hone _ (hgate r j)))
  obtain ⟨d, hd⟩ : ∃ e : ℝ, dact y w dz r j = e :=
    real_add (real_mul (hz _) (hgate r j)) (real_sum (fun k => da y w dz r k * w (ix2 j k)) fun k => real_mul (hda r k) (hw _))
  obtain ⟨a, ha⟩ := hy (ix2 r j)
  have ha' : y (ix2 r j) = (a : EReal) := ha
  unfold dyK
  rw [hd, ha']
  exact chain_eq a d

/-- The side conditions of the precondition's own operations. -/
instance facts_pre : Cert.Pre_finite15.Facts where
  bcast_S_S2048x512 := by decide
  reducesTo_S2048x512_S_d0_1 := by decide
  h_S_ := by decide
  bcast_S_S512x512 := by decide
  reducesTo_S512x512_S_d0_1 := by decide

/-- The reference keeps its arguments; it has no semaphore. -/
theorem frame_reference : Cert.quiescent_Reference15Ideal := by
  intro m g _
  exact (θ_run Reference15Ideal.defs _ _).mono
    (fun r h => ⟨fun c => (h c).2.2.2.2, sem_eq_zero_of_no_sems (by decide) r.2⟩) (Reference15Ideal.Value.run (F := Ideal) m g)

theorem frame_reference_pre : Cert.quiescent_Reference15Ideal_pre_finite15 :=
  fun m g _ => frame_reference m g trivial

theorem and_one {a b : BitVec 1} (h : a &&& b = 1#1) : a = 1#1 ∧ b = 1#1 := by
  revert a b
  decide

instance : Subsingleton Cert.Pre_finite15.S_.Idx := ⟨fun a b => funext fun i => i.elim0⟩

/-- What the precondition says of the three arrays. -/
theorem real_of_pre (y : FVec Ideal Pre_finite15.S2048x512 .f32) (w : FVec Ideal Pre_finite15.S512x512 .f32) (dz u : FVec Ideal Pre_finite15.S2048x512 .f32)
    (h : Cert.Pre_finite15.fn (F := Ideal) y w dz u = fun _ => 1#1) :
    (∀ i, ∃ a : ℝ, (show EReal from y i) = a) ∧ (∀ i, ∃ a : ℝ, (show EReal from w i) = a) ∧ (∀ i, ∃ a : ℝ, (show EReal from dz i) = a) := by
  have e := congrFun h (fun i => i.elim0)
  unfold Cert.Pre_finite15.fn at e
  obtain ⟨e', e3⟩ := and_one e
  obtain ⟨e1, e2⟩ := and_one e'
  exact ⟨fun i => Finite.real_of_all _ _ (fun _ => Finite.inf_eq) _ _ _ _ e1 i, fun i => Finite.real_of_all _ _ (fun _ => Finite.inf_eq) _ _ _ _ e2 i,
    fun i => Finite.real_of_all _ _ (fun _ => Finite.inf_eq) _ _ _ _ e3 i⟩

section

open Cert.Reference15Ideal

/-- The reference ends with the formulas in its results, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v52) = Ry (m ((c.tc : Thread nD τ).loc main_arg0)) (m ((c.tc : Thread nD τ).loc main_arg1)) (m ((c.tc : Thread nD τ).loc main_arg2))
      ∧ r.2.mem ((c.tc : Thread nD τ).loc main_v59) = Gs (m ((c.tc : Thread nD τ).loc main_arg0))
      ∧ r.2.mem ((c.tc : Thread nD τ).loc main_v60) = Ga (m ((c.tc : Thread nD τ).loc main_arg0)) (m ((c.tc : Thread nD τ).loc main_arg1)) (m ((c.tc : Thread nD τ).loc main_arg2))
      ∧ r.2.mem ((c.tc : Thread nD τ).loc main_v58) = Rd (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((Read.val_main_v52_eq m c).trans (res0 _ _ _)), (h c).2.1.trans ((Read.val_main_v59_eq _).trans (res1 _)),
    (h c).2.2.1.trans ((Read.val_main_v60_eq _ _ _).trans (res2 _ _ _)), (h c).2.2.2.1.trans ((Read.val_main_v58_eq m c).trans (res3 _ _ _ _)), (h c).2.2.2.2⟩)
    (Value.run (F := Ideal) m g)

end

theorem Ry_eq (y : FVec Ideal Kernel15Ideal.S2048x512 .f32) (w : FVec Ideal Kernel15Ideal.S512x512 .f32) (dz : FVec Ideal Kernel15Ideal.S2048x512 .f32)
    (hy : ∀ i, ∃ a : ℝ, (show EReal from y i) = a) (hw : ∀ i, ∃ a : ℝ, (show EReal from w i) = a) (hz : ∀ i, ∃ a : ℝ, (show EReal from dz i) = a) :
    Ry y w dz = Gy y w dz := by
  funext j
  exact R_eq _ _ _ hy hw hz _ _

theorem Rd_eq (y : FVec Ideal Kernel15Ideal.S2048x512 .f32) (w : FVec Ideal Kernel15Ideal.S512x512 .f32) (dz u : FVec Ideal Kernel15Ideal.S2048x512 .f32)
    (hy : ∀ i, ∃ a : ℝ, (show EReal from y i) = a) (hw : ∀ i, ∃ a : ℝ, (show EReal from w i) = a) (hz : ∀ i, ∃ a : ℝ, (show EReal from dz i) = a) :
    Rd y w dz u = Gd y w dz u := by
  funext j
  exact Finset.sum_congr rfl fun r _ => congrArg (· * u (ix2 r (j 1))) (R_eq _ _ _ hy hw hz r _)

theorem algebraic : Cert.algebraic_Kernel15Ideal_Reference15Ideal_pre_finite15 := by
  pair_intro
  · run_from Cert.Kernel15Ideal.Value.run_blocks m g
  · run_from run_reference m' g'
    all_goals obtain ⟨hy, hw, hz⟩ := real_of_pre _ _ _ _ (hpre c)
    · exact (Ry_eq _ _ _ hy hw hz).trans (final4 m c).symm
    · exact (final5 m c).symm
    · exact (final6 m c).symm
    · exact (Rd_eq _ _ _ _ hy hw hz).trans (final7 m c).symm

end Cert.GluBwd

end
-- ==== Proof.RmsMmInMath.lean ====
/-
  The norm before the branches, the seven projections, the rotation of queries and keys and the gated short
  convolution, as formulas over the extended reals.
-/
module

public import proofs.«01_k».proof.Defs
public import proofs.«01_k».proof.Proof.RmsMath
public import Idealize.ShloMosaic.Lib.Pointwise

@[expose] public section

set_option maxRecDepth 16384

noncomputable section

open Idealize.ShloMosaic Idealize.ShloMosaic.TcCoe Idealize.SL.Sem

namespace Cert.RmsMmIn

open Cert.Rms Cert.Kernel16Ideal

variable (x : FVec Ideal S2048x1024 .f32) (g : FVec Ideal S1024 .f32) (w : FVec Ideal S1024x5888 .f32) (co si : FVec Ideal S2048x8 .f32)
  (cw : FVec Ideal S4x3x512 .f32)

/-- The normalised row. -/
def hn (r : Fin 2048) (k : Fin 1024) : EReal := x (ix2 r k) * rs (fun k => x (ix2 r k)) * g (ix1 k)

/-- The product with the weight of all projections, at any column. -/
def pr (r : Fin 2048) (l : Fin 5888) : EReal := ∑ k : Fin 1024, hn x g r k * w (ix2 k l)

/-- The rotation within each head of 64 columns: the first eight columns with the next eight, the others as they are. -/
def rope (r : Fin 2048) (q : Fin 640) : EReal :=
  if h : q.val % 64 < 8 then
    pr x g w r ⟨q.val, by omega⟩ * co (ix2 r ⟨q.val % 64, h⟩) - pr x g w r ⟨q.val + 8, by omega⟩ * si (ix2 r ⟨q.val % 64, h⟩)
  else if h : q.val % 64 < 16 then
    pr x g w r ⟨q.val, by omega⟩ * co (ix2 r ⟨q.val % 64 - 8, by omega⟩) + pr x g w r ⟨q.val - 8, by omega⟩ * si (ix2 r ⟨q.val % 64 - 8, by omega⟩)
  else pr x g w r ⟨q.val, by omega⟩

/-- The three tables of two heads side by side: the factor of a column itself, of the column eight to the right, of
    the column eight to the left. -/
def tc (r : Fin 2048) (l : Fin 128) : EReal :=
  if h : l.val % 64 < 8 then co (ix2 r ⟨l.val % 64, h⟩) else if h : l.val % 64 < 16 then co (ix2 r ⟨l.val % 64 - 8, by omega⟩) else 1

def ta (r : Fin 2048) (l : Fin 128) : EReal := if h : l.val % 64 < 8 then -si (ix2 r ⟨l.val % 64, h⟩) else 0

def tb (r : Fin 2048) (l : Fin 128) : EReal :=
  if h : l.val % 64 < 8 then 0 else if h : l.val % 64 < 16 then si (ix2 r ⟨l.val % 64 - 8, by omega⟩) else 0

/-- On 128 columns from column `o` the products with the tables are the rotation. -/
theorem turn (o : ℕ) (ho : o + 128 ≤ 640) (hm : o % 64 = 0) (r : Fin 2048) (l : Fin 128) :
    pr x g w r ⟨o + l.val, by omega⟩ * tc co r l + pr x g w r ⟨o + (l.val + 128 - 120) % 128, by omega⟩ * ta si r l
      + pr x g w r ⟨o + (l.val + 128 - 8) % 128, by omega⟩ * tb si r l = rope x g w co si r ⟨o + l.val, by omega⟩ := by
  have hl : (o + l.val) % 64 = l.val % 64 := by omega
  unfold tc ta tb rope
  by_cases h : l.val % 64 < 8
  · have h' : (o + l.val) % 64 < 8 := by omega
    rw [dif_pos h, dif_pos h, dif_pos h, dif_pos h', mul_zero, add_zero, mul_neg, sub_eq_add_neg]
    simp only [hl, show o + (l.val + 128 - 120) % 128 = o + l.val + 8 from by omega]
  · have h' : ¬(o + l.val) % 64 < 8 := by omega
    rw [dif_neg h, dif_neg h, dif_neg h, dif_neg h', mul_zero, add_zero]
    by_cases k : l.val % 64 < 16
    · have k' : (o + l.val) % 64 < 16 := by omega
      rw [dif_pos k, dif_pos k, dif_pos k']
      simp only [hl, show o + (l.val + 128 - 8) % 128 = o + l.val - 8 from by omega]
    · have k' : ¬(o + l.val) % 64 < 16 := by omega
      rw [dif_neg k, dif_neg k, dif_neg k', mul_zero, add_zero, mul_one]

/-- The convolution's input `cc · cx`, and it `k` rows back, zero before the first row. -/
def z (r : Fin 2048) (q : Fin 512) : EReal := pr x g w r ⟨1280 + q.val, by omega⟩ * pr x g w r ⟨1792 + q.val, by omega⟩

def back (k : ℕ) (r : Fin 2048) (q : Fin 512) : EReal := if h : r.val < k then 0 else z x g w ⟨r.val - k, by omega⟩ q

/-- The gated convolution. -/
def conv (r : Fin 2048) (q : Fin 512) : EReal :=
  pr x g w r ⟨768 + q.val, by omega⟩
    * (cw (ix3 0 0 q) * back x g w 2 r q + cw (ix3 0 1 q) * back x g w 1 r q + cw (ix3 0 2 q) * z x g w r q)

/-- Within row tile `t` the rows one and two back come from the tile itself or from the rows before it. -/
theorem back1 {t : ℕ} (ht : t < 4) (r : Fin 512) (q : Fin 512) :
    (if r.val = 0 then back x g w 1 ⟨t * 512, by omega⟩ q else z x g w ⟨t * 512 + (r.val + 512 - 1) % 512, by omega⟩ q)
      = back x g w 1 ⟨t * 512 + r.val, by omega⟩ q := by
  by_cases h : r.val = 0
  · rw [if_pos h]
    exact congrArg (fun a => back x g w 1 a q) (Fin.ext (by simp [h]))
  · rw [if_neg h, back, dif_neg (by simp; omega)]
    exact congrArg (fun a => z x g w a q) (Fin.ext (by simp; omega))

theorem back2 {t : ℕ} (ht : t < 4) (r : Fin 512) (q : Fin 512) :
    (if r.val = 0 then back x g w 2 ⟨t * 512, by omega⟩ q
      else if r.val = 1 then back x g w 1 ⟨t * 512, by omega⟩ q else z x g w ⟨t * 512 + (r.val + 512 - 2) % 512, by omega⟩ q)
      = back x g w 2 ⟨t * 512 + r.val, by omega⟩ q := by
  by_cases h : r.val = 0
  · rw [if_pos h]
    exact congrArg (fun a => back x g w 2 a q) (Fin.ext (by simp [h]))
  · rw [if_neg h]
    by_cases k : r.val = 1
    · rw [if_pos k]
      by_cases h0 : t = 0
      · rw [back, back, dif_pos (by simp; omega), dif_pos (by simp; omega)]
      · rw [back, back, dif_neg (by simp; omega), dif_neg (by simp; omega)]
        exact congrArg (fun a => z x g w a q) (Fin.ext (by simp; omega))
    · rw [if_neg k, back, dif_neg (by simp; omega)]
      exact congrArg (fun a => z x g w a q) (Fin.ext (by simp; omega))

/-- The scale of the queries. -/
def eighth : EReal := (Scalar.ofBits .f32 0x3E000000#32 : Ideal .f32)

/-! The seven results over the arguments. -/

def Gq : FVec Ideal S2048x512 .f32 := fun j => rope x g w co si (j 0) ⟨(j 1).val, by have : (j 1).val < 512 := (j 1).isLt; omega⟩ * eighth

def Gk : FVec Ideal S2048x256 .f32 := fun j =>
  if h : (j 1).val < 128 then rope x g w co si (j 0) ⟨512 + (j 1).val, by omega⟩
  else pr x g w (j 0) ⟨512 + (j 1).val, by have : (j 1).val < 256 := (j 1).isLt; omega⟩

def Gc : FVec Ideal S2048x1536 .f32 := fun j => pr x g w (j 0) ⟨768 + (j 1).val, by have : (j 1).val < 1536 := (j 1).isLt; omega⟩

def Gu : FVec Ideal S2048x512 .f32 := fun j => pr x g w (j 0) ⟨2304 + (j 1).val, by have : (j 1).val < 512 := (j 1).isLt; omega⟩

def Gl : FVec Ideal S2048x3072 .f32 := fun j => pr x g w (j 0) ⟨2816 + (j 1).val, by have : (j 1).val < 3072 := (j 1).isLt; omega⟩

def Gv : FVec Ideal S2048x512 .bf16 := fun j => conv x g w cw (j 0) (j 1)

def Gh : FVec Ideal S2048x1024 .bf16 := fun j => hn x g (j 0) (j 1)

end Cert.RmsMmIn

end
-- ==== Proof.RmsMmInValue.lean ====
/-
  What the norm before the branches and the seven projections leave in their seven result arrays, element by element.
-/
module

public import proofs.«01_k».proof.Proof.RmsMmInMath
public import proofs.«01_k».proof.Proof.Gen.Kernel16Ideal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsMmIn

open Cert.Rms Cert.Kernel16Ideal Cert.Kernel16Ideal.Gen

theorem place : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![0, 0, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem point_lt (t : Fin cfg0.N) : t.val < 4 := lt_of_lt_of_eq t.isLt N_0

/-! The body's vectors over blocks that are row tile `t` of the arrays. -/

section Body

variable {x : FVec Ideal S2048x1024 .f32} {g : FVec Ideal S1024 .f32} {w : FVec Ideal S1024x5888 .f32} {co si : FVec Ideal S2048x8 .f32}
  {cw : FVec Ideal S4x3x512 .f32} {t : ℕ} (ht : t < 4)
  {bx : Vec Ideal S512x1024 .f32} {bg : Vec Ideal S1x1024 .f32} {bw : Vec Ideal S5888x1024 .bf16}
  (hx : ∀ (r : Fin 512) k, bx (ix2 r k) = x (ix2 ⟨t * 512 + r.val, by omega⟩ k)) (hg : ∀ q, bg (ix2 0 q) = g (ix1 q))
  (hw : ∀ l k, bw (ix2 l k) = w (ix2 k l))

include hx hg in
theorem pay3_at (r : Fin 512) (k : Fin 1024) : k0_pay3 (F := Ideal) bx bg (ix2 r k) = Gh x g (ix2 ⟨t * 512 + r.val, by omega⟩ k) := by
  pointwise [k0_pay3, hx, hg]
  rfl

include hx hg in
theorem hn_at (r : Fin 512) (k : Fin 1024) : k0_pay3 (F := Ideal) bx bg (ix2 r k) = hn x g ⟨t * 512 + r.val, by omega⟩ k := pay3_at ht hx hg r k

include hx hg hw in
theorem pay4_at (r : Fin 512) (l : Fin 5888) : k0_pay4 (F := Ideal) bx bg bw (ix2 r l) = pr x g w ⟨t * 512 + r.val, by omega⟩ l := by
  pointwise [k0_pay4, hn_at ht hx hg, hw]
  rfl

include hx hg hw in
theorem pay5_at (r : Fin 512) (j : Fin 1536) : k0_pay5 (F := Ideal) bx bg bw (ix2 r j) = Gc x g w (ix2 ⟨t * 512 + r.val, by omega⟩ j) := by
  pointwise [k0_pay5, pay4_at ht hx hg hw]
  rfl

include hx hg hw in
theorem pay6_at (r : Fin 512) (j : Fin 512) : k0_pay6 (F := Ideal) bx bg bw (ix2 r j) = Gu x g w (ix2 ⟨t * 512 + r.val, by omega⟩ j) := by
  pointwise [k0_pay6, pay4_at ht hx hg hw]
  rfl

include hx hg hw in
theorem pay7_at (r : Fin 512) (j : Fin 3072) : k0_pay7 (F := Ideal) bx bg bw (ix2 r j) = Gl x g w (ix2 ⟨t * 512 + r.val, by omega⟩ j) := by
  pointwise [k0_pay7, pay4_at ht hx hg hw]
  rfl

variable {p : FVec Ideal S512x5888 .f32} (hp : ∀ (r : Fin 512) l, p (ix2 r l) = pr x g w ⟨t * 512 + r.val, by omega⟩ l)
  {bc ba bb : Vec Ideal S512x128 .f32} (hc : ∀ (r : Fin 512) l, bc (ix2 r l) = tc co ⟨t * 512 + r.val, by omega⟩ l)
  (ha : ∀ (r : Fin 512) l, ba (ix2 r l) = ta si ⟨t * 512 + r.val, by omega⟩ l)
  (hb : ∀ (r : Fin 512) l, bb (ix2 r l) = tb si ⟨t * 512 + r.val, by omega⟩ l)

include hp hc ha hb in
theorem pay11_at (r : Fin 512) (l : Fin 128) : k0_pay11 (F := Ideal) p (k0_pay8 bc) ba bb (ix2 r l)
    = Gq x g w co si (ix2 ⟨t * 512 + r.val, by omega⟩ ⟨0 + l.val, by omega⟩) := by
  pointwise [k0_pay11, k0_pay9, k0_pay10, k0_pay8, hp, hc, ha, hb]
  have e := turn x g w co si 0 (by omega) (by omega) ⟨t * 512 + r.val, by omega⟩ l
  simp only [Nat.zero_add] at e
  refine (congrArg (· * eighth) e).trans ?_
  exact congrArg (fun a => rope x g w co si _ a * eighth) (Fin.ext (by simp))

include hp hc ha hb in
theorem pay12_at (r : Fin 512) (l : Fin 128) : k0_pay12 (F := Ideal) p (k0_pay8 bc) ba bb (ix2 r l)
    = Gq x g w co si (ix2 ⟨t * 512 + r.val, by omega⟩ ⟨128 + l.val, by omega⟩) := by
  pointwise [k0_pay12, k0_pay9, k0_pay10, k0_pay8, hp, hc, ha, hb]
  exact congrArg (· * eighth) (turn x g w co si 128 (by omega) (by omega) ⟨t * 512 + r.val, by omega⟩ l)

include hp hc ha hb in
theorem pay13_at (r : Fin 512) (l : Fin 128) : k0_pay13 (F := Ideal) p (k0_pay8 bc) ba bb (ix2 r l)
    = Gq x g w co si (ix2 ⟨t * 512 + r.val, by omega⟩ ⟨256 + l.val, by omega⟩) := by
  pointwise [k0_pay13, k0_pay9, k0_pay10, k0_pay8, hp, hc, ha, hb]
  exact congrArg (· * eighth) (turn x g w co si 256 (by omega) (by omega) ⟨t * 512 + r.val, by omega⟩ l)

include hp hc ha hb in
theorem pay16_at (r : Fin 512) (l : Fin 128) : k0_pay16 (F := Ideal) (k0_pay9 ba) (k0_pay10 bb) (k0_pay14 p) (k0_pay15 p (k0_pay8 bc)) (ix2 r l)
    = Gq x g w co si (ix2 ⟨t * 512 + r.val, by omega⟩ ⟨384 + l.val, by omega⟩) := by
  pointwise [k0_pay16, k0_pay15, k0_pay14, k0_pay9, k0_pay10, k0_pay8, hp, hc, ha, hb]
  exact congrArg (· * eighth) (turn x g w co si 384 (by omega) (by omega) ⟨t * 512 + r.val, by omega⟩ l)

include hp hc ha hb in
theorem pay17_at (r : Fin 512) (l : Fin 128) : k0_pay17 (F := Ideal) p (k0_pay8 bc) (k0_pay9 ba) (k0_pay10 bb) (ix2 r l)
    = Gk x g w co si (ix2 ⟨t * 512 + r.val, by omega⟩ ⟨0 + l.val, by omega⟩) := by
  pointwise [k0_pay17, k0_pay9, k0_pay10, k0_pay8, hp, hc, ha, hb]
  refine (turn x g w co si 512 (by omega) (by omega) ⟨t * 512 + r.val, by omega⟩ l).trans ?_
  rw [Gk, dif_pos (by simp)]
  exact congrArg _ (Fin.ext (by simp))

include hp in
theorem pay18_at (r : Fin 512) (l : Fin 128) : k0_pay18 (F := Ideal) p (ix2 r l)
    = Gk x g w co si (ix2 ⟨t * 512 + r.val, by omega⟩ ⟨128 + l.val, by omega⟩) := by
  pointwise [k0_pay18, hp]
  rw [Gk, dif_neg (by simp)]
  exact congrArg _ (Fin.ext (by simp; omega))

variable {w0 w1 w2 : Vec Ideal S1x1x128 .f32} {b1 b2 : Vec Ideal S1x128 .f32}

include hp in
theorem pay19_at (r : Fin 512) (l : Fin 128) : k0_pay19 (F := Ideal) p (ix2 r l)
    = pr x g w ⟨t * 512 + r.val, by omega⟩ ⟨768 + (0 + l.val), by omega⟩ := by
  pointwise [k0_pay19, hp]

include hp in
theorem pay20_at (r : Fin 512) (l : Fin 128) : k0_pay20 (F := Ideal) p (ix2 r l)
    = z x g w ⟨t * 512 + r.val, by omega⟩ ⟨0 + l.val, by omega⟩ := by
  pointwise [k0_pay20, hp]
  rfl

include hp in
theorem pay25_at (r : Fin 8) (l : Fin 128) : k0_pay25 (F := Ideal) (k0_pay20 p) (ix2 r l)
    = z x g w ⟨t * 512 + (504 + r.val), by omega⟩ ⟨0 + l.val, by omega⟩ := by
  pointwise [k0_pay25, pay20_at ht hp]

include hp in
theorem pay26_at (r : Fin 512) (l : Fin 128) : k0_pay26 (F := Ideal) p (ix2 r l)
    = pr x g w ⟨t * 512 + r.val, by omega⟩ ⟨768 + (128 + l.val), by omega⟩ := by
  pointwise [k0_pay26, hp]
  exact congrArg _ (Fin.ext (by simp; omega))

include hp in
theorem pay27_at (r : Fin 512) (l : Fin 128) : k0_pay27 (F := Ideal) p (ix2 r l)
    = z x g w ⟨t * 512 + r.val, by omega⟩ ⟨128 + l.val, by omega⟩ := by
  pointwise [k0_pay27, hp]
  exact congrArg₂ (· * ·) (congrArg _ (Fin.ext (by simp; omega))) (congrArg _ (Fin.ext (by simp; omega)))

include hp in
theorem pay32_at (r : Fin 8) (l : Fin 128) : k0_pay32 (F := Ideal) (k0_pay27 p) (ix2 r l)
    = z x g w ⟨t * 512 + (504 + r.val), by omega⟩ ⟨128 + l.val, by omega⟩ := by
  pointwise [k0_pay32, pay27_at ht hp]

include hp in
theorem pay33_at (r : Fin 512) (l : Fin 128) : k0_pay33 (F := Ideal) p (ix2 r l)
    = pr x g w ⟨t * 512 + r.val, by omega⟩ ⟨768 + (256 + l.val), by omega⟩ := by
  pointwise [k0_pay33, hp]
  exact congrArg _ (Fin.ext (by simp; omega))

include hp in
theorem pay34_at (r : Fin 512) (l : Fin 128) : k0_pay34 (F := Ideal) p (ix2 r l)
    = z x g w ⟨t * 512 + r.val, by omega⟩ ⟨256 + l.val, by omega⟩ := by
  pointwise [k0_pay34, hp]
  exact congrArg₂ (· * ·) (congrArg _ (Fin.ext (by simp; omega))) (congrArg _ (Fin.ext (by simp; omega)))

include hp in
theorem pay36_at (r : Fin 8) (l : Fin 128) : k0_pay36 (F := Ideal) (k0_pay34 p) (ix2 r l)
    = z x g w ⟨t * 512 + (504 + r.val), by omega⟩ ⟨256 + l.val, by omega⟩ := by
  pointwise [k0_pay36, pay34_at ht hp]

include hp in
theorem pay37_at (r : Fin 512) (l : Fin 128) : k0_pay37 (F := Ideal) p (ix2 r l)
    = pr x g w ⟨t * 512 + r.val, by omega⟩ ⟨768 + (384 + l.val), by omega⟩ := by
  pointwise [k0_pay37, hp]
  exact congrArg _ (Fin.ext (by simp; omega))

include hp in
theorem pay38_at (r : Fin 512) (l : Fin 128) : k0_pay38 (F := Ideal) p (ix2 r l)
    = z x g w ⟨t * 512 + r.val, by omega⟩ ⟨384 + l.val, by omega⟩ := by
  pointwise [k0_pay38, hp]
  exact congrArg₂ (· * ·) (congrArg _ (Fin.ext (by simp; omega))) (congrArg _ (Fin.ext (by simp; omega)))

include hp in
theorem pay1_at (r : Fin 8) (l : Fin 128) : k0_pay1 (F := Ideal) (k0_pay38 p) (ix2 r l)
    = z x g w ⟨t * 512 + (504 + r.val), by omega⟩ ⟨384 + l.val, by omega⟩ := by
  pointwise [k0_pay1, pay38_at ht hp]

include hp in
theorem pay24_at (h0 : ∀ l : Fin 128, w0 (ix3 0 0 l) = cw (ix3 0 0 ⟨0 + l.val, by omega⟩)) (h1 : ∀ l : Fin 128, w1 (ix3 0 0 l) = cw (ix3 0 1 ⟨0 + l.val, by omega⟩))
    (h2 : ∀ l : Fin 128, w2 (ix3 0 0 l) = cw (ix3 0 2 ⟨0 + l.val, by omega⟩)) (hb1 : ∀ l : Fin 128, b1 (ix2 0 l) = back x g w 1 ⟨t * 512, by omega⟩ ⟨0 + l.val, by omega⟩)
    (hb2 : ∀ l : Fin 128, b2 (ix2 0 l) = back x g w 2 ⟨t * 512, by omega⟩ ⟨0 + l.val, by omega⟩) (r : Fin 512) (l : Fin 128) :
    k0_pay24 (F := Ideal) (k0_pay19 p) (k0_pay20 p) b1 b2 (k0_pay21 p b1) k0_pay22 k0_pay23 2#32 w0 w1 w2 (ix2 r l)
    = Gv x g w cw (ix2 ⟨t * 512 + r.val, by omega⟩ ⟨0 + l.val, by omega⟩) := by
  pointwise [k0_pay24, k0_pay21, k0_pay22, k0_pay23, pay19_at ht hp, pay20_at ht hp, h0, h1, h2, hb1, hb2]
  word_cmp
  rw [back1 x g w ht r, back2 x g w ht r]
  rfl

include hp in
theorem pay31_at (h0 : ∀ l : Fin 128, w0 (ix3 0 0 l) = cw (ix3 0 0 ⟨128 + l.val, by omega⟩)) (h1 : ∀ l : Fin 128, w1 (ix3 0 0 l) = cw (ix3 0 1 ⟨128 + l.val, by omega⟩))
    (h2 : ∀ l : Fin 128, w2 (ix3 0 0 l) = cw (ix3 0 2 ⟨128 + l.val, by omega⟩)) (hb1 : ∀ l : Fin 128, b1 (ix2 0 l) = back x g w 1 ⟨t * 512, by omega⟩ ⟨128 + l.val, by omega⟩)
    (hb2 : ∀ l : Fin 128, b2 (ix2 0 l) = back x g w 2 ⟨t * 512, by omega⟩ ⟨128 + l.val, by omega⟩) (r : Fin 512) (l : Fin 128) :
    k0_pay31 (F := Ideal) (iota .tc S512x128 32 [0] iota_S512x128_d0_w32) (k0_pay26 p) (k0_pay27 p) b1 b2 (k0_pay28 (iota .tc S512x128 32 [0] iota_S512x128_d0_w32)) (k0_pay29 p) (k0_pay30 b1) w0 w1 w2 (ix2 r l)
    = Gv x g w cw (ix2 ⟨t * 512 + r.val, by omega⟩ ⟨128 + l.val, by omega⟩) := by
  pointwise [k0_pay31, k0_pay28, k0_pay29, k0_pay30, pay26_at ht hp, pay27_at ht hp, h0, h1, h2, hb1, hb2]
  word_cmp
  rw [back1 x g w ht r, back2 x g w ht r]
  rfl

include hp in
theorem pay35_at (h0 : ∀ l : Fin 128, w0 (ix3 0 0 l) = cw (ix3 0 0 ⟨256 + l.val, by omega⟩)) (h1 : ∀ l : Fin 128, w1 (ix3 0 0 l) = cw (ix3 0 1 ⟨256 + l.val, by omega⟩))
    (h2 : ∀ l : Fin 128, w2 (ix3 0 0 l) = cw (ix3 0 2 ⟨256 + l.val, by omega⟩)) (hb1 : ∀ l : Fin 128, b1 (ix2 0 l) = back x g w 1 ⟨t * 512, by omega⟩ ⟨256 + l.val, by omega⟩)
    (hb2 : ∀ l : Fin 128, b2 (ix2 0 l) = back x g w 2 ⟨t * 512, by omega⟩ ⟨256 + l.val, by omega⟩) (r : Fin 512) (l : Fin 128) :
    k0_pay35 (F := Ideal) (iota .tc S512x128 32 [0] iota_S512x128_d0_w32) (k0_pay33 p) (k0_pay34 p) b1 b2 w0 w1 w2 (ix2 r l)
    = Gv x g w cw (ix2 ⟨t * 512 + r.val, by omega⟩ ⟨256 + l.val, by omega⟩) := by
  pointwise [k0_pay35, pay33_at ht hp, pay34_at ht hp, h0, h1, h2, hb1, hb2]
  word_cmp
  rw [back1 x g w ht r, back2 x g w ht r]
  rfl

include hp in
theorem pay39_at (h0 : ∀ l : Fin 128, w0 (ix3 0 0 l) = cw (ix3 0 0 ⟨384 + l.val, by omega⟩)) (h1 : ∀ l : Fin 128, w1 (ix3 0 0 l) = cw (ix3 0 1 ⟨384 + l.val, by omega⟩))
    (h2 : ∀ l : Fin 128, w2 (ix3 0 0 l) = cw (ix3 0 2 ⟨384 + l.val, by omega⟩)) (hb1 : ∀ l : Fin 128, b1 (ix2 0 l) = back x g w 1 ⟨t * 512, by omega⟩ ⟨384 + l.val, by omega⟩)
    (hb2 : ∀ l : Fin 128, b2 (ix2 0 l) = back x g w 2 ⟨t * 512, by omega⟩ ⟨384 + l.val, by omega⟩) (r : Fin 512) (l : Fin 128) :
    k0_pay39 (F := Ideal) p (iota .tc S512x128 32 [0] iota_S512x128_d0_w32) (k0_pay37 p) b1 b2 w0 w1 w2 (ix2 r l)
    = Gv x g w cw (ix2 ⟨t * 512 + r.val, by omega⟩ ⟨384 + l.val, by omega⟩) := by
  pointwise [k0_pay39, pay37_at ht hp, pay38_at ht hp, h0, h1, h2, hb1, hb2]
  word_cmp
  rw [back1 x g w ht r, back2 x g w ht r]
  rfl

end Body

/-- Four column blocks stored side by side are the array `G` when each is its columns of `G`. -/
theorem four {e : EltTy} [∀ e, Nonempty (Elt Ideal e)] (G : S512x512.Idx → Elt Ideal e) (u0 u1 u2 u3 : S512x128.Idx → Elt Ideal e)
    (i0 : ∀ a, (![0, 0] : Fin 2 → ℕ) a + (![512, 128] : Fin 2 → ℕ) a ≤ S512x512.size a)
    (i1 : ∀ a, (![0, 128] : Fin 2 → ℕ) a + (![512, 128] : Fin 2 → ℕ) a ≤ S512x512.size a)
    (i2 : ∀ a, (![0, 256] : Fin 2 → ℕ) a + (![512, 128] : Fin 2 → ℕ) a ≤ S512x512.size a)
    (i3 : ∀ a, (![0, 384] : Fin 2 → ℕ) a + (![512, 128] : Fin 2 → ℕ) a ≤ S512x512.size a)
    (L : List (View.Piece (Elt Ideal) S512x512 e)) (y : S512x512.Idx)
    (h0 : ∀ (r : Fin 512) (l : Fin 128), u0 (ix2 r l) = G (ix2 r ⟨0 + l.val, by omega⟩))
    (h1 : ∀ (r : Fin 512) (l : Fin 128), u1 (ix2 r l) = G (ix2 r ⟨128 + l.val, by omega⟩))
    (h2 : ∀ (r : Fin 512) (l : Fin 128), u2 (ix2 r l) = G (ix2 r ⟨256 + l.val, by omega⟩))
    (h3 : ∀ (r : Fin 512) (l : Fin 128), u3 (ix2 r l) = G (ix2 r ⟨384 + l.val, by omega⟩)) :
    View.canon (⟨Rect.unit ![0, 384] ![512, 128] i3, u3⟩ :: ⟨Rect.unit ![0, 256] ![512, 128] i2, u2⟩ :: ⟨Rect.unit ![0, 128] ![512, 128] i1, u1⟩ :: ⟨Rect.unit ![0, 0] ![512, 128] i0, u0⟩ :: L) y = G y := by
  refine View.canon_append_of_piecesOf G L [⟨Rect.unit ![0, 384] ![512, 128] i3, u3⟩, ⟨Rect.unit ![0, 256] ![512, 128] i2, u2⟩, ⟨Rect.unit ![0, 128] ![512, 128] i1, u1⟩, ⟨Rect.unit ![0, 0] ![512, 128] i0, u0⟩]
    ⟨fun x => ?_, fun x => ?_, fun x => ?_, fun x => ?_, trivial⟩ y ?_
  · obtain ⟨r, l, rfl⟩ : ∃ (r : Fin 512) (l : Fin 128), x = (ix2 r l : S512x128.Idx) := ⟨x 0, x 1, eq_ix2 x⟩
    exact (h3 r l).trans (congrArg G (by funext k; fin_cases k <;> exact Fin.ext (by simp)))
  · obtain ⟨r, l, rfl⟩ : ∃ (r : Fin 512) (l : Fin 128), x = (ix2 r l : S512x128.Idx) := ⟨x 0, x 1, eq_ix2 x⟩
    exact (h2 r l).trans (congrArg G (by funext k; fin_cases k <;> exact Fin.ext (by simp)))
  · obtain ⟨r, l, rfl⟩ : ∃ (r : Fin 512) (l : Fin 128), x = (ix2 r l : S512x128.Idx) := ⟨x 0, x 1, eq_ix2 x⟩
    exact (h1 r l).trans (congrArg G (by funext k; fin_cases k <;> exact Fin.ext (by simp)))
  · obtain ⟨r, l, rfl⟩ : ∃ (r : Fin 512) (l : Fin 128), x = (ix2 r l : S512x128.Idx) := ⟨x 0, x 1, eq_ix2 x⟩
    exact (h0 r l).trans (congrArg G (by funext k; fin_cases k <;> exact Fin.ext (by simp)))
  · have a0 : (y 0).val < 512 := (y 0).isLt
    have a1 : (y 1).val < 512 := (y 1).isLt
    by_cases b0 : (y 1).val < 128
    · have hy : y ∈ (Rect.unit (s := S512x512) ![0, 0] ![512, 128] i0).set :=
        Rect.mem_set_unit.mpr (by intro k; fin_cases k <;> simp <;> omega)
      exact ⟨⟨Rect.unit ![0, 0] ![512, 128] i0, u0⟩, by simp, hy⟩
    by_cases b1 : (y 1).val < 256
    · have hy : y ∈ (Rect.unit (s := S512x512) ![0, 128] ![512, 128] i1).set :=
        Rect.mem_set_unit.mpr (by intro k; fin_cases k <;> simp <;> omega)
      exact ⟨⟨Rect.unit ![0, 128] ![512, 128] i1, u1⟩, by simp, hy⟩
    by_cases b2 : (y 1).val < 384
    · have hy : y ∈ (Rect.unit (s := S512x512) ![0, 256] ![512, 128] i2).set :=
        Rect.mem_set_unit.mpr (by intro k; fin_cases k <;> simp <;> omega)
      exact ⟨⟨Rect.unit ![0, 256] ![512, 128] i2, u2⟩, by simp, hy⟩
    · have hy : y ∈ (Rect.unit (s := S512x512) ![0, 384] ![512, 128] i3).set :=
        Rect.mem_set_unit.mpr (by intro k; fin_cases k <;> simp <;> omega)
      exact ⟨⟨Rect.unit ![0, 384] ![512, 128] i3, u3⟩, by simp, hy⟩

/-- The same of two column blocks. -/
theorem pair {e : EltTy} [∀ e, Nonempty (Elt Ideal e)] (G : S512x256.Idx → Elt Ideal e) (u0 u1 : S512x128.Idx → Elt Ideal e)
    (i0 : ∀ a, (![0, 0] : Fin 2 → ℕ) a + (![512, 128] : Fin 2 → ℕ) a ≤ S512x256.size a)
    (i1 : ∀ a, (![0, 128] : Fin 2 → ℕ) a + (![512, 128] : Fin 2 → ℕ) a ≤ S512x256.size a)
    (L : List (View.Piece (Elt Ideal) S512x256 e)) (y : S512x256.Idx)
    (h0 : ∀ (r : Fin 512) (l : Fin 128), u0 (ix2 r l) = G (ix2 r ⟨0 + l.val, by omega⟩))
    (h1 : ∀ (r : Fin 512) (l : Fin 128), u1 (ix2 r l) = G (ix2 r ⟨128 + l.val, by omega⟩)) :
    View.canon (⟨Rect.unit ![0, 128] ![512, 128] i1, u1⟩ :: ⟨Rect.unit ![0, 0] ![512, 128] i0, u0⟩ :: L) y = G y := by
  refine View.canon_append_of_piecesOf G L [⟨Rect.unit ![0, 128] ![512, 128] i1, u1⟩, ⟨Rect.unit ![0, 0] ![512, 128] i0, u0⟩]
    ⟨fun x => ?_, fun x => ?_, trivial⟩ y ?_
  · obtain ⟨r, l, rfl⟩ : ∃ (r : Fin 512) (l : Fin 128), x = (ix2 r l : S512x128.Idx) := ⟨x 0, x 1, eq_ix2 x⟩
    exact (h1 r l).trans (congrArg G (by funext k; fin_cases k <;> exact Fin.ext (by simp)))
  · obtain ⟨r, l, rfl⟩ : ∃ (r : Fin 512) (l : Fin 128), x = (ix2 r l : S512x128.Idx) := ⟨x 0, x 1, eq_ix2 x⟩
    exact (h0 r l).trans (congrArg G (by funext k; fin_cases k <;> exact Fin.ext (by simp)))
  · have a0 : (y 0).val < 512 := (y 0).isLt
    have a1 : (y 1).val < 256 := (y 1).isLt
    by_cases b0 : (y 1).val < 128
    · have hy : y ∈ (Rect.unit (s := S512x256) ![0, 0] ![512, 128] i0).set :=
        Rect.mem_set_unit.mpr (by intro k; fin_cases k <;> simp <;> omega)
      exact ⟨⟨Rect.unit ![0, 0] ![512, 128] i0, u0⟩, by simp, hy⟩
    · have hy : y ∈ (Rect.unit (s := S512x256) ![0, 128] ![512, 128] i1).set :=
        Rect.mem_set_unit.mpr (by intro k; fin_cases k <;> simp <;> omega)
      exact ⟨⟨Rect.unit ![0, 128] ![512, 128] i1, u1⟩, by simp, hy⟩

/-- The same of four column blocks of eight rows. -/
theorem fourTail {e : EltTy} [∀ e, Nonempty (Elt Ideal e)] (G : S8x512.Idx → Elt Ideal e) (u0 u1 u2 u3 : S8x128.Idx → Elt Ideal e)
    (i0 : ∀ a, (![0, 0] : Fin 2 → ℕ) a + (![8, 128] : Fin 2 → ℕ) a ≤ S8x512.size a)
    (i1 : ∀ a, (![0, 128] : Fin 2 → ℕ) a + (![8, 128] : Fin 2 → ℕ) a ≤ S8x512.size a)
    (i2 : ∀ a, (![0, 256] : Fin 2 → ℕ) a + (![8, 128] : Fin 2 → ℕ) a ≤ S8x512.size a)
    (i3 : ∀ a, (![0, 384] : Fin 2 → ℕ) a + (![8, 128] : Fin 2 → ℕ) a ≤ S8x512.size a)
    (L : List (View.Piece (Elt Ideal) S8x512 e)) (y : S8x512.Idx)
    (h0 : ∀ (r : Fin 8) (l : Fin 128), u0 (ix2 r l) = G (ix2 r ⟨0 + l.val, by omega⟩))
    (h1 : ∀ (r : Fin 8) (l : Fin 128), u1 (ix2 r l) = G (ix2 r ⟨128 + l.val, by omega⟩))
    (h2 : ∀ (r : Fin 8) (l : Fin 128), u2 (ix2 r l) = G (ix2 r ⟨256 + l.val, by omega⟩))
    (h3 : ∀ (r : Fin 8) (l : Fin 128), u3 (ix2 r l) = G (ix2 r ⟨384 + l.val, by omega⟩)) :
    View.canon (⟨Rect.unit ![0, 384] ![8, 128] i3, u3⟩ :: ⟨Rect.unit ![0, 256] ![8, 128] i2, u2⟩ :: ⟨Rect.unit ![0, 128] ![8, 128] i1, u1⟩ :: ⟨Rect.unit ![0, 0] ![8, 128] i0, u0⟩ :: L) y = G y := by
  refine View.canon_append_of_piecesOf G L [⟨Rect.unit ![0, 384] ![8, 128] i3, u3⟩, ⟨Rect.unit ![0, 256] ![8, 128] i2, u2⟩, ⟨Rect.unit ![0, 128] ![8, 128] i1, u1⟩, ⟨Rect.unit ![0, 0] ![8, 128] i0, u0⟩]
    ⟨fun x => ?_, fun x => ?_, fun x => ?_, fun x => ?_, trivial⟩ y ?_
  · obtain ⟨r, l, rfl⟩ : ∃ (r : Fin 8) (l : Fin 128), x = (ix2 r l : S8x128.Idx) := ⟨x 0, x 1, eq_ix2 x⟩
    exact (h3 r l).trans (congrArg G (by funext k; fin_cases k <;> exact Fin.ext (by simp)))
  · obtain ⟨r, l, rfl⟩ : ∃ (r : Fin 8) (l : Fin 128), x = (ix2 r l : S8x128.Idx) := ⟨x 0, x 1, eq_ix2 x⟩
    exact (h2 r l).trans (congrArg G (by funext k; fin_cases k <;> exact Fin.ext (by simp)))
  · obtain ⟨r, l, rfl⟩ : ∃ (r : Fin 8) (l : Fin 128), x = (ix2 r l : S8x128.Idx) := ⟨x 0, x 1, eq_ix2 x⟩
    exact (h1 r l).trans (congrArg G (by funext k; fin_cases k <;> exact Fin.ext (by simp)))
  · obtain ⟨r, l, rfl⟩ : ∃ (r : Fin 8) (l : Fin 128), x = (ix2 r l : S8x128.Idx) := ⟨x 0, x 1, eq_ix2 x⟩
    exact (h0 r l).trans (congrArg G (by funext k; fin_cases k <;> exact Fin.ext (by simp)))
  · have a0 : (y 0).val < 8 := (y 0).isLt
    have a1 : (y 1).val < 512 := (y 1).isLt
    by_cases b0 : (y 1).val < 128
    · have hy : y ∈ (Rect.unit (s := S8x512) ![0, 0] ![8, 128] i0).set :=
        Rect.mem_set_unit.mpr (by intro k; fin_cases k <;> simp <;> omega)
      exact ⟨⟨Rect.unit ![0, 0] ![8, 128] i0, u0⟩, by simp, hy⟩
    by_cases b1 : (y 1).val < 256
    · have hy : y ∈ (Rect.unit (s := S8x512) ![0, 128] ![8, 128] i1).set :=
        Rect.mem_set_unit.mpr (by intro k; fin_cases k <;> simp <;> omega)
      exact ⟨⟨Rect.unit ![0, 128] ![8, 128] i1, u1⟩, by simp, hy⟩
    by_cases b2 : (y 1).val < 384
    · have hy : y ∈ (Rect.unit (s := S8x512) ![0, 256] ![8, 128] i2).set :=
        Rect.mem_set_unit.mpr (by intro k; fin_cases k <;> simp <;> omega)
      exact ⟨⟨Rect.unit ![0, 256] ![8, 128] i2, u2⟩, by simp, hy⟩
    · have hy : y ∈ (Rect.unit (s := S8x512) ![0, 384] ![8, 128] i3).set :=
        Rect.mem_set_unit.mpr (by intro k; fin_cases k <;> simp <;> omega)
      exact ⟨⟨Rect.unit ![0, 384] ![8, 128] i3, u3⟩, by simp, hy⟩

variable (m : (ℓ : Loc nD τ sig) → Buf (Elt Ideal) ℓ) (c : Dev nD)

/-- The operands as the region reads them: the weight transposed, the gain as a row, the filter with five zero rows
    under each layer's three taps, the tables of one head repeated for two. -/
def turned (w : FVec Ideal S1024x5888 .f32) : FVec Ideal S5888x1024 .bf16 :=
  transpose S5888x1024 [1, 0] (truncf .bf16 w bitsLt_bf16_f32) transposes_S1024x5888_S5888x1024_1_0

def lifted (g : FVec Ideal S1024 .f32) : FVec Ideal S1x1024 .f32 := broadcastInDim S1x1024 ![1] bcast_S1024_S1x1024_1 g

def padded (w : FVec Ideal S4x3x512 .f32) : FVec Ideal S4x8x512 .f32 :=
  pad S4x8x512 ![0, 0, 0] ![0, 5, 0] ![0, 0, 0] w (sitofp (F := Ideal) .f32 (constantI S_ 32 0#32))
    pads_S4x3x512_S4x8x512_000_050_000 h_S_

def head (a b : FVec Ideal S2048x8 .f32) (d : FVec Ideal S2048x48 .f32) : FVec Ideal S2048x64 .f32 :=
  concatenate S2048x64 1 [⟨S2048x8, a⟩, ⟨S2048x8, b⟩, ⟨S2048x48, d⟩] concatenates_S2048x8_S2048x8_S2048x48_S2048x64_d1

def tiled (v : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 v shapeCasts_S2048x64_S1x2048x1x64)) shapeCasts_S1x2048x2x64_S2048x128

def ones : FVec Ideal S2048x48 .f32 := broadcastInDim S2048x48 ![] bcast_S_S2048x48 (constant (F := Ideal) S_ .f32 0x3F800000#32)

def zeros : FVec Ideal S2048x48 .f32 := broadcastInDim S2048x48 ![] bcast_S_S2048x48 (constant (F := Ideal) S_ .f32 0x00000000#32)

def zeros8 : FVec Ideal S2048x8 .f32 := broadcastInDim S2048x8 ![] bcast_S_S2048x8 (constant (F := Ideal) S_ .f32 0x00000000#32)

/-- A repeated table at a column is the head's table at the column within the head. -/
theorem tiled_at (v : FVec Ideal S2048x64 .f32) (r : Fin 2048) (l : Fin 128) : tiled v (ix2 r l) = v (ix2 r ⟨l.val % 64, by omega⟩) := by
  pointwise [tiled]

theorem head_at (a b : FVec Ideal S2048x8 .f32) (d : FVec Ideal S2048x48 .f32) (r : Fin 2048) (l : Fin 64) : head a b d (ix2 r l)
    = if h : l.val < 8 then a (ix2 r ⟨l.val, h⟩) else if h : l.val < 16 then b (ix2 r ⟨l.val - 8, by omega⟩) else d (ix2 r ⟨l.val - 16, by omega⟩) := by
  pointwise [head]
  by_cases h : l.val < 8
  · rw [dif_pos h, dif_pos h]
  · rw [dif_neg h, dif_neg h]
    by_cases k : l.val < 16
    · rw [dif_pos (show l.val - 8 < 8 by omega), dif_pos k]
    · rw [dif_neg (show ¬l.val - 8 < 8 by omega), dif_neg k]
      exact congrArg d (congrArg (ix2 r) (Fin.ext (by simp; omega)))

theorem V_turned : V m c main_v17 = turned (m ((c : Thread nD τ).loc main_arg2)) := by
  unfold V
  simp only [hostOps0, hostOps0_1, hostOps0_2, List.flatten, List.append, List.cons_append, List.nil_append, List.append_nil,
    StableHlo.TRef.nary, StableHlo.TRef.binary, StableHlo.TRef.unary, StableHlo.TRef.toBuf, StableHlo.TRef.ofBuf, cast_eq]
  after_results_simp <;> rfl

theorem V_lifted : V m c main_v18 = lifted (m ((c : Thread nD τ).loc main_arg1)) := by
  unfold V
  simp only [hostOps0, hostOps0_1, hostOps0_2, List.flatten, List.append, List.cons_append, List.nil_append, List.append_nil,
    StableHlo.TRef.nary, StableHlo.TRef.binary, StableHlo.TRef.unary, StableHlo.TRef.toBuf, StableHlo.TRef.ofBuf, cast_eq]
  after_results_simp <;> rfl

theorem V_padded : V m c main_v19 = padded (m ((c : Thread nD τ).loc main_arg5)) := by
  unfold V
  simp only [hostOps0, hostOps0_1, hostOps0_2, List.flatten, List.append, List.cons_append, List.nil_append, List.append_nil,
    StableHlo.TRef.nary, StableHlo.TRef.binary, StableHlo.TRef.unary, StableHlo.TRef.toBuf, StableHlo.TRef.ofBuf, cast_eq]
  after_results_simp <;> rfl

theorem V_tc : V m c main_v6 = tiled (head (m ((c : Thread nD τ).loc main_arg3)) (m ((c : Thread nD τ).loc main_arg3)) ones) := by
  unfold V
  simp only [hostOps0, hostOps0_1, hostOps0_2, List.flatten, List.append, List.cons_append, List.nil_append, List.append_nil,
    StableHlo.TRef.nary, StableHlo.TRef.binary, StableHlo.TRef.unary, StableHlo.TRef.toBuf, StableHlo.TRef.ofBuf, cast_eq]
  after_results_simp <;> rfl

theorem V_ta : V m c main_v11 = tiled (head (Host.negf (m ((c : Thread nD τ).loc main_arg4))) zeros8 zeros) := by
  unfold V
  simp only [hostOps0, hostOps0_1, hostOps0_2, List.flatten, List.append, List.cons_append, List.nil_append, List.append_nil,
    StableHlo.TRef.nary, StableHlo.TRef.binary, StableHlo.TRef.unary, StableHlo.TRef.toBuf, StableHlo.TRef.ofBuf, cast_eq]
  after_results_simp <;> rfl

theorem V_tb : V m c main_v15 = tiled (head zeros8 (m ((c : Thread nD τ).loc main_arg4)) zeros) := by
  unfold V
  simp only [hostOps0, hostOps0_1, hostOps0_2, List.flatten, List.append, List.cons_append, List.nil_append, List.append_nil,
    StableHlo.TRef.nary, StableHlo.TRef.binary, StableHlo.TRef.unary, StableHlo.TRef.toBuf, StableHlo.TRef.ofBuf, cast_eq]
  after_results_simp <;> rfl

theorem x_at (t : Fin cfg0.N) (r : Fin 512) (k : Fin 1024) : (show EReal from iblk m c 0 t (ix2 r k))
    = (m ((c : Thread nD τ).loc main_arg0)) (ix2 ⟨t.val * 512 + r.val, by have := point_lt t; omega⟩ k) := by
  blk_ext [iblk, V, place t]

theorem g_at (t : Fin cfg0.N) (q : Fin 1024) : (show EReal from iblk m c 1 t (ix2 0 q)) = (m ((c : Thread nD τ).loc main_arg1)) (ix1 q) := by
  have e : (show EReal from iblk m c 1 t (ix2 0 q)) = V m c main_v18 (ix2 0 q : S1x1024.Idx) := by
    blk_ext [iblk, place t]
  rw [e, V_lifted]
  pointwise [lifted]

theorem w_at (t : Fin cfg0.N) (l : Fin 5888) (k : Fin 1024) : (show EReal from iblk m c 2 t (ix2 l k)) = (m ((c : Thread nD τ).loc main_arg2)) (ix2 k l) := by
  have e : (show EReal from iblk m c 2 t (ix2 l k)) = V m c main_v17 (ix2 l k : S5888x1024.Idx) := by
    blk_ext [iblk, place t]
  rw [e, V_turned]
  pointwise [turned]

theorem cw_at (t : Fin cfg0.N) (k : Fin 8) (hk : k.val < 3) (q : Fin 512) :
    (show EReal from iblk m c 6 t (ix3 0 k q : S1x8x512.Idx)) = (m ((c : Thread nD τ).loc main_arg5)) (ix3 0 ⟨k.val, hk⟩ q : S4x3x512.Idx) := by
  have e : (show EReal from iblk m c 6 t (ix3 0 k q : S1x8x512.Idx)) = V m c main_v19 (ix3 0 k q : S4x8x512.Idx) := by
    blk_ext [iblk, place t]
  rw [e, V_padded]
  pointwise [padded]
  exact dif_pos hk

theorem tc_at (t : Fin cfg0.N) (r : Fin 512) (l : Fin 128) : (show EReal from iblk m c 3 t (ix2 r l))
    = tc (m ((c : Thread nD τ).loc main_arg3)) ⟨t.val * 512 + r.val, by have := point_lt t; omega⟩ l := by
  have e : (show EReal from iblk m c 3 t (ix2 r l)) = V m c main_v6 (ix2 ⟨t.val * 512 + r.val, by have := point_lt t; omega⟩ l : S2048x128.Idx) := by
    blk_ext [iblk, place t]
  rw [e, V_tc, tiled_at, head_at]
  unfold tc
  pointwise [ones, zeros, zeros8]

theorem ta_at (t : Fin cfg0.N) (r : Fin 512) (l : Fin 128) : (show EReal from iblk m c 4 t (ix2 r l))
    = ta (m ((c : Thread nD τ).loc main_arg4)) ⟨t.val * 512 + r.val, by have := point_lt t; omega⟩ l := by
  have e : (show EReal from iblk m c 4 t (ix2 r l)) = V m c main_v11 (ix2 ⟨t.val * 512 + r.val, by have := point_lt t; omega⟩ l : S2048x128.Idx) := by
    blk_ext [iblk, place t]
  rw [e, V_ta, tiled_at, head_at]
  unfold ta
  pointwise [ones, zeros, zeros8]
  simp only [dite_eq_ite, ite_self]

theorem tb_at (t : Fin cfg0.N) (r : Fin 512) (l : Fin 128) : (show EReal from iblk m c 5 t (ix2 r l))
    = tb (m ((c : Thread nD τ).loc main_arg4)) ⟨t.val * 512 + r.val, by have := point_lt t; omega⟩ l := by
  have e : (show EReal from iblk m c 5 t (ix2 r l)) = V m c main_v15 (ix2 ⟨t.val * 512 + r.val, by have := point_lt t; omega⟩ l : S2048x128.Idx) := by
    blk_ext [iblk, place t]
  rw [e, V_tb, tiled_at, head_at]
  unfold tb
  pointwise [ones, zeros, zeros8]

theorem tap0_at (t : Fin cfg0.N) (o : ℕ) (ho : o + 128 ≤ 512) (i : ∀ a, (![0, 0, o] : Fin 3 → ℕ) a + (![1, 1, 128] : Fin 3 → ℕ) a ≤ S1x8x512.size a) (l : Fin 128) :
    View.ld (iblk m c 6 t) (Rect.unit ![0, 0, o] ![1, 1, 128] i) (ix3 0 0 l : S1x1x128.Idx) = (m ((c : Thread nD τ).loc main_arg5)) (ix3 0 0 ⟨o + l.val, by omega⟩ : S4x3x512.Idx) := by
  refine Eq.trans ?_ (cw_at m c t 0 (by decide) ⟨o + l.val, by omega⟩)
  exact congrArg (iblk m c 6 t) (by funext k; fin_cases k <;> exact Fin.ext (by simp))

theorem tap1_at (t : Fin cfg0.N) (o : ℕ) (ho : o + 128 ≤ 512) (i : ∀ a, (![0, 1, o] : Fin 3 → ℕ) a + (![1, 1, 128] : Fin 3 → ℕ) a ≤ S1x8x512.size a) (l : Fin 128) :
    View.ld (iblk m c 6 t) (Rect.unit ![0, 1, o] ![1, 1, 128] i) (ix3 0 0 l : S1x1x128.Idx) = (m ((c : Thread nD τ).loc main_arg5)) (ix3 0 1 ⟨o + l.val, by omega⟩ : S4x3x512.Idx) := by
  refine Eq.trans ?_ (cw_at m c t 1 (by decide) ⟨o + l.val, by omega⟩)
  exact congrArg (iblk m c 6 t) (by funext k; fin_cases k <;> exact Fin.ext (by simp))

theorem tap2_at (t : Fin cfg0.N) (o : ℕ) (ho : o + 128 ≤ 512) (i : ∀ a, (![0, 2, o] : Fin 3 → ℕ) a + (![1, 1, 128] : Fin 3 → ℕ) a ≤ S1x8x512.size a) (l : Fin 128) :
    View.ld (iblk m c 6 t) (Rect.unit ![0, 2, o] ![1, 1, 128] i) (ix3 0 0 l : S1x1x128.Idx) = (m ((c : Thread nD τ).loc main_arg5)) (ix3 0 2 ⟨o + l.val, by omega⟩ : S4x3x512.Idx) := by
  refine Eq.trans ?_ (cw_at m c t 2 (by decide) ⟨o + l.val, by omega⟩)
  exact congrArg (iblk m c 6 t) (by funext k; fin_cases k <;> exact Fin.ext (by simp))

theorem final9 : (dats m 0 c).arrAt 9 (cfgs 0).N = Gc (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  obtain ⟨r, q, rfl⟩ : ∃ (r : Fin 512) (q : Fin 1536), y = (ix2 r q : S512x1536.Idx) := ⟨y 0, y 1, eq_ix2 y⟩
  rw [after0_9]
  by_cases h : t.val % 4 = 0
  · rw [outsAt0_A m c t h]
    frame_open
    frame_out
    refine (pay5_at (point_lt t) (x_at m c t) (g_at m c t) (w_at m c t) r q).trans ?_
    blk_ext [place t]
  · rw [outsAt0_B m c t h]
    frame_open
    frame_out
    refine (pay5_at (point_lt t) (x_at m c t) (g_at m c t) (w_at m c t) r q).trans ?_
    blk_ext [place t]

theorem final10 : (dats m 0 c).arrAt 10 (cfgs 0).N = Gu (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  obtain ⟨r, q, rfl⟩ : ∃ (r : Fin 512) (q : Fin 512), y = (ix2 r q : S512x512.Idx) := ⟨y 0, y 1, eq_ix2 y⟩
  rw [after0_10]
  by_cases h : t.val % 4 = 0
  · rw [outsAt0_A m c t h]
    frame_open
    frame_out
    refine (pay6_at (point_lt t) (x_at m c t) (g_at m c t) (w_at m c t) r q).trans ?_
    blk_ext [place t]
  · rw [outsAt0_B m c t h]
    frame_open
    frame_out
    refine (pay6_at (point_lt t) (x_at m c t) (g_at m c t) (w_at m c t) r q).trans ?_
    blk_ext [place t]

theorem final11 : (dats m 0 c).arrAt 11 (cfgs 0).N = Gl (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  obtain ⟨r, q, rfl⟩ : ∃ (r : Fin 512) (q : Fin 3072), y = (ix2 r q : S512x3072.Idx) := ⟨y 0, y 1, eq_ix2 y⟩
  rw [after0_11]
  by_cases h : t.val % 4 = 0
  · rw [outsAt0_A m c t h]
    frame_open
    frame_out
    refine (pay7_at (point_lt t) (x_at m c t) (g_at m c t) (w_at m c t) r q).trans ?_
    blk_ext [place t]
  · rw [outsAt0_B m c t h]
    frame_open
    frame_out
    refine (pay7_at (point_lt t) (x_at m c t) (g_at m c t) (w_at m c t) r q).trans ?_
    blk_ext [place t]

theorem final13 : (dats m 0 c).arrAt 13 (cfgs 0).N = Gh (m ((c : Thread nD τ).loc main_arg0)) (m ((c : Thread nD τ).loc main_arg1)) := by
  refine (dats m 0 c).arrAt_eq_of_covers 13 _ (by decide +kernel) fun t _ y => ?_
  blk_simp
  obtain ⟨r, q, rfl⟩ : ∃ (r : Fin 512) (q : Fin 1024), y = (ix2 r q : S512x1024.Idx) := ⟨y 0, y 1, eq_ix2 y⟩
  rw [after0_13]
  by_cases h : t.val % 4 = 0
  · rw [outsAt0_A m c t h]
    frame_open
    frame_out
    refine (pay3_at (point_lt t) (x_at m c t) (g_at m c t) r q).trans ?_
    blk_ext [place t]
  · rw [outsAt0_B m c t h]
    frame_open
    frame_out
    refine (pay3_at (point_lt t) (x_at m c t) (g_at m c t) r q).trans ?_
    blk_ext [place t]

/-- The product of row tile `t` over the arguments. -/
theorem product_at (t : Fin cfg0.N) (r : Fin 512) (l : Fin 5888) : (k0_pay4 (F := Ideal) (iblk m c 0 t) (iblk m c 1 t) (iblk m c 2 t)) (ix2 r l) = pr (m ((c : Thread nD τ).loc main_arg0)) (m ((c : Thread nD τ).loc main_arg1)) (m ((c : Thread nD τ).loc main_arg2)) ⟨t.val * 512 + r.val, by have := point_lt t; omega⟩ l :=
  pay4_at (point_lt t) (x_at m c t) (g_at m c t) (w_at m c t) r l

theorem piece11 (t : Fin cfg0.N) (r : Fin 512) (l : Fin 128) : (k0_pay11 (k0_pay4 (F := Ideal) (iblk m c 0 t) (iblk m c 1 t) (iblk m c 2 t)) (k0_pay8 (iblk m c 3 t)) (iblk m c 4 t) (iblk m c 5 t)) (ix2 r l) = Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := point_lt t; omega⟩ ⟨0 + l.val, by omega⟩) :=
  pay11_at (bc := iblk m c 3 t) (ba := iblk m c 4 t) (bb := iblk m c 5 t) (point_lt t) (product_at m c t) (tc_at m c t) (ta_at m c t) (tb_at m c t) r l

theorem piece12 (t : Fin cfg0.N) (r : Fin 512) (l : Fin 128) : (k0_pay12 (k0_pay4 (F := Ideal) (iblk m c 0 t) (iblk m c 1 t) (iblk m c 2 t)) (k0_pay8 (iblk m c 3 t)) (iblk m c 4 t) (iblk m c 5 t)) (ix2 r l) = Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := point_lt t; omega⟩ ⟨128 + l.val, by omega⟩) :=
  pay12_at (bc := iblk m c 3 t) (ba := iblk m c 4 t) (bb := iblk m c 5 t) (point_lt t) (product_at m c t) (tc_at m c t) (ta_at m c t) (tb_at m c t) r l

theorem piece13 (t : Fin cfg0.N) (r : Fin 512) (l : Fin 128) : (k0_pay13 (k0_pay4 (F := Ideal) (iblk m c 0 t) (iblk m c 1 t) (iblk m c 2 t)) (k0_pay8 (iblk m c 3 t)) (iblk m c 4 t) (iblk m c 5 t)) (ix2 r l) = Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := point_lt t; omega⟩ ⟨256 + l.val, by omega⟩) :=
  pay13_at (bc := iblk m c 3 t) (ba := iblk m c 4 t) (bb := iblk m c 5 t) (point_lt t) (product_at m c t) (tc_at m c t) (ta_at m c t) (tb_at m c t) r l

theorem piece16 (t : Fin cfg0.N) (r : Fin 512) (l : Fin 128) : (k0_pay16 (k0_pay9 (iblk m c 4 t)) (k0_pay10 (iblk m c 5 t)) (k0_pay14 (k0_pay4 (F := Ideal) (iblk m c 0 t) (iblk m c 1 t) (iblk m c 2 t))) (k0_pay15 (k0_pay4 (F := Ideal) (iblk m c 0 t) (iblk m c 1 t) (iblk m c 2 t)) (k0_pay8 (iblk m c 3 t)))) (ix2 r l) = Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := point_lt t; omega⟩ ⟨384 + l.val, by omega⟩) :=
  pay16_at (bc := iblk m c 3 t) (ba := iblk m c 4 t) (bb := iblk m c 5 t) (point_lt t) (product_at m c t) (tc_at m c t) (ta_at m c t) (tb_at m c t) r l

theorem piece17 (t : Fin cfg0.N) (r : Fin 512) (l : Fin 128) : (k0_pay17 (k0_pay4 (F := Ideal) (iblk m c 0 t) (iblk m c 1 t) (iblk m c 2 t)) (k0_pay8 (iblk m c 3 t)) (k0_pay9 (iblk m c 4 t)) (k0_pay10 (iblk m c 5 t))) (ix2 r l) = Gk (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := point_lt t; omega⟩ ⟨0 + l.val, by omega⟩) :=
  pay17_at (bc := iblk m c 3 t) (ba := iblk m c 4 t) (bb := iblk m c 5 t) (point_lt t) (product_at m c t) (tc_at m c t) (ta_at m c t) (tb_at m c t) r l

theorem piece18 (t : Fin cfg0.N) (r : Fin 512) (l : Fin 128) : (k0_pay18 (k0_pay4 (F := Ideal) (iblk m c 0 t) (iblk m c 1 t) (iblk m c 2 t))) (ix2 r l) = Gk (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := point_lt t; omega⟩ ⟨128 + l.val, by omega⟩) :=
  pay18_at (point_lt t) (product_at m c t) r l

theorem piece25 (t : Fin cfg0.N) (r : Fin 8) (l : Fin 128) : (k0_pay25 (k0_pay20 (k0_pay4 (F := Ideal) (iblk m c 0 t) (iblk m c 1 t) (iblk m c 2 t)))) (ix2 r l) = z (m ((c : Thread nD τ).loc main_arg0)) (m ((c : Thread nD τ).loc main_arg1)) (m ((c : Thread nD τ).loc main_arg2)) ⟨t.val * 512 + (504 + r.val), by have := point_lt t; omega⟩ ⟨0 + l.val, by omega⟩ :=
  pay25_at (point_lt t) (product_at m c t) r l

theorem piece32 (t : Fin cfg0.N) (r : Fin 8) (l : Fin 128) : (k0_pay32 (k0_pay27 (k0_pay4 (F := Ideal) (iblk m c 0 t) (iblk m c 1 t) (iblk m c 2 t)))) (ix2 r l) = z (m ((c : Thread nD τ).loc main_arg0)) (m ((c : Thread nD τ).loc main_arg1)) (m ((c : Thread nD τ).loc main_arg2)) ⟨t.val * 512 + (504 + r.val), by have := point_lt t; omega⟩ ⟨128 + l.val, by omega⟩ :=
  pay32_at (point_lt t) (product_at m c t) r l

theorem piece36 (t : Fin cfg0.N) (r : Fin 8) (l : Fin 128) : (k0_pay36 (k0_pay34 (k0_pay4 (F := Ideal) (iblk m c 0 t) (iblk m c 1 t) (iblk m c 2 t)))) (ix2 r l) = z (m ((c : Thread nD τ).loc main_arg0)) (m ((c : Thread nD τ).loc main_arg1)) (m ((c : Thread nD τ).loc main_arg2)) ⟨t.val * 512 + (504 + r.val), by have := point_lt t; omega⟩ ⟨256 + l.val, by omega⟩ :=
  pay36_at (point_lt t) (product_at m c t) r l

theorem piece1 (t : Fin cfg0.N) (r : Fin 8) (l : Fin 128) : (k0_pay1 (k0_pay38 (k0_pay4 (F := Ideal) (iblk m c 0 t) (iblk m c 1 t) (iblk m c 2 t)))) (ix2 r l) = z (m ((c : Thread nD τ).loc main_arg0)) (m ((c : Thread nD τ).loc main_arg1)) (m ((c : Thread nD τ).loc main_arg2)) ⟨t.val * 512 + (504 + r.val), by have := point_lt t; omega⟩ ⟨384 + l.val, by omega⟩ :=
  pay1_at (point_lt t) (product_at m c t) r l

/-- The four pieces of the queries over the arguments. -/
theorem queries (t : Fin cfg0.N) (y : S512x512.Idx)
    (i0 : ∀ a, (![0, 0] : Fin 2 → ℕ) a + (![512, 128] : Fin 2 → ℕ) a ≤ S512x512.size a)
    (i1 : ∀ a, (![0, 128] : Fin 2 → ℕ) a + (![512, 128] : Fin 2 → ℕ) a ≤ S512x512.size a)
    (i2 : ∀ a, (![0, 256] : Fin 2 → ℕ) a + (![512, 128] : Fin 2 → ℕ) a ≤ S512x512.size a)
    (i3 : ∀ a, (![0, 384] : Fin 2 → ℕ) a + (![512, 128] : Fin 2 → ℕ) a ≤ S512x512.size a)
    (L : List (View.Piece (Elt Ideal) S512x512 .f32)) :
    View.canon (⟨Rect.unit ![0, 384] ![512, 128] i3, k0_pay16 (k0_pay9 (iblk m c 4 t)) (k0_pay10 (iblk m c 5 t)) (k0_pay14 (k0_pay4 (F := Ideal) (iblk m c 0 t) (iblk m c 1 t) (iblk m c 2 t))) (k0_pay15 (k0_pay4 (F := Ideal) (iblk m c 0 t) (iblk m c 1 t) (iblk m c 2 t)) (k0_pay8 (iblk m c 3 t)))⟩ ::
      ⟨Rect.unit ![0, 256] ![512, 128] i2, k0_pay13 (k0_pay4 (F := Ideal) (iblk m c 0 t) (iblk m c 1 t) (iblk m c 2 t)) (k0_pay8 (iblk m c 3 t)) (iblk m c 4 t) (iblk m c 5 t)⟩ ::
      ⟨Rect.unit ![0, 128] ![512, 128] i1, k0_pay12 (k0_pay4 (F := Ideal) (iblk m c 0 t) (iblk m c 1 t) (iblk m c 2 t)) (k0_pay8 (iblk m c 3 t)) (iblk m c 4 t) (iblk m c 5 t)⟩ ::
      ⟨Rect.unit ![0, 0] ![512, 128] i0, k0_pay11 (k0_pay4 (F := Ideal) (iblk m c 0 t) (iblk m c 1 t) (iblk m c 2 t)) (k0_pay8 (iblk m c 3 t)) (iblk m c 4 t) (iblk m c 5 t)⟩ :: L) y = (Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) : EReal) :=
  four (fun y : S512x512.Idx => (Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) : EReal)) _ _ _ _ i0 i1 i2 i3 L y
    (fun r l => piece11 m c t r l)
    (fun r l => piece12 m c t r l)
    (fun r l => piece13 m c t r l)
    (fun r l => piece16 m c t r l)

/-- The two pieces of the keys and values over the arguments. -/
theorem keys (t : Fin cfg0.N) (y : S512x256.Idx)
    (i0 : ∀ a, (![0, 0] : Fin 2 → ℕ) a + (![512, 128] : Fin 2 → ℕ) a ≤ S512x256.size a)
    (i1 : ∀ a, (![0, 128] : Fin 2 → ℕ) a + (![512, 128] : Fin 2 → ℕ) a ≤ S512x256.size a)
    (L : List (View.Piece (Elt Ideal) S512x256 .f32)) :
    View.canon (⟨Rect.unit ![0, 128] ![512, 128] i1, k0_pay18 (k0_pay4 (F := Ideal) (iblk m c 0 t) (iblk m c 1 t) (iblk m c 2 t))⟩ ::
      ⟨Rect.unit ![0, 0] ![512, 128] i0, k0_pay17 (k0_pay4 (F := Ideal) (iblk m c 0 t) (iblk m c 1 t) (iblk m c 2 t)) (k0_pay8 (iblk m c 3 t)) (k0_pay9 (iblk m c 4 t)) (k0_pay10 (iblk m c 5 t))⟩ :: L) y = (Gk (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) : EReal) :=
  pair (fun y : S512x256.Idx => (Gk (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) : EReal)) _ _ i0 i1 L y
    (fun r l => piece17 m c t r l)
    (fun r l => piece18 m c t r l)

/-- The four pieces of the rows carried to the next tile over the arguments. -/
theorem carried (t : Fin cfg0.N) (y : S8x512.Idx)
    (i0 : ∀ a, (![0, 0] : Fin 2 → ℕ) a + (![8, 128] : Fin 2 → ℕ) a ≤ S8x512.size a)
    (i1 : ∀ a, (![0, 128] : Fin 2 → ℕ) a + (![8, 128] : Fin 2 → ℕ) a ≤ S8x512.size a)
    (i2 : ∀ a, (![0, 256] : Fin 2 → ℕ) a + (![8, 128] : Fin 2 → ℕ) a ≤ S8x512.size a)
    (i3 : ∀ a, (![0, 384] : Fin 2 → ℕ) a + (![8, 128] : Fin 2 → ℕ) a ≤ S8x512.size a)
    (L : List (View.Piece (Elt Ideal) S8x512 .f32)) :
    View.canon (⟨Rect.unit ![0, 384] ![8, 128] i3, k0_pay1 (k0_pay38 (k0_pay4 (F := Ideal) (iblk m c 0 t) (iblk m c 1 t) (iblk m c 2 t)))⟩ ::
      ⟨Rect.unit ![0, 256] ![8, 128] i2, k0_pay36 (k0_pay34 (k0_pay4 (F := Ideal) (iblk m c 0 t) (iblk m c 1 t) (iblk m c 2 t)))⟩ ::
      ⟨Rect.unit ![0, 128] ![8, 128] i1, k0_pay32 (k0_pay27 (k0_pay4 (F := Ideal) (iblk m c 0 t) (iblk m c 1 t) (iblk m c 2 t)))⟩ ::
      ⟨Rect.unit ![0, 0] ![8, 128] i0, k0_pay25 (k0_pay20 (k0_pay4 (F := Ideal) (iblk m c 0 t) (iblk m c 1 t) (iblk m c 2 t)))⟩ :: L) y = (z (m ((c : Thread nD τ).loc main_arg0)) (m ((c : Thread nD τ).loc main_arg1)) (m ((c : Thread nD τ).loc main_arg2)) ⟨t.val * 512 + (504 + (y 0).val), by have := point_lt t; have : (y 0).val < 8 := (y 0).isLt; omega⟩ (y 1) : EReal) :=
  fourTail (fun y : S8x512.Idx => (z (m ((c : Thread nD τ).loc main_arg0)) (m ((c : Thread nD τ).loc main_arg1)) (m ((c : Thread nD τ).loc main_arg2)) ⟨t.val * 512 + (504 + (y 0).val), by have := point_lt t; have : (y 0).val < 8 := (y 0).isLt; omega⟩ (y 1) : EReal)) _ _ _ _ i0 i1 i2 i3 L y
    (fun r l => piece25 m c t r l)
    (fun r l => piece32 m c t r l)
    (fun r l => piece36 m c t r l)
    (fun r l => piece1 m c t r l)

theorem out7_A (t : Fin cfg0.N) (h : t.val % 4 = 0) (y : S512x512.Idx) : (show EReal from (outsAt0 m c t.val t.isLt).1 y)
    = Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) := by
  rw [outsAt0_A m c t h]
  frame_open
  frame_out
  exact queries m c t y _ _ _ _ _

theorem out7_B (t : Fin cfg0.N) (h : ¬t.val % 4 = 0) (y : S512x512.Idx) : (show EReal from (outsAt0 m c t.val t.isLt).1 y)
    = Gq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) := by
  rw [outsAt0_B m c t h]
  frame_open
  frame_out
  exact queries m c t y _ _ _ _ _

theorem final7 : (dats m 0 c).arrAt 7 (cfgs 0).N = Gq (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, q, rfl⟩ : ∃ (r : Fin 512) (q : Fin 512), y = (ix2 r q : S512x512.Idx) := ⟨y 0, y 1, eq_ix2 y⟩
  refine (if h : t.val % 4 = 0 then out7_A m c t h _ else out7_B m c t h _).trans ?_
  blk_ext [place t]

theorem out8_A (t : Fin cfg0.N) (h : t.val % 4 = 0) (y : S512x256.Idx) : (show EReal from (outsAt0 m c t.val t.isLt).2.1 y)
    = Gk (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) := by
  rw [outsAt0_A m c t h]
  frame_open
  frame_out
  exact keys m c t y _ _ _

theorem out8_B (t : Fin cfg0.N) (h : ¬t.val % 4 = 0) (y : S512x256.Idx) : (show EReal from (outsAt0 m c t.val t.isLt).2.1 y)
    = Gk (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (y 0).val, by have := point_lt t; have : (y 0).val < 512 := (y 0).isLt; omega⟩ (y 1)) := by
  rw [outsAt0_B m c t h]
  frame_open
  frame_out
  exact keys m c t y _ _ _

theorem final8 : (dats m 0 c).arrAt 8 (cfgs 0).N = Gk (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  obtain ⟨r, q, rfl⟩ : ∃ (r : Fin 512) (q : Fin 256), y = (ix2 r q : S512x256.Idx) := ⟨y 0, y 1, eq_ix2 y⟩
  refine (if h : t.val % 4 = 0 then out8_A m c t h _ else out8_B m c t h _).trans ?_
  blk_ext [place t]

theorem tail_A (t : Fin cfg0.N) (h : t.val % 4 = 0) (y : S8x512.Idx) : (show EReal from (outsAt0 m c t.val t.isLt).2.2.2.2.2.2.2 y)
    = z (m ((c : Thread nD τ).loc main_arg0)) (m ((c : Thread nD τ).loc main_arg1)) (m ((c : Thread nD τ).loc main_arg2)) ⟨t.val * 512 + (504 + (y 0).val), by have := point_lt t; have : (y 0).val < 8 := (y 0).isLt; omega⟩ (y 1) := by
  rw [outsAt0_A m c t h]
  frame_open
  frame_out
  exact carried m c t y _ _ _ _ _

theorem tail_B (t : Fin cfg0.N) (h : ¬t.val % 4 = 0) (y : S8x512.Idx) : (show EReal from (outsAt0 m c t.val t.isLt).2.2.2.2.2.2.2 y)
    = z (m ((c : Thread nD τ).loc main_arg0)) (m ((c : Thread nD τ).loc main_arg1)) (m ((c : Thread nD τ).loc main_arg2)) ⟨t.val * 512 + (504 + (y 0).val), by have := point_lt t; have : (y 0).val < 8 := (y 0).isLt; omega⟩ (y 1) := by
  rw [outsAt0_B m c t h]
  frame_open
  frame_out
  exact carried m c t y _ _ _ _ _

theorem tail_at (t : Fin cfg0.N) (y : S8x512.Idx) : (show EReal from (outsAt0 m c t.val t.isLt).2.2.2.2.2.2.2 y)
    = z (m ((c : Thread nD τ).loc main_arg0)) (m ((c : Thread nD τ).loc main_arg1)) (m ((c : Thread nD τ).loc main_arg2)) ⟨t.val * 512 + (504 + (y 0).val), by have := point_lt t; have : (y 0).val < 8 := (y 0).isLt; omega⟩ (y 1) :=
  if h : t.val % 4 = 0 then tail_A m c t h y else tail_B m c t h y

/-- A row of the carried rows, 128 columns from column `o`. -/
theorem row_at (s : Vec Ideal S8x512 .f32) (k o : ℕ) (hk : k < 8) (ho : o + 128 ≤ 512)
    (i : ∀ a, (![k, o] : Fin 2 → ℕ) a + (![1, 128] : Fin 2 → ℕ) a ≤ S8x512.size a) (l : Fin 128) :
    View.ld s (Rect.unit ![k, o] ![1, 128] i) (ix2 0 l : S1x128.Idx) = s (ix2 ⟨k, hk⟩ ⟨o + l.val, by omega⟩ : S8x512.Idx) :=
  congrArg s (by funext a; fin_cases a <;> exact Fin.ext (by simp))

theorem piece24 (t : Fin cfg0.N) (s : Vec Ideal S8x512 .f32) (h7 : ∀ q : Fin 512, s (ix2 7 q) = back (m ((c : Thread nD τ).loc main_arg0)) (m ((c : Thread nD τ).loc main_arg1)) (m ((c : Thread nD τ).loc main_arg2)) 1 ⟨t.val * 512, by have := point_lt t; omega⟩ q) (h6 : ∀ q : Fin 512, s (ix2 6 q) = back (m ((c : Thread nD τ).loc main_arg0)) (m ((c : Thread nD τ).loc main_arg1)) (m ((c : Thread nD τ).loc main_arg2)) 2 ⟨t.val * 512, by have := point_lt t; omega⟩ q) (r : Fin 512) (l : Fin 128) :
    (k0_pay24 (k0_pay19 (k0_pay4 (F := Ideal) (iblk m c 0 t) (iblk m c 1 t) (iblk m c 2 t))) (k0_pay20 (k0_pay4 (F := Ideal) (iblk m c 0 t) (iblk m c 1 t) (iblk m c 2 t))) (View.ld s (Rect.unit ![7, 0] ![1, 128] inb_S8x512_S1x128_7_0)) (View.ld s (Rect.unit ![6, 0] ![1, 128] inb_S8x512_S1x128_6_0)) (k0_pay21 (k0_pay4 (F := Ideal) (iblk m c 0 t) (iblk m c 1 t) (iblk m c 2 t)) (View.ld s (Rect.unit ![7, 0] ![1, 128] inb_S8x512_S1x128_7_0))) k0_pay22 k0_pay23 2#32 (View.ld (iblk m c 6 t) (Rect.unit ![0, 0, 0] ![1, 1, 128] inb_S1x8x512_S1x1x128_0_0_0)) (View.ld (iblk m c 6 t) (Rect.unit ![0, 1, 0] ![1, 1, 128] inb_S1x8x512_S1x1x128_0_1_0)) (View.ld (iblk m c 6 t) (Rect.unit ![0, 2, 0] ![1, 1, 128] inb_S1x8x512_S1x1x128_0_2_0))) (ix2 r l)
      = Gv (m ((c : Thread nD τ).loc main_arg0)) (m ((c : Thread nD τ).loc main_arg1)) (m ((c : Thread nD τ).loc main_arg2)) (m ((c : Thread nD τ).loc main_arg5)) (ix2 ⟨t.val * 512 + r.val, by have := point_lt t; omega⟩ ⟨0 + l.val, by omega⟩) :=
  pay24_at (point_lt t) (product_at m c t) (tap0_at m c t 0 (by omega) _) (tap1_at m c t 0 (by omega) _) (tap2_at m c t 0 (by omega) _)
    (fun l => (row_at s 7 0 (by omega) (by omega) _ l).trans (h7 _)) (fun l => (row_at s 6 0 (by omega) (by omega) _ l).trans (h6 _)) r l

theorem piece31 (t : Fin cfg0.N) (s : Vec Ideal S8x512 .f32) (h7 : ∀ q : Fin 512, s (ix2 7 q) = back (m ((c : Thread nD τ).loc main_arg0)) (m ((c : Thread nD τ).loc main_arg1)) (m ((c : Thread nD τ).loc main_arg2)) 1 ⟨t.val * 512, by have := point_lt t; omega⟩ q) (h6 : ∀ q : Fin 512, s (ix2 6 q) = back (m ((c : Thread nD τ).loc main_arg0)) (m ((c : Thread nD τ).loc main_arg1)) (m ((c : Thread nD τ).loc main_arg2)) 2 ⟨t.val * 512, by have := point_lt t; omega⟩ q) (r : Fin 512) (l : Fin 128) :
    (k0_pay31 (iota .tc S512x128 32 [0] iota_S512x128_d0_w32) (k0_pay26 (k0_pay4 (F := Ideal) (iblk m c 0 t) (iblk m c 1 t) (iblk m c 2 t))) (k0_pay27 (k0_pay4 (F := Ideal) (iblk m c 0 t) (iblk m c 1 t) (iblk m c 2 t))) (View.ld s (Rect.unit ![7, 128] ![1, 128] inb_S8x512_S1x128_7_128)) (View.ld s (Rect.unit ![6, 128] ![1, 128] inb_S8x512_S1x128_6_128)) (k0_pay28 (iota .tc S512x128 32 [0] iota_S512x128_d0_w32)) (k0_pay29 (k0_pay4 (F := Ideal) (iblk m c 0 t) (iblk m c 1 t) (iblk m c 2 t))) (k0_pay30 (View.ld s (Rect.unit ![7, 128] ![1, 128] inb_S8x512_S1x128_7_128))) (View.ld (iblk m c 6 t) (Rect.unit ![0, 0, 128] ![1, 1, 128] inb_S1x8x512_S1x1x128_0_0_128)) (View.ld (iblk m c 6 t) (Rect.unit ![0, 1, 128] ![1, 1, 128] inb_S1x8x512_S1x1x128_0_1_128)) (View.ld (iblk m c 6 t) (Rect.unit ![0, 2, 128] ![1, 1, 128] inb_S1x8x512_S1x1x128_0_2_128))) (ix2 r l)
      = Gv (m ((c : Thread nD τ).loc main_arg0)) (m ((c : Thread nD τ).loc main_arg1)) (m ((c : Thread nD τ).loc main_arg2)) (m ((c : Thread nD τ).loc main_arg5)) (ix2 ⟨t.val * 512 + r.val, by have := point_lt t; omega⟩ ⟨128 + l.val, by omega⟩) :=
  pay31_at (point_lt t) (product_at m c t) (tap0_at m c t 128 (by omega) _) (tap1_at m c t 128 (by omega) _) (tap2_at m c t 128 (by omega) _)
    (fun l => (row_at s 7 128 (by omega) (by omega) _ l).trans (h7 _)) (fun l => (row_at s 6 128 (by omega) (by omega) _ l).trans (h6 _)) r l

theorem piece35 (t : Fin cfg0.N) (s : Vec Ideal S8x512 .f32) (h7 : ∀ q : Fin 512, s (ix2 7 q) = back (m ((c : Thread nD τ).loc main_arg0)) (m ((c : Thread nD τ).loc main_arg1)) (m ((c : Thread nD τ).loc main_arg2)) 1 ⟨t.val * 512, by have := point_lt t; omega⟩ q) (h6 : ∀ q : Fin 512, s (ix2 6 q) = back (m ((c : Thread nD τ).loc main_arg0)) (m ((c : Thread nD τ).loc main_arg1)) (m ((c : Thread nD τ).loc main_arg2)) 2 ⟨t.val * 512, by have := point_lt t; omega⟩ q) (r : Fin 512) (l : Fin 128) :
    (k0_pay35 (iota .tc S512x128 32 [0] iota_S512x128_d0_w32) (k0_pay33 (k0_pay4 (F := Ideal) (iblk m c 0 t) (iblk m c 1 t) (iblk m c 2 t))) (k0_pay34 (k0_pay4 (F := Ideal) (iblk m c 0 t) (iblk m c 1 t) (iblk m c 2 t))) (View.ld s (Rect.unit ![7, 256] ![1, 128] inb_S8x512_S1x128_7_256)) (View.ld s (Rect.unit ![6, 256] ![1, 128] inb_S8x512_S1x128_6_256)) (View.ld (iblk m c 6 t) (Rect.unit ![0, 0, 256] ![1, 1, 128] inb_S1x8x512_S1x1x128_0_0_256)) (View.ld (iblk m c 6 t) (Rect.unit ![0, 1, 256] ![1, 1, 128] inb_S1x8x512_S1x1x128_0_1_256)) (View.ld (iblk m c 6 t) (Rect.unit ![0, 2, 256] ![1, 1, 128] inb_S1x8x512_S1x1x128_0_2_256))) (ix2 r l)
      = Gv (m ((c : Thread nD τ).loc main_arg0)) (m ((c : Thread nD τ).loc main_arg1)) (m ((c : Thread nD τ).loc main_arg2)) (m ((c : Thread nD τ).loc main_arg5)) (ix2 ⟨t.val * 512 + r.val, by have := point_lt t; omega⟩ ⟨256 + l.val, by omega⟩) :=
  pay35_at (point_lt t) (product_at m c t) (tap0_at m c t 256 (by omega) _) (tap1_at m c t 256 (by omega) _) (tap2_at m c t 256 (by omega) _)
    (fun l => (row_at s 7 256 (by omega) (by omega) _ l).trans (h7 _)) (fun l => (row_at s 6 256 (by omega) (by omega) _ l).trans (h6 _)) r l

theorem piece39 (t : Fin cfg0.N) (s : Vec Ideal S8x512 .f32) (h7 : ∀ q : Fin 512, s (ix2 7 q) = back (m ((c : Thread nD τ).loc main_arg0)) (m ((c : Thread nD τ).loc main_arg1)) (m ((c : Thread nD τ).loc main_arg2)) 1 ⟨t.val * 512, by have := point_lt t; omega⟩ q) (h6 : ∀ q : Fin 512, s (ix2 6 q) = back (m ((c : Thread nD τ).loc main_arg0)) (m ((c : Thread nD τ).loc main_arg1)) (m ((c : Thread nD τ).loc main_arg2)) 2 ⟨t.val * 512, by have := point_lt t; omega⟩ q) (r : Fin 512) (l : Fin 128) :
    (k0_pay39 (k0_pay4 (F := Ideal) (iblk m c 0 t) (iblk m c 1 t) (iblk m c 2 t)) (iota .tc S512x128 32 [0] iota_S512x128_d0_w32) (k0_pay37 (k0_pay4 (F := Ideal) (iblk m c 0 t) (iblk m c 1 t) (iblk m c 2 t))) (View.ld s (Rect.unit ![7, 384] ![1, 128] inb_S8x512_S1x128_7_384)) (View.ld s (Rect.unit ![6, 384] ![1, 128] inb_S8x512_S1x128_6_384)) (View.ld (iblk m c 6 t) (Rect.unit ![0, 0, 384] ![1, 1, 128] inb_S1x8x512_S1x1x128_0_0_384)) (View.ld (iblk m c 6 t) (Rect.unit ![0, 1, 384] ![1, 1, 128] inb_S1x8x512_S1x1x128_0_1_384)) (View.ld (iblk m c 6 t) (Rect.unit ![0, 2, 384] ![1, 1, 128] inb_S1x8x512_S1x1x128_0_2_384))) (ix2 r l)
      = Gv (m ((c : Thread nD τ).loc main_arg0)) (m ((c : Thread nD τ).loc main_arg1)) (m ((c : Thread nD τ).loc main_arg2)) (m ((c : Thread nD τ).loc main_arg5)) (ix2 ⟨t.val * 512 + r.val, by have := point_lt t; omega⟩ ⟨384 + l.val, by omega⟩) :=
  pay39_at (point_lt t) (product_at m c t) (tap0_at m c t 384 (by omega) _) (tap1_at m c t 384 (by omega) _) (tap2_at m c t 384 (by omega) _)
    (fun l => (row_at s 7 384 (by omega) (by omega) _ l).trans (h7 _)) (fun l => (row_at s 6 384 (by omega) (by omega) _ l).trans (h6 _)) r l

/-- The four pieces of the convolution over the arguments, with the rows before the tile carried in `s`. -/
theorem convolved (t : Fin cfg0.N) (s : Vec Ideal S8x512 .f32) (h7 : ∀ q : Fin 512, s (ix2 7 q) = back (m ((c : Thread nD τ).loc main_arg0)) (m ((c : Thread nD τ).loc main_arg1)) (m ((c : Thread nD τ).loc main_arg2)) 1 ⟨t.val * 512, by have := point_lt t; omega⟩ q) (h6 : ∀ q : Fin 512, s (ix2 6 q) = back (m ((c : Thread nD τ).loc main_arg0)) (m ((c : Thread nD τ).loc main_arg1)) (m ((c : Thread nD τ).loc main_arg2)) 2 ⟨t.val * 512, by have := point_lt t; omega⟩ q) (y : S512x512.Idx)
    (i0 : ∀ a, (![0, 0] : Fin 2 → ℕ) a + (![512, 128] : Fin 2 → ℕ) a ≤ S512x512.size a)
    (i1 : ∀ a, (![0, 128] : Fin 2 → ℕ) a + (![512, 128] : Fin 2 → ℕ) a ≤ S512x512.size a)
    (i2 : ∀ a, (![0, 256] : Fin 2 → ℕ) a + (![512, 128] : Fin 2 → ℕ) a ≤ S512x512.size a)
    (i3 : ∀ a, (![0, 384] : Fin 2 → ℕ) a + (![512, 128] : Fin 2 → ℕ) a ≤ S512x512.size a)
    (L : List (View.Piece (Elt Ideal) S512x512 .bf16)) :
    View.canon (⟨Rect.unit ![0, 384] ![512, 128] i3, k0_pay39 (k0_pay4 (F := Ideal) (iblk m c 0 t) (iblk m c 1 t) (iblk m c 2 t)) (iota .tc S512x128 32 [0] iota_S512x128_d0_w32) (k0_pay37 (k0_pay4 (F := Ideal) (iblk m c 0 t) (iblk m c 1 t) (iblk m c 2 t))) (View.ld s (Rect.unit ![7, 384] ![1, 128] inb_S8x512_S1x128_7_384)) (View.ld s (Rect.unit ![6, 384] ![1, 128] inb_S8x512_S1x128_6_384)) (View.ld (iblk m c 6 t) (Rect.unit ![0, 0, 384] ![1, 1, 128] inb_S1x8x512_S1x1x128_0_0_384)) (View.ld (iblk m c 6 t) (Rect.unit ![0, 1, 384] ![1, 1, 128] inb_S1x8x512_S1x1x128_0_1_384)) (View.ld (iblk m c 6 t) (Rect.unit ![0, 2, 384] ![1, 1, 128] inb_S1x8x512_S1x1x128_0_2_384))⟩ ::
      ⟨Rect.unit ![0, 256] ![512, 128] i2, k0_pay35 (iota .tc S512x128 32 [0] iota_S512x128_d0_w32) (k0_pay33 (k0_pay4 (F := Ideal) (iblk m c 0 t) (iblk m c 1 t) (iblk m c 2 t))) (k0_pay34 (k0_pay4 (F := Ideal) (iblk m c 0 t) (iblk m c 1 t) (iblk m c 2 t))) (View.ld s (Rect.unit ![7, 256] ![1, 128] inb_S8x512_S1x128_7_256)) (View.ld s (Rect.unit ![6, 256] ![1, 128] inb_S8x512_S1x128_6_256)) (View.ld (iblk m c 6 t) (Rect.unit ![0, 0, 256] ![1, 1, 128] inb_S1x8x512_S1x1x128_0_0_256)) (View.ld (iblk m c 6 t) (Rect.unit ![0, 1, 256] ![1, 1, 128] inb_S1x8x512_S1x1x128_0_1_256)) (View.ld (iblk m c 6 t) (Rect.unit ![0, 2, 256] ![1, 1, 128] inb_S1x8x512_S1x1x128_0_2_256))⟩ ::
      ⟨Rect.unit ![0, 128] ![512, 128] i1, k0_pay31 (iota .tc S512x128 32 [0] iota_S512x128_d0_w32) (k0_pay26 (k0_pay4 (F := Ideal) (iblk m c 0 t) (iblk m c 1 t) (iblk m c 2 t))) (k0_pay27 (k0_pay4 (F := Ideal) (iblk m c 0 t) (iblk m c 1 t) (iblk m c 2 t))) (View.ld s (Rect.unit ![7, 128] ![1, 128] inb_S8x512_S1x128_7_128)) (View.ld s (Rect.unit ![6, 128] ![1, 128] inb_S8x512_S1x128_6_128)) (k0_pay28 (iota .tc S512x128 32 [0] iota_S512x128_d0_w32)) (k0_pay29 (k0_pay4 (F := Ideal) (iblk m c 0 t) (iblk m c 1 t) (iblk m c 2 t))) (k0_pay30 (View.ld s (Rect.unit ![7, 128] ![1, 128] inb_S8x512_S1x128_7_128))) (View.ld (iblk m c 6 t) (Rect.unit ![0, 0, 128] ![1, 1, 128] inb_S1x8x512_S1x1x128_0_0_128)) (View.ld (iblk m c 6 t) (Rect.unit ![0, 1, 128] ![1, 1, 128] inb_S1x8x512_S1x1x128_0_1_128)) (View.ld (iblk m c 6 t) (Rect.unit ![0, 2, 128] ![1, 1, 128] inb_S1x8x512_S1x1x128_0_2_128))⟩ ::
      ⟨Rect.unit ![0, 0] ![512, 128] i0, k0_pay24 (k0_pay19 (k0_pay4 (F := Ideal) (iblk m c 0 t) (iblk m c 1 t) (iblk m c 2 t))) (k0_pay20 (k0_pay4 (F := Ideal) (iblk m c 0 t) (iblk m c 1 t) (iblk m c 2 t))) (View.ld s (Rect.unit ![7, 0] ![1, 128] inb_S8x512_S1x128_7_0)) (View.ld s (Rect.unit ![6, 0] ![1, 128] inb_S8x512_S1x128_6_0)) (k0_pay21 (k0_pay4 (F := Ideal) (iblk m c 0 t) (iblk m c 1 t) (iblk m c 2 t)) (View.ld s (Rect.unit ![7, 0] ![1, 128] inb_S8x512_S1x128_7_0))) k0_pay22 k0_pay23 2#32 (View.ld (iblk m c 6 t) (Rect.unit ![0, 0, 0] ![1, 1, 128] inb_S1x8x512_S1x1x128_0_0_0)) (View.ld (iblk m c 6 t) (Rect.unit ![0, 1, 0] ![1, 1, 128] inb_S1x8x512_S1x1x128_0_1_0)) (View.ld (iblk m c 6 t) (Rect.unit ![0, 2, 0] ![1, 1, 128] inb_S1x8x512_S1x1x128_0_2_0))⟩ :: L) y = Gv (m ((c : Thread nD τ).loc main_arg0)) (m ((c : Thread nD τ).loc main_arg1)) (m ((c : Thread nD τ).loc main_arg2)) (m ((c : Thread nD τ).loc main_arg5)) (ix2 ⟨t.val * 512 + (y 0).val, by have := point_lt t; have : (y 0).val < 512 := (y 0).isLt; omega⟩ (y 1)) :=
  four (fun y : S512x512.Idx => Gv (m ((c : Thread nD τ).loc main_arg0)) (m ((c : Thread nD τ).loc main_arg1)) (m ((c : Thread nD τ).loc main_arg2)) (m ((c : Thread nD τ).loc main_arg5)) (ix2 ⟨t.val * 512 + (y 0).val, by have := point_lt t; have : (y 0).val < 512 := (y 0).isLt; omega⟩ (y 1))) _ _ _ _ i0 i1 i2 i3 L y
    (fun r l => piece24 m c t s h7 h6 r l)
    (fun r l => piece31 m c t s h7 h6 r l)
    (fun r l => piece35 m c t s h7 h6 r l)
    (fun r l => piece39 m c t s h7 h6 r l)

theorem zero_at (t : Fin cfg0.N) (h : t.val % 4 = 0) (i : Fin 8) (k : ℕ) (hk : 0 < k) (q : Fin 512) :
    (show EReal from k0_pay2 (F := Ideal) (ix2 i q)) = back (m ((c : Thread nD τ).loc main_arg0)) (m ((c : Thread nD τ).loc main_arg1)) (m ((c : Thread nD τ).loc main_arg2)) k ⟨t.val * 512, by have := point_lt t; omega⟩ q := by
  have h0 : t.val = 0 := by have := point_lt t; omega
  pointwise [k0_pay2]
  unfold back
  rw [dif_pos (show t.val * 512 < k by omega)]

theorem out12_A (t : Fin cfg0.N) (h : t.val % 4 = 0) (y : S512x512.Idx) : (show EReal from (outsAt0 m c t.val t.isLt).2.2.2.2.2.1 y)
    = Gv (m ((c : Thread nD τ).loc main_arg0)) (m ((c : Thread nD τ).loc main_arg1)) (m ((c : Thread nD τ).loc main_arg2)) (m ((c : Thread nD τ).loc main_arg5)) (ix2 ⟨t.val * 512 + (y 0).val, by have := point_lt t; have : (y 0).val < 512 := (y 0).isLt; omega⟩ (y 1)) := by
  rw [outsAt0_A m c t h]
  frame_open
  simp (disch := decide) only [↓ View.readCov_skip, ↓ View.readCov_cons_toLoadRect, ↓ View.readCov_fill]
  frame_out
  generalize hs : (k0_pay2 (F := Ideal)) = s
  have h7 := zero_at m c t h 7 1 (by omega)
  have h6 := zero_at m c t h 6 2 (by omega)
  rw [hs] at h7 h6
  exact convolved m c t s h7 h6 y _ _ _ _ _

theorem out12_B (t : Fin cfg0.N) (h : ¬t.val % 4 = 0) (y : S512x512.Idx) : (show EReal from (outsAt0 m c t.val t.isLt).2.2.2.2.2.1 y)
    = Gv (m ((c : Thread nD τ).loc main_arg0)) (m ((c : Thread nD τ).loc main_arg1)) (m ((c : Thread nD τ).loc main_arg2)) (m ((c : Thread nD τ).loc main_arg5)) (ix2 ⟨t.val * 512 + (y 0).val, by have := point_lt t; have : (y 0).val < 512 := (y 0).isLt; omega⟩ (y 1)) := by
  rw [outsAt0_B m c t h]
  frame_open
  frame_out
  have h0 : t.val < 4 := point_lt t
  have h1 : t.val - 1 < cfg0.N := Nat.lt_of_le_of_lt (Nat.sub_le _ _) t.isLt
  refine convolved m c t _ (fun q => ?_) (fun q => ?_) y _ _ _ _ _
  · rw [read_unread_whole]
    refine (tail_at m c ⟨t.val - 1, h1⟩ (ix2 7 q)).trans ?_
    rw [back, dif_neg (by simp; omega)]
    exact congrArg (fun a => z (m ((c : Thread nD τ).loc main_arg0)) (m ((c : Thread nD τ).loc main_arg1)) (m ((c : Thread nD τ).loc main_arg2)) a q) (Fin.ext (by simp; omega))
  · rw [read_unread_whole]
    refine (tail_at m c ⟨t.val - 1, h1⟩ (ix2 6 q)).trans ?_
    rw [back, dif_neg (by simp; omega)]
    exact congrArg (fun a => z (m ((c : Thread nD τ).loc main_arg0)) (m ((c : Thread nD τ).loc main_arg1)) (m ((c : Thread nD τ).loc main_arg2)) a q) (Fin.ext (by simp; omega))

theorem final12 : (dats m 0 c).arrAt 12 (cfgs 0).N = Gv (m ((c : Thread nD τ).loc main_arg0)) (m ((c : Thread nD τ).loc main_arg1)) (m ((c : Thread nD τ).loc main_arg2)) (m ((c : Thread nD τ).loc main_arg5)) := by
  refine (dats m 0 c).arrAt_eq_of_covers 12 _ (by decide +kernel) fun t _ y => ?_
  blk_simp
  rw [after0_12]
  obtain ⟨r, q, rfl⟩ : ∃ (r : Fin 512) (q : Fin 512), y = (ix2 r q : S512x512.Idx) := ⟨y 0, y 1, eq_ix2 y⟩
  refine (if h : t.val % 4 = 0 then out12_A m c t h _ else out12_B m c t h _).trans ?_
  blk_ext [place t]

end Cert.RmsMmIn

end
-- ==== Proof.RmsMmInClaim.lean ====
/-
  The norm before the branches with the seven projections: the reference read at an index, and the claims.
-/
module

public import proofs.«01_k».proof.Proof.RmsMmInMath
public import proofs.«01_k».proof.Proof.RmsMmInValue
public import proofs.«01_k».proof.Proof.Gen.Reference16Ideal.Run
public import proofs.«01_k».proof.Proof.Gen.Reference16Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.RmsMmIn

open Cert.Rms

section

open Cert.Reference16Ideal Cert.Reference16Ideal.Read

variable (x : FVec Ideal S2048x1024 .f32) (g : FVec Ideal S1024 .f32) (w : FVec Ideal S1024x5888 .f32) (co si : FVec Ideal S2048x8 .f32)
  (cw : FVec Ideal S4x3x512 .f32)

theorem v12_at (r : Fin 2048) (k : Fin 1024) : val_main_v12 (F := Ideal) x g (ix2 r k) = hn x g r k := by
  pointwise [val_main_v0, val_main_v1, val_main_v2, val_main_v3, val_main_v4, val_main_v5, val_main_v6, val_main_v7, val_main_v8, val_main_v9, val_main_v10, val_main_v11,
    val_main_v12, val_main_cst, val_main_cst_0, val_main_cst_1]
  rfl

theorem v13_at (r : Fin 2048) (l : Fin 5888) : val_main_v13 (F := Ideal) x g w (ix2 r l) = pr x g w r l := by
  pointwise [val_main_v13, v12_at]
  rfl

/-! The queries' heads. -/

theorem v22_at (r : Fin 2048) (a : Fin 8) (l : Fin 64) : val_main_v22 (F := Ideal) x g w (ix3 r a l) = pr x g w r ⟨a.val * 64 + l.val, by omega⟩ := by
  pointwise [val_main_v22, val_main_v14, v13_at]

theorem v38_at (r : Fin 2048) (a : Fin 8) (l : Fin 64) : val_main_v38 (F := Ideal) x g w co si (ix3 r a l)
    = rope x g w co si r ⟨a.val * 64 + l.val, by omega⟩ := by
  pointwise [val_main_v38, val_main_v37, val_main_v36, val_main_v35, val_main_v34, val_main_v33, val_main_v32, val_main_v31, val_main_v30, val_main_v29, val_main_v28,
    val_main_v27, val_main_v26, val_main_v25, val_main_v24, val_main_v23, v22_at]
  have e : (a.val * 64 + l.val) % 64 = l.val := by omega
  unfold rope
  by_cases h : l.val < 8
  · rw [dif_pos h, dif_pos (e.trans_lt h)]
    exact congrArg₂ (· - ·) (congrArg (fun b => pr x g w r _ * co (ix2 r b)) (Fin.ext e.symm))
      (congrArg₂ (· * ·) (congrArg (pr x g w r) (Fin.ext (by simp; omega))) (congrArg (fun b => si (ix2 r b)) (Fin.ext e.symm)))
  · by_cases h' : l.val < 16
    · rw [dif_neg h, dif_pos (by omega), dif_neg (fun k => h (e.symm.trans_lt k)), dif_pos (e.trans_lt h')]
      exact congrArg₂ (· + ·)
        (congrArg₂ (· * ·) (congrArg (pr x g w r) (Fin.ext (by simp; omega))) (congrArg (fun b => co (ix2 r b)) (Fin.ext (by simp; omega))))
        (congrArg₂ (· * ·) (congrArg (pr x g w r) (Fin.ext (by simp; omega))) (congrArg (fun b => si (ix2 r b)) (Fin.ext (by simp; omega))))
    · rw [dif_neg h, dif_neg (by omega), dif_neg (fun k => h (e.symm.trans_lt k)), dif_neg (fun k => h' (e.symm.trans_lt k))]
      exact congrArg (pr x g w r) (Fin.ext (by simp; omega))

theorem res41 : val_main_v41 (F := Ideal) x g w co si = Gq x g w co si := by
  funext j
  obtain ⟨r, q, rfl⟩ : ∃ (r : Fin 2048) (q : Fin 512), j = (ix2 r q : S2048x512.Idx) := ⟨j 0, j 1, eq_ix2 j⟩
  pointwise [val_main_v41, val_main_v40, val_main_cst_2, val_main_v39, v38_at]
  exact congrArg (fun b => rope x g w co si r b * eighth) (Fin.ext (by simp; omega))

/-! The keys' heads. -/

theorem v42_at (r : Fin 2048) (a : Fin 2) (l : Fin 64) : val_main_v42 (F := Ideal) x g w (ix3 r a l) = pr x g w r ⟨512 + (a.val * 64 + l.val), by omega⟩ := by
  pointwise [val_main_v42, val_main_v15, v13_at]

theorem v58_at (r : Fin 2048) (a : Fin 2) (l : Fin 64) : val_main_v58 (F := Ideal) x g w co si (ix3 r a l)
    = rope x g w co si r ⟨512 + (a.val * 64 + l.val), by omega⟩ := by
  pointwise [val_main_v58, val_main_v57, val_main_v56, val_main_v55, val_main_v54, val_main_v53, val_main_v52, val_main_v51, val_main_v50, val_main_v49, val_main_v48,
    val_main_v47, val_main_v46, val_main_v45, val_main_v44, val_main_v43, v42_at]
  have e : (512 + (a.val * 64 + l.val)) % 64 = l.val := by omega
  unfold rope
  by_cases h : l.val < 8
  · rw [dif_pos h, dif_pos (e.trans_lt h)]
    exact congrArg₂ (· - ·) (congrArg (fun b => pr x g w r _ * co (ix2 r b)) (Fin.ext e.symm))
      (congrArg₂ (· * ·) (congrArg (pr x g w r) (Fin.ext (by simp; omega))) (congrArg (fun b => si (ix2 r b)) (Fin.ext e.symm)))
  · by_cases h' : l.val < 16
    · rw [dif_neg h, dif_pos (by omega), dif_neg (fun k => h (e.symm.trans_lt k)), dif_pos (e.trans_lt h')]
      exact congrArg₂ (· + ·)
        (congrArg₂ (· * ·) (congrArg (pr x g w r) (Fin.ext (by simp; omega))) (congrArg (fun b => co (ix2 r b)) (Fin.ext (by simp; omega))))
        (congrArg₂ (· * ·) (congrArg (pr x g w r) (Fin.ext (by simp; omega))) (congrArg (fun b => si (ix2 r b)) (Fin.ext (by simp; omega))))
    · rw [dif_neg h, dif_neg (by omega), dif_neg (fun k => h (e.symm.trans_lt k)), dif_neg (fun k => h' (e.symm.trans_lt k))]
      exact congrArg (pr x g w r) (Fin.ext (by simp; omega))

theorem v59_at (r : Fin 2048) (l : Fin 128) : val_main_v59 (F := Ideal) x g w co si (ix2 r l) = rope x g w co si r ⟨512 + l.val, by omega⟩ := by
  pointwise [val_main_v59, v58_at]
  exact congrArg (rope x g w co si r) (Fin.ext (by simp; omega))

theorem res86 : val_main_v86 (F := Ideal) x g w co si = Gk x g w co si := by
  funext j
  obtain ⟨r, q, rfl⟩ : ∃ (r : Fin 2048) (q : Fin 256), j = (ix2 r q : S2048x256.Idx) := ⟨j 0, j 1, eq_ix2 j⟩
  pointwise [val_main_v86, v59_at, val_main_v16, v13_at, Gk]
  by_cases h : q.val < 128
  · rw [dif_pos h, dif_pos h]
  · rw [dif_neg h, dif_neg h]
    exact congrArg (pr x g w r) (Fin.ext (by simp; omega))

theorem res87 : val_main_v87 (F := Ideal) x g w = Gc x g w := by
  funext j
  obtain ⟨r, q, rfl⟩ : ∃ (r : Fin 2048) (q : Fin 1536), j = (ix2 r q : S2048x1536.Idx) := ⟨j 0, j 1, eq_ix2 j⟩
  pointwise [val_main_v87, val_main_v17, val_main_v18, val_main_v19, v13_at, Gc]
  by_cases h : q.val < 512
  · rw [dif_pos h]
  · by_cases h' : q.val - 512 < 512
    · rw [dif_neg h, dif_pos h']
      exact congrArg (pr x g w r) (Fin.ext (by simp; omega))
    · rw [dif_neg h, dif_neg h']
      exact congrArg (pr x g w r) (Fin.ext (by simp; omega))

theorem res20 : val_main_v20 (F := Ideal) x g w = Gu x g w := by
  funext j
  obtain ⟨r, q, rfl⟩ : ∃ (r : Fin 2048) (q : Fin 512), j = (ix2 r q : S2048x512.Idx) := ⟨j 0, j 1, eq_ix2 j⟩
  pointwise [val_main_v20, v13_at]
  rfl

theorem res21 : val_main_v21 (F := Ideal) x g w = Gl x g w := by
  funext j
  obtain ⟨r, q, rfl⟩ : ∃ (r : Fin 2048) (q : Fin 3072), j = (ix2 r q : S2048x3072.Idx) := ⟨j 0, j 1, eq_ix2 j⟩
  pointwise [val_main_v21, v13_at]
  rfl

/-! The convolution's three shifted rows and its output. -/

theorem v62_at (r : Fin 2048) (q : Fin 512) : val_main_v62 (F := Ideal) x g w (ix2 r q) = z x g w r q := by
  pointwise [val_main_v62, val_main_v18, val_main_v19, v13_at]
  rfl

theorem v67_at (r : Fin 2048) (q : Fin 512) : val_main_v67 (F := Ideal) x g w (ix2 r q) = back x g w 2 r q := by
  pointwise [val_main_v67, val_main_v64, val_main_v63, val_main_cst_3, v62_at]
  rfl

theorem v73_at (r : Fin 2048) (q : Fin 512) : val_main_v73 (F := Ideal) x g w (ix2 r q) = back x g w 1 r q := by
  pointwise [val_main_v73, val_main_v64, val_main_v63, val_main_cst_3, v62_at]
  simp only [back, show 1 + r.val - 2 = r.val - 1 from by omega, show (1 + r.val < 2) = (r.val < 1) from propext (by omega)]

theorem v80_at (r : Fin 2048) (q : Fin 512) : val_main_v80 (F := Ideal) x g w (ix2 r q) = z x g w r q := by
  pointwise [val_main_v80, val_main_v64, val_main_v63, val_main_cst_3, v62_at]

theorem res88 : val_main_v88 (F := Ideal) x g w cw = Gv x g w cw := by
  funext j
  obtain ⟨r, q, rfl⟩ : ∃ (r : Fin 2048) (q : Fin 512), j = (ix2 r q : S2048x512.Idx) := ⟨j 0, j 1, eq_ix2 j⟩
  pointwise [val_main_v88, val_main_v85, val_main_v84, val_main_v83, val_main_v82, val_main_v81, val_main_v79, val_main_v78, val_main_v77, val_main_v76, val_main_v75, val_main_v74,
    val_main_v72, val_main_v71, val_main_v70, val_main_v69, val_main_v68, val_main_v66, val_main_v65, val_main_v61, val_main_v60, val_main_v17, v13_at, v67_at, v73_at, v80_at]
  rfl

theorem res89 : val_main_v89 (F := Ideal) x g = Gh x g := by
  funext j
  obtain ⟨r, q, rfl⟩ : ∃ (r : Fin 2048) (q : Fin 1024), j = (ix2 r q : S2048x1024.Idx) := ⟨j 0, j 1, eq_ix2 j⟩
  pointwise [val_main_v89, v12_at]
  rfl

end

/-- The reference keeps its arguments; it has no semaphore. -/
theorem frame_reference : Cert.quiescent_Reference16Ideal := by
  intro m g _
  exact (θ_run Reference16Ideal.defs _ _).mono
    (fun r h => ⟨fun c => (h c).2.2.2.2.2.2.2, sem_eq_zero_of_no_sems (by decide) r.2⟩) (Reference16Ideal.Value.run (F := Ideal) m g)

section

open Cert.Reference16Ideal

/-- The reference ends with the formulas in its results, its arguments kept. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v41) = Gq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v86) = Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v87) = Gc (m ((c.tc : Thread nD τ).loc main_arg0)) (m ((c.tc : Thread nD τ).loc main_arg1)) (m ((c.tc : Thread nD τ).loc main_arg2))
      ∧ r.2.mem ((c.tc : Thread nD τ).loc main_v20) = Gu (m ((c.tc : Thread nD τ).loc main_arg0)) (m ((c.tc : Thread nD τ).loc main_arg1)) (m ((c.tc : Thread nD τ).loc main_arg2))
      ∧ r.2.mem ((c.tc : Thread nD τ).loc main_v21) = Gl (m ((c.tc : Thread nD τ).loc main_arg0)) (m ((c.tc : Thread nD τ).loc main_arg1)) (m ((c.tc : Thread nD τ).loc main_arg2))
      ∧ r.2.mem ((c.tc : Thread nD τ).loc main_v88) = Gv (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v89) = Gh (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((Read.val_main_v41_eq m c).trans (res41 _ _ _ _ _)), (h c).2.1.trans ((Read.val_main_v86_eq m c).trans (res86 _ _ _ _ _)),
    (h c).2.2.1.trans ((Read.val_main_v87_eq _ _ _).trans (res87 _ _ _)), (h c).2.2.2.1.trans ((Read.val_main_v20_eq _ _ _).trans (res20 _ _ _)),
    (h c).2.2.2.2.1.trans ((Read.val_main_v21_eq _ _ _).trans (res21 _ _ _)), (h c).2.2.2.2.2.1.trans ((Read.val_main_v88_eq m c).trans (res88 _ _ _ _)),
    (h c).2.2.2.2.2.2.1.trans ((Read.val_main_v89_eq _ _).trans (res89 _ _)), (h c).2.2.2.2.2.2.2⟩)
    (Value.run (F := Ideal) m g)

end

theorem algebraic : Cert.algebraic_Kernel16Ideal_Reference16Ideal := by
  pair_intro
  · run_from Cert.Kernel16Ideal.Value.run_blocks m g
  · run_from run_reference m' g'
    · exact (final7 m c).symm
    · exact (final8 m c).symm
    · exact (final9 m c).symm
    · exact (final10 m c).symm
    · exact (final11 m c).symm
    · exact (final12 m c).symm
    · exact (final13 m c).symm

end Cert.RmsMmIn

end
-- ==== Proof.GluFwdClaim.lean ====
/-
  The gate after the state space branch, with the activation before it: formula, reference, kernel's result, claims.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluFwd

section

open Cert.Kernel17Ideal Cert.Kernel17Ideal.Gen

/-- The activation, with its rounded constants. -/
def act (x : EReal) : EReal :=
  x * (Ideal.ofBits .f32 0x3F000000#32 * (1 + Ideal.tanh (Ideal.ofBits .f32 0x3F4C422A#32 * (x + Ideal.ofBits .f32 0x3D372713#32 * (x * x * x)))))

/-- The activation times the logistic of its product with the weight. -/
def G (y : FVec Ideal S2048x512 .f32) (w : FVec Ideal S512x512 .f32) : FVec Ideal S2048x512 .bf16 :=
  fun j => act (y (ix2 (j 0) (j 1))) * Ideal.logistic (∑ k : Fin 512, act (y (ix2 (j 0) k)) * w (ix2 k (j 1)))

theorem half_first (a b : EReal) : Ideal.ofBits .f32 0x3F000000#32 * a * b = a * (Ideal.ofBits .f32 0x3F000000#32 * b) := by
  rw [mul_comm (Ideal.ofBits .f32 0x3F000000#32) a, mul_assoc]

theorem place : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 4 := lt_of_lt_of_eq t.isLt N_0

/-- The body's vector over blocks that are row tile `t` of the arrays. -/
theorem pay1_at {y : FVec Ideal S2048x512 .f32} {w : FVec Ideal S512x512 .f32} {t : ℕ} (ht : t < 4)
    {bv : Vec Ideal S512x512 .f32} {bw : Vec Ideal S512x512 .bf16}
    (hy : ∀ (r k : Fin 512), bv (ix2 r k) = y (ix2 ⟨t * 512 + r.val, by omega⟩ k)) (hw : ∀ (k q : Fin 512), bw (ix2 k q) = w (ix2 k q))
    (r q : Fin 512) : k0_pay1 (F := Ideal) bv bw (ix2 r q) = G y w (ix2 ⟨t * 512 + r.val, by omega⟩ q) := by
  pointwise [k0_pay1, hy, hw, half_first]
  rfl

variable (m : (ℓ : Loc nD τ sig) → Buf (Elt Ideal) ℓ) (c : Dev nD)

def lowered (w : FVec Ideal S512x512 .f32) : FVec Ideal S512x512 .bf16 := truncf .bf16 w bitsLt_bf16_f32

theorem V_weight : V m c main_v0 = lowered (m ((c : Thread nD τ).loc main_arg1)) := by
  unfold V
  simp only [hostOps0, StableHlo.TRef.nary, StableHlo.TRef.binary, StableHlo.TRef.unary, StableHlo.TRef.toBuf, StableHlo.TRef.ofBuf, cast_eq]
  after_results_simp <;> rfl

theorem y_at (t : Fin cfg0.N) (r k : Fin 512) : (show EReal from iblk m c 0 t (ix2 r k))
    = (m ((c : Thread nD τ).loc main_arg0)) (ix2 ⟨t.val * 512 + r.val, by have := point_lt t; omega⟩ k) := by
  blk_ext [iblk, V, place t]

theorem w_at (t : Fin cfg0.N) (k q : Fin 512) : (show EReal from iblk m c 1 t (ix2 k q))
    = (m ((c : Thread nD τ).loc main_arg1)) (ix2 k q) := by
  have e : (show EReal from iblk m c 1 t (ix2 k q)) = V m c main_v0 (ix2 k q : S512x512.Idx) := by
    blk_ext [iblk, place t]
  rw [e, V_weight]
  pointwise [lowered]

theorem final2 : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  obtain ⟨r, q, rfl⟩ : ∃ (r q : Fin 512), y = (ix2 r q : S512x512.Idx) := ⟨y 0, y 1, eq_ix2 y⟩
  rw [after0_2]
  unfold out0_2
  frame_open
  frame_out
  refine (pay1_at (point_lt t) (y_at m c t) (w_at m c t) r q).trans ?_
  blk_ext [place t]

end

section

open Cert.Reference17Ideal Cert.Reference17Ideal.Read

variable (y : FVec Ideal S2048x512 .f32) (w : FVec Ideal S512x512 .f32)

theorem v12_at (r : Fin 2048) (q : Fin 512) : val_main_v12 (F := Ideal) y (ix2 r q) = act (y (ix2 r q)) := by
  pointwise [val_main_v0, val_main_v1, val_main_v2, val_main_v3, val_main_v4, val_main_v5, val_main_v6, val_main_v7, val_main_v8, val_main_v9, val_main_v10, val_main_v11,
    val_main_v12, val_main_cst, val_main_cst_0, val_main_cst_1, val_main_cst_2]
  rfl

theorem res : val_main_v21 (F := Ideal) y w = G y w := by
  funext j
  obtain ⟨r, q, rfl⟩ : ∃ (r : Fin 2048) (q : Fin 512), j = (ix2 r q : S2048x512.Idx) := ⟨j 0, j 1, eq_ix2 j⟩
  pointwise [val_main_v21, val_main_v20, val_main_v19, val_main_v18, val_main_v17, val_main_v16, val_main_v15, val_main_v14, val_main_v13, val_main_cst_3, val_main_cst_4,
    v12_at]
  rfl

end

/-- The reference keeps its arguments; it has no semaphore. -/
theorem frame_reference : Cert.quiescent_Reference17Ideal := by
  intro m g _
  exact (θ_run Reference17Ideal.defs _ _).mono
    (fun r h => ⟨fun c => (h c).2, sem_eq_zero_of_no_sems (by decide) r.2⟩) (Reference17Ideal.Value.run (F := Ideal) m g)

theorem algebraic : Cert.algebraic_Kernel17Ideal_Reference17Ideal := by
  pair_intro
  · run_from Cert.Kernel17Ideal.Value.run_blocks m g
  · run_from Cert.Reference17Ideal.Value.run m' g'
    exact (Reference17Ideal.Read.val_main_v21_eq _ _).trans ((res _ _).trans (final2 m c).symm)

end Cert.GluFwd

end
-- ==== Proof.LossHeadClaim.lean ====
/-
  The loss with the last norm and its gradient: the formulas, the arrays the kernel leaves, the reference read at an
  index, and the claims.
-/
module

public import proofs.«01_k».proof.Defs
public import proofs.«01_k».proof.Proof.RmsMath
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHead

open Cert.Rms

section

open Cert.Kernel18Ideal Cert.Kernel18Ideal.Gen

variable (x : FVec Ideal S2048x1024 .f32) (g : FVec Ideal S1024 .f32) (d : FVec Ideal S2048x1024 .f32)

def half : EReal := Ideal.ofBits .f32 0x3F000000#32

/-- One over the row's length. -/
def frac : EReal := Ideal.ofBits .f32 0x3A800000#32

theorem half_eq' : half = ((1 / 2 : ℝ) : EReal) := by
  simp [half, Ideal.ofBits, Ideal.ieee]
  rw [← EReal.coe_mul]
  norm_num

theorem frac_eq : frac = ((1 / 1024 : ℝ) : EReal) := by
  simp [frac, Ideal.ofBits, Ideal.ieee]
  rw [← EReal.coe_mul]
  norm_num

/-- Row `r` of the norm's input, the row divided by its norm, and what the scaled row misses of the target. -/
def row (r : Fin 2048) (k : Fin 1024) : EReal := x (ix2 r k)

def xh (r : Fin 2048) (k : Fin 1024) : EReal := row x r k * rs (row x r)

def miss (r : Fin 2048) (k : Fin 1024) : EReal := xh x r k * g (ix1 k) - d (ix2 r k)

/-- The cotangent of the norm's output and of the normalised row. -/
def dy (r : Fin 2048) (k : Fin 1024) : EReal := miss x g d r k * frac

def gy (r : Fin 2048) (k : Fin 1024) : EReal := dy x g d r k * g (ix1 k)

/-- The three results over the arguments. -/
def Gl : FVec Ideal S1x128 .f32 := fun _ => half * ∑ r : Fin 2048, mean (fun k => miss x g d r k * miss x g d r k)

def Gx : FVec Ideal S2048x1024 .f32 :=
  fun j => rs (row x (j 0)) * (gy x g d (j 0) (j 1) - xh x (j 0) (j 1) * mean (fun k => gy x g d (j 0) k * xh x (j 0) k))

def Gg : FVec Ideal S1x1024 .f32 := fun j => ∑ r : Fin 2048, dy x g d r (j 1) * xh x r (j 1)

theorem place : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem point_lt (t : Fin cfg0.N) : t.val < 8 := lt_of_lt_of_eq t.isLt N_0

section Body

variable {x g d} {t : ℕ} (ht : t < 8) {bx bd : Vec Ideal S256x1024 .f32} {bg : Vec Ideal S1x1024 .f32}
  (hx : ∀ (r : Fin 256) k, bx (ix2 r k) = x (ix2 ⟨t * 256 + r.val, by omega⟩ k))
  (hg : ∀ q, bg (ix2 0 q) = g (ix1 q))
  (hd : ∀ (r : Fin 256) k, bd (ix2 r k) = d (ix2 ⟨t * 256 + r.val, by omega⟩ k))

include hx in
theorem pay5_at (r : Fin 256) : k0_pay5 (F := Ideal) bx (ix2 r 0) = rs (row x ⟨t * 256 + r.val, by omega⟩) := by
  pointwise [k0_pay5, hx]
  rfl

include hx in
theorem pay6_at (r : Fin 256) (q : Fin 1024) : k0_pay6 (F := Ideal) bx (ix2 r q) = xh x ⟨t * 256 + r.val, by omega⟩ q := by
  pointwise [k0_pay6, hx, pay5_at ht hx]
  rfl

include hx hg hd in
theorem pay7_at (r : Fin 256) (q : Fin 1024) : k0_pay7 (F := Ideal) bx bg bd (ix2 r q) = miss x g d ⟨t * 256 + r.val, by omega⟩ q := by
  pointwise [k0_pay7, hg, hd, pay6_at ht hx]
  rfl

include hx hg hd in
theorem pay9_at (r : Fin 256) (q : Fin 1024) : k0_pay9 (F := Ideal) bx bg bd (ix2 r q) = dy x g d ⟨t * 256 + r.val, by omega⟩ q := by
  pointwise [k0_pay9, pay7_at ht hx hg hd]
  rfl

include hx hg hd in
theorem pay8_at (acc : Vec Ideal S1x128 .f32) (r : Fin 1) (q : Fin 128) : k0_pay8 (F := Ideal) bx bg bd acc (ix2 r q)
    = acc (ix2 r q) + ∑ k : Fin 256, half * mean (fun l => miss x g d ⟨t * 256 + k.val, by omega⟩ l * miss x g d ⟨t * 256 + k.val, by omega⟩ l) := by
  pointwise [k0_pay8, pay7_at ht hx hg hd]
  simp only [Fin.sum_univ_one]
  refine congrArg (acc (ix2 r q) + ·) (Eq.trans ?_ ((congrArg (· * _) half_eq').trans ((mul_sum' _ (by norm_num) _).trans (by rw [← half_eq']))))
  rfl

include hx hg hd in
theorem pay1_at (r : Fin 256) (q : Fin 1024) : k0_pay1 (F := Ideal) (k0_pay5 bx) (k0_pay6 bx) (k0_pay9 bx bg bd) bg (ix2 r q)
    = Gx x g d (ix2 ⟨t * 256 + r.val, by omega⟩ q) := by
  pointwise [k0_pay1, hg, pay5_at ht hx, pay6_at ht hx, pay9_at ht hx hg hd]
  rfl

include hx hg hd in
theorem pay2_at (acc : Vec Ideal S1x1024 .f32) (r : Fin 1) (q : Fin 1024) : k0_pay2 (F := Ideal) (k0_pay6 bx) (k0_pay9 bx bg bd) acc (ix2 r q)
    = acc (ix2 r q) + ∑ k : Fin 256, dy x g d ⟨t * 256 + k.val, by omega⟩ q * xh x ⟨t * 256 + k.val, by omega⟩ q := by
  pointwise [k0_pay2, pay6_at ht hx, pay9_at ht hx hg hd]

end Body

theorem pay3_at (j : S1x128.Idx) : k0_pay3 (F := Ideal) j = 0 := by pointwise [k0_pay3]

theorem pay4_at (j : S1x1024.Idx) : k0_pay4 (F := Ideal) j = 0 := by pointwise [k0_pay4]

variable (m : (ℓ : Loc nD τ sig) → Buf (Elt Ideal) ℓ) (c : Dev nD)

def lifted (g : FVec Ideal S1024 .f32) : FVec Ideal S1x1024 .f32 := broadcastInDim S1x1024 ![1] bcast_S1024_S1x1024_1 g

theorem V_lifted : V m c main_v0 = lifted (m ((c : Thread nD τ).loc main_arg1)) := by
  unfold V
  simp only [hostOps0, StableHlo.TRef.binary, StableHlo.TRef.unary, StableHlo.TRef.toBuf, StableHlo.TRef.ofBuf, cast_eq]
  after_results_simp <;> rfl

theorem x_at (t : Fin cfg0.N) (r : Fin 256) (k : Fin 1024) : (show EReal from iblk m c 0 t (ix2 r k : S256x1024.Idx))
    = m ((c : Thread nD τ).loc main_arg0) (ix2 ⟨t.val * 256 + r.val, by have := point_lt t; omega⟩ k : S2048x1024.Idx) := by
  blk_ext [iblk, V, place t]

theorem g_at (t : Fin cfg0.N) (q : Fin 1024) : (show EReal from iblk m c 1 t (ix2 0 q : S1x1024.Idx))
    = m ((c : Thread nD τ).loc main_arg1) (ix1 q : S1024.Idx) := by
  have e : (show EReal from iblk m c 1 t (ix2 0 q : S1x1024.Idx)) = V m c main_v0 (ix2 0 q : S1x1024.Idx) := by
    blk_ext [iblk, place t]
  rw [e, V_lifted]
  pointwise [lifted]

theorem d_at (t : Fin cfg0.N) (r : Fin 256) (k : Fin 1024) : (show EReal from iblk m c 2 t (ix2 r k : S256x1024.Idx))
    = m ((c : Thread nD τ).loc main_arg2) (ix2 ⟨t.val * 256 + r.val, by have := point_lt t; omega⟩ k : S2048x1024.Idx) := by
  blk_ext [iblk, V, place t]

theorem final4 : (dats m 0 c).arrAt 4 (cfgs 0).N
    = Gx (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  obtain ⟨r, l, rfl⟩ : ∃ (r : Fin 256) (l : Fin 1024), y = (ix2 r l : S256x1024.Idx) := ⟨y 0, y 1, eq_ix2 y⟩
  rw [after0_4]
  by_cases h : t.val % 8 = 0
  · rw [outsAt0_A m c t h]
    frame_out
    refine (pay1_at (point_lt t) (x_at m c t) (g_at m c t) (d_at m c t) r l).trans ?_
    blk_ext [place t]
  · rw [outsAt0_B m c t h]
    frame_out
    refine (pay1_at (point_lt t) (x_at m c t) (g_at m c t) (d_at m c t) r l).trans ?_
    blk_ext [place t]

theorem final3 : (dats m 0 c).arrAt 3 (cfgs 0).N
    = Gl (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  obtain ⟨r, q, rfl⟩ : ∃ (r : Fin 1) (q : Fin 128), j = (ix2 r q : S1x128.Idx) := ⟨j 0, j 1, eq_ix2 j⟩
  blk_simp
  rw [after0_3, Pipeline.eq_sum_fin_of_reset_step_apply_last (fun n h => (outsAt0 m c n h).1) 8 (fun _ => 0)
    (fun t j => ∑ k : Fin 256, half * mean (fun l =>
      miss (m ((c : Thread nD τ).loc main_arg0)) (m ((c : Thread nD τ).loc main_arg1)) (m ((c : Thread nD τ).loc main_arg2)) ⟨t.val * 256 + k.val, by have := point_lt t; omega⟩ l
      * miss (m ((c : Thread nD τ).loc main_arg0)) (m ((c : Thread nD τ).loc main_arg1)) (m ((c : Thread nD τ).loc main_arg2)) ⟨t.val * 256 + k.val, by have := point_lt t; omega⟩ l))
    (fun t h j => by
      obtain ⟨r, q, rfl⟩ : ∃ (r : Fin 1) (q : Fin 128), j = (ix2 r q : S1x128.Idx) := ⟨j 0, j 1, eq_ix2 j⟩
      rw [outsAt0_A m c t h]; frame_out
      exact (pay8_at (point_lt t) (x_at m c t) (g_at m c t) (d_at m c t) _ r q).trans (by rw [pay3_at]))
    (fun t h j => by
      obtain ⟨r, q, rfl⟩ : ∃ (r : Fin 1) (q : Fin 128), j = (ix2 r q : S1x128.Idx) := ⟨j 0, j 1, eq_ix2 j⟩
      rw [outsAt0_B m c t h]; frame_out
      exact (pay8_at (point_lt t) (x_at m c t) (g_at m c t) (d_at m c t) _ r q).trans rfl)
    (le_of_eq N_0) t0_7 rfl _, zero_add]
  show _ = half * _
  rw [half_eq', mul_sum' _ (by norm_num), ← half_eq']
  refine Eq.trans ?_ (Fin.sum_univ_one (fun _ : Fin 1 => ∑ r : Fin 2048, half * mean (fun k =>
    miss (m ((c : Thread nD τ).loc main_arg0)) (m ((c : Thread nD τ).loc main_arg1)) (m ((c : Thread nD τ).loc main_arg2)) r k
    * miss (m ((c : Thread nD τ).loc main_arg0)) (m ((c : Thread nD τ).loc main_arg1)) (m ((c : Thread nD τ).loc main_arg2)) r k)))
  refine Fin.sum_points_lanes_congr 8 fun t k ha hl => ?_
  have : t.val % 8 = t.val := Nat.mod_eq_of_lt (point_lt t)
  simp only [this]

theorem final5 : (dats m 0 c).arrAt 5 (cfgs 0).N
    = Gg (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  obtain ⟨r, q, rfl⟩ : ∃ (r : Fin 1) (q : Fin 1024), j = (ix2 r q : S1x1024.Idx) := ⟨j 0, j 1, eq_ix2 j⟩
  blk_simp
  rw [after0_5, Pipeline.eq_sum_fin_of_reset_step_apply_last (fun n h => (outsAt0 m c n h).2.2) 8 (fun _ => 0)
    (fun t j => ∑ k : Fin 256, dy (m ((c : Thread nD τ).loc main_arg0)) (m ((c : Thread nD τ).loc main_arg1)) (m ((c : Thread nD τ).loc main_arg2)) ⟨t.val * 256 + k.val, by have := point_lt t; omega⟩ (j 1)
        * xh (m ((c : Thread nD τ).loc main_arg0)) ⟨t.val * 256 + k.val, by have := point_lt t; omega⟩ (j 1))
    (fun t h j => by
      obtain ⟨r, q, rfl⟩ : ∃ (r : Fin 1) (q : Fin 1024), j = (ix2 r q : S1x1024.Idx) := ⟨j 0, j 1, eq_ix2 j⟩
      rw [outsAt0_A m c t h]; frame_out
      exact (pay2_at (point_lt t) (x_at m c t) (g_at m c t) (d_at m c t) _ r q).trans (by rw [pay4_at]; rfl))
    (fun t h j => by
      obtain ⟨r, q, rfl⟩ : ∃ (r : Fin 1) (q : Fin 1024), j = (ix2 r q : S1x1024.Idx) := ⟨j 0, j 1, eq_ix2 j⟩
      rw [outsAt0_B m c t h]; frame_out
      exact (pay2_at (point_lt t) (x_at m c t) (g_at m c t) (d_at m c t) _ r q).trans rfl)
    (le_of_eq N_0) t0_7 rfl _, zero_add]
  refine Eq.trans ?_ (Fin.sum_univ_one (fun _ : Fin 1 => Gg (m ((c : Thread nD τ).loc main_arg0)) (m ((c : Thread nD τ).loc main_arg1)) (m ((c : Thread nD τ).loc main_arg2)) (ix2 r q)))
  refine Fin.sum_points_lanes_congr 8 fun t k ha hl => ?_
  have : t.val % 8 = t.val := Nat.mod_eq_of_lt (point_lt t)
  simp only [this]

end

section

open Cert.Reference18Ideal Cert.Reference18Ideal.Read

variable (x : FVec Ideal S2048x1024 .f32) (g : FVec Ideal S1024 .f32) (d : FVec Ideal S2048x1024 .f32)

theorem v6_at (r : Fin 2048) : val_main_v6 (F := Ideal) x (ix2 r 0) = ms (row x r) := by
  pointwise [val_main_v0, val_main_v1, val_main_v2, val_main_v3, val_main_v4, val_main_v5, val_main_v6, val_main_cst, val_main_cst_0, val_main_cst_1]
  rfl

theorem v7_at (r : Fin 2048) : val_main_v7 (F := Ideal) x (ix2 r 0) = rs (row x r) := by
  pointwise [val_main_v7, v6_at]
  rfl

theorem v12_at (r : Fin 2048) (q : Fin 1024) : val_main_v12 (F := Ideal) x (ix2 r q) = xh x r q := by
  pointwise [val_main_v12, val_main_v11, v7_at]
  rfl

theorem v16_at (r : Fin 2048) (q : Fin 1024) : val_main_v16 (F := Ideal) x g d (ix2 r q) = miss x g d r q := by
  pointwise [val_main_v16, val_main_v15, val_main_v14, val_main_v13, v12_at]
  rfl

theorem res51 : val_main_v51 (F := Ideal) x g d = Gl x g d := by
  funext j
  obtain ⟨r, q, rfl⟩ : ∃ (r : Fin 1) (q : Fin 128), j = (ix2 r q : S1x128.Idx) := ⟨j 0, j 1, eq_ix2 j⟩
  pointwise [val_main_v51, val_main_v24, val_main_cst_7, val_main_v23, val_main_cst_6, val_main_v22, val_main_v21, val_main_cst_5, val_main_v20, val_main_cst_4, val_main_v17, v16_at]
  rfl

theorem twos : Ideal.ofBits .f32 0x40000000#32 = ((2 : ℝ) : EReal) := by
  simp [Ideal.ofBits, Ideal.ieee]
  rw [← EReal.coe_mul]
  norm_num

theorem half_over : Ideal.div (Ideal.ofBits .f32 0x3F000000#32) (Ideal.ofBits .f32 0x44800000#32) = ((1 / 2048 : ℝ) : EReal) := by
  rw [show Ideal.ofBits .f32 0x3F000000#32 = ((1 / 2 : ℝ) : EReal) from half_eq', n_eq]
  unfold Ideal.div
  rw [if_neg (by norm_num), ← EReal.coe_inv, ← EReal.coe_mul]
  norm_num

theorem v30_at (r : Fin 2048) (q : Fin 1024) : val_main_v30 (F := Ideal) x g d (ix2 r q) = dy x g d r q := by
  pointwise [val_main_v30, val_main_v29, val_main_v28, val_main_v27, val_main_cst_10, val_main_v26, val_main_v25, val_main_cst_9, val_main_cst_8, val_main_v19, val_main_v18, val_main_cst_3, v16_at]
  unfold dy
  rw [frac_eq, twos, mul_comm (miss x g d r q), ← mul_assoc, half_over, ← EReal.coe_mul]
  norm_num

theorem v35_at (r : Fin 2048) (q : Fin 1024) : val_main_v35 (F := Ideal) x g d (ix2 r q) = gy x g d r q := by
  pointwise [val_main_v35, v30_at, val_main_v34, val_main_v13]
  rfl

theorem res52 : val_main_v52 (F := Ideal) x g d = Gg x g d := by
  funext j
  obtain ⟨r, q, rfl⟩ : ∃ (r : Fin 1) (q : Fin 1024), j = (ix2 r q : S1x1024.Idx) := ⟨j 0, j 1, eq_ix2 j⟩
  pointwise [val_main_v52, val_main_v36, val_main_cst_12, val_main_v33, val_main_v32, val_main_cst_11, val_main_v31, v12_at, v30_at]
  simp only [Fin.sum_univ_one]
  exact Finset.sum_congr rfl fun k _ => mul_comm _ _

theorem res50 : val_main_v50 (F := Ideal) x g d = Gx x g d := by
  funext j
  obtain ⟨r, q, rfl⟩ : ∃ (r : Fin 2048) (q : Fin 1024), j = (ix2 r q : S2048x1024.Idx) := ⟨j 0, j 1, eq_ix2 j⟩
  pointwise [val_main_v50, val_main_v49, val_main_v48, val_main_v47, val_main_v46, val_main_v45, val_main_cst_15, val_main_v44, val_main_v43, val_main_cst_14, val_main_v42, val_main_v41,
    val_main_v40, val_main_v39, val_main_v38, val_main_cst_13, val_main_v37, v35_at, val_main_v10, val_main_v9, val_main_cst_2, val_main_v8, v7_at, v6_at]
  simp only [Fin.sum_univ_one, v7_at, v6_at]
  refine Eq.trans ?_ ((grad_eq (row x r) (gy x g d r) 0 q).trans (zero_add _))
  rw [zero_add]
  rfl

end

/-- The reference keeps its arguments; it has no semaphore. -/
theorem frame_reference : Cert.quiescent_Reference18Ideal := by
  intro m g _
  exact (θ_run Reference18Ideal.defs _ _).mono
    (fun r h => ⟨fun c => (h c).2.2.2, sem_eq_zero_of_no_sems (by decide) r.2⟩) (Reference18Ideal.Value.run (F := Ideal) m g)

theorem algebraic : Cert.algebraic_Kernel18Ideal_Reference18Ideal := by
  pair_intro
  · run_from Cert.Kernel18Ideal.Value.run_blocks m g
  · run_from Cert.Reference18Ideal.Value.run m' g'
    · exact (Reference18Ideal.Read.val_main_v51_eq _ _ _).trans ((res51 _ _ _).trans (final3 m c).symm)
    · rw [Reference18Ideal.Read.val_main_v50_eq m' c, (hagree c).1, (hagree c).2.1, (hagree c).2.2]
      exact (res50 _ _ _).trans (final4 m c).symm
    · exact (Reference18Ideal.Read.val_main_v52_eq _ _ _).trans ((res52 _ _ _).trans (final5 m c).symm)

end Cert.LossHead

end
-- ==== Proof.AdamMath.lean ====
/-
  One update of the optimiser at one entry, over the extended reals: the gradient's sum over eight parts, the two moments, the step.
-/
module

public import Idealize.ShloMosaic.Lib.Pointwise
public import Idealize.ShloMosaic.PureOps.Ideal

@[expose] public section

noncomputable section

open Idealize.ShloMosaic

namespace Cert.AdamMath

/-- The gradient: the sum of the eight parts. -/
def grad (p : Fin 8 → EReal) : EReal := ∑ k, p k

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The change of the weight. -/
def step (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- The parts added one after the other are the gradient. -/
theorem chain (p : Fin 8 → EReal) : p 0 + p 1 + p 2 + p 3 + p 4 + p 5 + p 6 + p 7 = grad p := (Fin.sum_univ_eight p).symm

end Cert.AdamMath

end
-- ==== Proof.AdamRowClaim.lean ====
/-
  The optimiser's call for the weights taken whole, of 4 x 1024 entries: formula, reference, kernel's results, claims.
-/
module

public import proofs.«01_k».proof.Defs
public import proofs.«01_k».proof.Proof.AdamMath
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamRow

section

open Cert.Kernel19Ideal Cert.Kernel19Ideal.Gen Cert.AdamMath

variable (p : FVec Ideal S8x4x1024 .bf16) (w a b : FVec Ideal S4x1024 .f32)

/-- The eight parts of one entry's gradient. -/
def parts (l : Fin 4) (q : Fin 1024) (k : Fin 8) : EReal := p (ix3 k l q)

/-- The four results over the arguments: gradient, change of the weight, first and second moment. -/
def Gg : FVec Ideal S4x1024 .f32 := fun j => grad (parts p (j 0) (j 1))
def Gd : FVec Ideal S4x1024 .f32 := fun j => step (grad (parts p (j 0) (j 1))) (w j) (a j) (b j)
def Gm : FVec Ideal S4x1024 .f32 := fun j => first (grad (parts p (j 0) (j 1))) (a j)
def Gv : FVec Ideal S4x1024 .f32 := fun j => second (grad (parts p (j 0) (j 1))) (b j)

theorem place : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

section Body

variable {p w a b} {bp : Vec Ideal S8x4x1024 .bf16} {bw ba bb : Vec Ideal S4x1024 .f32}
  (hp : ∀ (k : Fin 8) (r : Fin 4) (q : Fin 1024), bp (ix3 k r q) = p (ix3 k r q))
  (hw : ∀ (r : Fin 4) (q : Fin 1024), bw (ix2 r q) = w (ix2 r q))
  (ha : ∀ (r : Fin 4) (q : Fin 1024), ba (ix2 r q) = a (ix2 r q))
  (hb : ∀ (r : Fin 4) (q : Fin 1024), bb (ix2 r q) = b (ix2 r q))

include hp in
theorem pay4_at (r : Fin 4) (q : Fin 1024) : k0_pay4 (F := Ideal) (View.ld bp r0_0) (View.ld bp r0_1) (View.ld bp r0_2) (View.ld bp r0_3) (View.ld bp r0_4)
    (View.ld bp r0_5) (View.ld bp r0_6) (View.ld bp r0_7) (ix2 r q) = grad (parts p r q) := by
  pointwise [k0_pay4, hp]
  exact chain (parts p r q)

include hp in
theorem pay5_at (r : Fin 4) (q : Fin 1024) : k0_pay5 (F := Ideal) bp bw ba bb (ix2 r q) = grad (parts p r q) := pay4_at hp r q

include hp ha in
theorem pay1_at (r : Fin 4) (q : Fin 1024) : k0_pay1 (F := Ideal) (k0_pay5 bp bw ba bb) ba (ix2 r q) = first (grad (parts p r q)) (a (ix2 r q)) := by
  pointwise [k0_pay1, pay5_at hp, ha]
  rfl

include hp hb in
theorem pay2_at (r : Fin 4) (q : Fin 1024) : k0_pay2 (F := Ideal) (k0_pay5 bp bw ba bb) bb (ix2 r q) = second (grad (parts p r q)) (b (ix2 r q)) := by
  pointwise [k0_pay2, pay5_at hp, hb]
  rfl

include hp hw ha hb in
theorem pay3_at (r : Fin 4) (q : Fin 1024) : k0_pay3 (F := Ideal) (k0_pay5 bp bw ba bb) bw ba bb (ix2 r q)
    = step (grad (parts p r q)) (w (ix2 r q)) (a (ix2 r q)) (b (ix2 r q)) := by
  pointwise [k0_pay3, pay1_at hp ha, pay2_at hp hb, hw]
  rfl

end Body

variable (m : (ℓ : Loc nD τ sig) → Buf (Elt Ideal) ℓ) (c : Dev nD)

theorem p_at (t : Fin cfg0.N) (k : Fin 8) (r : Fin 4) (q : Fin 1024) : (show EReal from iblk m c 0 t (ix3 k r q))
    = (m ((c : Thread nD τ).loc main_arg0)) (ix3 k r q) := by
  blk_ext [iblk, V, place t]

theorem w_at (t : Fin cfg0.N) (r : Fin 4) (q : Fin 1024) : (show EReal from iblk m c 1 t (ix2 r q))
    = (m ((c : Thread nD τ).loc main_arg1)) (ix2 r q) := by
  blk_ext [iblk, V, place t]

theorem a_at (t : Fin cfg0.N) (r : Fin 4) (q : Fin 1024) : (show EReal from iblk m c 2 t (ix2 r q))
    = (m ((c : Thread nD τ).loc main_arg2)) (ix2 r q) := by
  blk_ext [iblk, V, place t]

theorem b_at (t : Fin cfg0.N) (r : Fin 4) (q : Fin 1024) : (show EReal from iblk m c 3 t (ix2 r q))
    = (m ((c : Thread nD τ).loc main_arg3)) (ix2 r q) := by
  blk_ext [iblk, V, place t]

theorem final4 : (dats m 0 c).arrAt 4 (cfgs 0).N = Gg (m ((c : Thread nD τ).loc main_arg0)) := by
  refine (dats m 0 c).arrAt_eq_of_covers 4 _ (by decide +kernel) fun t _ y => ?_
  blk_simp
  obtain ⟨r, q, rfl⟩ : ∃ (r : Fin 4) (q : Fin 1024), y = (ix2 r q : S4x1024.Idx) := ⟨y 0, y 1, eq_ix2 y⟩
  rw [after0_4]
  unfold out0_4
  frame_open
  frame_out
  refine Eq.trans (b := Gg (m ((c : Thread nD τ).loc main_arg0)) (ix2 r q)) (pay4_at (p_at m c t) r q) ?_
  blk_ext [place t]

theorem final5 : (dats m 0 c).arrAt 5 (cfgs 0).N
    = Gd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  obtain ⟨r, q, rfl⟩ : ∃ (r : Fin 4) (q : Fin 1024), y = (ix2 r q : S4x1024.Idx) := ⟨y 0, y 1, eq_ix2 y⟩
  rw [after0_5]
  unfold out0_5
  frame_open
  frame_out
  refine Eq.trans (b := Gd (m ((c : Thread nD τ).loc main_arg0)) (m ((c : Thread nD τ).loc main_arg1)) (m ((c : Thread nD τ).loc main_arg2)) (m ((c : Thread nD τ).loc main_arg3)) (ix2 r q)) (pay3_at (p_at m c t) (w_at m c t) (a_at m c t) (b_at m c t) r q) ?_
  blk_ext [place t]

theorem final6 : (dats m 0 c).arrAt 6 (cfgs 0).N = Gm (m ((c : Thread nD τ).loc main_arg0)) (m ((c : Thread nD τ).loc main_arg2)) := by
  refine (dats m 0 c).arrAt_eq_of_covers 6 _ (by decide +kernel) fun t _ y => ?_
  blk_simp
  obtain ⟨r, q, rfl⟩ : ∃ (r : Fin 4) (q : Fin 1024), y = (ix2 r q : S4x1024.Idx) := ⟨y 0, y 1, eq_ix2 y⟩
  rw [after0_6]
  unfold out0_6
  frame_open
  frame_out
  refine Eq.trans (b := Gm (m ((c : Thread nD τ).loc main_arg0)) (m ((c : Thread nD τ).loc main_arg2)) (ix2 r q)) (pay1_at (p_at m c t) (a_at m c t) r q) ?_
  blk_ext [place t]

theorem final7 : (dats m 0 c).arrAt 7 (cfgs 0).N = Gv (m ((c : Thread nD τ).loc main_arg0)) (m ((c : Thread nD τ).loc main_arg3)) := by
  refine (dats m 0 c).arrAt_eq_of_covers 7 _ (by decide +kernel) fun t _ y => ?_
  blk_simp
  obtain ⟨r, q, rfl⟩ : ∃ (r : Fin 4) (q : Fin 1024), y = (ix2 r q : S4x1024.Idx) := ⟨y 0, y 1, eq_ix2 y⟩
  rw [after0_7]
  unfold out0_7
  frame_open
  frame_out
  refine Eq.trans (b := Gv (m ((c : Thread nD τ).loc main_arg0)) (m ((c : Thread nD τ).loc main_arg3)) (ix2 r q)) (pay2_at (p_at m c t) (b_at m c t) r q) ?_
  blk_ext [place t]

end

section

open Cert.Reference19Ideal Cert.Reference19Ideal.Read Cert.AdamMath

variable (p : FVec Ideal S8x4x1024 .bf16) (w a b : FVec Ideal S4x1024 .f32)

theorem v1_at (r : Fin 4) (q : Fin 1024) : val_main_v1 (F := Ideal) p (ix2 r q) = grad (parts p r q) := by
  pointwise [val_main_v1, val_main_cst, val_main_v0]
  rfl

theorem res1 : val_main_v1 (F := Ideal) p = Gg p := by
  funext j
  rw [eq_ix2 j]
  exact v1_at p _ _

theorem v6_at (r : Fin 4) (q : Fin 1024) : val_main_v6 (F := Ideal) p a (ix2 r q) = first (grad (parts p r q)) (a (ix2 r q)) := by
  pointwise [val_main_v6, val_main_v5, val_main_v4, val_main_cst_1, val_main_v3, val_main_v2, val_main_cst_0, v1_at]
  rfl

theorem res6 : val_main_v6 (F := Ideal) p a = Gm p a := by
  funext j
  rw [eq_ix2 j]
  exact v6_at p a _ _

theorem v12_at (r : Fin 4) (q : Fin 1024) : val_main_v12 (F := Ideal) p b (ix2 r q) = second (grad (parts p r q)) (b (ix2 r q)) := by
  pointwise [val_main_v12, val_main_v11, val_main_v10, val_main_cst_3, val_main_v9, val_main_v8, val_main_v7, val_main_cst_2, v1_at]
  rfl

theorem res12 : val_main_v12 (F := Ideal) p b = Gv p b := by
  funext j
  rw [eq_ix2 j]
  exact v12_at p b _ _

theorem v25_at (r : Fin 4) (q : Fin 1024) : val_main_v25 (F := Ideal) p w a b (ix2 r q)
    = step (grad (parts p r q)) (w (ix2 r q)) (a (ix2 r q)) (b (ix2 r q)) := by
  pointwise [val_main_v25, val_main_v24, val_main_cst_8, val_main_v23, val_main_v22, val_main_v21, val_main_cst_7, val_main_v20, val_main_v19, val_main_v18, val_main_cst_6,
    val_main_v17, val_main_v16, val_main_v15, val_main_cst_5, val_main_v14, val_main_v13, val_main_cst_4, v6_at, v12_at]
  rfl

theorem res25 : val_main_v25 (F := Ideal) p w a b = Gd p w a b := by
  funext j
  rw [eq_ix2 j]
  exact v25_at p w a b _ _

/-- The reference's run, with its results by the formulas. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v1) = Gg (m ((c : Thread nD τ).loc main_arg0))
      ∧ r.2.mem ((c : Thread nD τ).loc main_v25) = Gd (m ((c : Thread nD τ).loc main_arg0)) (m ((c : Thread nD τ).loc main_arg1)) (m ((c : Thread nD τ).loc main_arg2)) (m ((c : Thread nD τ).loc main_arg3))
      ∧ r.2.mem ((c : Thread nD τ).loc main_v6) = Gm (m ((c : Thread nD τ).loc main_arg0)) (m ((c : Thread nD τ).loc main_arg2))
      ∧ r.2.mem ((c : Thread nD τ).loc main_v12) = Gv (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((Read.val_main_v1_eq _).trans (res1 _)),
      (h c).2.1.trans ((Read.val_main_v25_eq _ _ _ _).trans (res25 _ _ _ _)),
      (h c).2.2.1.trans ((Read.val_main_v6_eq _ _).trans (res6 _ _)),
      (h c).2.2.2.1.trans ((Read.val_main_v12_eq _ _).trans (res12 _ _)),
      (h c).2.2.2.2⟩) (Value.run (F := Ideal) m g)

end

/-- The reference keeps its arguments; it has no semaphore. -/
theorem frame_reference : Cert.quiescent_Reference19Ideal := by
  intro m g _
  exact (θ_run Reference19Ideal.defs _ _).mono
    (fun r h => ⟨fun c => (h c).2.2.2.2, sem_eq_zero_of_no_sems (by decide) r.2⟩) (Reference19Ideal.Value.run (F := Ideal) m g)

theorem algebraic : Cert.algebraic_Kernel19Ideal_Reference19Ideal := by
  pair_intro
  · run_from Cert.Kernel19Ideal.Value.run_blocks m g
  · run_from run_reference m' g'
    · exact (final4 m c).symm
    · exact (final5 m c).symm
    · exact (final6 m c).symm
    · exact (final7 m c).symm

end Cert.AdamRow

end
-- ==== Proof.AdamDenseClaim.lean ====
/-
  The optimiser's call for the weights cut into one block per layer, of 32 x 1024 entries: formula, reference, kernel's results, claims.
-/
module

public import proofs.«01_k».proof.Defs
public import proofs.«01_k».proof.Proof.AdamMath
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDense

section

open Cert.Kernel20Ideal Cert.Kernel20Ideal.Gen Cert.AdamMath

variable (p : FVec Ideal S8x4x32x1024 .bf16) (w a b : FVec Ideal S4x32x1024 .f32)

/-- The eight parts of one entry's gradient. -/
def parts (l : Fin 4) (r : Fin 32) (q : Fin 1024) (k : Fin 8) : EReal := p (ix4 k l r q)

/-- The four results over the arguments: gradient, change of the weight, first and second moment. -/
def Gg : FVec Ideal S4x32x1024 .f32 := fun j => grad (parts p (j 0) (j 1) (j 2))
def Gd : FVec Ideal S4x32x1024 .f32 := fun j => step (grad (parts p (j 0) (j 1) (j 2))) (w j) (a j) (b j)
def Gm : FVec Ideal S4x32x1024 .f32 := fun j => first (grad (parts p (j 0) (j 1) (j 2))) (a j)
def Gv : FVec Ideal S4x32x1024 .f32 := fun j => second (grad (parts p (j 0) (j 1) (j 2))) (b j)

theorem place : ∀ t : Fin cfg0.N, win0_0.index t = ![0, t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] :=
  (by decide +kernel : ∀ t : Fin grid0.N, _)

theorem point_lt (t : Fin cfg0.N) : t.val < 4 := lt_of_lt_of_eq t.isLt N_0

section Body

variable {p w a b} {l : Fin 4} {bp : Vec Ideal S8x1x32x1024 .bf16} {bw ba bb : Vec Ideal S1x32x1024 .f32}
  (hp : ∀ (k : Fin 8) (r : Fin 32) (q : Fin 1024), bp (ix4 k 0 r q) = p (ix4 k l r q))
  (hw : ∀ (r : Fin 32) (q : Fin 1024), bw (ix3 0 r q) = w (ix3 l r q))
  (ha : ∀ (r : Fin 32) (q : Fin 1024), ba (ix3 0 r q) = a (ix3 l r q))
  (hb : ∀ (r : Fin 32) (q : Fin 1024), bb (ix3 0 r q) = b (ix3 l r q))

include hp in
theorem pay5_at (r : Fin 32) (q : Fin 1024) : k0_pay5 (F := Ideal) (k0_pay10 bp bw ba bb) (View.ld bp r0_7) (ix2 r q) = grad (parts p l r q) := by
  pointwise [k0_pay5, k0_pay10, k0_pay4, hp]
  exact chain (parts p l r q)

include hp in
theorem pay6_at (r : Fin 32) (q : Fin 1024) : k0_pay6 (F := Ideal) (k0_pay10 bp bw ba bb) (View.ld bp r0_7) (ix3 0 r q) = grad (parts p l r q) := by
  pointwise [k0_pay6, pay5_at hp]

include hp ha in
theorem pay7_at (r : Fin 32) (q : Fin 1024) : k0_pay7 (F := Ideal) (k0_pay10 bp bw ba bb) (View.ld bp r0_7) ba (ix2 r q)
    = first (grad (parts p l r q)) (a (ix3 l r q)) := by
  pointwise [k0_pay7, pay5_at hp, ha]
  rfl

include hp hb in
theorem pay8_at (r : Fin 32) (q : Fin 1024) : k0_pay8 (F := Ideal) (k0_pay10 bp bw ba bb) (View.ld bp r0_7) bb (ix2 r q)
    = second (grad (parts p l r q)) (b (ix3 l r q)) := by
  pointwise [k0_pay8, pay5_at hp, hb]
  rfl

include hp hw ha hb in
theorem pay9_at (r : Fin 32) (q : Fin 1024) :
    k0_pay9 (F := Ideal) (k0_pay10 bp bw ba bb) (View.ld bp r0_7) bw ba bb (ix2 r q)
    = step (grad (parts p l r q)) (w (ix3 l r q)) (a (ix3 l r q)) (b (ix3 l r q)) := by
  pointwise [k0_pay9, pay7_at hp ha, pay8_at hp hb, hw]
  rfl

include hp hw ha hb in
theorem pay1_at (r : Fin 32) (q : Fin 1024) : k0_pay1 (F := Ideal) (k0_pay9 (k0_pay10 bp bw ba bb) (View.ld bp r0_7) bw ba bb) (ix3 0 r q)
    = step (grad (parts p l r q)) (w (ix3 l r q)) (a (ix3 l r q)) (b (ix3 l r q)) := by
  pointwise [k0_pay1, pay9_at hp hw ha hb]

include hp ha in
theorem pay2_at (r : Fin 32) (q : Fin 1024) : k0_pay2 (F := Ideal) (k0_pay7 (k0_pay10 bp bw ba bb) (View.ld bp r0_7) ba) (ix3 0 r q)
    = first (grad (parts p l r q)) (a (ix3 l r q)) := by
  pointwise [k0_pay2, pay7_at hp ha]

include hp hb in
theorem pay3_at (r : Fin 32) (q : Fin 1024) : k0_pay3 (F := Ideal) (k0_pay8 (k0_pay10 bp bw ba bb) (View.ld bp r0_7) bb) (ix3 0 r q)
    = second (grad (parts p l r q)) (b (ix3 l r q)) := by
  pointwise [k0_pay3, pay8_at hp hb]

end Body

variable (m : (ℓ : Loc nD τ sig) → Buf (Elt Ideal) ℓ) (c : Dev nD)

theorem p_at (t : Fin cfg0.N) (k : Fin 8) (r : Fin 32) (q : Fin 1024) : (show EReal from iblk m c 0 t (ix4 k 0 r q))
    = (m ((c : Thread nD τ).loc main_arg0)) (ix4 k ⟨t.val, point_lt t⟩ r q) := by
  blk_ext [iblk, V, place t]

theorem w_at (t : Fin cfg0.N) (r : Fin 32) (q : Fin 1024) : (show EReal from iblk m c 1 t (ix3 0 r q))
    = (m ((c : Thread nD τ).loc main_arg1)) (ix3 ⟨t.val, point_lt t⟩ r q) := by
  blk_ext [iblk, V, place t]

theorem a_at (t : Fin cfg0.N) (r : Fin 32) (q : Fin 1024) : (show EReal from iblk m c 2 t (ix3 0 r q))
    = (m ((c : Thread nD τ).loc main_arg2)) (ix3 ⟨t.val, point_lt t⟩ r q) := by
  blk_ext [iblk, V, place t]

theorem b_at (t : Fin cfg0.N) (r : Fin 32) (q : Fin 1024) : (show EReal from iblk m c 3 t (ix3 0 r q))
    = (m ((c : Thread nD τ).loc main_arg3)) (ix3 ⟨t.val, point_lt t⟩ r q) := by
  blk_ext [iblk, V, place t]

theorem idx_eq (y : S1x32x1024.Idx) : ∃ (r : Fin 32) (q : Fin 1024), y = (ix3 0 r q : S1x32x1024.Idx) :=
  ⟨y 1, y 2, (eq_ix3 y).trans (congrArg (fun z => ix3 z (y 1) (y 2)) (Fin.fin_one_eq_zero (y 0)))⟩

theorem final4 : (dats m 0 c).arrAt 4 (cfgs 0).N = Gg (m ((c : Thread nD τ).loc main_arg0)) := by
  refine (dats m 0 c).arrAt_eq_of_covers 4 _ (by decide +kernel) fun t _ y => ?_
  blk_simp
  obtain ⟨r, q, rfl⟩ := idx_eq y
  rw [after0_4]
  unfold out0_4
  frame_open
  frame_out
  refine Eq.trans (b := Gg (m ((c : Thread nD τ).loc main_arg0)) (ix3 ⟨t.val, point_lt t⟩ r q)) (pay6_at (p_at m c t) r q) ?_
  blk_ext [place t]

theorem final5 : (dats m 0 c).arrAt 5 (cfgs 0).N
    = Gd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  obtain ⟨r, q, rfl⟩ := idx_eq y
  rw [after0_5]
  unfold out0_5
  frame_open
  frame_out
  refine Eq.trans (b := Gd (m ((c : Thread nD τ).loc main_arg0)) (m ((c : Thread nD τ).loc main_arg1)) (m ((c : Thread nD τ).loc main_arg2)) (m ((c : Thread nD τ).loc main_arg3)) (ix3 ⟨t.val, point_lt t⟩ r q)) (pay1_at (p_at m c t) (w_at m c t) (a_at m c t) (b_at m c t) r q) ?_
  blk_ext [place t]

theorem final6 : (dats m 0 c).arrAt 6 (cfgs 0).N = Gm (m ((c : Thread nD τ).loc main_arg0)) (m ((c : Thread nD τ).loc main_arg2)) := by
  refine (dats m 0 c).arrAt_eq_of_covers 6 _ (by decide +kernel) fun t _ y => ?_
  blk_simp
  obtain ⟨r, q, rfl⟩ := idx_eq y
  rw [after0_6]
  unfold out0_6
  frame_open
  frame_out
  refine Eq.trans (b := Gm (m ((c : Thread nD τ).loc main_arg0)) (m ((c : Thread nD τ).loc main_arg2)) (ix3 ⟨t.val, point_lt t⟩ r q)) (pay2_at (p_at m c t) (a_at m c t) r q) ?_
  blk_ext [place t]

theorem final7 : (dats m 0 c).arrAt 7 (cfgs 0).N = Gv (m ((c : Thread nD τ).loc main_arg0)) (m ((c : Thread nD τ).loc main_arg3)) := by
  refine (dats m 0 c).arrAt_eq_of_covers 7 _ (by decide +kernel) fun t _ y => ?_
  blk_simp
  obtain ⟨r, q, rfl⟩ := idx_eq y
  rw [after0_7]
  unfold out0_7
  frame_open
  frame_out
  refine Eq.trans (b := Gv (m ((c : Thread nD τ).loc main_arg0)) (m ((c : Thread nD τ).loc main_arg3)) (ix3 ⟨t.val, point_lt t⟩ r q)) (pay3_at (p_at m c t) (b_at m c t) r q) ?_
  blk_ext [place t]

end

section

open Cert.Reference20Ideal Cert.Reference20Ideal.Read Cert.AdamMath

variable (p : FVec Ideal S8x4x32x1024 .bf16) (w a b : FVec Ideal S4x32x1024 .f32)

theorem v1_at (l : Fin 4) (r : Fin 32) (q : Fin 1024) : val_main_v1 (F := Ideal) p (ix3 l r q) = grad (parts p l r q) := by
  pointwise [val_main_v1, val_main_cst, val_main_v0]
  rfl

theorem res1 : val_main_v1 (F := Ideal) p = Gg p := by
  funext j
  rw [eq_ix3 j]
  exact v1_at p _ _ _

theorem v6_at (l : Fin 4) (r : Fin 32) (q : Fin 1024) : val_main_v6 (F := Ideal) p a (ix3 l r q) = first (grad (parts p l r q)) (a (ix3 l r q)) := by
  pointwise [val_main_v6, val_main_v5, val_main_v4, val_main_cst_1, val_main_v3, val_main_v2, val_main_cst_0, v1_at]
  rfl

theorem res6 : val_main_v6 (F := Ideal) p a = Gm p a := by
  funext j
  rw [eq_ix3 j]
  exact v6_at p a _ _ _

theorem v12_at (l : Fin 4) (r : Fin 32) (q : Fin 1024) : val_main_v12 (F := Ideal) p b (ix3 l r q) = second (grad (parts p l r q)) (b (ix3 l r q)) := by
  pointwise [val_main_v12, val_main_v11, val_main_v10, val_main_cst_3, val_main_v9, val_main_v8, val_main_v7, val_main_cst_2, v1_at]
  rfl

theorem res12 : val_main_v12 (F := Ideal) p b = Gv p b := by
  funext j
  rw [eq_ix3 j]
  exact v12_at p b _ _ _

theorem v25_at (l : Fin 4) (r : Fin 32) (q : Fin 1024) : val_main_v25 (F := Ideal) p w a b (ix3 l r q)
    = step (grad (parts p l r q)) (w (ix3 l r q)) (a (ix3 l r q)) (b (ix3 l r q)) := by
  pointwise [val_main_v25, val_main_v24, val_main_cst_8, val_main_v23, val_main_v22, val_main_v21, val_main_cst_7, val_main_v20, val_main_v19, val_main_v18, val_main_cst_6,
    val_main_v17, val_main_v16, val_main_v15, val_main_cst_5, val_main_v14, val_main_v13, val_main_cst_4, v6_at, v12_at]
  rfl

theorem res25 : val_main_v25 (F := Ideal) p w a b = Gd p w a b := by
  funext j
  rw [eq_ix3 j]
  exact v25_at p w a b _ _ _

/-- The reference's run, with its results by the formulas. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v1) = Gg (m ((c : Thread nD τ).loc main_arg0))
      ∧ r.2.mem ((c : Thread nD τ).loc main_v25) = Gd (m ((c : Thread nD τ).loc main_arg0)) (m ((c : Thread nD τ).loc main_arg1)) (m ((c : Thread nD τ).loc main_arg2)) (m ((c : Thread nD τ).loc main_arg3))
      ∧ r.2.mem ((c : Thread nD τ).loc main_v6) = Gm (m ((c : Thread nD τ).loc main_arg0)) (m ((c : Thread nD τ).loc main_arg2))
      ∧ r.2.mem ((c : Thread nD τ).loc main_v12) = Gv (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((Read.val_main_v1_eq _).trans (res1 _)),
      (h c).2.1.trans ((Read.val_main_v25_eq _ _ _ _).trans (res25 _ _ _ _)),
      (h c).2.2.1.trans ((Read.val_main_v6_eq _ _).trans (res6 _ _)),
      (h c).2.2.2.1.trans ((Read.val_main_v12_eq _ _).trans (res12 _ _)),
      (h c).2.2.2.2⟩) (Value.run (F := Ideal) m g)

end

/-- The reference keeps its arguments; it has no semaphore. -/
theorem frame_reference : Cert.quiescent_Reference20Ideal := by
  intro m g _
  exact (θ_run Reference20Ideal.defs _ _).mono
    (fun r h => ⟨fun c => (h c).2.2.2.2, sem_eq_zero_of_no_sems (by decide) r.2⟩) (Reference20Ideal.Value.run (F := Ideal) m g)

theorem algebraic : Cert.algebraic_Kernel20Ideal_Reference20Ideal := by
  pair_intro
  · run_from Cert.Kernel20Ideal.Value.run_blocks m g
  · run_from run_reference m' g'
    · exact (final4 m c).symm
    · exact (final5 m c).symm
    · exact (final6 m c).symm
    · exact (final7 m c).symm

end Cert.AdamDense

end
-- ==== Proof.lean ====
/- The proof of this directory's claim: the frames come from the generated runs, the values from the hand modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.RmsInClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.RmsFfnClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.MixClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.TnPiecesClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.TnBranchesClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.TnFfnInClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.TnFfnOutClaim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.TnMixClaim
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.TnGluClaim
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.FfnOutBwdClaim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.RmsMmFfnClaim
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.FfnOutFwdClaim
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.MixFwdClaim
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.GluBwdClaim
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.RmsMmInClaim
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.GluFwdClaim
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.LossHeadClaim
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.AdamRowClaim
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.AdamDenseClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.Kernel17.Gen.facts, Cert.Kernel17Ideal.Gen.facts, Cert.Reference17Ideal.Gen.facts,
   Cert.Kernel18.Gen.facts, Cert.Kernel18Ideal.Gen.facts, Cert.Reference18Ideal.Gen.facts,
   Cert.Kernel19.Gen.facts, Cert.Kernel19Ideal.Gen.facts, Cert.Reference19Ideal.Gen.facts,
   Cert.Kernel20.Gen.facts, Cert.Kernel20Ideal.Gen.facts, Cert.Reference20Ideal.Gen.facts,
   Cert.FfnOutBwd.facts_pre,
   Cert.GluBwd.facts_pre,
   fun m ρ _ => Cert.Kernel.Gen.frame m ρ, fun m ρ _ => Cert.KernelIdeal.Gen.frame m ρ, Cert.Conv.frame_reference,
   fun m ρ _ => Cert.Kernel2.Gen.frame m ρ, fun m ρ _ => Cert.Kernel2Ideal.Gen.frame m ρ, Cert.RmsIn.frame_reference,
   fun m ρ _ => Cert.Kernel3.Gen.frame m ρ, fun m ρ _ => Cert.Kernel3Ideal.Gen.frame m ρ, Cert.RmsFfn.frame_reference,
   fun m ρ _ => Cert.Kernel4.Gen.frame m ρ, fun m ρ _ => Cert.Kernel4Ideal.Gen.frame m ρ, Cert.Mix.frame_reference,
   fun m ρ _ => Cert.Kernel5.Gen.frame m ρ, fun m ρ _ => Cert.Kernel5Ideal.Gen.frame m ρ, Cert.TnPieces.frame_reference,
   fun m ρ _ => Cert.Kernel6.Gen.frame m ρ, fun m ρ _ => Cert.Kernel6Ideal.Gen.frame m ρ, Cert.TnBranches.frame_reference,
   fun m ρ _ => Cert.Kernel7.Gen.frame m ρ, fun m ρ _ => Cert.Kernel7Ideal.Gen.frame m ρ, Cert.TnFfnIn.frame_reference,
   fun m ρ _ => Cert.Kernel8.Gen.frame m ρ, fun m ρ _ => Cert.Kernel8Ideal.Gen.frame m ρ, Cert.TnFfnOut.frame_reference,
   fun m ρ _ => Cert.Kernel9.Gen.frame m ρ, fun m ρ _ => Cert.Kernel9Ideal.Gen.frame m ρ, Cert.TnMix.frame_reference,
   fun m ρ _ => Cert.Kernel10.Gen.frame m ρ, fun m ρ _ => Cert.Kernel10Ideal.Gen.frame m ρ, Cert.TnGlu.frame_reference,
   fun m ρ _ => Cert.Kernel11.Gen.frame m ρ, fun m ρ _ => Cert.Kernel11Ideal.Gen.frame m ρ, fun m ρ _ => Cert.Kernel11Ideal.Gen.frame m ρ, Cert.FfnOutBwd.frame_reference, Cert.FfnOutBwd.frame_reference_pre,
   fun m ρ _ => Cert.Kernel12.Gen.frame m ρ, fun m ρ _ => Cert.Kernel12Ideal.Gen.frame m ρ, Cert.RmsMmFfn.frame_reference,
   fun m ρ _ => Cert.Kernel13.Gen.frame m ρ, fun m ρ _ => Cert.Kernel13Ideal.Gen.frame m ρ, Cert.FfnOutFwd.frame_reference,
   fun m ρ _ => Cert.Kernel14.Gen.frame m ρ, fun m ρ _ => Cert.Kernel14Ideal.Gen.frame m ρ, Cert.MixFwd.frame_reference,
   fun m ρ _ => Cert.Kernel15.Gen.frame m ρ, fun m ρ _ => Cert.Kernel15Ideal.Gen.frame m ρ, fun m ρ _ => Cert.Kernel15Ideal.Gen.frame m ρ, Cert.GluBwd.frame_reference, Cert.GluBwd.frame_reference_pre,
   fun m ρ _ => Cert.Kernel16.Gen.frame m ρ, fun m ρ _ => Cert.Kernel16Ideal.Gen.frame m ρ, Cert.RmsMmIn.frame_reference,
   fun m ρ _ => Cert.Kernel17.Gen.frame m ρ, fun m ρ _ => Cert.Kernel17Ideal.Gen.frame m ρ, Cert.GluFwd.frame_reference,
   fun m ρ _ => Cert.Kernel18.Gen.frame m ρ, fun m ρ _ => Cert.Kernel18Ideal.Gen.frame m ρ, Cert.LossHead.frame_reference,
   fun m ρ _ => Cert.Kernel19.Gen.frame m ρ, fun m ρ _ => Cert.Kernel19Ideal.Gen.frame m ρ, Cert.AdamRow.frame_reference,
   fun m ρ _ => Cert.Kernel20.Gen.frame m ρ, fun m ρ _ => Cert.Kernel20Ideal.Gen.frame m ρ, Cert.AdamDense.frame_reference,
   trivial, Cert.Conv.algebraic,
   trivial, Cert.RmsIn.algebraic,
   trivial, Cert.RmsFfn.algebraic,
   trivial, Cert.Mix.algebraic,
   trivial, Cert.TnPieces.algebraic,
   trivial, Cert.TnBranches.algebraic,
   trivial, Cert.TnFfnIn.algebraic,
   trivial, Cert.TnFfnOut.algebraic,
   trivial, Cert.TnMix.algebraic,
   trivial, Cert.TnGlu.algebraic,
   trivial, Cert.FfnOutBwd.algebraic,
   trivial, Cert.RmsMmFfn.algebraic,
   trivial, Cert.FfnOutFwd.algebraic,
   trivial, Cert.MixFwd.algebraic,
   ⟨IdealRules.named_const.statement Cert.Kernel15Ideal.κ "cube" .f32 0x3D372713#32 ((8943 / 200000 : ℝ) : EReal) rfl,
    IdealRules.named_const.statement Cert.Kernel15Ideal.κ "slope" .f32 0x3E095D4F#32 ((26829 / 200000 : ℝ) : EReal) rfl⟩, Cert.GluBwd.algebraic,
   trivial, Cert.RmsMmIn.algebraic,
   trivial, Cert.GluFwd.algebraic,
   trivial, Cert.LossHead.algebraic,
   trivial, Cert.AdamRow.algebraic,
   trivial, Cert.AdamDense.algebraic⟩

end Cert.Proof

end
